-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rows_bf16 [hPre_rows_bf16 : Cert.Pre_rows_bf16.Facts] (m : (ℓ : Loc Cert.KernelIdeal.nD Cert.KernelIdeal.τ Cert.KernelIdeal.sig) → Buf (Elt Ideal) ℓ) : Prop :=
  ∀ c : Dev Cert.KernelIdeal.nD,
    (Cert.Pre_rows_bf16.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_bf16 [hPre_rows_bf16 : Cert.Pre_rows_bf16.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_bf16.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_rows_bf16 [hKernelIdeal : Cert.KernelIdeal.Facts] [hPre_rows_bf16 : Cert.Pre_rows_bf16.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_bf16 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_rows_bf16 [hReferenceIdeal : Cert.ReferenceIdeal.Facts] [hPre_rows_bf16 : Cert.Pre_rows_bf16.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_bf16 m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_rows_bf16 [hKernelIdeal : Cert.KernelIdeal.Facts] [hReferenceIdeal : Cert.ReferenceIdeal.Facts] [hPre_rows_bf16 : Cert.Pre_rows_bf16.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_bf16 m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_2)) (v3 : (c : Dev Cert.KernelIdeal.nD) → Buf (Elt Ideal) ((c.tc : Thread Cert.KernelIdeal.nD Cert.KernelIdeal.τ).loc Cert.KernelIdeal.main_v9_3)) (v4 : (c : Dev Cert.KernelIdeal.nD) → Buf (Elt Ideal) ((c.tc : Thread Cert.KernelIdeal.nD Cert.KernelIdeal.τ).loc Cert.KernelIdeal.main_v9_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v9_2) = v2 c
          ∧ r.2.mem ((c.tc : Thread Cert.KernelIdeal.nD Cert.KernelIdeal.τ).loc Cert.KernelIdeal.main_v9_3) = v3 c
          ∧ r.2.mem ((c.tc : Thread Cert.KernelIdeal.nD Cert.KernelIdeal.τ).loc Cert.KernelIdeal.main_v9_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v141) = v0 c
          ∧ r.2.mem ((c.tc : Thread Cert.ReferenceIdeal.nD Cert.ReferenceIdeal.τ).loc Cert.ReferenceIdeal.main_v143) = v1 c
          ∧ r.2.mem ((c.tc : Thread Cert.ReferenceIdeal.nD Cert.ReferenceIdeal.τ).loc Cert.ReferenceIdeal.main_v145) = v2 c
          ∧ r.2.mem ((c.tc : Thread Cert.ReferenceIdeal.nD Cert.ReferenceIdeal.τ).loc Cert.ReferenceIdeal.main_v147) = v3 c
          ∧ r.2.mem ((c.tc : Thread Cert.ReferenceIdeal.nD Cert.ReferenceIdeal.τ).loc Cert.ReferenceIdeal.main_v149) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_rows_bf16 : Cert.Pre_rows_bf16.Facts),
    quiescent_Kernel (hKernel := hKernel)
    ∧ quiescent_KernelIdeal (hKernelIdeal := hKernelIdeal)
    ∧ quiescent_KernelIdeal_pre_rows_bf16 (hKernelIdeal := hKernelIdeal) (hPre_rows_bf16 := hPre_rows_bf16)
    ∧ quiescent_ReferenceIdeal (hReferenceIdeal := hReferenceIdeal)
    ∧ quiescent_ReferenceIdeal_pre_rows_bf16 (hReferenceIdeal := hReferenceIdeal) (hPre_rows_bf16 := hPre_rows_bf16)
    ∧ preserves_Kernel_KernelIdeal
    ∧ algebraic_KernelIdeal_ReferenceIdeal_pre_rows_bf16 (hKernelIdeal := hKernelIdeal) (hReferenceIdeal := hReferenceIdeal) (hPre_rows_bf16 := hPre_rows_bf16)
-- ==== Pre_rows_bf16.lean ====
abbrev S32x1x16x64 : Shape := ⟨4, ![32, 1, 16, 64]⟩
abbrev S32x1x2x64 : Shape := ⟨4, ![32, 1, 2, 64]⟩
abbrev S32x16384x2x64 : Shape := ⟨4, ![32, 16384, 2, 64]⟩
abbrev S32x16384x2 : Shape := ⟨3, ![32, 16384, 2]⟩
abbrev S32 : Shape := ⟨1, ![32]⟩
abbrev S_ : Shape := ⟨0, ![]⟩

class Facts : Prop where
  bcast_S_S32x1x2x64 : S_.BroadcastsInDim S32x1x2x64 (![] : Fin 0 → Fin S32x1x2x64.rank)

variable [Facts]

def fn {F : FTy → Type} [FloatOps F] (main_arg0 : FVec F S32x1x16x64 .bf16) (main_arg1 : FVec F S32x1x2x64 .bf16) (main_arg2 : FVec F S32x1x2x64 .bf16) (main_arg3 : FVec F S32x16384x2x64 .fp8e4m3) (main_arg4 : FVec F S32x16384x2x64 .fp8e4m3) (main_arg5 : FVec F S32x16384x2 .f32) (main_arg6 : FVec F S32x16384x2 .f32) (main_arg7 : IVec S32 32) : IVec S32x1x2x64 1 :=
  let main_v0 : FVec F S32x1x2x64 .bf16 := Host.absf main_arg1
  let main_cst : FVec F S_ .bf16 := constant S_ .bf16 0x7F7F#16
  let main_v1 : FVec F S32x1x2x64 .bf16 := broadcastInDim S32x1x2x64 ![] bcast_S_S32x1x2x64 main_cst
  let main_v2 : IVec S32x1x2x64 1 := cmpf .ole main_v0 main_v1
  let main_v3 : FVec F S32x1x2x64 .bf16 := Host.absf main_arg1
  let main_cst_0 : FVec F S_ .bf16 := constant S_ .bf16 0x7F80#16
  let main_v4 : FVec F S32x1x2x64 .bf16 := broadcastInDim S32x1x2x64 ![] bcast_S_S32x1x2x64 main_cst_0
  let main_v5 : IVec S32x1x2x64 1 := cmpf .oeq main_v3 main_v4
  let main_v6 : IVec S32x1x2x64 1 := ori main_v2 main_v5
  let main_v7 : FVec F S32x1x2x64 .bf16 := Host.absf main_arg2
  let main_cst_1 : FVec F S_ .bf16 := constant S_ .bf16 0x7F7F#16
  let main_v8 : FVec F S32x1x2x64 .bf16 := broadcastInDim S32x1x2x64 ![] bcast_S_S32x1x2x64 main_cst_1
  let main_v9 : IVec S32x1x2x64 1 := cmpf .ole main_v7 main_v8
  let main_v10 : FVec F S32x1x2x64 .bf16 := Host.absf main_arg2
  let main_cst_2 : FVec F S_ .bf16 := constant S_ .bf16 0x7F80#16
  let main_v11 : FVec F S32x1x2x64 .bf16 := broadcastInDim S32x1x2x64 ![] bcast_S_S32x1x2x64 main_cst_2
  let main_v12 : IVec S32x1x2x64 1 := cmpf .oeq main_v10 main_v11
  let main_v13 : IVec S32x1x2x64 1 := ori main_v9 main_v12
  let main_v14 : IVec S32x1x2x64 1 := andi main_v6 main_v13
  main_v14
-- ==== Kernel.lean ====
abbrev S32x1x16x64 : Shape := ⟨4, ![32, 1, 16, 64]⟩
abbrev S32x1x2x64 : Shape := ⟨4, ![32, 1, 2, 64]⟩
abbrev S32x16384x2x64 : Shape := ⟨4, ![32, 16384, 2, 64]⟩
abbrev S32x16384x2 : Shape := ⟨3, ![32, 16384, 2]⟩
abbrev S32 : Shape := ⟨1, ![32]⟩
abbrev S32x16x64 : Shape := ⟨3, ![32, 16, 64]⟩
abbrev S32x2x64 : Shape := ⟨3, ![32, 2, 64]⟩
abbrev S32x2x64x16384 : Shape := ⟨4, ![32, 2, 64, 16384]⟩
abbrev S32x128x16384 : Shape := ⟨3, ![32, 128, 16384]⟩
abbrev S32x2x16384 : Shape := ⟨3, ![32, 2, 16384]⟩
abbrev S2x32x64 : Shape := ⟨3, ![2, 32, 64]⟩
abbrev S2x32 : Shape := ⟨2, ![2, 32]⟩
abbrev S32x128x1152 : Shape := ⟨3, ![32, 128, 1152]⟩
abbrev S32x2x1152 : Shape := ⟨3, ![32, 2, 1152]⟩
abbrev S32x128 : Shape := ⟨2, ![32, 128]⟩
abbrev S512x128 : Shape := ⟨2, ![512, 128]⟩
abbrev S_ : Shape := ⟨0, ![]⟩
abbrev S3 : Shape := ⟨1, ![3]⟩
abbrev S5 : Shape := ⟨1, ![5]⟩
abbrev S1 : Shape := ⟨1, ![1]⟩
abbrev S1x128x1152 : Shape := ⟨3, ![1, 128, 1152]⟩
abbrev S128x1152 : Shape := ⟨2, ![128, 1152]⟩
abbrev S1x2x1152 : Shape := ⟨3, ![1, 2, 1152]⟩
abbrev S2x1152 : Shape := ⟨2, ![2, 1152]⟩
abbrev S32x1x64 : Shape := ⟨3, ![32, 1, 64]⟩
abbrev S32x64 : Shape := ⟨2, ![32, 64]⟩
abbrev S32x1 : Shape := ⟨2, ![32, 1]⟩
abbrev S1x32x64 : Shape := ⟨3, ![1, 32, 64]⟩
abbrev S128 : Shape := ⟨1, ![128]⟩
abbrev S1x128 : Shape := ⟨2, ![1, 128]⟩
abbrev S1x32 : Shape := ⟨2, ![1, 32]⟩
abbrev S8x1152 : Shape := ⟨2, ![8, 1152]⟩
abbrev S1x16x64 : Shape := ⟨3, ![1, 16, 64]⟩
abbrev S16x64 : Shape := ⟨2, ![16, 64]⟩
abbrev S8x64 : Shape := ⟨2, ![8, 64]⟩
abbrev S1x64x1152 : Shape := ⟨3, ![1, 64, 1152]⟩
abbrev S64x1152 : Shape := ⟨2, ![64, 1152]⟩
abbrev S1x1x1152 : Shape := ⟨3, ![1, 1, 1152]⟩
abbrev S1x1152 : Shape := ⟨2, ![1, 1152]⟩
abbrev S1x64 : Shape := ⟨2, ![1, 64]⟩
abbrev S8 : Shape := ⟨1, ![8]⟩
abbrev S8x1 : Shape := ⟨2, ![8, 1]⟩
abbrev S1x8x64 : Shape := ⟨3, ![1, 8, 64]⟩

abbrev nBuf : Space → Nat
  | .hbm => 22
  | .vmem => 15
  | .smem => 1
  | _ => 0

abbrev bufTy : (tb : Table) → Fin (tcTables nBuf tb) → BufTy
  | .hbm, ⟨0, _⟩ => ⟨S32x1x16x64, .bf16⟩
  | .hbm, ⟨1, _⟩ => ⟨S32x1x2x64, .bf16⟩
  | .hbm, ⟨2, _⟩ => ⟨S32x1x2x64, .bf16⟩
  | .hbm, ⟨3, _⟩ => ⟨S32x16384x2x64, .fp8e4m3⟩
  | .hbm, ⟨4, _⟩ => ⟨S32x16384x2x64, .fp8e4m3⟩
  | .hbm, ⟨5, _⟩ => ⟨S32x16384x2, .f32⟩
  | .hbm, ⟨6, _⟩ => ⟨S32x16384x2, .f32⟩
  | .hbm, ⟨7, _⟩ => ⟨S32, .i32⟩
  | .hbm, ⟨8, _⟩ => ⟨S32x16x64, .bf16⟩
  | .hbm, ⟨9, _⟩ => ⟨S32x2x64, .bf16⟩
  | .hbm, ⟨10, _⟩ => ⟨S32x2x64, .bf16⟩
  | .hbm, ⟨11, _⟩ => ⟨S32x2x64x16384, .fp8e4m3⟩
  | .hbm, ⟨12, _⟩ => ⟨S32x128x16384, .fp8e4m3⟩
  | .hbm, ⟨13, _⟩ => ⟨S32x2x64x16384, .fp8e4m3⟩
  | .hbm, ⟨14, _⟩ => ⟨S32x128x16384, .fp8e4m3⟩
  | .hbm, ⟨15, _⟩ => ⟨S32x2x16384, .f32⟩
  | .hbm, ⟨16, _⟩ => ⟨S32x2x16384, .f32⟩
  | .hbm, ⟨17, _⟩ => ⟨S32x16x64, .bf16⟩
  | .hbm, ⟨18, _⟩ => ⟨S2x32x64, .fp8e4m3⟩
  | .hbm, ⟨19, _⟩ => ⟨S2x32, .f32⟩
  | .hbm, ⟨20, _⟩ => ⟨S2x32x64, .fp8e4m3⟩
  | .hbm, ⟨21, _⟩ => ⟨S2x32, .f32⟩
  | .local _ .vmem, ⟨0, _⟩ => ⟨S32x16x64, .bf16⟩
  | .local _ .vmem, ⟨1, _⟩ => ⟨S32x2x64, .bf16⟩
  | .local _ .vmem, ⟨2, _⟩ => ⟨S32x2x64, .bf16⟩
  | .local _ .vmem, ⟨3, _⟩ => ⟨S32x128x1152, .fp8e4m3⟩
  | .local _ .vmem, ⟨4, _⟩ => ⟨S32x128x1152, .fp8e4m3⟩
  | .local _ .vmem, ⟨5, _⟩ => ⟨S32x2x1152, .f32⟩
  | .local _ .vmem, ⟨6, _⟩ => ⟨S32x2x1152, .f32⟩
  | .local _ .vmem, ⟨7, _⟩ => ⟨S32x16x64, .bf16⟩
  | .local _ .vmem, ⟨8, _⟩ => ⟨S2x32x64, .fp8e4m3⟩
  | .local _ .vmem, ⟨9, _⟩ => ⟨S2x32, .f32⟩
  | .local _ .vmem, ⟨10, _⟩ => ⟨S2x32x64, .fp8e4m3⟩
  | .local _ .vmem, ⟨11, _⟩ => ⟨S2x32, .f32⟩
  | .local _ .vmem, ⟨12, _⟩ => ⟨S32x128, .f32⟩
  | .local _ .vmem, ⟨13, _⟩ => ⟨S32x128, .f32⟩
  | .local _ .vmem, ⟨14, _⟩ => ⟨S512x128, .f32⟩
  | .local _ .smem, ⟨0, _⟩ => ⟨S32, .i32⟩
  | _, _ => ⟨S32x1x16x64, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 137 → Bool
  | ⟨i, _⟩ => dmaSemScopedAt i

abbrev sig : RefSig :=
  ofTc nBuf bufTy 0 137 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v9_3 : Ref sig .tc := ⟨.hbm, 20, rfl⟩
abbrev main_v9_4 : Ref sig .tc := ⟨.hbm, 21, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch8 : Ref sig .tc := ⟨.vmem, 7, rfl⟩
abbrev cc0_scratch9 : Ref sig .tc := ⟨.vmem, 8, rfl⟩
abbrev cc0_scratch10 : Ref sig .tc := ⟨.vmem, 9, rfl⟩
abbrev cc0_scratch11 : Ref sig .tc := ⟨.vmem, 10, rfl⟩
abbrev cc0_scratch12 : Ref sig .tc := ⟨.vmem, 11, rfl⟩
abbrev cc0_scratch13 : Ref sig .tc := ⟨.vmem, 12, rfl⟩
abbrev cc0_scratch14 : Ref sig .tc := ⟨.vmem, 13, rfl⟩
abbrev cc0_scratch15 : Ref sig .tc := ⟨.vmem, 14, rfl⟩
abbrev cc0_scratch7 : Ref sig .tc := ⟨.smem, 0, rfl⟩

abbrev nD : Nat := 1
abbrev τ : Topo := Topo.v7x

variable {F : FTy → Type} [FloatOps F]

abbrev grid0 : Pipeline.Grid := .none

def k0_mult1 (v6 : BitVec 32) : BitVec 32 :=
  let c15232_i32 : BitVec 32 := 15232#32
  let c0_i32_1 : BitVec 32 := 0#32
  let c1023_i32 : BitVec 32 := 1023#32
  let v7 : BitVec 32 := Scalar.subi v6 c1023_i32
  let c7_i32 : BitVec 32 := 7#32
  let v8 : BitVec 32 := Scalar.shrsi v7 c7_i32
  let c7_i32_0 : BitVec 32 := 7#32
  let v9 : BitVec 32 := Scalar.shli v8 c7_i32_0
  let v10 : BitVec 32 := Scalar.maxsi c0_i32_1 v9
  let v11 : BitVec 32 := Scalar.minsi c15232_i32 v10
  v11

def k0_off1 (v6 : BitVec 32) : Fin 3 → Nat :=
  let c0_i32_2 : BitVec 32 := 0#32
  let c0_i32_7 : BitVec 32 := 0#32
  let c15232_i32 : BitVec 32 := 15232#32
  let c0_i32_1 : BitVec 32 := 0#32
  let c1023_i32 : BitVec 32 := 1023#32
  let v7 : BitVec 32 := Scalar.subi v6 c1023_i32
  let c7_i32 : BitVec 32 := 7#32
  let v8 : BitVec 32 := Scalar.shrsi v7 c7_i32
  let c7_i32_0 : BitVec 32 := 7#32
  let v9 : BitVec 32 := Scalar.shli v8 c7_i32_0
  let v10 : BitVec 32 := Scalar.maxsi c0_i32_1 v9
  let v11 : BitVec 32 := Scalar.minsi c15232_i32 v10
  let v12 : BitVec 32 := v11
  ![0, 0, v12.toNat]
def k0_off2 (v6 : BitVec 32) : Fin 3 → Nat :=
  let c0_i32_8 : BitVec 32 := 0#32
  let c0_i32_13 : BitVec 32 := 0#32
  let c15232_i32 : BitVec 32 := 15232#32
  let c0_i32_1 : BitVec 32 := 0#32
  let c1023_i32 : BitVec 32 := 1023#32
  let v7 : BitVec 32 := Scalar.subi v6 c1023_i32
  let c7_i32 : BitVec 32 := 7#32
  let v8 : BitVec 32 := Scalar.shrsi v7 c7_i32
  let c7_i32_0 : BitVec 32 := 7#32
  let v9 : BitVec 32 := Scalar.shli v8 c7_i32_0
  let v10 : BitVec 32 := Scalar.maxsi c0_i32_1 v9
  let v11 : BitVec 32 := Scalar.minsi c15232_i32 v10
  let v12 : BitVec 32 := v11
  ![0, 0, v12.toNat]

def k0_chk1 (v6 : BitVec 32) : Prop :=
  (128 ∣ (k0_mult1 v6).toNat) ∧
  (∀ a, (k0_off1 v6) a + S1x128x1152.size a ≤ S32x128x16384.size a) ∧
  (∀ (hinb : ∀ a, (k0_off1 v6) a + S1x128x1152.size a ≤ S32x128x16384.size a), (Rect.unit (s := S32x128x16384) (k0_off1 v6) S1x128x1152.size hinb).WholeWords (EltTy.packing .fp8e4m3)) ∧
  (∀ a, (k0_off2 v6) a + S1x2x1152.size a ≤ S32x2x16384.size a)
theorem k0_mult1_dvd : ∀ (v6 : BitVec 32) (k0_hw1 : k0_chk1 v6), 128 ∣ (k0_mult1 v6).toNat := fun v6 k0_hw1 => k0_hw1.1
theorem k0_off1_inb : ∀ (v6 : BitVec 32) (k0_hw1 : k0_chk1 v6), ∀ a, (k0_off1 v6) a + S1x128x1152.size a ≤ S32x128x16384.size a := fun v6 k0_hw1 => k0_hw1.2.1
theorem k0_off1_wordsfp8e4m3 : ∀ (v6 : BitVec 32) (k0_hw1 : k0_chk1 v6), (Rect.unit (s := S32x128x16384) (k0_off1 v6) S1x128x1152.size (k0_off1_inb v6 k0_hw1)).WholeWords (EltTy.packing .fp8e4m3) := fun v6 k0_hw1 => k0_hw1.2.2.1 (k0_off1_inb v6 k0_hw1)
theorem k0_off2_inb : ∀ (v6 : BitVec 32) (k0_hw1 : k0_chk1 v6), ∀ a, (k0_off2 v6) a + S1x2x1152.size a ≤ S32x2x16384.size a := fun v6 k0_hw1 => k0_hw1.2.2.2

def k0_mult2 (v37 : BitVec 32) : BitVec 32 :=
  let c15232_i32_30 : BitVec 32 := 15232#32
  let c0_i32_29 : BitVec 32 := 0#32
  let c1023_i32_26 : BitVec 32 := 1023#32
  let v38 : BitVec 32 := Scalar.subi v37 c1023_i32_26
  let c7_i32_27 : BitVec 32 := 7#32
  let v39 : BitVec 32 := Scalar.shrsi v38 c7_i32_27
  let c7_i32_28 : BitVec 32 := 7#32
  let v40 : BitVec 32 := Scalar.shli v39 c7_i32_28
  let v41 : BitVec 32 := Scalar.maxsi c0_i32_29 v40
  let v42 : BitVec 32 := Scalar.minsi c15232_i32_30 v41
  v42

def k0_off3 (v37 : BitVec 32) : Fin 3 → Nat :=
  let c1_i32_31 : BitVec 32 := 1#32
  let c0_i32_36 : BitVec 32 := 0#32
  let c15232_i32_30 : BitVec 32 := 15232#32
  let c0_i32_29 : BitVec 32 := 0#32
  let c1023_i32_26 : BitVec 32 := 1023#32
  let v38 : BitVec 32 := Scalar.subi v37 c1023_i32_26
  let c7_i32_27 : BitVec 32 := 7#32
  let v39 : BitVec 32 := Scalar.shrsi v38 c7_i32_27
  let c7_i32_28 : BitVec 32 := 7#32
  let v40 : BitVec 32 := Scalar.shli v39 c7_i32_28
  let v41 : BitVec 32 := Scalar.maxsi c0_i32_29 v40
  let v42 : BitVec 32 := Scalar.minsi c15232_i32_30 v41
  let v43 : BitVec 32 := v42
  ![1, 0, v43.toNat]
def k0_off4 (v37 : BitVec 32) : Fin 3 → Nat :=
  let c1_i32_37 : BitVec 32 := 1#32
  let c0_i32_42 : BitVec 32 := 0#32
  let c15232_i32_30 : BitVec 32 := 15232#32
  let c0_i32_29 : BitVec 32 := 0#32
  let c1023_i32_26 : BitVec 32 := 1023#32
  let v38 : BitVec 32 := Scalar.subi v37 c1023_i32_26
  let c7_i32_27 : BitVec 32 := 7#32
  let v39 : BitVec 32 := Scalar.shrsi v38 c7_i32_27
  let c7_i32_28 : BitVec 32 := 7#32
  let v40 : BitVec 32 := Scalar.shli v39 c7_i32_28
  let v41 : BitVec 32 := Scalar.maxsi c0_i32_29 v40
  let v42 : BitVec 32 := Scalar.minsi c15232_i32_30 v41
  let v43 : BitVec 32 := v42
  ![1, 0, v43.toNat]

def k0_chk2 (v37 : BitVec 32) : Prop :=
  (128 ∣ (k0_mult2 v37).toNat) ∧
  (∀ a, (k0_off3 v37) a + S1x128x1152.size a ≤ S32x128x16384.size a) ∧
  (∀ (hinb : ∀ a, (k0_off3 v37) a + S1x128x1152.size a ≤ S32x128x16384.size a), (Rect.unit (s := S32x128x16384) (k0_off3 v37) S1x128x1152.size hinb).WholeWords (EltTy.packing .fp8e4m3)) ∧
  (∀ a, (k0_off4 v37) a + S1x2x1152.size a ≤ S32x2x16384.size a)
theorem k0_mult2_dvd : ∀ (v37 : BitVec 32) (k0_hw2 : k0_chk2 v37), 128 ∣ (k0_mult2 v37).toNat := fun v37 k0_hw2 => k0_hw2.1
theorem k0_off3_inb : ∀ (v37 : BitVec 32) (k0_hw2 : k0_chk2 v37), ∀ a, (k0_off3 v37) a + S1x128x1152.size a ≤ S32x128x16384.size a := fun v37 k0_hw2 => k0_hw2.2.1
theorem k0_off3_wordsfp8e4m3 : ∀ (v37 : BitVec 32) (k0_hw2 : k0_chk2 v37), (Rect.unit (s := S32x128x16384) (k0_off3 v37) S1x128x1152.size (k0_off3_inb v37 k0_hw2)).WholeWords (EltTy.packing .fp8e4m3) := fun v37 k0_hw2 => k0_hw2.2.2.1 (k0_off3_inb v37 k0_hw2)
theorem k0_off4_inb : ∀ (v37 : BitVec 32) (k0_hw2 : k0_chk2 v37), ∀ a, (k0_off4 v37) a + S1x2x1152.size a ≤ S32x2x16384.size a := fun v37 k0_hw2 => k0_hw2.2.2.2

def k0_mult3 (v68 : BitVec 32) : BitVec 32 :=
  let c15232_i32_59 : BitVec 32 := 15232#32
  let c0_i32_58 : BitVec 32 := 0#32
  let c1023_i32_55 : BitVec 32 := 1023#32
  let v69 : BitVec 32 := Scalar.subi v68 c1023_i32_55
  let c7_i32_56 : BitVec 32 := 7#32
  let v70 : BitVec 32 := Scalar.shrsi v69 c7_i32_56
  let c7_i32_57 : BitVec 32 := 7#32
  let v71 : BitVec 32 := Scalar.shli v70 c7_i32_57
  let v72 : BitVec 32 := Scalar.maxsi c0_i32_58 v71
  let v73 : BitVec 32 := Scalar.minsi c15232_i32_59 v72
  v73

def k0_off5 (v68 : BitVec 32) : Fin 3 → Nat :=
  let c2_i32_60 : BitVec 32 := 2#32
  let c0_i32_65 : BitVec 32 := 0#32
  let c15232_i32_59 : BitVec 32 := 15232#32
  let c0_i32_58 : BitVec 32 := 0#32
  let c1023_i32_55 : BitVec 32 := 1023#32
  let v69 : BitVec 32 := Scalar.subi v68 c1023_i32_55
  let c7_i32_56 : BitVec 32 := 7#32
  let v70 : BitVec 32 := Scalar.shrsi v69 c7_i32_56
  let c7_i32_57 : BitVec 32 := 7#32
  let v71 : BitVec 32 := Scalar.shli v70 c7_i32_57
  let v72 : BitVec 32 := Scalar.maxsi c0_i32_58 v71
  let v73 : BitVec 32 := Scalar.minsi c15232_i32_59 v72
  let v74 : BitVec 32 := v73
  ![2, 0, v74.toNat]
def k0_off6 (v68 : BitVec 32) : Fin 3 → Nat :=
  let c2_i32_66 : BitVec 32 := 2#32
  let c0_i32_71 : BitVec 32 := 0#32
  let c15232_i32_59 : BitVec 32 := 15232#32
  let c0_i32_58 : BitVec 32 := 0#32
  let c1023_i32_55 : BitVec 32 := 1023#32
  let v69 : BitVec 32 := Scalar.subi v68 c1023_i32_55
  let c7_i32_56 : BitVec 32 := 7#32
  let v70 : BitVec 32 := Scalar.shrsi v69 c7_i32_56
  let c7_i32_57 : BitVec 32 := 7#32
  let v71 : BitVec 32 := Scalar.shli v70 c7_i32_57
  let v72 : BitVec 32 := Scalar.maxsi c0_i32_58 v71
  let v73 : BitVec 32 := Scalar.minsi c15232_i32_59 v72
  let v74 : BitVec 32 := v73
  ![2, 0, v74.toNat]

def k0_chk3 (v68 : BitVec 32) : Prop :=
  (128 ∣ (k0_mult3 v68).toNat) ∧
  (∀ a, (k0_off5 v68) a + S1x128x1152.size a ≤ S32x128x16384.size a) ∧
  (∀ (hinb : ∀ a, (k0_off5 v68) a + S1x128x1152.size a ≤ S32x128x16384.size a), (Rect.unit (s := S32x128x16384) (k0_off5 v68) S1x128x1152.size hinb).WholeWords (EltTy.packing .fp8e4m3)) ∧
  (∀ a, (k0_off6 v68) a + S1x2x1152.size a ≤ S32x2x16384.size a)
theorem k0_mult3_dvd : ∀ (v68 : BitVec 32) (k0_hw3 : k0_chk3 v68), 128 ∣ (k0_mult3 v68).toNat := fun v68 k0_hw3 => k0_hw3.1
theorem k0_off5_inb : ∀ (v68 : BitVec 32) (k0_hw3 : k0_chk3 v68), ∀ a, (k0_off5 v68) a + S1x128x1152.size a ≤ S32x128x16384.size a := fun v68 k0_hw3 => k0_hw3.2.1
theorem k0_off5_wordsfp8e4m3 : ∀ (v68 : BitVec 32) (k0_hw3 : k0_chk3 v68), (Rect.unit (s := S32x128x16384) (k0_off5 v68) S1x128x1152.size (k0_off5_inb v68 k0_hw3)).WholeWords (EltTy.packing .fp8e4m3) := fun v68 k0_hw3 => k0_hw3.2.2.1 (k0_off5_inb v68 k0_hw3)
theorem k0_off6_inb : ∀ (v68 : BitVec 32) (k0_hw3 : k0_chk3 v68), ∀ a, (k0_off6 v68) a + S1x2x1152.size a ≤ S32x2x16384.size a := fun v68 k0_hw3 => k0_hw3.2.2.2

def k0_mult4 (v99 : BitVec 32) : BitVec 32 :=
  let c15232_i32_88 : BitVec 32 := 15232#32
  let c0_i32_87 : BitVec 32 := 0#32
  let c1023_i32_84 : BitVec 32 := 1023#32
  let v100 : BitVec 32 := Scalar.subi v99 c1023_i32_84
  let c7_i32_85 : BitVec 32 := 7#32
  let v101 : BitVec 32 := Scalar.shrsi v100 c7_i32_85
  let c7_i32_86 : BitVec 32 := 7#32
  let v102 : BitVec 32 := Scalar.shli v101 c7_i32_86
  let v103 : BitVec 32 := Scalar.maxsi c0_i32_87 v102
  let v104 : BitVec 32 := Scalar.minsi c15232_i32_88 v103
  v104

def k0_off7 (v99 : BitVec 32) : Fin 3 → Nat :=
  let c3_i32 : BitVec 32 := 3#32
  let c0_i32_93 : BitVec 32 := 0#32
  let c15232_i32_88 : BitVec 32 := 15232#32
  let c0_i32_87 : BitVec 32 := 0#32
  let c1023_i32_84 : BitVec 32 := 1023#32
  let v100 : BitVec 32 := Scalar.subi v99 c1023_i32_84
  let c7_i32_85 : BitVec 32 := 7#32
  let v101 : BitVec 32 := Scalar.shrsi v100 c7_i32_85
  let c7_i32_86 : BitVec 32 := 7#32
  let v102 : BitVec 32 := Scalar.shli v101 c7_i32_86
  let v103 : BitVec 32 := Scalar.maxsi c0_i32_87 v102
  let v104 : BitVec 32 := Scalar.minsi c15232_i32_88 v103
  let v105 : BitVec 32 := v104
  ![3, 0, v105.toNat]
def k0_off8 (v99 : BitVec 32) : Fin 3 → Nat :=
  let c3_i32_94 : BitVec 32 := 3#32
  let c0_i32_99 : BitVec 32 := 0#32
  let c15232_i32_88 : BitVec 32 := 15232#32
  let c0_i32_87 : BitVec 32 := 0#32
  let c1023_i32_84 : BitVec 32 := 1023#32
  let v100 : BitVec 32 := Scalar.subi v99 c1023_i32_84
  let c7_i32_85 : BitVec 32 := 7#32
  let v101 : BitVec 32 := Scalar.shrsi v100 c7_i32_85
  let c7_i32_86 : BitVec 32 := 7#32
  let v102 : BitVec 32 := Scalar.shli v101 c7_i32_86
  let v103 : BitVec 32 := Scalar.maxsi c0_i32_87 v102
  let v104 : BitVec 32 := Scalar.minsi c15232_i32_88 v103
  let v105 : BitVec 32 := v104
  ![3, 0, v105.toNat]

def k0_chk4 (v99 : BitVec 32) : Prop :=
  (128 ∣ (k0_mult4 v99).toNat) ∧
  (∀ a, (k0_off7 v99) a + S1x128x1152.size a ≤ S32x128x16384.size a) ∧
  (∀ (hinb : ∀ a, (k0_off7 v99) a + S1x128x1152.size a ≤ S32x128x16384.size a), (Rect.unit (s := S32x128x16384) (k0_off7 v99) S1x128x1152.size hinb).WholeWords (EltTy.packing .fp8e4m3)) ∧
  (∀ a, (k0_off8 v99) a + S1x2x1152.size a ≤ S32x2x16384.size a)
theorem k0_mult4_dvd : ∀ (v99 : BitVec 32) (k0_hw4 : k0_chk4 v99), 128 ∣ (k0_mult4 v99).toNat := fun v99 k0_hw4 => k0_hw4.1
theorem k0_off7_inb : ∀ (v99 : BitVec 32) (k0_hw4 : k0_chk4 v99), ∀ a, (k0_off7 v99) a + S1x128x1152.size a ≤ S32x128x16384.size a := fun v99 k0_hw4 => k0_hw4.2.1
theorem k0_off7_wordsfp8e4m3 : ∀ (v99 : BitVec 32) (k0_hw4 : k0_chk4 v99), (Rect.unit (s := S32x128x16384) (k0_off7 v99) S1x128x1152.size (k0_off7_inb v99 k0_hw4)).WholeWords (EltTy.packing .fp8e4m3) := fun v99 k0_hw4 => k0_hw4.2.2.1 (k0_off7_inb v99 k0_hw4)
theorem k0_off8_inb : ∀ (v99 : BitVec 32) (k0_hw4 : k0_chk4 v99), ∀ a, (k0_off8 v99) a + S1x2x1152.size a ≤ S32x2x16384.size a := fun v99 k0_hw4 => k0_hw4.2.2.2

def k0_mult5 (v130 : BitVec 32) : BitVec 32 :=
  let c15232_i32_116 : BitVec 32 := 15232#32
  let c0_i32_115 : BitVec 32 := 0#32
  let c1023_i32_112 : BitVec 32 := 1023#32
  let v131 : BitVec 32 := Scalar.subi v130 c1023_i32_112
  let c7_i32_113 : BitVec 32 := 7#32
  let v132 : BitVec 32 := Scalar.shrsi v131 c7_i32_113
  let c7_i32_114 : BitVec 32 := 7#32
  let v133 : BitVec 32 := Scalar.shli v132 c7_i32_114
  let v134 : BitVec 32 := Scalar.maxsi c0_i32_115 v133
  let v135 : BitVec 32 := Scalar.minsi c15232_i32_116 v134
  v135

def k0_off9 (v130 : BitVec 32) : Fin 3 → Nat :=
  let c4_i32 : BitVec 32 := 4#32
  let c0_i32_121 : BitVec 32 := 0#32
  let c15232_i32_116 : BitVec 32 := 15232#32
  let c0_i32_115 : BitVec 32 := 0#32
  let c1023_i32_112 : BitVec 32 := 1023#32
  let v131 : BitVec 32 := Scalar.subi v130 c1023_i32_112
  let c7_i32_113 : BitVec 32 := 7#32
  let v132 : BitVec 32 := Scalar.shrsi v131 c7_i32_113
  let c7_i32_114 : BitVec 32 := 7#32
  let v133 : BitVec 32 := Scalar.shli v132 c7_i32_114
  let v134 : BitVec 32 := Scalar.maxsi c0_i32_115 v133
  let v135 : BitVec 32 := Scalar.minsi c15232_i32_116 v134
  let v136 : BitVec 32 := v135
  ![4, 0, v136.toNat]
def k0_off10 (v130 : BitVec 32) : Fin 3 → Nat :=
  let c4_i32_122 : BitVec 32 := 4#32
  let c0_i32_127 : BitVec 32 := 0#32
  let c15232_i32_116 : BitVec 32 := 15232#32
  let c0_i32_115 : BitVec 32 := 0#32
  let c1023_i32_112 : BitVec 32 := 1023#32
  let v131 : BitVec 32 := Scalar.subi v130 c1023_i32_112
  let c7_i32_113 : BitVec 32 := 7#32
  let v132 : BitVec 32 := Scalar.shrsi v131 c7_i32_113
  let c7_i32_114 : BitVec 32 := 7#32
  let v133 : BitVec 32 := Scalar.shli v132 c7_i32_114
  let v134 : BitVec 32 := Scalar.maxsi c0_i32_115 v133
  let v135 : BitVec 32 := Scalar.minsi c15232_i32_116 v134
  let v136 : BitVec 32 := v135
  ![4, 0, v136.toNat]

def k0_chk5 (v130 : BitVec 32) : Prop :=
  (128 ∣ (k0_mult5 v130).toNat) ∧
  (∀ a, (k0_off9 v130) a + S1x128x1152.size a ≤ S32x128x16384.size a) ∧
  (∀ (hinb : ∀ a, (k0_off9 v130) a + S1x128x1152.size a ≤ S32x128x16384.size a), (Rect.unit (s := S32x128x16384) (k0_off9 v130) S1x128x1152.size hinb).WholeWords (EltTy.packing .fp8e4m3)) ∧
  (∀ a, (k0_off10 v130) a + S1x2x1152.size a ≤ S32x2x16384.size a)
theorem k0_mult5_dvd : ∀ (v130 : BitVec 32) (k0_hw5 : k0_chk5 v130), 128 ∣ (k0_mult5 v130).toNat := fun v130 k0_hw5 => k0_hw5.1
theorem k0_off9_inb : ∀ (v130 : BitVec 32) (k0_hw5 : k0_chk5 v130), ∀ a, (k0_off9 v130) a + S1x128x1152.size a ≤ S32x128x16384.size a := fun v130 k0_hw5 => k0_hw5.2.1
theorem k0_off9_wordsfp8e4m3 : ∀ (v130 : BitVec 32) (k0_hw5 : k0_chk5 v130), (Rect.unit (s := S32x128x16384) (k0_off9 v130) S1x128x1152.size (k0_off9_inb v130 k0_hw5)).WholeWords (EltTy.packing .fp8e4m3) := fun v130 k0_hw5 => k0_hw5.2.2.1 (k0_off9_inb v130 k0_hw5)
theorem k0_off10_inb : ∀ (v130 : BitVec 32) (k0_hw5 : k0_chk5 v130), ∀ a, (k0_off10 v130) a + S1x2x1152.size a ≤ S32x2x16384.size a := fun v130 k0_hw5 => k0_hw5.2.2.2

def k0_mult6 (v161 : BitVec 32) : BitVec 32 :=
  let c15232_i32_144 : BitVec 32 := 15232#32
  let c0_i32_143 : BitVec 32 := 0#32
  let c1023_i32_140 : BitVec 32 := 1023#32
  let v162 : BitVec 32 := Scalar.subi v161 c1023_i32_140
  let c7_i32_141 : BitVec 32 := 7#32
  let v163 : BitVec 32 := Scalar.shrsi v162 c7_i32_141
  let c7_i32_142 : BitVec 32 := 7#32
  let v164 : BitVec 32 := Scalar.shli v163 c7_i32_142
  let v165 : BitVec 32 := Scalar.maxsi c0_i32_143 v164
  let v166 : BitVec 32 := Scalar.minsi c15232_i32_144 v165
  v166

def k0_off11 (v161 : BitVec 32) : Fin 3 → Nat :=
  let c5_i32 : BitVec 32 := 5#32
  let c0_i32_149 : BitVec 32 := 0#32
  let c15232_i32_144 : BitVec 32 := 15232#32
  let c0_i32_143 : BitVec 32 := 0#32
  let c1023_i32_140 : BitVec 32 := 1023#32
  let v162 : BitVec 32 := Scalar.subi v161 c1023_i32_140
  let c7_i32_141 : BitVec 32 := 7#32
  let v163 : BitVec 32 := Scalar.shrsi v162 c7_i32_141
  let c7_i32_142 : BitVec 32 := 7#32
  let v164 : BitVec 32 := Scalar.shli v163 c7_i32_142
  let v165 : BitVec 32 := Scalar.maxsi c0_i32_143 v164
  let v166 : BitVec 32 := Scalar.minsi c15232_i32_144 v165
  let v167 : BitVec 32 := v166
  ![5, 0, v167.toNat]
def k0_off12 (v161 : BitVec 32) : Fin 3 → Nat :=
  let c5_i32_150 : BitVec 32 := 5#32
  let c0_i32_155 : BitVec 32 := 0#32
  let c15232_i32_144 : BitVec 32 := 15232#32
  let c0_i32_143 : BitVec 32 := 0#32
  let c1023_i32_140 : BitVec 32 := 1023#32
  let v162 : BitVec 32 := Scalar.subi v161 c1023_i32_140
  let c7_i32_141 : BitVec 32 := 7#32
  let v163 : BitVec 32 := Scalar.shrsi v162 c7_i32_141
  let c7_i32_142 : BitVec 32 := 7#32
  let v164 : BitVec 32 := Scalar.shli v163 c7_i32_142
  let v165 : BitVec 32 := Scalar.maxsi c0_i32_143 v164
  let v166 : BitVec 32 := Scalar.minsi c15232_i32_144 v165
  let v167 : BitVec 32 := v166
  ![5, 0, v167.toNat]

def k0_chk6 (v161 : BitVec 32) : Prop :=
  (128 ∣ (k0_mult6 v161).toNat) ∧
  (∀ a, (k0_off11 v161) a + S1x128x1152.size a ≤ S32x128x16384.size a) ∧
  (∀ (hinb : ∀ a, (k0_off11 v161) a + S1x128x1152.size a ≤ S32x128x16384.size a), (Rect.unit (s := S32x128x16384) (k0_off11 v161) S1x128x1152.size hinb).WholeWords (EltTy.packing .fp8e4m3)) ∧
  (∀ a, (k0_off12 v161) a + S1x2x1152.size a ≤ S32x2x16384.size a)
theorem k0_mult6_dvd : ∀ (v161 : BitVec 32) (k0_hw6 : k0_chk6 v161), 128 ∣ (k0_mult6 v161).toNat := fun v161 k0_hw6 => k0_hw6.1
theorem k0_off11_inb : ∀ (v161 : BitVec 32) (k0_hw6 : k0_chk6 v161), ∀ a, (k0_off11 v161) a + S1x128x1152.size a ≤ S32x128x16384.size a := fun v161 k0_hw6 => k0_hw6.2.1
theorem k0_off11_wordsfp8e4m3 : ∀ (v161 : BitVec 32) (k0_hw6 : k0_chk6 v161), (Rect.unit (s := S32x128x16384) (k0_off11 v161) S1x128x1152.size (k0_off11_inb v161 k0_hw6)).WholeWords (EltTy.packing .fp8e4m3) := fun v161 k0_hw6 => k0_hw6.2.2.1 (k0_off11_inb v161 k0_hw6)
theorem k0_off12_inb : ∀ (v161 : BitVec 32) (k0_hw6 : k0_chk6 v161), ∀ a, (k0_off12 v161) a + S1x2x1152.size a ≤ S32x2x16384.size a := fun v161 k0_hw6 => k0_hw6.2.2.2

def k0_mult7 (v192 : BitVec 32) : BitVec 32 :=
  let c15232_i32_172 : BitVec 32 := 15232#32
  let c0_i32_171 : BitVec 32 := 0#32
  let c1023_i32_168 : BitVec 32 := 1023#32
  let v193 : BitVec 32 := Scalar.subi v192 c1023_i32_168
  let c7_i32_169 : BitVec 32 := 7#32
  let v194 : BitVec 32 := Scalar.shrsi v193 c7_i32_169
  let c7_i32_170 : BitVec 32 := 7#32
  let v195 : BitVec 32 := Scalar.shli v194 c7_i32_170
  let v196 : BitVec 32 := Scalar.maxsi c0_i32_171 v195
  let v197 : BitVec 32 := Scalar.minsi c15232_i32_172 v196
  v197

def k0_off13 (v192 : BitVec 32) : Fin 3 → Nat :=
  let c6_i32 : BitVec 32 := 6#32
  let c0_i32_177 : BitVec 32 := 0#32
  let c15232_i32_172 : BitVec 32 := 15232#32
  let c0_i32_171 : BitVec 32 := 0#32
  let c1023_i32_168 : BitVec 32 := 1023#32
  let v193 : BitVec 32 := Scalar.subi v192 c1023_i32_168
  let c7_i32_169 : BitVec 32 := 7#32
  let v194 : BitVec 32 := Scalar.shrsi v193 c7_i32_169
  let c7_i32_170 : BitVec 32 := 7#32
  let v195 : BitVec 32 := Scalar.shli v194 c7_i32_170
  let v196 : BitVec 32 := Scalar.maxsi c0_i32_171 v195
  let v197 : BitVec 32 := Scalar.minsi c15232_i32_172 v196
  let v198 : BitVec 32 := v197
  ![6, 0, v198.toNat]
def k0_off14 (v192 : BitVec 32) : Fin 3 → Nat :=
  let c6_i32_178 : BitVec 32 := 6#32
  let c0_i32_183 : BitVec 32 := 0#32
  let c15232_i32_172 : BitVec 32 := 15232#32
  let c0_i32_171 : BitVec 32 := 0#32
  let c1023_i32_168 : BitVec 32 := 1023#32
  let v193 : BitVec 32 := Scalar.subi v192 c1023_i32_168
  let c7_i32_169 : BitVec 32 := 7#32
  let v194 : BitVec 32 := Scalar.shrsi v193 c7_i32_169
  let c7_i32_170 : BitVec 32 := 7#32
  let v195 : BitVec 32 := Scalar.shli v194 c7_i32_170
  let v196 : BitVec 32 := Scalar.maxsi c0_i32_171 v195
  let v197 : BitVec 32 := Scalar.minsi c15232_i32_172 v196
  let v198 : BitVec 32 := v197
  ![6, 0, v198.toNat]

def k0_chk7 (v192 : BitVec 32) : Prop :=
  (128 ∣ (k0_mult7 v192).toNat) ∧
  (∀ a, (k0_off13 v192) a + S1x128x1152.size a ≤ S32x128x16384.size a) ∧
  (∀ (hinb : ∀ a, (k0_off13 v192) a + S1x128x1152.size a ≤ S32x128x16384.size a), (Rect.unit (s := S32x128x16384) (k0_off13 v192) S1x128x1152.size hinb).WholeWords (EltTy.packing .fp8e4m3)) ∧
  (∀ a, (k0_off14 v192) a + S1x2x1152.size a ≤ S32x2x16384.size a)
theorem k0_mult7_dvd : ∀ (v192 : BitVec 32) (k0_hw7 : k0_chk7 v192), 128 ∣ (k0_mult7 v192).toNat := fun v192 k0_hw7 => k0_hw7.1
theorem k0_off13_inb : ∀ (v192 : BitVec 32) (k0_hw7 : k0_chk7 v192), ∀ a, (k0_off13 v192) a + S1x128x1152.size a ≤ S32x128x16384.size a := fun v192 k0_hw7 => k0_hw7.2.1
theorem k0_off13_wordsfp8e4m3 : ∀ (v192 : BitVec 32) (k0_hw7 : k0_chk7 v192), (Rect.unit (s := S32x128x16384) (k0_off13 v192) S1x128x1152.size (k0_off13_inb v192 k0_hw7)).WholeWords (EltTy.packing .fp8e4m3) := fun v192 k0_hw7 => k0_hw7.2.2.1 (k0_off13_inb v192 k0_hw7)
theorem k0_off14_inb : ∀ (v192 : BitVec 32) (k0_hw7 : k0_chk7 v192), ∀ a, (k0_off14 v192) a + S1x2x1152.size a ≤ S32x2x16384.size a := fun v192 k0_hw7 => k0_hw7.2.2.2

def k0_mult8 (v223 : BitVec 32) : BitVec 32 :=
  let c15232_i32_200 : BitVec 32 := 15232#32
  let c0_i32_199 : BitVec 32 := 0#32
  let c1023_i32_196 : BitVec 32 := 1023#32
  let v224 : BitVec 32 := Scalar.subi v223 c1023_i32_196
  let c7_i32_197 : BitVec 32 := 7#32
  let v225 : BitVec 32 := Scalar.shrsi v224 c7_i32_197
  let c7_i32_198 : BitVec 32 := 7#32
  let v226 : BitVec 32 := Scalar.shli v225 c7_i32_198
  let v227 : BitVec 32 := Scalar.maxsi c0_i32_199 v226
  let v228 : BitVec 32 := Scalar.minsi c15232_i32_200 v227
  v228

def k0_off15 (v223 : BitVec 32) : Fin 3 → Nat :=
  let c7_i32_201 : BitVec 32 := 7#32
  let c0_i32_206 : BitVec 32 := 0#32
  let c15232_i32_200 : BitVec 32 := 15232#32
  let c0_i32_199 : BitVec 32 := 0#32
  let c1023_i32_196 : BitVec 32 := 1023#32
  let v224 : BitVec 32 := Scalar.subi v223 c1023_i32_196
  let c7_i32_197 : BitVec 32 := 7#32
  let v225 : BitVec 32 := Scalar.shrsi v224 c7_i32_197
  let c7_i32_198 : BitVec 32 := 7#32
  let v226 : BitVec 32 := Scalar.shli v225 c7_i32_198
  let v227 : BitVec 32 := Scalar.maxsi c0_i32_199 v226
  let v228 : BitVec 32 := Scalar.minsi c15232_i32_200 v227
  let v229 : BitVec 32 := v228
  ![7, 0, v229.toNat]
def k0_off16 (v223 : BitVec 32) : Fin 3 → Nat :=
  let c7_i32_207 : BitVec 32 := 7#32
  let c0_i32_212 : BitVec 32 := 0#32
  let c15232_i32_200 : BitVec 32 := 15232#32
  let c0_i32_199 : BitVec 32 := 0#32
  let c1023_i32_196 : BitVec 32 := 1023#32
  let v224 : BitVec 32 := Scalar.subi v223 c1023_i32_196
  let c7_i32_197 : BitVec 32 := 7#32
  let v225 : BitVec 32 := Scalar.shrsi v224 c7_i32_197
  let c7_i32_198 : BitVec 32 := 7#32
  let v226 : BitVec 32 := Scalar.shli v225 c7_i32_198
  let v227 : BitVec 32 := Scalar.maxsi c0_i32_199 v226
  let v228 : BitVec 32 := Scalar.minsi c15232_i32_200 v227
  let v229 : BitVec 32 := v228
  ![7, 0, v229.toNat]

def k0_chk8 (v223 : BitVec 32) : Prop :=
  (128 ∣ (k0_mult8 v223).toNat) ∧
  (∀ a, (k0_off15 v223) a + S1x128x1152.size a ≤ S32x128x16384.size a) ∧
  (∀ (hinb : ∀ a, (k0_off15 v223) a + S1x128x1152.size a ≤ S32x128x16384.size a), (Rect.unit (s := S32x128x16384) (k0_off15 v223) S1x128x1152.size hinb).WholeWords (EltTy.packing .fp8e4m3)) ∧
  (∀ a, (k0_off16 v223) a + S1x2x1152.size a ≤ S32x2x16384.size a)
theorem k0_mult8_dvd : ∀ (v223 : BitVec 32) (k0_hw8 : k0_chk8 v223), 128 ∣ (k0_mult8 v223).toNat := fun v223 k0_hw8 => k0_hw8.1
theorem k0_off15_inb : ∀ (v223 : BitVec 32) (k0_hw8 : k0_chk8 v223), ∀ a, (k0_off15 v223) a + S1x128x1152.size a ≤ S32x128x16384.size a := fun v223 k0_hw8 => k0_hw8.2.1
theorem k0_off15_wordsfp8e4m3 : ∀ (v223 : BitVec 32) (k0_hw8 : k0_chk8 v223), (Rect.unit (s := S32x128x16384) (k0_off15 v223) S1x128x1152.size (k0_off15_inb v223 k0_hw8)).WholeWords (EltTy.packing .fp8e4m3) := fun v223 k0_hw8 => k0_hw8.2.2.1 (k0_off15_inb v223 k0_hw8)
theorem k0_off16_inb : ∀ (v223 : BitVec 32) (k0_hw8 : k0_chk8 v223), ∀ a, (k0_off16 v223) a + S1x2x1152.size a ≤ S32x2x16384.size a := fun v223 k0_hw8 => k0_hw8.2.2.2

def k0_mult9 (v254 : BitVec 32) : BitVec 32 :=
  let c15232_i32_229 : BitVec 32 := 15232#32
  let c0_i32_228 : BitVec 32 := 0#32
  let c1023_i32_225 : BitVec 32 := 1023#32
  let v255 : BitVec 32 := Scalar.subi v254 c1023_i32_225
  let c7_i32_226 : BitVec 32 := 7#32
  let v256 : BitVec 32 := Scalar.shrsi v255 c7_i32_226
  let c7_i32_227 : BitVec 32 := 7#32
  let v257 : BitVec 32 := Scalar.shli v256 c7_i32_227
  let v258 : BitVec 32 := Scalar.maxsi c0_i32_228 v257
  let v259 : BitVec 32 := Scalar.minsi c15232_i32_229 v258
  v259

def k0_off17 (v254 : BitVec 32) : Fin 3 → Nat :=
  let c8_i32 : BitVec 32 := 8#32
  let c0_i32_234 : BitVec 32 := 0#32
  let c15232_i32_229 : BitVec 32 := 15232#32
  let c0_i32_228 : BitVec 32 := 0#32
  let c1023_i32_225 : BitVec 32 := 1023#32
  let v255 : BitVec 32 := Scalar.subi v254 c1023_i32_225
  let c7_i32_226 : BitVec 32 := 7#32
  let v256 : BitVec 32 := Scalar.shrsi v255 c7_i32_226
  let c7_i32_227 : BitVec 32 := 7#32
  let v257 : BitVec 32 := Scalar.shli v256 c7_i32_227
  let v258 : BitVec 32 := Scalar.maxsi c0_i32_228 v257
  let v259 : BitVec 32 := Scalar.minsi c15232_i32_229 v258
  let v260 : BitVec 32 := v259
  ![8, 0, v260.toNat]
def k0_off18 (v254 : BitVec 32) : Fin 3 → Nat :=
  let c8_i32_235 : BitVec 32 := 8#32
  let c0_i32_240 : BitVec 32 := 0#32
  let c15232_i32_229 : BitVec 32 := 15232#32
  let c0_i32_228 : BitVec 32 := 0#32
  let c1023_i32_225 : BitVec 32 := 1023#32
  let v255 : BitVec 32 := Scalar.subi v254 c1023_i32_225
  let c7_i32_226 : BitVec 32 := 7#32
  let v256 : BitVec 32 := Scalar.shrsi v255 c7_i32_226
  let c7_i32_227 : BitVec 32 := 7#32
  let v257 : BitVec 32 := Scalar.shli v256 c7_i32_227
  let v258 : BitVec 32 := Scalar.maxsi c0_i32_228 v257
  let v259 : BitVec 32 := Scalar.minsi c15232_i32_229 v258
  let v260 : BitVec 32 := v259
  ![8, 0, v260.toNat]

def k0_chk9 (v254 : BitVec 32) : Prop :=
  (128 ∣ (k0_mult9 v254).toNat) ∧
  (∀ a, (k0_off17 v254) a + S1x128x1152.size a ≤ S32x128x16384.size a) ∧
  (∀ (hinb : ∀ a, (k0_off17 v254) a + S1x128x1152.size a ≤ S32x128x16384.size a), (Rect.unit (s := S32x128x16384) (k0_off17 v254) S1x128x1152.size hinb).WholeWords (EltTy.packing .fp8e4m3)) ∧
  (∀ a, (k0_off18 v254) a + S1x2x1152.size a ≤ S32x2x16384.size a)
theorem k0_mult9_dvd : ∀ (v254 : BitVec 32) (k0_hw9 : k0_chk9 v254), 128 ∣ (k0_mult9 v254).toNat := fun v254 k0_hw9 => k0_hw9.1
theorem k0_off17_inb : ∀ (v254 : BitVec 32) (k0_hw9 : k0_chk9 v254), ∀ a, (k0_off17 v254) a + S1x128x1152.size a ≤ S32x128x16384.size a := fun v254 k0_hw9 => k0_hw9.2.1
theorem k0_off17_wordsfp8e4m3 : ∀ (v254 : BitVec 32) (k0_hw9 : k0_chk9 v254), (Rect.unit (s := S32x128x16384) (k0_off17 v254) S1x128x1152.size (k0_off17_inb v254 k0_hw9)).WholeWords (EltTy.packing .fp8e4m3) := fun v254 k0_hw9 => k0_hw9.2.2.1 (k0_off17_inb v254 k0_hw9)
theorem k0_off18_inb : ∀ (v254 : BitVec 32) (k0_hw9 : k0_chk9 v254), ∀ a, (k0_off18 v254) a + S1x2x1152.size a ≤ S32x2x16384.size a := fun v254 k0_hw9 => k0_hw9.2.2.2

def k0_mult10 (v285 : BitVec 32) : BitVec 32 :=
  let c15232_i32_257 : BitVec 32 := 15232#32
  let c0_i32_256 : BitVec 32 := 0#32
  let c1023_i32_253 : BitVec 32 := 1023#32
  let v286 : BitVec 32 := Scalar.subi v285 c1023_i32_253
  let c7_i32_254 : BitVec 32 := 7#32
  let v287 : BitVec 32 := Scalar.shrsi v286 c7_i32_254
  let c7_i32_255 : BitVec 32 := 7#32
  let v288 : BitVec 32 := Scalar.shli v287 c7_i32_255
  let v289 : BitVec 32 := Scalar.maxsi c0_i32_256 v288
  let v290 : BitVec 32 := Scalar.minsi c15232_i32_257 v289
  v290

def k0_off19 (v285 : BitVec 32) : Fin 3 → Nat :=
  let c9_i32 : BitVec 32 := 9#32
  let c0_i32_262 : BitVec 32 := 0#32
  let c15232_i32_257 : BitVec 32 := 15232#32
  let c0_i32_256 : BitVec 32 := 0#32
  let c1023_i32_253 : BitVec 32 := 1023#32
  let v286 : BitVec 32 := Scalar.subi v285 c1023_i32_253
  let c7_i32_254 : BitVec 32 := 7#32
  let v287 : BitVec 32 := Scalar.shrsi v286 c7_i32_254
  let c7_i32_255 : BitVec 32 := 7#32
  let v288 : BitVec 32 := Scalar.shli v287 c7_i32_255
  let v289 : BitVec 32 := Scalar.maxsi c0_i32_256 v288
  let v290 : BitVec 32 := Scalar.minsi c15232_i32_257 v289
  let v291 : BitVec 32 := v290
  ![9, 0, v291.toNat]
def k0_off20 (v285 : BitVec 32) : Fin 3 → Nat :=
  let c9_i32_263 : BitVec 32 := 9#32
  let c0_i32_268 : BitVec 32 := 0#32
  let c15232_i32_257 : BitVec 32 := 15232#32
  let c0_i32_256 : BitVec 32 := 0#32
  let c1023_i32_253 : BitVec 32 := 1023#32
  let v286 : BitVec 32 := Scalar.subi v285 c1023_i32_253
  let c7_i32_254 : BitVec 32 := 7#32
  let v287 : BitVec 32 := Scalar.shrsi v286 c7_i32_254
  let c7_i32_255 : BitVec 32 := 7#32
  let v288 : BitVec 32 := Scalar.shli v287 c7_i32_255
  let v289 : BitVec 32 := Scalar.maxsi c0_i32_256 v288
  let v290 : BitVec 32 := Scalar.minsi c15232_i32_257 v289
  let v291 : BitVec 32 := v290
  ![9, 0, v291.toNat]

def k0_chk10 (v285 : BitVec 32) : Prop :=
  (128 ∣ (k0_mult10 v285).toNat) ∧
  (∀ a, (k0_off19 v285) a + S1x128x1152.size a ≤ S32x128x16384.size a) ∧
  (∀ (hinb : ∀ a, (k0_off19 v285) a + S1x128x1152.size a ≤ S32x128x16384.size a), (Rect.unit (s := S32x128x16384) (k0_off19 v285) S1x128x1152.size hinb).WholeWords (EltTy.packing .fp8e4m3)) ∧
  (∀ a, (k0_off20 v285) a + S1x2x1152.size a ≤ S32x2x16384.size a)
theorem k0_mult10_dvd : ∀ (v285 : BitVec 32) (k0_hw10 : k0_chk10 v285), 128 ∣ (k0_mult10 v285).toNat := fun v285 k0_hw10 => k0_hw10.1
theorem k0_off19_inb : ∀ (v285 : BitVec 32) (k0_hw10 : k0_chk10 v285), ∀ a, (k0_off19 v285) a + S1x128x1152.size a ≤ S32x128x16384.size a := fun v285 k0_hw10 => k0_hw10.2.1
theorem k0_off19_wordsfp8e4m3 : ∀ (v285 : BitVec 32) (k0_hw10 : k0_chk10 v285), (Rect.unit (s := S32x128x16384) (k0_off19 v285) S1x128x1152.size (k0_off19_inb v285 k0_hw10)).WholeWords (EltTy.packing .fp8e4m3) := fun v285 k0_hw10 => k0_hw10.2.2.1 (k0_off19_inb v285 k0_hw10)
theorem k0_off20_inb : ∀ (v285 : BitVec 32) (k0_hw10 : k0_chk10 v285), ∀ a, (k0_off20 v285) a + S1x2x1152.size a ≤ S32x2x16384.size a := fun v285 k0_hw10 => k0_hw10.2.2.2

def k0_mult11 (v316 : BitVec 32) : BitVec 32 :=
  let c15232_i32_285 : BitVec 32 := 15232#32
  let c0_i32_284 : BitVec 32 := 0#32
  let c1023_i32_281 : BitVec 32 := 1023#32
  let v317 : BitVec 32 := Scalar.subi v316 c1023_i32_281
  let c7_i32_282 : BitVec 32 := 7#32
  let v318 : BitVec 32 := Scalar.shrsi v317 c7_i32_282
  let c7_i32_283 : BitVec 32 := 7#32
  let v319 : BitVec 32 := Scalar.shli v318 c7_i32_283
  let v320 : BitVec 32 := Scalar.maxsi c0_i32_284 v319
  let v321 : BitVec 32 := Scalar.minsi c15232_i32_285 v320
  v321

def k0_off21 (v316 : BitVec 32) : Fin 3 → Nat :=
  let c10_i32 : BitVec 32 := 10#32
  let c0_i32_290 : BitVec 32 := 0#32
  let c15232_i32_285 : BitVec 32 := 15232#32
  let c0_i32_284 : BitVec 32 := 0#32
  let c1023_i32_281 : BitVec 32 := 1023#32
  let v317 : BitVec 32 := Scalar.subi v316 c1023_i32_281
  let c7_i32_282 : BitVec 32 := 7#32
  let v318 : BitVec 32 := Scalar.shrsi v317 c7_i32_282
  let c7_i32_283 : BitVec 32 := 7#32
  let v319 : BitVec 32 := Scalar.shli v318 c7_i32_283
  let v320 : BitVec 32 := Scalar.maxsi c0_i32_284 v319
  let v321 : BitVec 32 := Scalar.minsi c15232_i32_285 v320
  let v322 : BitVec 32 := v321
  ![10, 0, v322.toNat]
def k0_off22 (v316 : BitVec 32) : Fin 3 → Nat :=
  let c10_i32_291 : BitVec 32 := 10#32
  let c0_i32_296 : BitVec 32 := 0#32
  let c15232_i32_285 : BitVec 32 := 15232#32
  let c0_i32_284 : BitVec 32 := 0#32
  let c1023_i32_281 : BitVec 32 := 1023#32
  let v317 : BitVec 32 := Scalar.subi v316 c1023_i32_281
  let c7_i32_282 : BitVec 32 := 7#32
  let v318 : BitVec 32 := Scalar.shrsi v317 c7_i32_282
  let c7_i32_283 : BitVec 32 := 7#32
  let v319 : BitVec 32 := Scalar.shli v318 c7_i32_283
  let v320 : BitVec 32 := Scalar.maxsi c0_i32_284 v319
  let v321 : BitVec 32 := Scalar.minsi c15232_i32_285 v320
  let v322 : BitVec 32 := v321
  ![10, 0, v322.toNat]

def k0_chk11 (v316 : BitVec 32) : Prop :=
  (128 ∣ (k0_mult11 v316).toNat) ∧
  (∀ a, (k0_off21 v316) a + S1x128x1152.size a ≤ S32x128x16384.size a) ∧
  (∀ (hinb : ∀ a, (k0_off21 v316) a + S1x128x1152.size a ≤ S32x128x16384.size a), (Rect.unit (s := S32x128x16384) (k0_off21 v316) S1x128x1152.size hinb).WholeWords (EltTy.packing .fp8e4m3)) ∧
  (∀ a, (k0_off22 v316) a + S1x2x1152.size a ≤ S32x2x16384.size a)
theorem k0_mult11_dvd : ∀ (v316 : BitVec 32) (k0_hw11 : k0_chk11 v316), 128 ∣ (k0_mult11 v316).toNat := fun v316 k0_hw11 => k0_hw11.1
theorem k0_off21_inb : ∀ (v316 : BitVec 32) (k0_hw11 : k0_chk11 v316), ∀ a, (k0_off21 v316) a + S1x128x1152.size a ≤ S32x128x16384.size a := fun v316 k0_hw11 => k0_hw11.2.1
theorem k0_off21_wordsfp8e4m3 : ∀ (v316 : BitVec 32) (k0_hw11 : k0_chk11 v316), (Rect.unit (s := S32x128x16384) (k0_off21 v316) S1x128x1152.size (k0_off21_inb v316 k0_hw11)).WholeWords (EltTy.packing .fp8e4m3) := fun v316 k0_hw11 => k0_hw11.2.2.1 (k0_off21_inb v316 k0_hw11)
theorem k0_off22_inb : ∀ (v316 : BitVec 32) (k0_hw11 : k0_chk11 v316), ∀ a, (k0_off22 v316) a + S1x2x1152.size a ≤ S32x2x16384.size a := fun v316 k0_hw11 => k0_hw11.2.2.2

def k0_mult12 (v347 : BitVec 32) : BitVec 32 :=
  let c15232_i32_313 : BitVec 32 := 15232#32
  let c0_i32_312 : BitVec 32 := 0#32
  let c1023_i32_309 : BitVec 32 := 1023#32
  let v348 : BitVec 32 := Scalar.subi v347 c1023_i32_309
  let c7_i32_310 : BitVec 32 := 7#32
  let v349 : BitVec 32 := Scalar.shrsi v348 c7_i32_310
  let c7_i32_311 : BitVec 32 := 7#32
  let v350 : BitVec 32 := Scalar.shli v349 c7_i32_311
  let v351 : BitVec 32 := Scalar.maxsi c0_i32_312 v350
  let v352 : BitVec 32 := Scalar.minsi c15232_i32_313 v351
  v352

def k0_off23 (v347 : BitVec 32) : Fin 3 → Nat :=
  let c11_i32 : BitVec 32 := 11#32
  let c0_i32_318 : BitVec 32 := 0#32
  let c15232_i32_313 : BitVec 32 := 15232#32
  let c0_i32_312 : BitVec 32 := 0#32
  let c1023_i32_309 : BitVec 32 := 1023#32
  let v348 : BitVec 32 := Scalar.subi v347 c1023_i32_309
  let c7_i32_310 : BitVec 32 := 7#32
  let v349 : BitVec 32 := Scalar.shrsi v348 c7_i32_310
  let c7_i32_311 : BitVec 32 := 7#32
  let v350 : BitVec 32 := Scalar.shli v349 c7_i32_311
  let v351 : BitVec 32 := Scalar.maxsi c0_i32_312 v350
  let v352 : BitVec 32 := Scalar.minsi c15232_i32_313 v351
  let v353 : BitVec 32 := v352
  ![11, 0, v353.toNat]
def k0_off24 (v347 : BitVec 32) : Fin 3 → Nat :=
  let c11_i32_319 : BitVec 32 := 11#32
  let c0_i32_324 : BitVec 32 := 0#32
  let c15232_i32_313 : BitVec 32 := 15232#32
  let c0_i32_312 : BitVec 32 := 0#32
  let c1023_i32_309 : BitVec 32 := 1023#32
  let v348 : BitVec 32 := Scalar.subi v347 c1023_i32_309
  let c7_i32_310 : BitVec 32 := 7#32
  let v349 : BitVec 32 := Scalar.shrsi v348 c7_i32_310
  let c7_i32_311 : BitVec 32 := 7#32
  let v350 : BitVec 32 := Scalar.shli v349 c7_i32_311
  let v351 : BitVec 32 := Scalar.maxsi c0_i32_312 v350
  let v352 : BitVec 32 := Scalar.minsi c15232_i32_313 v351
  let v353 : BitVec 32 := v352
  ![11, 0, v353.toNat]

def k0_chk12 (v347 : BitVec 32) : Prop :=
  (128 ∣ (k0_mult12 v347).toNat) ∧
  (∀ a, (k0_off23 v347) a + S1x128x1152.size a ≤ S32x128x16384.size a) ∧
  (∀ (hinb : ∀ a, (k0_off23 v347) a + S1x128x1152.size a ≤ S32x128x16384.size a), (Rect.unit (s := S32x128x16384) (k0_off23 v347) S1x128x1152.size hinb).WholeWords (EltTy.packing .fp8e4m3)) ∧
  (∀ a, (k0_off24 v347) a + S1x2x1152.size a ≤ S32x2x16384.size a)
theorem k0_mult12_dvd : ∀ (v347 : BitVec 32) (k0_hw12 : k0_chk12 v347), 128 ∣ (k0_mult12 v347).toNat := fun v347 k0_hw12 => k0_hw12.1
theorem k0_off23_inb : ∀ (v347 : BitVec 32) (k0_hw12 : k0_chk12 v347), ∀ a, (k0_off23 v347) a + S1x128x1152.size a ≤ S32x128x16384.size a := fun v347 k0_hw12 => k0_hw12.2.1
theorem k0_off23_wordsfp8e4m3 : ∀ (v347 : BitVec 32) (k0_hw12 : k0_chk12 v347), (Rect.unit (s := S32x128x16384) (k0_off23 v347) S1x128x1152.size (k0_off23_inb v347 k0_hw12)).WholeWords (EltTy.packing .fp8e4m3) := fun v347 k0_hw12 => k0_hw12.2.2.1 (k0_off23_inb v347 k0_hw12)
theorem k0_off24_inb : ∀ (v347 : BitVec 32) (k0_hw12 : k0_chk12 v347), ∀ a, (k0_off24 v347) a + S1x2x1152.size a ≤ S32x2x16384.size a := fun v347 k0_hw12 => k0_hw12.2.2.2

def k0_mult13 (v378 : BitVec 32) : BitVec 32 :=
  let c15232_i32_341 : BitVec 32 := 15232#32
  let c0_i32_340 : BitVec 32 := 0#32
  let c1023_i32_337 : BitVec 32 := 1023#32
  let v379 : BitVec 32 := Scalar.subi v378 c1023_i32_337
  let c7_i32_338 : BitVec 32 := 7#32
  let v380 : BitVec 32 := Scalar.shrsi v379 c7_i32_338
  let c7_i32_339 : BitVec 32 := 7#32
  let v381 : BitVec 32 := Scalar.shli v380 c7_i32_339
  let v382 : BitVec 32 := Scalar.maxsi c0_i32_340 v381
  let v383 : BitVec 32 := Scalar.minsi c15232_i32_341 v382
  v383

def k0_off25 (v378 : BitVec 32) : Fin 3 → Nat :=
  let c12_i32 : BitVec 32 := 12#32
  let c0_i32_346 : BitVec 32 := 0#32
  let c15232_i32_341 : BitVec 32 := 15232#32
  let c0_i32_340 : BitVec 32 := 0#32
  let c1023_i32_337 : BitVec 32 := 1023#32
  let v379 : BitVec 32 := Scalar.subi v378 c1023_i32_337
  let c7_i32_338 : BitVec 32 := 7#32
  let v380 : BitVec 32 := Scalar.shrsi v379 c7_i32_338
  let c7_i32_339 : BitVec 32 := 7#32
  let v381 : BitVec 32 := Scalar.shli v380 c7_i32_339
  let v382 : BitVec 32 := Scalar.maxsi c0_i32_340 v381
  let v383 : BitVec 32 := Scalar.minsi c15232_i32_341 v382
  let v384 : BitVec 32 := v383
  ![12, 0, v384.toNat]
def k0_off26 (v378 : BitVec 32) : Fin 3 → Nat :=
  let c12_i32_347 : BitVec 32 := 12#32
  let c0_i32_352 : BitVec 32 := 0#32
  let c15232_i32_341 : BitVec 32 := 15232#32
  let c0_i32_340 : BitVec 32 := 0#32
  let c1023_i32_337 : BitVec 32 := 1023#32
  let v379 : BitVec 32 := Scalar.subi v378 c1023_i32_337
  let c7_i32_338 : BitVec 32 := 7#32
  let v380 : BitVec 32 := Scalar.shrsi v379 c7_i32_338
  let c7_i32_339 : BitVec 32 := 7#32
  let v381 : BitVec 32 := Scalar.shli v380 c7_i32_339
  let v382 : BitVec 32 := Scalar.maxsi c0_i32_340 v381
  let v383 : BitVec 32 := Scalar.minsi c15232_i32_341 v382
  let v384 : BitVec 32 := v383
  ![12, 0, v384.toNat]

def k0_chk13 (v378 : BitVec 32) : Prop :=
  (128 ∣ (k0_mult13 v378).toNat) ∧
  (∀ a, (k0_off25 v378) a + S1x128x1152.size a ≤ S32x128x16384.size a) ∧
  (∀ (hinb : ∀ a, (k0_off25 v378) a + S1x128x1152.size a ≤ S32x128x16384.size a), (Rect.unit (s := S32x128x16384) (k0_off25 v378) S1x128x1152.size hinb).WholeWords (EltTy.packing .fp8e4m3)) ∧
  (∀ a, (k0_off26 v378) a + S1x2x1152.size a ≤ S32x2x16384.size a)
theorem k0_mult13_dvd : ∀ (v378 : BitVec 32) (k0_hw13 : k0_chk13 v378), 128 ∣ (k0_mult13 v378).toNat := fun v378 k0_hw13 => k0_hw13.1
theorem k0_off25_inb : ∀ (v378 : BitVec 32) (k0_hw13 : k0_chk13 v378), ∀ a, (k0_off25 v378) a + S1x128x1152.size a ≤ S32x128x16384.size a := fun v378 k0_hw13 => k0_hw13.2.1
theorem k0_off25_wordsfp8e4m3 : ∀ (v378 : BitVec 32) (k0_hw13 : k0_chk13 v378), (Rect.unit (s := S32x128x16384) (k0_off25 v378) S1x128x1152.size (k0_off25_inb v378 k0_hw13)).WholeWords (EltTy.packing .fp8e4m3) := fun v378 k0_hw13 => k0_hw13.2.2.1 (k0_off25_inb v378 k0_hw13)
theorem k0_off26_inb : ∀ (v378 : BitVec 32) (k0_hw13 : k0_chk13 v378), ∀ a, (k0_off26 v378) a + S1x2x1152.size a ≤ S32x2x16384.size a := fun v378 k0_hw13 => k0_hw13.2.2.2

def k0_mult14 (v409 : BitVec 32) : BitVec 32 :=
  let c15232_i32_369 : BitVec 32 := 15232#32
  let c0_i32_368 : BitVec 32 := 0#32
  let c1023_i32_365 : BitVec 32 := 1023#32
  let v410 : BitVec 32 := Scalar.subi v409 c1023_i32_365
  let c7_i32_366 : BitVec 32 := 7#32
  let v411 : BitVec 32 := Scalar.shrsi v410 c7_i32_366
  let c7_i32_367 : BitVec 32 := 7#32
  let v412 : BitVec 32 := Scalar.shli v411 c7_i32_367
  let v413 : BitVec 32 := Scalar.maxsi c0_i32_368 v412
  let v414 : BitVec 32 := Scalar.minsi c15232_i32_369 v413
  v414

def k0_off27 (v409 : BitVec 32) : Fin 3 → Nat :=
  let c13_i32 : BitVec 32 := 13#32
  let c0_i32_374 : BitVec 32 := 0#32
  let c15232_i32_369 : BitVec 32 := 15232#32
  let c0_i32_368 : BitVec 32 := 0#32
  let c1023_i32_365 : BitVec 32 := 1023#32
  let v410 : BitVec 32 := Scalar.subi v409 c1023_i32_365
  let c7_i32_366 : BitVec 32 := 7#32
  let v411 : BitVec 32 := Scalar.shrsi v410 c7_i32_366
  let c7_i32_367 : BitVec 32 := 7#32
  let v412 : BitVec 32 := Scalar.shli v411 c7_i32_367
  let v413 : BitVec 32 := Scalar.maxsi c0_i32_368 v412
  let v414 : BitVec 32 := Scalar.minsi c15232_i32_369 v413
  let v415 : BitVec 32 := v414
  ![13, 0, v415.toNat]
def k0_off28 (v409 : BitVec 32) : Fin 3 → Nat :=
  let c13_i32_375 : BitVec 32 := 13#32
  let c0_i32_380 : BitVec 32 := 0#32
  let c15232_i32_369 : BitVec 32 := 15232#32
  let c0_i32_368 : BitVec 32 := 0#32
  let c1023_i32_365 : BitVec 32 := 1023#32
  let v410 : BitVec 32 := Scalar.subi v409 c1023_i32_365
  let c7_i32_366 : BitVec 32 := 7#32
  let v411 : BitVec 32 := Scalar.shrsi v410 c7_i32_366
  let c7_i32_367 : BitVec 32 := 7#32
  let v412 : BitVec 32 := Scalar.shli v411 c7_i32_367
  let v413 : BitVec 32 := Scalar.maxsi c0_i32_368 v412
  let v414 : BitVec 32 := Scalar.minsi c15232_i32_369 v413
  let v415 : BitVec 32 := v414
  ![13, 0, v415.toNat]

def k0_chk14 (v409 : BitVec 32) : Prop :=
  (128 ∣ (k0_mult14 v409).toNat) ∧
  (∀ a, (k0_off27 v409) a + S1x128x1152.size a ≤ S32x128x16384.size a) ∧
  (∀ (hinb : ∀ a, (k0_off27 v409) a + S1x128x1152.size a ≤ S32x128x16384.size a), (Rect.unit (s := S32x128x16384) (k0_off27 v409) S1x128x1152.size hinb).WholeWords (EltTy.packing .fp8e4m3)) ∧
  (∀ a, (k0_off28 v409) a + S1x2x1152.size a ≤ S32x2x16384.size a)
theorem k0_mult14_dvd : ∀ (v409 : BitVec 32) (k0_hw14 : k0_chk14 v409), 128 ∣ (k0_mult14 v409).toNat := fun v409 k0_hw14 => k0_hw14.1
theorem k0_off27_inb : ∀ (v409 : BitVec 32) (k0_hw14 : k0_chk14 v409), ∀ a, (k0_off27 v409) a + S1x128x1152.size a ≤ S32x128x16384.size a := fun v409 k0_hw14 => k0_hw14.2.1
theorem k0_off27_wordsfp8e4m3 : ∀ (v409 : BitVec 32) (k0_hw14 : k0_chk14 v409), (Rect.unit (s := S32x128x16384) (k0_off27 v409) S1x128x1152.size (k0_off27_inb v409 k0_hw14)).WholeWords (EltTy.packing .fp8e4m3) := fun v409 k0_hw14 => k0_hw14.2.2.1 (k0_off27_inb v409 k0_hw14)
theorem k0_off28_inb : ∀ (v409 : BitVec 32) (k0_hw14 : k0_chk14 v409), ∀ a, (k0_off28 v409) a + S1x2x1152.size a ≤ S32x2x16384.size a := fun v409 k0_hw14 => k0_hw14.2.2.2

def k0_mult15 (v440 : BitVec 32) : BitVec 32 :=
  let c15232_i32_397 : BitVec 32 := 15232#32
  let c0_i32_396 : BitVec 32 := 0#32
  let c1023_i32_393 : BitVec 32 := 1023#32
  let v441 : BitVec 32 := Scalar.subi v440 c1023_i32_393
  let c7_i32_394 : BitVec 32 := 7#32
  let v442 : BitVec 32 := Scalar.shrsi v441 c7_i32_394
  let c7_i32_395 : BitVec 32 := 7#32
  let v443 : BitVec 32 := Scalar.shli v442 c7_i32_395
  let v444 : BitVec 32 := Scalar.maxsi c0_i32_396 v443
  let v445 : BitVec 32 := Scalar.minsi c15232_i32_397 v444
  v445

def k0_off29 (v440 : BitVec 32) : Fin 3 → Nat :=
  let c14_i32 : BitVec 32 := 14#32
  let c0_i32_402 : BitVec 32 := 0#32
  let c15232_i32_397 : BitVec 32 := 15232#32
  let c0_i32_396 : BitVec 32 := 0#32
  let c1023_i32_393 : BitVec 32 := 1023#32
  let v441 : BitVec 32 := Scalar.subi v440 c1023_i32_393
  let c7_i32_394 : BitVec 32 := 7#32
  let v442 : BitVec 32 := Scalar.shrsi v441 c7_i32_394
  let c7_i32_395 : BitVec 32 := 7#32
  let v443 : BitVec 32 := Scalar.shli v442 c7_i32_395
  let v444 : BitVec 32 := Scalar.maxsi c0_i32_396 v443
  let v445 : BitVec 32 := Scalar.minsi c15232_i32_397 v444
  let v446 : BitVec 32 := v445
  ![14, 0, v446.toNat]
def k0_off30 (v440 : BitVec 32) : Fin 3 → Nat :=
  let c14_i32_403 : BitVec 32 := 14#32
  let c0_i32_408 : BitVec 32 := 0#32
  let c15232_i32_397 : BitVec 32 := 15232#32
  let c0_i32_396 : BitVec 32 := 0#32
  let c1023_i32_393 : BitVec 32 := 1023#32
  let v441 : BitVec 32 := Scalar.subi v440 c1023_i32_393
  let c7_i32_394 : BitVec 32 := 7#32
  let v442 : BitVec 32 := Scalar.shrsi v441 c7_i32_394
  let c7_i32_395 : BitVec 32 := 7#32
  let v443 : BitVec 32 := Scalar.shli v442 c7_i32_395
  let v444 : BitVec 32 := Scalar.maxsi c0_i32_396 v443
  let v445 : BitVec 32 := Scalar.minsi c15232_i32_397 v444
  let v446 : BitVec 32 := v445
  ![14, 0, v446.toNat]

def k0_chk15 (v440 : BitVec 32) : Prop :=
  (128 ∣ (k0_mult15 v440).toNat) ∧
  (∀ a, (k0_off29 v440) a + S1x128x1152.size a ≤ S32x128x16384.size a) ∧
  (∀ (hinb : ∀ a, (k0_off29 v440) a + S1x128x1152.size a ≤ S32x128x16384.size a), (Rect.unit (s := S32x128x16384) (k0_off29 v440) S1x128x1152.size hinb).WholeWords (EltTy.packing .fp8e4m3)) ∧
  (∀ a, (k0_off30 v440) a + S1x2x1152.size a ≤ S32x2x16384.size a)
theorem k0_mult15_dvd : ∀ (v440 : BitVec 32) (k0_hw15 : k0_chk15 v440), 128 ∣ (k0_mult15 v440).toNat := fun v440 k0_hw15 => k0_hw15.1
theorem k0_off29_inb : ∀ (v440 : BitVec 32) (k0_hw15 : k0_chk15 v440), ∀ a, (k0_off29 v440) a + S1x128x1152.size a ≤ S32x128x16384.size a := fun v440 k0_hw15 => k0_hw15.2.1
theorem k0_off29_wordsfp8e4m3 : ∀ (v440 : BitVec 32) (k0_hw15 : k0_chk15 v440), (Rect.unit (s := S32x128x16384) (k0_off29 v440) S1x128x1152.size (k0_off29_inb v440 k0_hw15)).WholeWords (EltTy.packing .fp8e4m3) := fun v440 k0_hw15 => k0_hw15.2.2.1 (k0_off29_inb v440 k0_hw15)
theorem k0_off30_inb : ∀ (v440 : BitVec 32) (k0_hw15 : k0_chk15 v440), ∀ a, (k0_off30 v440) a + S1x2x1152.size a ≤ S32x2x16384.size a := fun v440 k0_hw15 => k0_hw15.2.2.2

def k0_mult16 (v471 : BitVec 32) : BitVec 32 :=
  let c15232_i32_425 : BitVec 32 := 15232#32
  let c0_i32_424 : BitVec 32 := 0#32
  let c1023_i32_421 : BitVec 32 := 1023#32
  let v472 : BitVec 32 := Scalar.subi v471 c1023_i32_421
  let c7_i32_422 : BitVec 32 := 7#32
  let v473 : BitVec 32 := Scalar.shrsi v472 c7_i32_422
  let c7_i32_423 : BitVec 32 := 7#32
  let v474 : BitVec 32 := Scalar.shli v473 c7_i32_423
  let v475 : BitVec 32 := Scalar.maxsi c0_i32_424 v474
  let v476 : BitVec 32 := Scalar.minsi c15232_i32_425 v475
  v476

def k0_off31 (v471 : BitVec 32) : Fin 3 → Nat :=
  let c15_i32 : BitVec 32 := 15#32
  let c0_i32_430 : BitVec 32 := 0#32
  let c15232_i32_425 : BitVec 32 := 15232#32
  let c0_i32_424 : BitVec 32 := 0#32
  let c1023_i32_421 : BitVec 32 := 1023#32
  let v472 : BitVec 32 := Scalar.subi v471 c1023_i32_421
  let c7_i32_422 : BitVec 32 := 7#32
  let v473 : BitVec 32 := Scalar.shrsi v472 c7_i32_422
  let c7_i32_423 : BitVec 32 := 7#32
  let v474 : BitVec 32 := Scalar.shli v473 c7_i32_423
  let v475 : BitVec 32 := Scalar.maxsi c0_i32_424 v474
  let v476 : BitVec 32 := Scalar.minsi c15232_i32_425 v475
  let v477 : BitVec 32 := v476
  ![15, 0, v477.toNat]
def k0_off32 (v471 : BitVec 32) : Fin 3 → Nat :=
  let c15_i32_431 : BitVec 32 := 15#32
  let c0_i32_436 : BitVec 32 := 0#32
  let c15232_i32_425 : BitVec 32 := 15232#32
  let c0_i32_424 : BitVec 32 := 0#32
  let c1023_i32_421 : BitVec 32 := 1023#32
  let v472 : BitVec 32 := Scalar.subi v471 c1023_i32_421
  let c7_i32_422 : BitVec 32 := 7#32
  let v473 : BitVec 32 := Scalar.shrsi v472 c7_i32_422
  let c7_i32_423 : BitVec 32 := 7#32
  let v474 : BitVec 32 := Scalar.shli v473 c7_i32_423
  let v475 : BitVec 32 := Scalar.maxsi c0_i32_424 v474
  let v476 : BitVec 32 := Scalar.minsi c15232_i32_425 v475
  let v477 : BitVec 32 := v476
  ![15, 0, v477.toNat]

def k0_chk16 (v471 : BitVec 32) : Prop :=
  (128 ∣ (k0_mult16 v471).toNat) ∧
  (∀ a, (k0_off31 v471) a + S1x128x1152.size a ≤ S32x128x16384.size a) ∧
  (∀ (hinb : ∀ a, (k0_off31 v471) a + S1x128x1152.size a ≤ S32x128x16384.size a), (Rect.unit (s := S32x128x16384) (k0_off31 v471) S1x128x1152.size hinb).WholeWords (EltTy.packing .fp8e4m3)) ∧
  (∀ a, (k0_off32 v471) a + S1x2x1152.size a ≤ S32x2x16384.size a)
theorem k0_mult16_dvd : ∀ (v471 : BitVec 32) (k0_hw16 : k0_chk16 v471), 128 ∣ (k0_mult16 v471).toNat := fun v471 k0_hw16 => k0_hw16.1
theorem k0_off31_inb : ∀ (v471 : BitVec 32) (k0_hw16 : k0_chk16 v471), ∀ a, (k0_off31 v471) a + S1x128x1152.size a ≤ S32x128x16384.size a := fun v471 k0_hw16 => k0_hw16.2.1
theorem k0_off31_wordsfp8e4m3 : ∀ (v471 : BitVec 32) (k0_hw16 : k0_chk16 v471), (Rect.unit (s := S32x128x16384) (k0_off31 v471) S1x128x1152.size (k0_off31_inb v471 k0_hw16)).WholeWords (EltTy.packing .fp8e4m3) := fun v471 k0_hw16 => k0_hw16.2.2.1 (k0_off31_inb v471 k0_hw16)
theorem k0_off32_inb : ∀ (v471 : BitVec 32) (k0_hw16 : k0_chk16 v471), ∀ a, (k0_off32 v471) a + S1x2x1152.size a ≤ S32x2x16384.size a := fun v471 k0_hw16 => k0_hw16.2.2.2

def k0_mult17 (v502 : BitVec 32) : BitVec 32 :=
  let c15232_i32_453 : BitVec 32 := 15232#32
  let c0_i32_452 : BitVec 32 := 0#32
  let c1023_i32_449 : BitVec 32 := 1023#32
  let v503 : BitVec 32 := Scalar.subi v502 c1023_i32_449
  let c7_i32_450 : BitVec 32 := 7#32
  let v504 : BitVec 32 := Scalar.shrsi v503 c7_i32_450
  let c7_i32_451 : BitVec 32 := 7#32
  let v505 : BitVec 32 := Scalar.shli v504 c7_i32_451
  let v506 : BitVec 32 := Scalar.maxsi c0_i32_452 v505
  let v507 : BitVec 32 := Scalar.minsi c15232_i32_453 v506
  v507

def k0_off33 (v502 : BitVec 32) : Fin 3 → Nat :=
  let c16_i32 : BitVec 32 := 16#32
  let c0_i32_458 : BitVec 32 := 0#32
  let c15232_i32_453 : BitVec 32 := 15232#32
  let c0_i32_452 : BitVec 32 := 0#32
  let c1023_i32_449 : BitVec 32 := 1023#32
  let v503 : BitVec 32 := Scalar.subi v502 c1023_i32_449
  let c7_i32_450 : BitVec 32 := 7#32
  let v504 : BitVec 32 := Scalar.shrsi v503 c7_i32_450
  let c7_i32_451 : BitVec 32 := 7#32
  let v505 : BitVec 32 := Scalar.shli v504 c7_i32_451
  let v506 : BitVec 32 := Scalar.maxsi c0_i32_452 v505
  let v507 : BitVec 32 := Scalar.minsi c15232_i32_453 v506
  let v508 : BitVec 32 := v507
  ![16, 0, v508.toNat]
def k0_off34 (v502 : BitVec 32) : Fin 3 → Nat :=
  let c16_i32_459 : BitVec 32 := 16#32
  let c0_i32_464 : BitVec 32 := 0#32
  let c15232_i32_453 : BitVec 32 := 15232#32
  let c0_i32_452 : BitVec 32 := 0#32
  let c1023_i32_449 : BitVec 32 := 1023#32
  let v503 : BitVec 32 := Scalar.subi v502 c1023_i32_449
  let c7_i32_450 : BitVec 32 := 7#32
  let v504 : BitVec 32 := Scalar.shrsi v503 c7_i32_450
  let c7_i32_451 : BitVec 32 := 7#32
  let v505 : BitVec 32 := Scalar.shli v504 c7_i32_451
  let v506 : BitVec 32 := Scalar.maxsi c0_i32_452 v505
  let v507 : BitVec 32 := Scalar.minsi c15232_i32_453 v506
  let v508 : BitVec 32 := v507
  ![16, 0, v508.toNat]

def k0_chk17 (v502 : BitVec 32) : Prop :=
  (128 ∣ (k0_mult17 v502).toNat) ∧
  (∀ a, (k0_off33 v502) a + S1x128x1152.size a ≤ S32x128x16384.size a) ∧
  (∀ (hinb : ∀ a, (k0_off33 v502) a + S1x128x1152.size a ≤ S32x128x16384.size a), (Rect.unit (s := S32x128x16384) (k0_off33 v502) S1x128x1152.size hinb).WholeWords (EltTy.packing .fp8e4m3)) ∧
  (∀ a, (k0_off34 v502) a + S1x2x1152.size a ≤ S32x2x16384.size a)
theorem k0_mult17_dvd : ∀ (v502 : BitVec 32) (k0_hw17 : k0_chk17 v502), 128 ∣ (k0_mult17 v502).toNat := fun v502 k0_hw17 => k0_hw17.1
theorem k0_off33_inb : ∀ (v502 : BitVec 32) (k0_hw17 : k0_chk17 v502), ∀ a, (k0_off33 v502) a + S1x128x1152.size a ≤ S32x128x16384.size a := fun v502 k0_hw17 => k0_hw17.2.1
theorem k0_off33_wordsfp8e4m3 : ∀ (v502 : BitVec 32) (k0_hw17 : k0_chk17 v502), (Rect.unit (s := S32x128x16384) (k0_off33 v502) S1x128x1152.size (k0_off33_inb v502 k0_hw17)).WholeWords (EltTy.packing .fp8e4m3) := fun v502 k0_hw17 => k0_hw17.2.2.1 (k0_off33_inb v502 k0_hw17)
theorem k0_off34_inb : ∀ (v502 : BitVec 32) (k0_hw17 : k0_chk17 v502), ∀ a, (k0_off34 v502) a + S1x2x1152.size a ≤ S32x2x16384.size a := fun v502 k0_hw17 => k0_hw17.2.2.2

def k0_mult18 (v533 : BitVec 32) : BitVec 32 :=
  let c15232_i32_481 : BitVec 32 := 15232#32
  let c0_i32_480 : BitVec 32 := 0#32
  let c1023_i32_477 : BitVec 32 := 1023#32
  let v534 : BitVec 32 := Scalar.subi v533 c1023_i32_477
  let c7_i32_478 : BitVec 32 := 7#32
  let v535 : BitVec 32 := Scalar.shrsi v534 c7_i32_478
  let c7_i32_479 : BitVec 32 := 7#32
  let v536 : BitVec 32 := Scalar.shli v535 c7_i32_479
  let v537 : BitVec 32 := Scalar.maxsi c0_i32_480 v536
  let v538 : BitVec 32 := Scalar.minsi c15232_i32_481 v537
  v538

def k0_off35 (v533 : BitVec 32) : Fin 3 → Nat :=
  let c17_i32 : BitVec 32 := 17#32
  let c0_i32_486 : BitVec 32 := 0#32
  let c15232_i32_481 : BitVec 32 := 15232#32
  let c0_i32_480 : BitVec 32 := 0#32
  let c1023_i32_477 : BitVec 32 := 1023#32
  let v534 : BitVec 32 := Scalar.subi v533 c1023_i32_477
  let c7_i32_478 : BitVec 32 := 7#32
  let v535 : BitVec 32 := Scalar.shrsi v534 c7_i32_478
  let c7_i32_479 : BitVec 32 := 7#32
  let v536 : BitVec 32 := Scalar.shli v535 c7_i32_479
  let v537 : BitVec 32 := Scalar.maxsi c0_i32_480 v536
  let v538 : BitVec 32 := Scalar.minsi c15232_i32_481 v537
  let v539 : BitVec 32 := v538
  ![17, 0, v539.toNat]
def k0_off36 (v533 : BitVec 32) : Fin 3 → Nat :=
  let c17_i32_487 : BitVec 32 := 17#32
  let c0_i32_492 : BitVec 32 := 0#32
  let c15232_i32_481 : BitVec 32 := 15232#32
  let c0_i32_480 : BitVec 32 := 0#32
  let c1023_i32_477 : BitVec 32 := 1023#32
  let v534 : BitVec 32 := Scalar.subi v533 c1023_i32_477
  let c7_i32_478 : BitVec 32 := 7#32
  let v535 : BitVec 32 := Scalar.shrsi v534 c7_i32_478
  let c7_i32_479 : BitVec 32 := 7#32
  let v536 : BitVec 32 := Scalar.shli v535 c7_i32_479
  let v537 : BitVec 32 := Scalar.maxsi c0_i32_480 v536
  let v538 : BitVec 32 := Scalar.minsi c15232_i32_481 v537
  let v539 : BitVec 32 := v538
  ![17, 0, v539.toNat]

def k0_chk18 (v533 : BitVec 32) : Prop :=
  (128 ∣ (k0_mult18 v533).toNat) ∧
  (∀ a, (k0_off35 v533) a + S1x128x1152.size a ≤ S32x128x16384.size a) ∧
  (∀ (hinb : ∀ a, (k0_off35 v533) a + S1x128x1152.size a ≤ S32x128x16384.size a), (Rect.unit (s := S32x128x16384) (k0_off35 v533) S1x128x1152.size hinb).WholeWords (EltTy.packing .fp8e4m3)) ∧
  (∀ a, (k0_off36 v533) a + S1x2x1152.size a ≤ S32x2x16384.size a)
theorem k0_mult18_dvd : ∀ (v533 : BitVec 32) (k0_hw18 : k0_chk18 v533), 128 ∣ (k0_mult18 v533).toNat := fun v533 k0_hw18 => k0_hw18.1
theorem k0_off35_inb : ∀ (v533 : BitVec 32) (k0_hw18 : k0_chk18 v533), ∀ a, (k0_off35 v533) a + S1x128x1152.size a ≤ S32x128x16384.size a := fun v533 k0_hw18 => k0_hw18.2.1
theorem k0_off35_wordsfp8e4m3 : ∀ (v533 : BitVec 32) (k0_hw18 : k0_chk18 v533), (Rect.unit (s := S32x128x16384) (k0_off35 v533) S1x128x1152.size (k0_off35_inb v533 k0_hw18)).WholeWords (EltTy.packing .fp8e4m3) := fun v533 k0_hw18 => k0_hw18.2.2.1 (k0_off35_inb v533 k0_hw18)
theorem k0_off36_inb : ∀ (v533 : BitVec 32) (k0_hw18 : k0_chk18 v533), ∀ a, (k0_off36 v533) a + S1x2x1152.size a ≤ S32x2x16384.size a := fun v533 k0_hw18 => k0_hw18.2.2.2

def k0_mult19 (v564 : BitVec 32) : BitVec 32 :=
  let c15232_i32_509 : BitVec 32 := 15232#32
  let c0_i32_508 : BitVec 32 := 0#32
  let c1023_i32_505 : BitVec 32 := 1023#32
  let v565 : BitVec 32 := Scalar.subi v564 c1023_i32_505
  let c7_i32_506 : BitVec 32 := 7#32
  let v566 : BitVec 32 := Scalar.shrsi v565 c7_i32_506
  let c7_i32_507 : BitVec 32 := 7#32
  let v567 : BitVec 32 := Scalar.shli v566 c7_i32_507
  let v568 : BitVec 32 := Scalar.maxsi c0_i32_508 v567
  let v569 : BitVec 32 := Scalar.minsi c15232_i32_509 v568
  v569

def k0_off37 (v564 : BitVec 32) : Fin 3 → Nat :=
  let c18_i32 : BitVec 32 := 18#32
  let c0_i32_514 : BitVec 32 := 0#32
  let c15232_i32_509 : BitVec 32 := 15232#32
  let c0_i32_508 : BitVec 32 := 0#32
  let c1023_i32_505 : BitVec 32 := 1023#32
  let v565 : BitVec 32 := Scalar.subi v564 c1023_i32_505
  let c7_i32_506 : BitVec 32 := 7#32
  let v566 : BitVec 32 := Scalar.shrsi v565 c7_i32_506
  let c7_i32_507 : BitVec 32 := 7#32
  let v567 : BitVec 32 := Scalar.shli v566 c7_i32_507
  let v568 : BitVec 32 := Scalar.maxsi c0_i32_508 v567
  let v569 : BitVec 32 := Scalar.minsi c15232_i32_509 v568
  let v570 : BitVec 32 := v569
  ![18, 0, v570.toNat]
def k0_off38 (v564 : BitVec 32) : Fin 3 → Nat :=
  let c18_i32_515 : BitVec 32 := 18#32
  let c0_i32_520 : BitVec 32 := 0#32
  let c15232_i32_509 : BitVec 32 := 15232#32
  let c0_i32_508 : BitVec 32 := 0#32
  let c1023_i32_505 : BitVec 32 := 1023#32
  let v565 : BitVec 32 := Scalar.subi v564 c1023_i32_505
  let c7_i32_506 : BitVec 32 := 7#32
  let v566 : BitVec 32 := Scalar.shrsi v565 c7_i32_506
  let c7_i32_507 : BitVec 32 := 7#32
  let v567 : BitVec 32 := Scalar.shli v566 c7_i32_507
  let v568 : BitVec 32 := Scalar.maxsi c0_i32_508 v567
  let v569 : BitVec 32 := Scalar.minsi c15232_i32_509 v568
  let v570 : BitVec 32 := v569
  ![18, 0, v570.toNat]

def k0_chk19 (v564 : BitVec 32) : Prop :=
  (128 ∣ (k0_mult19 v564).toNat) ∧
  (∀ a, (k0_off37 v564) a + S1x128x1152.size a ≤ S32x128x16384.size a) ∧
  (∀ (hinb : ∀ a, (k0_off37 v564) a + S1x128x1152.size a ≤ S32x128x16384.size a), (Rect.unit (s := S32x128x16384) (k0_off37 v564) S1x128x1152.size hinb).WholeWords (EltTy.packing .fp8e4m3)) ∧
  (∀ a, (k0_off38 v564) a + S1x2x1152.size a ≤ S32x2x16384.size a)
theorem k0_mult19_dvd : ∀ (v564 : BitVec 32) (k0_hw19 : k0_chk19 v564), 128 ∣ (k0_mult19 v564).toNat := fun v564 k0_hw19 => k0_hw19.1
theorem k0_off37_inb : ∀ (v564 : BitVec 32) (k0_hw19 : k0_chk19 v564), ∀ a, (k0_off37 v564) a + S1x128x1152.size a ≤ S32x128x16384.size a := fun v564 k0_hw19 => k0_hw19.2.1
theorem k0_off37_wordsfp8e4m3 : ∀ (v564 : BitVec 32) (k0_hw19 : k0_chk19 v564), (Rect.unit (s := S32x128x16384) (k0_off37 v564) S1x128x1152.size (k0_off37_inb v564 k0_hw19)).WholeWords (EltTy.packing .fp8e4m3) := fun v564 k0_hw19 => k0_hw19.2.2.1 (k0_off37_inb v564 k0_hw19)
theorem k0_off38_inb : ∀ (v564 : BitVec 32) (k0_hw19 : k0_chk19 v564), ∀ a, (k0_off38 v564) a + S1x2x1152.size a ≤ S32x2x16384.size a := fun v564 k0_hw19 => k0_hw19.2.2.2

def k0_mult20 (v595 : BitVec 32) : BitVec 32 :=
  let c15232_i32_537 : BitVec 32 := 15232#32
  let c0_i32_536 : BitVec 32 := 0#32
  let c1023_i32_533 : BitVec 32 := 1023#32
  let v596 : BitVec 32 := Scalar.subi v595 c1023_i32_533
  let c7_i32_534 : BitVec 32 := 7#32
  let v597 : BitVec 32 := Scalar.shrsi v596 c7_i32_534
  let c7_i32_535 : BitVec 32 := 7#32
  let v598 : BitVec 32 := Scalar.shli v597 c7_i32_535
  let v599 : BitVec 32 := Scalar.maxsi c0_i32_536 v598
  let v600 : BitVec 32 := Scalar.minsi c15232_i32_537 v599
  v600

def k0_off39 (v595 : BitVec 32) : Fin 3 → Nat :=
  let c19_i32 : BitVec 32 := 19#32
  let c0_i32_542 : BitVec 32 := 0#32
  let c15232_i32_537 : BitVec 32 := 15232#32
  let c0_i32_536 : BitVec 32 := 0#32
  let c1023_i32_533 : BitVec 32 := 1023#32
  let v596 : BitVec 32 := Scalar.subi v595 c1023_i32_533
  let c7_i32_534 : BitVec 32 := 7#32
  let v597 : BitVec 32 := Scalar.shrsi v596 c7_i32_534
  let c7_i32_535 : BitVec 32 := 7#32
  let v598 : BitVec 32 := Scalar.shli v597 c7_i32_535
  let v599 : BitVec 32 := Scalar.maxsi c0_i32_536 v598
  let v600 : BitVec 32 := Scalar.minsi c15232_i32_537 v599
  let v601 : BitVec 32 := v600
  ![19, 0, v601.toNat]
def k0_off40 (v595 : BitVec 32) : Fin 3 → Nat :=
  let c19_i32_543 : BitVec 32 := 19#32
  let c0_i32_548 : BitVec 32 := 0#32
  let c15232_i32_537 : BitVec 32 := 15232#32
  let c0_i32_536 : BitVec 32 := 0#32
  let c1023_i32_533 : BitVec 32 := 1023#32
  let v596 : BitVec 32 := Scalar.subi v595 c1023_i32_533
  let c7_i32_534 : BitVec 32 := 7#32
  let v597 : BitVec 32 := Scalar.shrsi v596 c7_i32_534
  let c7_i32_535 : BitVec 32 := 7#32
  let v598 : BitVec 32 := Scalar.shli v597 c7_i32_535
  let v599 : BitVec 32 := Scalar.maxsi c0_i32_536 v598
  let v600 : BitVec 32 := Scalar.minsi c15232_i32_537 v599
  let v601 : BitVec 32 := v600
  ![19, 0, v601.toNat]

def k0_chk20 (v595 : BitVec 32) : Prop :=
  (128 ∣ (k0_mult20 v595).toNat) ∧
  (∀ a, (k0_off39 v595) a + S1x128x1152.size a ≤ S32x128x16384.size a) ∧
  (∀ (hinb : ∀ a, (k0_off39 v595) a + S1x128x1152.size a ≤ S32x128x16384.size a), (Rect.unit (s := S32x128x16384) (k0_off39 v595) S1x128x1152.size hinb).WholeWords (EltTy.packing .fp8e4m3)) ∧
  (∀ a, (k0_off40 v595) a + S1x2x1152.size a ≤ S32x2x16384.size a)
theorem k0_mult20_dvd : ∀ (v595 : BitVec 32) (k0_hw20 : k0_chk20 v595), 128 ∣ (k0_mult20 v595).toNat := fun v595 k0_hw20 => k0_hw20.1
theorem k0_off39_inb : ∀ (v595 : BitVec 32) (k0_hw20 : k0_chk20 v595), ∀ a, (k0_off39 v595) a + S1x128x1152.size a ≤ S32x128x16384.size a := fun v595 k0_hw20 => k0_hw20.2.1
theorem k0_off39_wordsfp8e4m3 : ∀ (v595 : BitVec 32) (k0_hw20 : k0_chk20 v595), (Rect.unit (s := S32x128x16384) (k0_off39 v595) S1x128x1152.size (k0_off39_inb v595 k0_hw20)).WholeWords (EltTy.packing .fp8e4m3) := fun v595 k0_hw20 => k0_hw20.2.2.1 (k0_off39_inb v595 k0_hw20)
theorem k0_off40_inb : ∀ (v595 : BitVec 32) (k0_hw20 : k0_chk20 v595), ∀ a, (k0_off40 v595) a + S1x2x1152.size a ≤ S32x2x16384.size a := fun v595 k0_hw20 => k0_hw20.2.2.2

def k0_mult21 (v626 : BitVec 32) : BitVec 32 :=
  let c15232_i32_565 : BitVec 32 := 15232#32
  let c0_i32_564 : BitVec 32 := 0#32
  let c1023_i32_561 : BitVec 32 := 1023#32
  let v627 : BitVec 32 := Scalar.subi v626 c1023_i32_561
  let c7_i32_562 : BitVec 32 := 7#32
  let v628 : BitVec 32 := Scalar.shrsi v627 c7_i32_562
  let c7_i32_563 : BitVec 32 := 7#32
  let v629 : BitVec 32 := Scalar.shli v628 c7_i32_563
  let v630 : BitVec 32 := Scalar.maxsi c0_i32_564 v629
  let v631 : BitVec 32 := Scalar.minsi c15232_i32_565 v630
  v631

def k0_off41 (v626 : BitVec 32) : Fin 3 → Nat :=
  let c20_i32 : BitVec 32 := 20#32
  let c0_i32_570 : BitVec 32 := 0#32
  let c15232_i32_565 : BitVec 32 := 15232#32
  let c0_i32_564 : BitVec 32 := 0#32
  let c1023_i32_561 : BitVec 32 := 1023#32
  let v627 : BitVec 32 := Scalar.subi v626 c1023_i32_561
  let c7_i32_562 : BitVec 32 := 7#32
  let v628 : BitVec 32 := Scalar.shrsi v627 c7_i32_562
  let c7_i32_563 : BitVec 32 := 7#32
  let v629 : BitVec 32 := Scalar.shli v628 c7_i32_563
  let v630 : BitVec 32 := Scalar.maxsi c0_i32_564 v629
  let v631 : BitVec 32 := Scalar.minsi c15232_i32_565 v630
  let v632 : BitVec 32 := v631
  ![20, 0, v632.toNat]
def k0_off42 (v626 : BitVec 32) : Fin 3 → Nat :=
  let c20_i32_571 : BitVec 32 := 20#32
  let c0_i32_576 : BitVec 32 := 0#32
  let c15232_i32_565 : BitVec 32 := 15232#32
  let c0_i32_564 : BitVec 32 := 0#32
  let c1023_i32_561 : BitVec 32 := 1023#32
  let v627 : BitVec 32 := Scalar.subi v626 c1023_i32_561
  let c7_i32_562 : BitVec 32 := 7#32
  let v628 : BitVec 32 := Scalar.shrsi v627 c7_i32_562
  let c7_i32_563 : BitVec 32 := 7#32
  let v629 : BitVec 32 := Scalar.shli v628 c7_i32_563
  let v630 : BitVec 32 := Scalar.maxsi c0_i32_564 v629
  let v631 : BitVec 32 := Scalar.minsi c15232_i32_565 v630
  let v632 : BitVec 32 := v631
  ![20, 0, v632.toNat]

def k0_chk21 (v626 : BitVec 32) : Prop :=
  (128 ∣ (k0_mult21 v626).toNat) ∧
  (∀ a, (k0_off41 v626) a + S1x128x1152.size a ≤ S32x128x16384.size a) ∧
  (∀ (hinb : ∀ a, (k0_off41 v626) a + S1x128x1152.size a ≤ S32x128x16384.size a), (Rect.unit (s := S32x128x16384) (k0_off41 v626) S1x128x1152.size hinb).WholeWords (EltTy.packing .fp8e4m3)) ∧
  (∀ a, (k0_off42 v626) a + S1x2x1152.size a ≤ S32x2x16384.size a)
theorem k0_mult21_dvd : ∀ (v626 : BitVec 32) (k0_hw21 : k0_chk21 v626), 128 ∣ (k0_mult21 v626).toNat := fun v626 k0_hw21 => k0_hw21.1
theorem k0_off41_inb : ∀ (v626 : BitVec 32) (k0_hw21 : k0_chk21 v626), ∀ a, (k0_off41 v626) a + S1x128x1152.size a ≤ S32x128x16384.size a := fun v626 k0_hw21 => k0_hw21.2.1
theorem k0_off41_wordsfp8e4m3 : ∀ (v626 : BitVec 32) (k0_hw21 : k0_chk21 v626), (Rect.unit (s := S32x128x16384) (k0_off41 v626) S1x128x1152.size (k0_off41_inb v626 k0_hw21)).WholeWords (EltTy.packing .fp8e4m3) := fun v626 k0_hw21 => k0_hw21.2.2.1 (k0_off41_inb v626 k0_hw21)
theorem k0_off42_inb : ∀ (v626 : BitVec 32) (k0_hw21 : k0_chk21 v626), ∀ a, (k0_off42 v626) a + S1x2x1152.size a ≤ S32x2x16384.size a := fun v626 k0_hw21 => k0_hw21.2.2.2

def k0_mult22 (v657 : BitVec 32) : BitVec 32 :=
  let c15232_i32_593 : BitVec 32 := 15232#32
  let c0_i32_592 : BitVec 32 := 0#32
  let c1023_i32_589 : BitVec 32 := 1023#32
  let v658 : BitVec 32 := Scalar.subi v657 c1023_i32_589
  let c7_i32_590 : BitVec 32 := 7#32
  let v659 : BitVec 32 := Scalar.shrsi v658 c7_i32_590
  let c7_i32_591 : BitVec 32 := 7#32
  let v660 : BitVec 32 := Scalar.shli v659 c7_i32_591
  let v661 : BitVec 32 := Scalar.maxsi c0_i32_592 v660
  let v662 : BitVec 32 := Scalar.minsi c15232_i32_593 v661
  v662

def k0_off43 (v657 : BitVec 32) : Fin 3 → Nat :=
  let c21_i32 : BitVec 32 := 21#32
  let c0_i32_598 : BitVec 32 := 0#32
  let c15232_i32_593 : BitVec 32 := 15232#32
  let c0_i32_592 : BitVec 32 := 0#32
  let c1023_i32_589 : BitVec 32 := 1023#32
  let v658 : BitVec 32 := Scalar.subi v657 c1023_i32_589
  let c7_i32_590 : BitVec 32 := 7#32
  let v659 : BitVec 32 := Scalar.shrsi v658 c7_i32_590
  let c7_i32_591 : BitVec 32 := 7#32
  let v660 : BitVec 32 := Scalar.shli v659 c7_i32_591
  let v661 : BitVec 32 := Scalar.maxsi c0_i32_592 v660
  let v662 : BitVec 32 := Scalar.minsi c15232_i32_593 v661
  let v663 : BitVec 32 := v662
  ![21, 0, v663.toNat]
def k0_off44 (v657 : BitVec 32) : Fin 3 → Nat :=
  let c21_i32_599 : BitVec 32 := 21#32
  let c0_i32_604 : BitVec 32 := 0#32
  let c15232_i32_593 : BitVec 32 := 15232#32
  let c0_i32_592 : BitVec 32 := 0#32
  let c1023_i32_589 : BitVec 32 := 1023#32
  let v658 : BitVec 32 := Scalar.subi v657 c1023_i32_589
  let c7_i32_590 : BitVec 32 := 7#32
  let v659 : BitVec 32 := Scalar.shrsi v658 c7_i32_590
  let c7_i32_591 : BitVec 32 := 7#32
  let v660 : BitVec 32 := Scalar.shli v659 c7_i32_591
  let v661 : BitVec 32 := Scalar.maxsi c0_i32_592 v660
  let v662 : BitVec 32 := Scalar.minsi c15232_i32_593 v661
  let v663 : BitVec 32 := v662
  ![21, 0, v663.toNat]

def k0_chk22 (v657 : BitVec 32) : Prop :=
  (128 ∣ (k0_mult22 v657).toNat) ∧
  (∀ a, (k0_off43 v657) a + S1x128x1152.size a ≤ S32x128x16384.size a) ∧
  (∀ (hinb : ∀ a, (k0_off43 v657) a + S1x128x1152.size a ≤ S32x128x16384.size a), (Rect.unit (s := S32x128x16384) (k0_off43 v657) S1x128x1152.size hinb).WholeWords (EltTy.packing .fp8e4m3)) ∧
  (∀ a, (k0_off44 v657) a + S1x2x1152.size a ≤ S32x2x16384.size a)
theorem k0_mult22_dvd : ∀ (v657 : BitVec 32) (k0_hw22 : k0_chk22 v657), 128 ∣ (k0_mult22 v657).toNat := fun v657 k0_hw22 => k0_hw22.1
theorem k0_off43_inb : ∀ (v657 : BitVec 32) (k0_hw22 : k0_chk22 v657), ∀ a, (k0_off43 v657) a + S1x128x1152.size a ≤ S32x128x16384.size a := fun v657 k0_hw22 => k0_hw22.2.1
theorem k0_off43_wordsfp8e4m3 : ∀ (v657 : BitVec 32) (k0_hw22 : k0_chk22 v657), (Rect.unit (s := S32x128x16384) (k0_off43 v657) S1x128x1152.size (k0_off43_inb v657 k0_hw22)).WholeWords (EltTy.packing .fp8e4m3) := fun v657 k0_hw22 => k0_hw22.2.2.1 (k0_off43_inb v657 k0_hw22)
theorem k0_off44_inb : ∀ (v657 : BitVec 32) (k0_hw22 : k0_chk22 v657), ∀ a, (k0_off44 v657) a + S1x2x1152.size a ≤ S32x2x16384.size a := fun v657 k0_hw22 => k0_hw22.2.2.2

def k0_mult23 (v688 : BitVec 32) : BitVec 32 :=
  let c15232_i32_621 : BitVec 32 := 15232#32
  let c0_i32_620 : BitVec 32 := 0#32
  let c1023_i32_617 : BitVec 32 := 1023#32
  let v689 : BitVec 32 := Scalar.subi v688 c1023_i32_617
  let c7_i32_618 : BitVec 32 := 7#32
  let v690 : BitVec 32 := Scalar.shrsi v689 c7_i32_618
  let c7_i32_619 : BitVec 32 := 7#32
  let v691 : BitVec 32 := Scalar.shli v690 c7_i32_619
  let v692 : BitVec 32 := Scalar.maxsi c0_i32_620 v691
  let v693 : BitVec 32 := Scalar.minsi c15232_i32_621 v692
  v693

def k0_off45 (v688 : BitVec 32) : Fin 3 → Nat :=
  let c22_i32 : BitVec 32 := 22#32
  let c0_i32_626 : BitVec 32 := 0#32
  let c15232_i32_621 : BitVec 32 := 15232#32
  let c0_i32_620 : BitVec 32 := 0#32
  let c1023_i32_617 : BitVec 32 := 1023#32
  let v689 : BitVec 32 := Scalar.subi v688 c1023_i32_617
  let c7_i32_618 : BitVec 32 := 7#32
  let v690 : BitVec 32 := Scalar.shrsi v689 c7_i32_618
  let c7_i32_619 : BitVec 32 := 7#32
  let v691 : BitVec 32 := Scalar.shli v690 c7_i32_619
  let v692 : BitVec 32 := Scalar.maxsi c0_i32_620 v691
  let v693 : BitVec 32 := Scalar.minsi c15232_i32_621 v692
  let v694 : BitVec 32 := v693
  ![22, 0, v694.toNat]
def k0_off46 (v688 : BitVec 32) : Fin 3 → Nat :=
  let c22_i32_627 : BitVec 32 := 22#32
  let c0_i32_632 : BitVec 32 := 0#32
  let c15232_i32_621 : BitVec 32 := 15232#32
  let c0_i32_620 : BitVec 32 := 0#32
  let c1023_i32_617 : BitVec 32 := 1023#32
  let v689 : BitVec 32 := Scalar.subi v688 c1023_i32_617
  let c7_i32_618 : BitVec 32 := 7#32
  let v690 : BitVec 32 := Scalar.shrsi v689 c7_i32_618
  let c7_i32_619 : BitVec 32 := 7#32
  let v691 : BitVec 32 := Scalar.shli v690 c7_i32_619
  let v692 : BitVec 32 := Scalar.maxsi c0_i32_620 v691
  let v693 : BitVec 32 := Scalar.minsi c15232_i32_621 v692
  let v694 : BitVec 32 := v693
  ![22, 0, v694.toNat]

def k0_chk23 (v688 : BitVec 32) : Prop :=
  (128 ∣ (k0_mult23 v688).toNat) ∧
  (∀ a, (k0_off45 v688) a + S1x128x1152.size a ≤ S32x128x16384.size a) ∧
  (∀ (hinb : ∀ a, (k0_off45 v688) a + S1x128x1152.size a ≤ S32x128x16384.size a), (Rect.unit (s := S32x128x16384) (k0_off45 v688) S1x128x1152.size hinb).WholeWords (EltTy.packing .fp8e4m3)) ∧
  (∀ a, (k0_off46 v688) a + S1x2x1152.size a ≤ S32x2x16384.size a)
theorem k0_mult23_dvd : ∀ (v688 : BitVec 32) (k0_hw23 : k0_chk23 v688), 128 ∣ (k0_mult23 v688).toNat := fun v688 k0_hw23 => k0_hw23.1
theorem k0_off45_inb : ∀ (v688 : BitVec 32) (k0_hw23 : k0_chk23 v688), ∀ a, (k0_off45 v688) a + S1x128x1152.size a ≤ S32x128x16384.size a := fun v688 k0_hw23 => k0_hw23.2.1
theorem k0_off45_wordsfp8e4m3 : ∀ (v688 : BitVec 32) (k0_hw23 : k0_chk23 v688), (Rect.unit (s := S32x128x16384) (k0_off45 v688) S1x128x1152.size (k0_off45_inb v688 k0_hw23)).WholeWords (EltTy.packing .fp8e4m3) := fun v688 k0_hw23 => k0_hw23.2.2.1 (k0_off45_inb v688 k0_hw23)
theorem k0_off46_inb : ∀ (v688 : BitVec 32) (k0_hw23 : k0_chk23 v688), ∀ a, (k0_off46 v688) a + S1x2x1152.size a ≤ S32x2x16384.size a := fun v688 k0_hw23 => k0_hw23.2.2.2

def k0_mult24 (v719 : BitVec 32) : BitVec 32 :=
  let c15232_i32_649 : BitVec 32 := 15232#32
  let c0_i32_648 : BitVec 32 := 0#32
  let c1023_i32_645 : BitVec 32 := 1023#32
  let v720 : BitVec 32 := Scalar.subi v719 c1023_i32_645
  let c7_i32_646 : BitVec 32 := 7#32
  let v721 : BitVec 32 := Scalar.shrsi v720 c7_i32_646
  let c7_i32_647 : BitVec 32 := 7#32
  let v722 : BitVec 32 := Scalar.shli v721 c7_i32_647
  let v723 : BitVec 32 := Scalar.maxsi c0_i32_648 v722
  let v724 : BitVec 32 := Scalar.minsi c15232_i32_649 v723
  v724

def k0_off47 (v719 : BitVec 32) : Fin 3 → Nat :=
  let c23_i32 : BitVec 32 := 23#32
  let c0_i32_654 : BitVec 32 := 0#32
  let c15232_i32_649 : BitVec 32 := 15232#32
  let c0_i32_648 : BitVec 32 := 0#32
  let c1023_i32_645 : BitVec 32 := 1023#32
  let v720 : BitVec 32 := Scalar.subi v719 c1023_i32_645
  let c7_i32_646 : BitVec 32 := 7#32
  let v721 : BitVec 32 := Scalar.shrsi v720 c7_i32_646
  let c7_i32_647 : BitVec 32 := 7#32
  let v722 : BitVec 32 := Scalar.shli v721 c7_i32_647
  let v723 : BitVec 32 := Scalar.maxsi c0_i32_648 v722
  let v724 : BitVec 32 := Scalar.minsi c15232_i32_649 v723
  let v725 : BitVec 32 := v724
  ![23, 0, v725.toNat]
def k0_off48 (v719 : BitVec 32) : Fin 3 → Nat :=
  let c23_i32_655 : BitVec 32 := 23#32
  let c0_i32_660 : BitVec 32 := 0#32
  let c15232_i32_649 : BitVec 32 := 15232#32
  let c0_i32_648 : BitVec 32 := 0#32
  let c1023_i32_645 : BitVec 32 := 1023#32
  let v720 : BitVec 32 := Scalar.subi v719 c1023_i32_645
  let c7_i32_646 : BitVec 32 := 7#32
  let v721 : BitVec 32 := Scalar.shrsi v720 c7_i32_646
  let c7_i32_647 : BitVec 32 := 7#32
  let v722 : BitVec 32 := Scalar.shli v721 c7_i32_647
  let v723 : BitVec 32 := Scalar.maxsi c0_i32_648 v722
  let v724 : BitVec 32 := Scalar.minsi c15232_i32_649 v723
  let v725 : BitVec 32 := v724
  ![23, 0, v725.toNat]

def k0_chk24 (v719 : BitVec 32) : Prop :=
  (128 ∣ (k0_mult24 v719).toNat) ∧
  (∀ a, (k0_off47 v719) a + S1x128x1152.size a ≤ S32x128x16384.size a) ∧
  (∀ (hinb : ∀ a, (k0_off47 v719) a + S1x128x1152.size a ≤ S32x128x16384.size a), (Rect.unit (s := S32x128x16384) (k0_off47 v719) S1x128x1152.size hinb).WholeWords (EltTy.packing .fp8e4m3)) ∧
  (∀ a, (k0_off48 v719) a + S1x2x1152.size a ≤ S32x2x16384.size a)
theorem k0_mult24_dvd : ∀ (v719 : BitVec 32) (k0_hw24 : k0_chk24 v719), 128 ∣ (k0_mult24 v719).toNat := fun v719 k0_hw24 => k0_hw24.1
theorem k0_off47_inb : ∀ (v719 : BitVec 32) (k0_hw24 : k0_chk24 v719), ∀ a, (k0_off47 v719) a + S1x128x1152.size a ≤ S32x128x16384.size a := fun v719 k0_hw24 => k0_hw24.2.1
theorem k0_off47_wordsfp8e4m3 : ∀ (v719 : BitVec 32) (k0_hw24 : k0_chk24 v719), (Rect.unit (s := S32x128x16384) (k0_off47 v719) S1x128x1152.size (k0_off47_inb v719 k0_hw24)).WholeWords (EltTy.packing .fp8e4m3) := fun v719 k0_hw24 => k0_hw24.2.2.1 (k0_off47_inb v719 k0_hw24)
theorem k0_off48_inb : ∀ (v719 : BitVec 32) (k0_hw24 : k0_chk24 v719), ∀ a, (k0_off48 v719) a + S1x2x1152.size a ≤ S32x2x16384.size a := fun v719 k0_hw24 => k0_hw24.2.2.2

def k0_mult25 (v750 : BitVec 32) : BitVec 32 :=
  let c15232_i32_677 : BitVec 32 := 15232#32
  let c0_i32_676 : BitVec 32 := 0#32
  let c1023_i32_673 : BitVec 32 := 1023#32
  let v751 : BitVec 32 := Scalar.subi v750 c1023_i32_673
  let c7_i32_674 : BitVec 32 := 7#32
  let v752 : BitVec 32 := Scalar.shrsi v751 c7_i32_674
  let c7_i32_675 : BitVec 32 := 7#32
  let v753 : BitVec 32 := Scalar.shli v752 c7_i32_675
  let v754 : BitVec 32 := Scalar.maxsi c0_i32_676 v753
  let v755 : BitVec 32 := Scalar.minsi c15232_i32_677 v754
  v755

def k0_off49 (v750 : BitVec 32) : Fin 3 → Nat :=
  let c24_i32 : BitVec 32 := 24#32
  let c0_i32_682 : BitVec 32 := 0#32
  let c15232_i32_677 : BitVec 32 := 15232#32
  let c0_i32_676 : BitVec 32 := 0#32
  let c1023_i32_673 : BitVec 32 := 1023#32
  let v751 : BitVec 32 := Scalar.subi v750 c1023_i32_673
  let c7_i32_674 : BitVec 32 := 7#32
  let v752 : BitVec 32 := Scalar.shrsi v751 c7_i32_674
  let c7_i32_675 : BitVec 32 := 7#32
  let v753 : BitVec 32 := Scalar.shli v752 c7_i32_675
  let v754 : BitVec 32 := Scalar.maxsi c0_i32_676 v753
  let v755 : BitVec 32 := Scalar.minsi c15232_i32_677 v754
  let v756 : BitVec 32 := v755
  ![24, 0, v756.toNat]
def k0_off50 (v750 : BitVec 32) : Fin 3 → Nat :=
  let c24_i32_683 : BitVec 32 := 24#32
  let c0_i32_688 : BitVec 32 := 0#32
  let c15232_i32_677 : BitVec 32 := 15232#32
  let c0_i32_676 : BitVec 32 := 0#32
  let c1023_i32_673 : BitVec 32 := 1023#32
  let v751 : BitVec 32 := Scalar.subi v750 c1023_i32_673
  let c7_i32_674 : BitVec 32 := 7#32
  let v752 : BitVec 32 := Scalar.shrsi v751 c7_i32_674
  let c7_i32_675 : BitVec 32 := 7#32
  let v753 : BitVec 32 := Scalar.shli v752 c7_i32_675
  let v754 : BitVec 32 := Scalar.maxsi c0_i32_676 v753
  let v755 : BitVec 32 := Scalar.minsi c15232_i32_677 v754
  let v756 : BitVec 32 := v755
  ![24, 0, v756.toNat]

def k0_chk25 (v750 : BitVec 32) : Prop :=
  (128 ∣ (k0_mult25 v750).toNat) ∧
  (∀ a, (k0_off49 v750) a + S1x128x1152.size a ≤ S32x128x16384.size a) ∧
  (∀ (hinb : ∀ a, (k0_off49 v750) a + S1x128x1152.size a ≤ S32x128x16384.size a), (Rect.unit (s := S32x128x16384) (k0_off49 v750) S1x128x1152.size hinb).WholeWords (EltTy.packing .fp8e4m3)) ∧
  (∀ a, (k0_off50 v750) a + S1x2x1152.size a ≤ S32x2x16384.size a)
theorem k0_mult25_dvd : ∀ (v750 : BitVec 32) (k0_hw25 : k0_chk25 v750), 128 ∣ (k0_mult25 v750).toNat := fun v750 k0_hw25 => k0_hw25.1
theorem k0_off49_inb : ∀ (v750 : BitVec 32) (k0_hw25 : k0_chk25 v750), ∀ a, (k0_off49 v750) a + S1x128x1152.size a ≤ S32x128x16384.size a := fun v750 k0_hw25 => k0_hw25.2.1
theorem k0_off49_wordsfp8e4m3 : ∀ (v750 : BitVec 32) (k0_hw25 : k0_chk25 v750), (Rect.unit (s := S32x128x16384) (k0_off49 v750) S1x128x1152.size (k0_off49_inb v750 k0_hw25)).WholeWords (EltTy.packing .fp8e4m3) := fun v750 k0_hw25 => k0_hw25.2.2.1 (k0_off49_inb v750 k0_hw25)
theorem k0_off50_inb : ∀ (v750 : BitVec 32) (k0_hw25 : k0_chk25 v750), ∀ a, (k0_off50 v750) a + S1x2x1152.size a ≤ S32x2x16384.size a := fun v750 k0_hw25 => k0_hw25.2.2.2

def k0_mult26 (v781 : BitVec 32) : BitVec 32 :=
  let c15232_i32_705 : BitVec 32 := 15232#32
  let c0_i32_704 : BitVec 32 := 0#32
  let c1023_i32_701 : BitVec 32 := 1023#32
  let v782 : BitVec 32 := Scalar.subi v781 c1023_i32_701
  let c7_i32_702 : BitVec 32 := 7#32
  let v783 : BitVec 32 := Scalar.shrsi v782 c7_i32_702
  let c7_i32_703 : BitVec 32 := 7#32
  let v784 : BitVec 32 := Scalar.shli v783 c7_i32_703
  let v785 : BitVec 32 := Scalar.maxsi c0_i32_704 v784
  let v786 : BitVec 32 := Scalar.minsi c15232_i32_705 v785
  v786

def k0_off51 (v781 : BitVec 32) : Fin 3 → Nat :=
  let c25_i32 : BitVec 32 := 25#32
  let c0_i32_710 : BitVec 32 := 0#32
  let c15232_i32_705 : BitVec 32 := 15232#32
  let c0_i32_704 : BitVec 32 := 0#32
  let c1023_i32_701 : BitVec 32 := 1023#32
  let v782 : BitVec 32 := Scalar.subi v781 c1023_i32_701
  let c7_i32_702 : BitVec 32 := 7#32
  let v783 : BitVec 32 := Scalar.shrsi v782 c7_i32_702
  let c7_i32_703 : BitVec 32 := 7#32
  let v784 : BitVec 32 := Scalar.shli v783 c7_i32_703
  let v785 : BitVec 32 := Scalar.maxsi c0_i32_704 v784
  let v786 : BitVec 32 := Scalar.minsi c15232_i32_705 v785
  let v787 : BitVec 32 := v786
  ![25, 0, v787.toNat]
def k0_off52 (v781 : BitVec 32) : Fin 3 → Nat :=
  let c25_i32_711 : BitVec 32 := 25#32
  let c0_i32_716 : BitVec 32 := 0#32
  let c15232_i32_705 : BitVec 32 := 15232#32
  let c0_i32_704 : BitVec 32 := 0#32
  let c1023_i32_701 : BitVec 32 := 1023#32
  let v782 : BitVec 32 := Scalar.subi v781 c1023_i32_701
  let c7_i32_702 : BitVec 32 := 7#32
  let v783 : BitVec 32 := Scalar.shrsi v782 c7_i32_702
  let c7_i32_703 : BitVec 32 := 7#32
  let v784 : BitVec 32 := Scalar.shli v783 c7_i32_703
  let v785 : BitVec 32 := Scalar.maxsi c0_i32_704 v784
  let v786 : BitVec 32 := Scalar.minsi c15232_i32_705 v785
  let v787 : BitVec 32 := v786
  ![25, 0, v787.toNat]

def k0_chk26 (v781 : BitVec 32) : Prop :=
  (128 ∣ (k0_mult26 v781).toNat) ∧
  (∀ a, (k0_off51 v781) a + S1x128x1152.size a ≤ S32x128x16384.size a) ∧
  (∀ (hinb : ∀ a, (k0_off51 v781) a + S1x128x1152.size a ≤ S32x128x16384.size a), (Rect.unit (s := S32x128x16384) (k0_off51 v781) S1x128x1152.size hinb).WholeWords (EltTy.packing .fp8e4m3)) ∧
  (∀ a, (k0_off52 v781) a + S1x2x1152.size a ≤ S32x2x16384.size a)
theorem k0_mult26_dvd : ∀ (v781 : BitVec 32) (k0_hw26 : k0_chk26 v781), 128 ∣ (k0_mult26 v781).toNat := fun v781 k0_hw26 => k0_hw26.1
theorem k0_off51_inb : ∀ (v781 : BitVec 32) (k0_hw26 : k0_chk26 v781), ∀ a, (k0_off51 v781) a + S1x128x1152.size a ≤ S32x128x16384.size a := fun v781 k0_hw26 => k0_hw26.2.1
theorem k0_off51_wordsfp8e4m3 : ∀ (v781 : BitVec 32) (k0_hw26 : k0_chk26 v781), (Rect.unit (s := S32x128x16384) (k0_off51 v781) S1x128x1152.size (k0_off51_inb v781 k0_hw26)).WholeWords (EltTy.packing .fp8e4m3) := fun v781 k0_hw26 => k0_hw26.2.2.1 (k0_off51_inb v781 k0_hw26)
theorem k0_off52_inb : ∀ (v781 : BitVec 32) (k0_hw26 : k0_chk26 v781), ∀ a, (k0_off52 v781) a + S1x2x1152.size a ≤ S32x2x16384.size a := fun v781 k0_hw26 => k0_hw26.2.2.2

def k0_mult27 (v812 : BitVec 32) : BitVec 32 :=
  let c15232_i32_733 : BitVec 32 := 15232#32
  let c0_i32_732 : BitVec 32 := 0#32
  let c1023_i32_729 : BitVec 32 := 1023#32
  let v813 : BitVec 32 := Scalar.subi v812 c1023_i32_729
  let c7_i32_730 : BitVec 32 := 7#32
  let v814 : BitVec 32 := Scalar.shrsi v813 c7_i32_730
  let c7_i32_731 : BitVec 32 := 7#32
  let v815 : BitVec 32 := Scalar.shli v814 c7_i32_731
  let v816 : BitVec 32 := Scalar.maxsi c0_i32_732 v815
  let v817 : BitVec 32 := Scalar.minsi c15232_i32_733 v816
  v817

def k0_off53 (v812 : BitVec 32) : Fin 3 → Nat :=
  let c26_i32 : BitVec 32 := 26#32
  let c0_i32_738 : BitVec 32 := 0#32
  let c15232_i32_733 : BitVec 32 := 15232#32
  let c0_i32_732 : BitVec 32 := 0#32
  let c1023_i32_729 : BitVec 32 := 1023#32
  let v813 : BitVec 32 := Scalar.subi v812 c1023_i32_729
  let c7_i32_730 : BitVec 32 := 7#32
  let v814 : BitVec 32 := Scalar.shrsi v813 c7_i32_730
  let c7_i32_731 : BitVec 32 := 7#32
  let v815 : BitVec 32 := Scalar.shli v814 c7_i32_731
  let v816 : BitVec 32 := Scalar.maxsi c0_i32_732 v815
  let v817 : BitVec 32 := Scalar.minsi c15232_i32_733 v816
  let v818 : BitVec 32 := v817
  ![26, 0, v818.toNat]
def k0_off54 (v812 : BitVec 32) : Fin 3 → Nat :=
  let c26_i32_739 : BitVec 32 := 26#32
  let c0_i32_744 : BitVec 32 := 0#32
  let c15232_i32_733 : BitVec 32 := 15232#32
  let c0_i32_732 : BitVec 32 := 0#32
  let c1023_i32_729 : BitVec 32 := 1023#32
  let v813 : BitVec 32 := Scalar.subi v812 c1023_i32_729
  let c7_i32_730 : BitVec 32 := 7#32
  let v814 : BitVec 32 := Scalar.shrsi v813 c7_i32_730
  let c7_i32_731 : BitVec 32 := 7#32
  let v815 : BitVec 32 := Scalar.shli v814 c7_i32_731
  let v816 : BitVec 32 := Scalar.maxsi c0_i32_732 v815
  let v817 : BitVec 32 := Scalar.minsi c15232_i32_733 v816
  let v818 : BitVec 32 := v817
  ![26, 0, v818.toNat]

def k0_chk27 (v812 : BitVec 32) : Prop :=
  (128 ∣ (k0_mult27 v812).toNat) ∧
  (∀ a, (k0_off53 v812) a + S1x128x1152.size a ≤ S32x128x16384.size a) ∧
  (∀ (hinb : ∀ a, (k0_off53 v812) a + S1x128x1152.size a ≤ S32x128x16384.size a), (Rect.unit (s := S32x128x16384) (k0_off53 v812) S1x128x1152.size hinb).WholeWords (EltTy.packing .fp8e4m3)) ∧
  (∀ a, (k0_off54 v812) a + S1x2x1152.size a ≤ S32x2x16384.size a)
theorem k0_mult27_dvd : ∀ (v812 : BitVec 32) (k0_hw27 : k0_chk27 v812), 128 ∣ (k0_mult27 v812).toNat := fun v812 k0_hw27 => k0_hw27.1
theorem k0_off53_inb : ∀ (v812 : BitVec 32) (k0_hw27 : k0_chk27 v812), ∀ a, (k0_off53 v812) a + S1x128x1152.size a ≤ S32x128x16384.size a := fun v812 k0_hw27 => k0_hw27.2.1
theorem k0_off53_wordsfp8e4m3 : ∀ (v812 : BitVec 32) (k0_hw27 : k0_chk27 v812), (Rect.unit (s := S32x128x16384) (k0_off53 v812) S1x128x1152.size (k0_off53_inb v812 k0_hw27)).WholeWords (EltTy.packing .fp8e4m3) := fun v812 k0_hw27 => k0_hw27.2.2.1 (k0_off53_inb v812 k0_hw27)
theorem k0_off54_inb : ∀ (v812 : BitVec 32) (k0_hw27 : k0_chk27 v812), ∀ a, (k0_off54 v812) a + S1x2x1152.size a ≤ S32x2x16384.size a := fun v812 k0_hw27 => k0_hw27.2.2.2

def k0_mult28 (v843 : BitVec 32) : BitVec 32 :=
  let c15232_i32_761 : BitVec 32 := 15232#32
  let c0_i32_760 : BitVec 32 := 0#32
  let c1023_i32_757 : BitVec 32 := 1023#32
  let v844 : BitVec 32 := Scalar.subi v843 c1023_i32_757
  let c7_i32_758 : BitVec 32 := 7#32
  let v845 : BitVec 32 := Scalar.shrsi v844 c7_i32_758
  let c7_i32_759 : BitVec 32 := 7#32
  let v846 : BitVec 32 := Scalar.shli v845 c7_i32_759
  let v847 : BitVec 32 := Scalar.maxsi c0_i32_760 v846
  let v848 : BitVec 32 := Scalar.minsi c15232_i32_761 v847
  v848

def k0_off55 (v843 : BitVec 32) : Fin 3 → Nat :=
  let c27_i32 : BitVec 32 := 27#32
  let c0_i32_766 : BitVec 32 := 0#32
  let c15232_i32_761 : BitVec 32 := 15232#32
  let c0_i32_760 : BitVec 32 := 0#32
  let c1023_i32_757 : BitVec 32 := 1023#32
  let v844 : BitVec 32 := Scalar.subi v843 c1023_i32_757
  let c7_i32_758 : BitVec 32 := 7#32
  let v845 : BitVec 32 := Scalar.shrsi v844 c7_i32_758
  let c7_i32_759 : BitVec 32 := 7#32
  let v846 : BitVec 32 := Scalar.shli v845 c7_i32_759
  let v847 : BitVec 32 := Scalar.maxsi c0_i32_760 v846
  let v848 : BitVec 32 := Scalar.minsi c15232_i32_761 v847
  let v849 : BitVec 32 := v848
  ![27, 0, v849.toNat]
def k0_off56 (v843 : BitVec 32) : Fin 3 → Nat :=
  let c27_i32_767 : BitVec 32 := 27#32
  let c0_i32_772 : BitVec 32 := 0#32
  let c15232_i32_761 : BitVec 32 := 15232#32
  let c0_i32_760 : BitVec 32 := 0#32
  let c1023_i32_757 : BitVec 32 := 1023#32
  let v844 : BitVec 32 := Scalar.subi v843 c1023_i32_757
  let c7_i32_758 : BitVec 32 := 7#32
  let v845 : BitVec 32 := Scalar.shrsi v844 c7_i32_758
  let c7_i32_759 : BitVec 32 := 7#32
  let v846 : BitVec 32 := Scalar.shli v845 c7_i32_759
  let v847 : BitVec 32 := Scalar.maxsi c0_i32_760 v846
  let v848 : BitVec 32 := Scalar.minsi c15232_i32_761 v847
  let v849 : BitVec 32 := v848
  ![27, 0, v849.toNat]

def k0_chk28 (v843 : BitVec 32) : Prop :=
  (128 ∣ (k0_mult28 v843).toNat) ∧
  (∀ a, (k0_off55 v843) a + S1x128x1152.size a ≤ S32x128x16384.size a) ∧
  (∀ (hinb : ∀ a, (k0_off55 v843) a + S1x128x1152.size a ≤ S32x128x16384.size a), (Rect.unit (s := S32x128x16384) (k0_off55 v843) S1x128x1152.size hinb).WholeWords (EltTy.packing .fp8e4m3)) ∧
  (∀ a, (k0_off56 v843) a + S1x2x1152.size a ≤ S32x2x16384.size a)
theorem k0_mult28_dvd : ∀ (v843 : BitVec 32) (k0_hw28 : k0_chk28 v843), 128 ∣ (k0_mult28 v843).toNat := fun v843 k0_hw28 => k0_hw28.1
theorem k0_off55_inb : ∀ (v843 : BitVec 32) (k0_hw28 : k0_chk28 v843), ∀ a, (k0_off55 v843) a + S1x128x1152.size a ≤ S32x128x16384.size a := fun v843 k0_hw28 => k0_hw28.2.1
theorem k0_off55_wordsfp8e4m3 : ∀ (v843 : BitVec 32) (k0_hw28 : k0_chk28 v843), (Rect.unit (s := S32x128x16384) (k0_off55 v843) S1x128x1152.size (k0_off55_inb v843 k0_hw28)).WholeWords (EltTy.packing .fp8e4m3) := fun v843 k0_hw28 => k0_hw28.2.2.1 (k0_off55_inb v843 k0_hw28)
theorem k0_off56_inb : ∀ (v843 : BitVec 32) (k0_hw28 : k0_chk28 v843), ∀ a, (k0_off56 v843) a + S1x2x1152.size a ≤ S32x2x16384.size a := fun v843 k0_hw28 => k0_hw28.2.2.2

def k0_mult29 (v874 : BitVec 32) : BitVec 32 :=
  let c15232_i32_789 : BitVec 32 := 15232#32
  let c0_i32_788 : BitVec 32 := 0#32
  let c1023_i32_785 : BitVec 32 := 1023#32
  let v875 : BitVec 32 := Scalar.subi v874 c1023_i32_785
  let c7_i32_786 : BitVec 32 := 7#32
  let v876 : BitVec 32 := Scalar.shrsi v875 c7_i32_786
  let c7_i32_787 : BitVec 32 := 7#32
  let v877 : BitVec 32 := Scalar.shli v876 c7_i32_787
  let v878 : BitVec 32 := Scalar.maxsi c0_i32_788 v877
  let v879 : BitVec 32 := Scalar.minsi c15232_i32_789 v878
  v879

def k0_off57 (v874 : BitVec 32) : Fin 3 → Nat :=
  let c28_i32 : BitVec 32 := 28#32
  let c0_i32_794 : BitVec 32 := 0#32
  let c15232_i32_789 : BitVec 32 := 15232#32
  let c0_i32_788 : BitVec 32 := 0#32
  let c1023_i32_785 : BitVec 32 := 1023#32
  let v875 : BitVec 32 := Scalar.subi v874 c1023_i32_785
  let c7_i32_786 : BitVec 32 := 7#32
  let v876 : BitVec 32 := Scalar.shrsi v875 c7_i32_786
  let c7_i32_787 : BitVec 32 := 7#32
  let v877 : BitVec 32 := Scalar.shli v876 c7_i32_787
  let v878 : BitVec 32 := Scalar.maxsi c0_i32_788 v877
  let v879 : BitVec 32 := Scalar.minsi c15232_i32_789 v878
  let v880 : BitVec 32 := v879
  ![28, 0, v880.toNat]
def k0_off58 (v874 : BitVec 32) : Fin 3 → Nat :=
  let c28_i32_795 : BitVec 32 := 28#32
  let c0_i32_800 : BitVec 32 := 0#32
  let c15232_i32_789 : BitVec 32 := 15232#32
  let c0_i32_788 : BitVec 32 := 0#32
  let c1023_i32_785 : BitVec 32 := 1023#32
  let v875 : BitVec 32 := Scalar.subi v874 c1023_i32_785
  let c7_i32_786 : BitVec 32 := 7#32
  let v876 : BitVec 32 := Scalar.shrsi v875 c7_i32_786
  let c7_i32_787 : BitVec 32 := 7#32
  let v877 : BitVec 32 := Scalar.shli v876 c7_i32_787
  let v878 : BitVec 32 := Scalar.maxsi c0_i32_788 v877
  let v879 : BitVec 32 := Scalar.minsi c15232_i32_789 v878
  let v880 : BitVec 32 := v879
  ![28, 0, v880.toNat]

def k0_chk29 (v874 : BitVec 32) : Prop :=
  (128 ∣ (k0_mult29 v874).toNat) ∧
  (∀ a, (k0_off57 v874) a + S1x128x1152.size a ≤ S32x128x16384.size a) ∧
  (∀ (hinb : ∀ a, (k0_off57 v874) a + S1x128x1152.size a ≤ S32x128x16384.size a), (Rect.unit (s := S32x128x16384) (k0_off57 v874) S1x128x1152.size hinb).WholeWords (EltTy.packing .fp8e4m3)) ∧
  (∀ a, (k0_off58 v874) a + S1x2x1152.size a ≤ S32x2x16384.size a)
theorem k0_mult29_dvd : ∀ (v874 : BitVec 32) (k0_hw29 : k0_chk29 v874), 128 ∣ (k0_mult29 v874).toNat := fun v874 k0_hw29 => k0_hw29.1
theorem k0_off57_inb : ∀ (v874 : BitVec 32) (k0_hw29 : k0_chk29 v874), ∀ a, (k0_off57 v874) a + S1x128x1152.size a ≤ S32x128x16384.size a := fun v874 k0_hw29 => k0_hw29.2.1
theorem k0_off57_wordsfp8e4m3 : ∀ (v874 : BitVec 32) (k0_hw29 : k0_chk29 v874), (Rect.unit (s := S32x128x16384) (k0_off57 v874) S1x128x1152.size (k0_off57_inb v874 k0_hw29)).WholeWords (EltTy.packing .fp8e4m3) := fun v874 k0_hw29 => k0_hw29.2.2.1 (k0_off57_inb v874 k0_hw29)
theorem k0_off58_inb : ∀ (v874 : BitVec 32) (k0_hw29 : k0_chk29 v874), ∀ a, (k0_off58 v874) a + S1x2x1152.size a ≤ S32x2x16384.size a := fun v874 k0_hw29 => k0_hw29.2.2.2

def k0_mult30 (v905 : BitVec 32) : BitVec 32 :=
  let c15232_i32_817 : BitVec 32 := 15232#32
  let c0_i32_816 : BitVec 32 := 0#32
  let c1023_i32_813 : BitVec 32 := 1023#32
  let v906 : BitVec 32 := Scalar.subi v905 c1023_i32_813
  let c7_i32_814 : BitVec 32 := 7#32
  let v907 : BitVec 32 := Scalar.shrsi v906 c7_i32_814
  let c7_i32_815 : BitVec 32 := 7#32
  let v908 : BitVec 32 := Scalar.shli v907 c7_i32_815
  let v909 : BitVec 32 := Scalar.maxsi c0_i32_816 v908
  let v910 : BitVec 32 := Scalar.minsi c15232_i32_817 v909
  v910

def k0_off59 (v905 : BitVec 32) : Fin 3 → Nat :=
  let c29_i32 : BitVec 32 := 29#32
  let c0_i32_822 : BitVec 32 := 0#32
  let c15232_i32_817 : BitVec 32 := 15232#32
  let c0_i32_816 : BitVec 32 := 0#32
  let c1023_i32_813 : BitVec 32 := 1023#32
  let v906 : BitVec 32 := Scalar.subi v905 c1023_i32_813
  let c7_i32_814 : BitVec 32 := 7#32
  let v907 : BitVec 32 := Scalar.shrsi v906 c7_i32_814
  let c7_i32_815 : BitVec 32 := 7#32
  let v908 : BitVec 32 := Scalar.shli v907 c7_i32_815
  let v909 : BitVec 32 := Scalar.maxsi c0_i32_816 v908
  let v910 : BitVec 32 := Scalar.minsi c15232_i32_817 v909
  let v911 : BitVec 32 := v910
  ![29, 0, v911.toNat]
def k0_off60 (v905 : BitVec 32) : Fin 3 → Nat :=
  let c29_i32_823 : BitVec 32 := 29#32
  let c0_i32_828 : BitVec 32 := 0#32
  let c15232_i32_817 : BitVec 32 := 15232#32
  let c0_i32_816 : BitVec 32 := 0#32
  let c1023_i32_813 : BitVec 32 := 1023#32
  let v906 : BitVec 32 := Scalar.subi v905 c1023_i32_813
  let c7_i32_814 : BitVec 32 := 7#32
  let v907 : BitVec 32 := Scalar.shrsi v906 c7_i32_814
  let c7_i32_815 : BitVec 32 := 7#32
  let v908 : BitVec 32 := Scalar.shli v907 c7_i32_815
  let v909 : BitVec 32 := Scalar.maxsi c0_i32_816 v908
  let v910 : BitVec 32 := Scalar.minsi c15232_i32_817 v909
  let v911 : BitVec 32 := v910
  ![29, 0, v911.toNat]

def k0_chk30 (v905 : BitVec 32) : Prop :=
  (128 ∣ (k0_mult30 v905).toNat) ∧
  (∀ a, (k0_off59 v905) a + S1x128x1152.size a ≤ S32x128x16384.size a) ∧
  (∀ (hinb : ∀ a, (k0_off59 v905) a + S1x128x1152.size a ≤ S32x128x16384.size a), (Rect.unit (s := S32x128x16384) (k0_off59 v905) S1x128x1152.size hinb).WholeWords (EltTy.packing .fp8e4m3)) ∧
  (∀ a, (k0_off60 v905) a + S1x2x1152.size a ≤ S32x2x16384.size a)
theorem k0_mult30_dvd : ∀ (v905 : BitVec 32) (k0_hw30 : k0_chk30 v905), 128 ∣ (k0_mult30 v905).toNat := fun v905 k0_hw30 => k0_hw30.1
theorem k0_off59_inb : ∀ (v905 : BitVec 32) (k0_hw30 : k0_chk30 v905), ∀ a, (k0_off59 v905) a + S1x128x1152.size a ≤ S32x128x16384.size a := fun v905 k0_hw30 => k0_hw30.2.1
theorem k0_off59_wordsfp8e4m3 : ∀ (v905 : BitVec 32) (k0_hw30 : k0_chk30 v905), (Rect.unit (s := S32x128x16384) (k0_off59 v905) S1x128x1152.size (k0_off59_inb v905 k0_hw30)).WholeWords (EltTy.packing .fp8e4m3) := fun v905 k0_hw30 => k0_hw30.2.2.1 (k0_off59_inb v905 k0_hw30)
theorem k0_off60_inb : ∀ (v905 : BitVec 32) (k0_hw30 : k0_chk30 v905), ∀ a, (k0_off60 v905) a + S1x2x1152.size a ≤ S32x2x16384.size a := fun v905 k0_hw30 => k0_hw30.2.2.2

def k0_mult31 (v936 : BitVec 32) : BitVec 32 :=
  let c15232_i32_845 : BitVec 32 := 15232#32
  let c0_i32_844 : BitVec 32 := 0#32
  let c1023_i32_841 : BitVec 32 := 1023#32
  let v937 : BitVec 32 := Scalar.subi v936 c1023_i32_841
  let c7_i32_842 : BitVec 32 := 7#32
  let v938 : BitVec 32 := Scalar.shrsi v937 c7_i32_842
  let c7_i32_843 : BitVec 32 := 7#32
  let v939 : BitVec 32 := Scalar.shli v938 c7_i32_843
  let v940 : BitVec 32 := Scalar.maxsi c0_i32_844 v939
  let v941 : BitVec 32 := Scalar.minsi c15232_i32_845 v940
  v941

def k0_off61 (v936 : BitVec 32) : Fin 3 → Nat :=
  let c30_i32 : BitVec 32 := 30#32
  let c0_i32_850 : BitVec 32 := 0#32
  let c15232_i32_845 : BitVec 32 := 15232#32
  let c0_i32_844 : BitVec 32 := 0#32
  let c1023_i32_841 : BitVec 32 := 1023#32
  let v937 : BitVec 32 := Scalar.subi v936 c1023_i32_841
  let c7_i32_842 : BitVec 32 := 7#32
  let v938 : BitVec 32 := Scalar.shrsi v937 c7_i32_842
  let c7_i32_843 : BitVec 32 := 7#32
  let v939 : BitVec 32 := Scalar.shli v938 c7_i32_843
  let v940 : BitVec 32 := Scalar.maxsi c0_i32_844 v939
  let v941 : BitVec 32 := Scalar.minsi c15232_i32_845 v940
  let v942 : BitVec 32 := v941
  ![30, 0, v942.toNat]
def k0_off62 (v936 : BitVec 32) : Fin 3 → Nat :=
  let c30_i32_851 : BitVec 32 := 30#32
  let c0_i32_856 : BitVec 32 := 0#32
  let c15232_i32_845 : BitVec 32 := 15232#32
  let c0_i32_844 : BitVec 32 := 0#32
  let c1023_i32_841 : BitVec 32 := 1023#32
  let v937 : BitVec 32 := Scalar.subi v936 c1023_i32_841
  let c7_i32_842 : BitVec 32 := 7#32
  let v938 : BitVec 32 := Scalar.shrsi v937 c7_i32_842
  let c7_i32_843 : BitVec 32 := 7#32
  let v939 : BitVec 32 := Scalar.shli v938 c7_i32_843
  let v940 : BitVec 32 := Scalar.maxsi c0_i32_844 v939
  let v941 : BitVec 32 := Scalar.minsi c15232_i32_845 v940
  let v942 : BitVec 32 := v941
  ![30, 0, v942.toNat]

def k0_chk31 (v936 : BitVec 32) : Prop :=
  (128 ∣ (k0_mult31 v936).toNat) ∧
  (∀ a, (k0_off61 v936) a + S1x128x1152.size a ≤ S32x128x16384.size a) ∧
  (∀ (hinb : ∀ a, (k0_off61 v936) a + S1x128x1152.size a ≤ S32x128x16384.size a), (Rect.unit (s := S32x128x16384) (k0_off61 v936) S1x128x1152.size hinb).WholeWords (EltTy.packing .fp8e4m3)) ∧
  (∀ a, (k0_off62 v936) a + S1x2x1152.size a ≤ S32x2x16384.size a)
theorem k0_mult31_dvd : ∀ (v936 : BitVec 32) (k0_hw31 : k0_chk31 v936), 128 ∣ (k0_mult31 v936).toNat := fun v936 k0_hw31 => k0_hw31.1
theorem k0_off61_inb : ∀ (v936 : BitVec 32) (k0_hw31 : k0_chk31 v936), ∀ a, (k0_off61 v936) a + S1x128x1152.size a ≤ S32x128x16384.size a := fun v936 k0_hw31 => k0_hw31.2.1
theorem k0_off61_wordsfp8e4m3 : ∀ (v936 : BitVec 32) (k0_hw31 : k0_chk31 v936), (Rect.unit (s := S32x128x16384) (k0_off61 v936) S1x128x1152.size (k0_off61_inb v936 k0_hw31)).WholeWords (EltTy.packing .fp8e4m3) := fun v936 k0_hw31 => k0_hw31.2.2.1 (k0_off61_inb v936 k0_hw31)
theorem k0_off62_inb : ∀ (v936 : BitVec 32) (k0_hw31 : k0_chk31 v936), ∀ a, (k0_off62 v936) a + S1x2x1152.size a ≤ S32x2x16384.size a := fun v936 k0_hw31 => k0_hw31.2.2.2

def k0_mult32 (v967 : BitVec 32) : BitVec 32 :=
  let c15232_i32_873 : BitVec 32 := 15232#32
  let c0_i32_872 : BitVec 32 := 0#32
  let c1023_i32_869 : BitVec 32 := 1023#32
  let v968 : BitVec 32 := Scalar.subi v967 c1023_i32_869
  let c7_i32_870 : BitVec 32 := 7#32
  let v969 : BitVec 32 := Scalar.shrsi v968 c7_i32_870
  let c7_i32_871 : BitVec 32 := 7#32
  let v970 : BitVec 32 := Scalar.shli v969 c7_i32_871
  let v971 : BitVec 32 := Scalar.maxsi c0_i32_872 v970
  let v972 : BitVec 32 := Scalar.minsi c15232_i32_873 v971
  v972

def k0_off63 (v967 : BitVec 32) : Fin 3 → Nat :=
  let c31_i32 : BitVec 32 := 31#32
  let c0_i32_878 : BitVec 32 := 0#32
  let c15232_i32_873 : BitVec 32 := 15232#32
  let c0_i32_872 : BitVec 32 := 0#32
  let c1023_i32_869 : BitVec 32 := 1023#32
  let v968 : BitVec 32 := Scalar.subi v967 c1023_i32_869
  let c7_i32_870 : BitVec 32 := 7#32
  let v969 : BitVec 32 := Scalar.shrsi v968 c7_i32_870
  let c7_i32_871 : BitVec 32 := 7#32
  let v970 : BitVec 32 := Scalar.shli v969 c7_i32_871
  let v971 : BitVec 32 := Scalar.maxsi c0_i32_872 v970
  let v972 : BitVec 32 := Scalar.minsi c15232_i32_873 v971
  let v973 : BitVec 32 := v972
  ![31, 0, v973.toNat]
def k0_off64 (v967 : BitVec 32) : Fin 3 → Nat :=
  let c31_i32_879 : BitVec 32 := 31#32
  let c0_i32_884 : BitVec 32 := 0#32
  let c15232_i32_873 : BitVec 32 := 15232#32
  let c0_i32_872 : BitVec 32 := 0#32
  let c1023_i32_869 : BitVec 32 := 1023#32
  let v968 : BitVec 32 := Scalar.subi v967 c1023_i32_869
  let c7_i32_870 : BitVec 32 := 7#32
  let v969 : BitVec 32 := Scalar.shrsi v968 c7_i32_870
  let c7_i32_871 : BitVec 32 := 7#32
  let v970 : BitVec 32 := Scalar.shli v969 c7_i32_871
  let v971 : BitVec 32 := Scalar.maxsi c0_i32_872 v970
  let v972 : BitVec 32 := Scalar.minsi c15232_i32_873 v971
  let v973 : BitVec 32 := v972
  ![31, 0, v973.toNat]

def k0_chk32 (v967 : BitVec 32) : Prop :=
  (128 ∣ (k0_mult32 v967).toNat) ∧
  (∀ a, (k0_off63 v967) a + S1x128x1152.size a ≤ S32x128x16384.size a) ∧
  (∀ (hinb : ∀ a, (k0_off63 v967) a + S1x128x1152.size a ≤ S32x128x16384.size a), (Rect.unit (s := S32x128x16384) (k0_off63 v967) S1x128x1152.size hinb).WholeWords (EltTy.packing .fp8e4m3)) ∧
  (∀ a, (k0_off64 v967) a + S1x2x1152.size a ≤ S32x2x16384.size a)
theorem k0_mult32_dvd : ∀ (v967 : BitVec 32) (k0_hw32 : k0_chk32 v967), 128 ∣ (k0_mult32 v967).toNat := fun v967 k0_hw32 => k0_hw32.1
theorem k0_off63_inb : ∀ (v967 : BitVec 32) (k0_hw32 : k0_chk32 v967), ∀ a, (k0_off63 v967) a + S1x128x1152.size a ≤ S32x128x16384.size a := fun v967 k0_hw32 => k0_hw32.2.1
theorem k0_off63_wordsfp8e4m3 : ∀ (v967 : BitVec 32) (k0_hw32 : k0_chk32 v967), (Rect.unit (s := S32x128x16384) (k0_off63 v967) S1x128x1152.size (k0_off63_inb v967 k0_hw32)).WholeWords (EltTy.packing .fp8e4m3) := fun v967 k0_hw32 => k0_hw32.2.2.1 (k0_off63_inb v967 k0_hw32)
theorem k0_off64_inb : ∀ (v967 : BitVec 32) (k0_hw32 : k0_chk32 v967), ∀ a, (k0_off64 v967) a + S1x2x1152.size a ≤ S32x2x16384.size a := fun v967 k0_hw32 => k0_hw32.2.2.2

def k0_mult33 (v1459 : BitVec 32) : BitVec 32 :=
  let c15232_i32_1062 : BitVec 32 := 15232#32
  let c0_i32_1061 : BitVec 32 := 0#32
  let c1023_i32_1058 : BitVec 32 := 1023#32
  let v1460 : BitVec 32 := Scalar.subi v1459 c1023_i32_1058
  let c7_i32_1059 : BitVec 32 := 7#32
  let v1461 : BitVec 32 := Scalar.shrsi v1460 c7_i32_1059
  let c7_i32_1060 : BitVec 32 := 7#32
  let v1462 : BitVec 32 := Scalar.shli v1461 c7_i32_1060
  let v1463 : BitVec 32 := Scalar.maxsi c0_i32_1061 v1462
  let v1464 : BitVec 32 := Scalar.minsi c15232_i32_1062 v1463
  v1464

def k0_off65 (v1459 : BitVec 32) : Fin 3 → Nat :=
  let c0_i32_1063 : BitVec 32 := 0#32
  let c0_i32_1068 : BitVec 32 := 0#32
  let c15232_i32_1062 : BitVec 32 := 15232#32
  let c0_i32_1061 : BitVec 32 := 0#32
  let c1023_i32_1058 : BitVec 32 := 1023#32
  let v1460 : BitVec 32 := Scalar.subi v1459 c1023_i32_1058
  let c7_i32_1059 : BitVec 32 := 7#32
  let v1461 : BitVec 32 := Scalar.shrsi v1460 c7_i32_1059
  let c7_i32_1060 : BitVec 32 := 7#32
  let v1462 : BitVec 32 := Scalar.shli v1461 c7_i32_1060
  let v1463 : BitVec 32 := Scalar.maxsi c0_i32_1061 v1462
  let v1464 : BitVec 32 := Scalar.minsi c15232_i32_1062 v1463
  let v1465 : BitVec 32 := v1464
  ![0, 0, v1465.toNat]
def k0_off66 (v1459 : BitVec 32) : Fin 3 → Nat :=
  let c0_i32_1069 : BitVec 32 := 0#32
  let c0_i32_1074 : BitVec 32 := 0#32
  let c15232_i32_1062 : BitVec 32 := 15232#32
  let c0_i32_1061 : BitVec 32 := 0#32
  let c1023_i32_1058 : BitVec 32 := 1023#32
  let v1460 : BitVec 32 := Scalar.subi v1459 c1023_i32_1058
  let c7_i32_1059 : BitVec 32 := 7#32
  let v1461 : BitVec 32 := Scalar.shrsi v1460 c7_i32_1059
  let c7_i32_1060 : BitVec 32 := 7#32
  let v1462 : BitVec 32 := Scalar.shli v1461 c7_i32_1060
  let v1463 : BitVec 32 := Scalar.maxsi c0_i32_1061 v1462
  let v1464 : BitVec 32 := Scalar.minsi c15232_i32_1062 v1463
  let v1465 : BitVec 32 := v1464
  ![0, 0, v1465.toNat]

def k0_chk33 (v1459 : BitVec 32) : Prop :=
  (128 ∣ (k0_mult33 v1459).toNat) ∧
  (∀ a, (k0_off65 v1459) a + S1x128x1152.size a ≤ S32x128x16384.size a) ∧
  (∀ (hinb : ∀ a, (k0_off65 v1459) a + S1x128x1152.size a ≤ S32x128x16384.size a), (Rect.unit (s := S32x128x16384) (k0_off65 v1459) S1x128x1152.size hinb).WholeWords (EltTy.packing .fp8e4m3)) ∧
  (∀ a, (k0_off66 v1459) a + S1x2x1152.size a ≤ S32x2x16384.size a)
theorem k0_mult33_dvd : ∀ (v1459 : BitVec 32) (k0_hw33 : k0_chk33 v1459), 128 ∣ (k0_mult33 v1459).toNat := fun v1459 k0_hw33 => k0_hw33.1
theorem k0_off65_inb : ∀ (v1459 : BitVec 32) (k0_hw33 : k0_chk33 v1459), ∀ a, (k0_off65 v1459) a + S1x128x1152.size a ≤ S32x128x16384.size a := fun v1459 k0_hw33 => k0_hw33.2.1
theorem k0_off65_wordsfp8e4m3 : ∀ (v1459 : BitVec 32) (k0_hw33 : k0_chk33 v1459), (Rect.unit (s := S32x128x16384) (k0_off65 v1459) S1x128x1152.size (k0_off65_inb v1459 k0_hw33)).WholeWords (EltTy.packing .fp8e4m3) := fun v1459 k0_hw33 => k0_hw33.2.2.1 (k0_off65_inb v1459 k0_hw33)
theorem k0_off66_inb : ∀ (v1459 : BitVec 32) (k0_hw33 : k0_chk33 v1459), ∀ a, (k0_off66 v1459) a + S1x2x1152.size a ≤ S32x2x16384.size a := fun v1459 k0_hw33 => k0_hw33.2.2.2

def k0_mult34 (v1604 : BitVec 32) : BitVec 32 :=
  let c15232_i32_1149 : BitVec 32 := 15232#32
  let c0_i32_1148 : BitVec 32 := 0#32
  let c1023_i32_1145 : BitVec 32 := 1023#32
  let v1605 : BitVec 32 := Scalar.subi v1604 c1023_i32_1145
  let c7_i32_1146 : BitVec 32 := 7#32
  let v1606 : BitVec 32 := Scalar.shrsi v1605 c7_i32_1146
  let c7_i32_1147 : BitVec 32 := 7#32
  let v1607 : BitVec 32 := Scalar.shli v1606 c7_i32_1147
  let v1608 : BitVec 32 := Scalar.maxsi c0_i32_1148 v1607
  let v1609 : BitVec 32 := Scalar.minsi c15232_i32_1149 v1608
  v1609

def k0_off67 (v1604 : BitVec 32) : Fin 3 → Nat :=
  let c1_i32_1150 : BitVec 32 := 1#32
  let c0_i32_1155 : BitVec 32 := 0#32
  let c15232_i32_1149 : BitVec 32 := 15232#32
  let c0_i32_1148 : BitVec 32 := 0#32
  let c1023_i32_1145 : BitVec 32 := 1023#32
  let v1605 : BitVec 32 := Scalar.subi v1604 c1023_i32_1145
  let c7_i32_1146 : BitVec 32 := 7#32
  let v1606 : BitVec 32 := Scalar.shrsi v1605 c7_i32_1146
  let c7_i32_1147 : BitVec 32 := 7#32
  let v1607 : BitVec 32 := Scalar.shli v1606 c7_i32_1147
  let v1608 : BitVec 32 := Scalar.maxsi c0_i32_1148 v1607
  let v1609 : BitVec 32 := Scalar.minsi c15232_i32_1149 v1608
  let v1610 : BitVec 32 := v1609
  ![1, 0, v1610.toNat]
def k0_off68 (v1604 : BitVec 32) : Fin 3 → Nat :=
  let c1_i32_1156 : BitVec 32 := 1#32
  let c0_i32_1161 : BitVec 32 := 0#32
  let c15232_i32_1149 : BitVec 32 := 15232#32
  let c0_i32_1148 : BitVec 32 := 0#32
  let c1023_i32_1145 : BitVec 32 := 1023#32
  let v1605 : BitVec 32 := Scalar.subi v1604 c1023_i32_1145
  let c7_i32_1146 : BitVec 32 := 7#32
  let v1606 : BitVec 32 := Scalar.shrsi v1605 c7_i32_1146
  let c7_i32_1147 : BitVec 32 := 7#32
  let v1607 : BitVec 32 := Scalar.shli v1606 c7_i32_1147
  let v1608 : BitVec 32 := Scalar.maxsi c0_i32_1148 v1607
  let v1609 : BitVec 32 := Scalar.minsi c15232_i32_1149 v1608
  let v1610 : BitVec 32 := v1609
  ![1, 0, v1610.toNat]

def k0_chk34 (v1604 : BitVec 32) : Prop :=
  (128 ∣ (k0_mult34 v1604).toNat) ∧
  (∀ a, (k0_off67 v1604) a + S1x128x1152.size a ≤ S32x128x16384.size a) ∧
  (∀ (hinb : ∀ a, (k0_off67 v1604) a + S1x128x1152.size a ≤ S32x128x16384.size a), (Rect.unit (s := S32x128x16384) (k0_off67 v1604) S1x128x1152.size hinb).WholeWords (EltTy.packing .fp8e4m3)) ∧
  (∀ a, (k0_off68 v1604) a + S1x2x1152.size a ≤ S32x2x16384.size a)
theorem k0_mult34_dvd : ∀ (v1604 : BitVec 32) (k0_hw34 : k0_chk34 v1604), 128 ∣ (k0_mult34 v1604).toNat := fun v1604 k0_hw34 => k0_hw34.1
theorem k0_off67_inb : ∀ (v1604 : BitVec 32) (k0_hw34 : k0_chk34 v1604), ∀ a, (k0_off67 v1604) a + S1x128x1152.size a ≤ S32x128x16384.size a := fun v1604 k0_hw34 => k0_hw34.2.1
theorem k0_off67_wordsfp8e4m3 : ∀ (v1604 : BitVec 32) (k0_hw34 : k0_chk34 v1604), (Rect.unit (s := S32x128x16384) (k0_off67 v1604) S1x128x1152.size (k0_off67_inb v1604 k0_hw34)).WholeWords (EltTy.packing .fp8e4m3) := fun v1604 k0_hw34 => k0_hw34.2.2.1 (k0_off67_inb v1604 k0_hw34)
theorem k0_off68_inb : ∀ (v1604 : BitVec 32) (k0_hw34 : k0_chk34 v1604), ∀ a, (k0_off68 v1604) a + S1x2x1152.size a ≤ S32x2x16384.size a := fun v1604 k0_hw34 => k0_hw34.2.2.2

def k0_mult35 (v1749 : BitVec 32) : BitVec 32 :=
  let c15232_i32_1237 : BitVec 32 := 15232#32
  let c0_i32_1236 : BitVec 32 := 0#32
  let c1023_i32_1233 : BitVec 32 := 1023#32
  let v1750 : BitVec 32 := Scalar.subi v1749 c1023_i32_1233
  let c7_i32_1234 : BitVec 32 := 7#32
  let v1751 : BitVec 32 := Scalar.shrsi v1750 c7_i32_1234
  let c7_i32_1235 : BitVec 32 := 7#32
  let v1752 : BitVec 32 := Scalar.shli v1751 c7_i32_1235
  let v1753 : BitVec 32 := Scalar.maxsi c0_i32_1236 v1752
  let v1754 : BitVec 32 := Scalar.minsi c15232_i32_1237 v1753
  v1754

def k0_off69 (v1749 : BitVec 32) : Fin 3 → Nat :=
  let c2_i32_1238 : BitVec 32 := 2#32
  let c0_i32_1243 : BitVec 32 := 0#32
  let c15232_i32_1237 : BitVec 32 := 15232#32
  let c0_i32_1236 : BitVec 32 := 0#32
  let c1023_i32_1233 : BitVec 32 := 1023#32
  let v1750 : BitVec 32 := Scalar.subi v1749 c1023_i32_1233
  let c7_i32_1234 : BitVec 32 := 7#32
  let v1751 : BitVec 32 := Scalar.shrsi v1750 c7_i32_1234
  let c7_i32_1235 : BitVec 32 := 7#32
  let v1752 : BitVec 32 := Scalar.shli v1751 c7_i32_1235
  let v1753 : BitVec 32 := Scalar.maxsi c0_i32_1236 v1752
  let v1754 : BitVec 32 := Scalar.minsi c15232_i32_1237 v1753
  let v1755 : BitVec 32 := v1754
  ![2, 0, v1755.toNat]
def k0_off70 (v1749 : BitVec 32) : Fin 3 → Nat :=
  let c2_i32_1244 : BitVec 32 := 2#32
  let c0_i32_1249 : BitVec 32 := 0#32
  let c15232_i32_1237 : BitVec 32 := 15232#32
  let c0_i32_1236 : BitVec 32 := 0#32
  let c1023_i32_1233 : BitVec 32 := 1023#32
  let v1750 : BitVec 32 := Scalar.subi v1749 c1023_i32_1233
  let c7_i32_1234 : BitVec 32 := 7#32
  let v1751 : BitVec 32 := Scalar.shrsi v1750 c7_i32_1234
  let c7_i32_1235 : BitVec 32 := 7#32
  let v1752 : BitVec 32 := Scalar.shli v1751 c7_i32_1235
  let v1753 : BitVec 32 := Scalar.maxsi c0_i32_1236 v1752
  let v1754 : BitVec 32 := Scalar.minsi c15232_i32_1237 v1753
  let v1755 : BitVec 32 := v1754
  ![2, 0, v1755.toNat]

def k0_chk35 (v1749 : BitVec 32) : Prop :=
  (128 ∣ (k0_mult35 v1749).toNat) ∧
  (∀ a, (k0_off69 v1749) a + S1x128x1152.size a ≤ S32x128x16384.size a) ∧
  (∀ (hinb : ∀ a, (k0_off69 v1749) a + S1x128x1152.size a ≤ S32x128x16384.size a), (Rect.unit (s := S32x128x16384) (k0_off69 v1749) S1x128x1152.size hinb).WholeWords (EltTy.packing .fp8e4m3)) ∧
  (∀ a, (k0_off70 v1749) a + S1x2x1152.size a ≤ S32x2x16384.size a)
theorem k0_mult35_dvd : ∀ (v1749 : BitVec 32) (k0_hw35 : k0_chk35 v1749), 128 ∣ (k0_mult35 v1749).toNat := fun v1749 k0_hw35 => k0_hw35.1
theorem k0_off69_inb : ∀ (v1749 : BitVec 32) (k0_hw35 : k0_chk35 v1749), ∀ a, (k0_off69 v1749) a + S1x128x1152.size a ≤ S32x128x16384.size a := fun v1749 k0_hw35 => k0_hw35.2.1
theorem k0_off69_wordsfp8e4m3 : ∀ (v1749 : BitVec 32) (k0_hw35 : k0_chk35 v1749), (Rect.unit (s := S32x128x16384) (k0_off69 v1749) S1x128x1152.size (k0_off69_inb v1749 k0_hw35)).WholeWords (EltTy.packing .fp8e4m3) := fun v1749 k0_hw35 => k0_hw35.2.2.1 (k0_off69_inb v1749 k0_hw35)
theorem k0_off70_inb : ∀ (v1749 : BitVec 32) (k0_hw35 : k0_chk35 v1749), ∀ a, (k0_off70 v1749) a + S1x2x1152.size a ≤ S32x2x16384.size a := fun v1749 k0_hw35 => k0_hw35.2.2.2

def k0_mult36 (v1894 : BitVec 32) : BitVec 32 :=
  let c15232_i32_1325 : BitVec 32 := 15232#32
  let c0_i32_1324 : BitVec 32 := 0#32
  let c1023_i32_1321 : BitVec 32 := 1023#32
  let v1895 : BitVec 32 := Scalar.subi v1894 c1023_i32_1321
  let c7_i32_1322 : BitVec 32 := 7#32
  let v1896 : BitVec 32 := Scalar.shrsi v1895 c7_i32_1322
  let c7_i32_1323 : BitVec 32 := 7#32
  let v1897 : BitVec 32 := Scalar.shli v1896 c7_i32_1323
  let v1898 : BitVec 32 := Scalar.maxsi c0_i32_1324 v1897
  let v1899 : BitVec 32 := Scalar.minsi c15232_i32_1325 v1898
  v1899

def k0_off71 (v1894 : BitVec 32) : Fin 3 → Nat :=
  let c3_i32_1326 : BitVec 32 := 3#32
  let c0_i32_1331 : BitVec 32 := 0#32
  let c15232_i32_1325 : BitVec 32 := 15232#32
  let c0_i32_1324 : BitVec 32 := 0#32
  let c1023_i32_1321 : BitVec 32 := 1023#32
  let v1895 : BitVec 32 := Scalar.subi v1894 c1023_i32_1321
  let c7_i32_1322 : BitVec 32 := 7#32
  let v1896 : BitVec 32 := Scalar.shrsi v1895 c7_i32_1322
  let c7_i32_1323 : BitVec 32 := 7#32
  let v1897 : BitVec 32 := Scalar.shli v1896 c7_i32_1323
  let v1898 : BitVec 32 := Scalar.maxsi c0_i32_1324 v1897
  let v1899 : BitVec 32 := Scalar.minsi c15232_i32_1325 v1898
  let v1900 : BitVec 32 := v1899
  ![3, 0, v1900.toNat]
def k0_off72 (v1894 : BitVec 32) : Fin 3 → Nat :=
  let c3_i32_1332 : BitVec 32 := 3#32
  let c0_i32_1337 : BitVec 32 := 0#32
  let c15232_i32_1325 : BitVec 32 := 15232#32
  let c0_i32_1324 : BitVec 32 := 0#32
  let c1023_i32_1321 : BitVec 32 := 1023#32
  let v1895 : BitVec 32 := Scalar.subi v1894 c1023_i32_1321
  let c7_i32_1322 : BitVec 32 := 7#32
  let v1896 : BitVec 32 := Scalar.shrsi v1895 c7_i32_1322
  let c7_i32_1323 : BitVec 32 := 7#32
  let v1897 : BitVec 32 := Scalar.shli v1896 c7_i32_1323
  let v1898 : BitVec 32 := Scalar.maxsi c0_i32_1324 v1897
  let v1899 : BitVec 32 := Scalar.minsi c15232_i32_1325 v1898
  let v1900 : BitVec 32 := v1899
  ![3, 0, v1900.toNat]

def k0_chk36 (v1894 : BitVec 32) : Prop :=
  (128 ∣ (k0_mult36 v1894).toNat) ∧
  (∀ a, (k0_off71 v1894) a + S1x128x1152.size a ≤ S32x128x16384.size a) ∧
  (∀ (hinb : ∀ a, (k0_off71 v1894) a + S1x128x1152.size a ≤ S32x128x16384.size a), (Rect.unit (s := S32x128x16384) (k0_off71 v1894) S1x128x1152.size hinb).WholeWords (EltTy.packing .fp8e4m3)) ∧
  (∀ a, (k0_off72 v1894) a + S1x2x1152.size a ≤ S32x2x16384.size a)
theorem k0_mult36_dvd : ∀ (v1894 : BitVec 32) (k0_hw36 : k0_chk36 v1894), 128 ∣ (k0_mult36 v1894).toNat := fun v1894 k0_hw36 => k0_hw36.1
theorem k0_off71_inb : ∀ (v1894 : BitVec 32) (k0_hw36 : k0_chk36 v1894), ∀ a, (k0_off71 v1894) a + S1x128x1152.size a ≤ S32x128x16384.size a := fun v1894 k0_hw36 => k0_hw36.2.1
theorem k0_off71_wordsfp8e4m3 : ∀ (v1894 : BitVec 32) (k0_hw36 : k0_chk36 v1894), (Rect.unit (s := S32x128x16384) (k0_off71 v1894) S1x128x1152.size (k0_off71_inb v1894 k0_hw36)).WholeWords (EltTy.packing .fp8e4m3) := fun v1894 k0_hw36 => k0_hw36.2.2.1 (k0_off71_inb v1894 k0_hw36)
theorem k0_off72_inb : ∀ (v1894 : BitVec 32) (k0_hw36 : k0_chk36 v1894), ∀ a, (k0_off72 v1894) a + S1x2x1152.size a ≤ S32x2x16384.size a := fun v1894 k0_hw36 => k0_hw36.2.2.2

def k0_mult37 (v2039 : BitVec 32) : BitVec 32 :=
  let c15232_i32_1413 : BitVec 32 := 15232#32
  let c0_i32_1412 : BitVec 32 := 0#32
  let c1023_i32_1409 : BitVec 32 := 1023#32
  let v2040 : BitVec 32 := Scalar.subi v2039 c1023_i32_1409
  let c7_i32_1410 : BitVec 32 := 7#32
  let v2041 : BitVec 32 := Scalar.shrsi v2040 c7_i32_1410
  let c7_i32_1411 : BitVec 32 := 7#32
  let v2042 : BitVec 32 := Scalar.shli v2041 c7_i32_1411
  let v2043 : BitVec 32 := Scalar.maxsi c0_i32_1412 v2042
  let v2044 : BitVec 32 := Scalar.minsi c15232_i32_1413 v2043
  v2044

def k0_off73 (v2039 : BitVec 32) : Fin 3 → Nat :=
  let c4_i32_1414 : BitVec 32 := 4#32
  let c0_i32_1419 : BitVec 32 := 0#32
  let c15232_i32_1413 : BitVec 32 := 15232#32
  let c0_i32_1412 : BitVec 32 := 0#32
  let c1023_i32_1409 : BitVec 32 := 1023#32
  let v2040 : BitVec 32 := Scalar.subi v2039 c1023_i32_1409
  let c7_i32_1410 : BitVec 32 := 7#32
  let v2041 : BitVec 32 := Scalar.shrsi v2040 c7_i32_1410
  let c7_i32_1411 : BitVec 32 := 7#32
  let v2042 : BitVec 32 := Scalar.shli v2041 c7_i32_1411
  let v2043 : BitVec 32 := Scalar.maxsi c0_i32_1412 v2042
  let v2044 : BitVec 32 := Scalar.minsi c15232_i32_1413 v2043
  let v2045 : BitVec 32 := v2044
  ![4, 0, v2045.toNat]
def k0_off74 (v2039 : BitVec 32) : Fin 3 → Nat :=
  let c4_i32_1420 : BitVec 32 := 4#32
  let c0_i32_1425 : BitVec 32 := 0#32
  let c15232_i32_1413 : BitVec 32 := 15232#32
  let c0_i32_1412 : BitVec 32 := 0#32
  let c1023_i32_1409 : BitVec 32 := 1023#32
  let v2040 : BitVec 32 := Scalar.subi v2039 c1023_i32_1409
  let c7_i32_1410 : BitVec 32 := 7#32
  let v2041 : BitVec 32 := Scalar.shrsi v2040 c7_i32_1410
  let c7_i32_1411 : BitVec 32 := 7#32
  let v2042 : BitVec 32 := Scalar.shli v2041 c7_i32_1411
  let v2043 : BitVec 32 := Scalar.maxsi c0_i32_1412 v2042
  let v2044 : BitVec 32 := Scalar.minsi c15232_i32_1413 v2043
  let v2045 : BitVec 32 := v2044
  ![4, 0, v2045.toNat]

def k0_chk37 (v2039 : BitVec 32) : Prop :=
  (128 ∣ (k0_mult37 v2039).toNat) ∧
  (∀ a, (k0_off73 v2039) a + S1x128x1152.size a ≤ S32x128x16384.size a) ∧
  (∀ (hinb : ∀ a, (k0_off73 v2039) a + S1x128x1152.size a ≤ S32x128x16384.size a), (Rect.unit (s := S32x128x16384) (k0_off73 v2039) S1x128x1152.size hinb).WholeWords (EltTy.packing .fp8e4m3)) ∧
  (∀ a, (k0_off74 v2039) a + S1x2x1152.size a ≤ S32x2x16384.size a)
theorem k0_mult37_dvd : ∀ (v2039 : BitVec 32) (k0_hw37 : k0_chk37 v2039), 128 ∣ (k0_mult37 v2039).toNat := fun v2039 k0_hw37 => k0_hw37.1
theorem k0_off73_inb : ∀ (v2039 : BitVec 32) (k0_hw37 : k0_chk37 v2039), ∀ a, (k0_off73 v2039) a + S1x128x1152.size a ≤ S32x128x16384.size a := fun v2039 k0_hw37 => k0_hw37.2.1
theorem k0_off73_wordsfp8e4m3 : ∀ (v2039 : BitVec 32) (k0_hw37 : k0_chk37 v2039), (Rect.unit (s := S32x128x16384) (k0_off73 v2039) S1x128x1152.size (k0_off73_inb v2039 k0_hw37)).WholeWords (EltTy.packing .fp8e4m3) := fun v2039 k0_hw37 => k0_hw37.2.2.1 (k0_off73_inb v2039 k0_hw37)
theorem k0_off74_inb : ∀ (v2039 : BitVec 32) (k0_hw37 : k0_chk37 v2039), ∀ a, (k0_off74 v2039) a + S1x2x1152.size a ≤ S32x2x16384.size a := fun v2039 k0_hw37 => k0_hw37.2.2.2

def k0_mult38 (v2184 : BitVec 32) : BitVec 32 :=
  let c15232_i32_1501 : BitVec 32 := 15232#32
  let c0_i32_1500 : BitVec 32 := 0#32
  let c1023_i32_1497 : BitVec 32 := 1023#32
  let v2185 : BitVec 32 := Scalar.subi v2184 c1023_i32_1497
  let c7_i32_1498 : BitVec 32 := 7#32
  let v2186 : BitVec 32 := Scalar.shrsi v2185 c7_i32_1498
  let c7_i32_1499 : BitVec 32 := 7#32
  let v2187 : BitVec 32 := Scalar.shli v2186 c7_i32_1499
  let v2188 : BitVec 32 := Scalar.maxsi c0_i32_1500 v2187
  let v2189 : BitVec 32 := Scalar.minsi c15232_i32_1501 v2188
  v2189

def k0_off75 (v2184 : BitVec 32) : Fin 3 → Nat :=
  let c5_i32_1502 : BitVec 32 := 5#32
  let c0_i32_1507 : BitVec 32 := 0#32
  let c15232_i32_1501 : BitVec 32 := 15232#32
  let c0_i32_1500 : BitVec 32 := 0#32
  let c1023_i32_1497 : BitVec 32 := 1023#32
  let v2185 : BitVec 32 := Scalar.subi v2184 c1023_i32_1497
  let c7_i32_1498 : BitVec 32 := 7#32
  let v2186 : BitVec 32 := Scalar.shrsi v2185 c7_i32_1498
  let c7_i32_1499 : BitVec 32 := 7#32
  let v2187 : BitVec 32 := Scalar.shli v2186 c7_i32_1499
  let v2188 : BitVec 32 := Scalar.maxsi c0_i32_1500 v2187
  let v2189 : BitVec 32 := Scalar.minsi c15232_i32_1501 v2188
  let v2190 : BitVec 32 := v2189
  ![5, 0, v2190.toNat]
def k0_off76 (v2184 : BitVec 32) : Fin 3 → Nat :=
  let c5_i32_1508 : BitVec 32 := 5#32
  let c0_i32_1513 : BitVec 32 := 0#32
  let c15232_i32_1501 : BitVec 32 := 15232#32
  let c0_i32_1500 : BitVec 32 := 0#32
  let c1023_i32_1497 : BitVec 32 := 1023#32
  let v2185 : BitVec 32 := Scalar.subi v2184 c1023_i32_1497
  let c7_i32_1498 : BitVec 32 := 7#32
  let v2186 : BitVec 32 := Scalar.shrsi v2185 c7_i32_1498
  let c7_i32_1499 : BitVec 32 := 7#32
  let v2187 : BitVec 32 := Scalar.shli v2186 c7_i32_1499
  let v2188 : BitVec 32 := Scalar.maxsi c0_i32_1500 v2187
  let v2189 : BitVec 32 := Scalar.minsi c15232_i32_1501 v2188
  let v2190 : BitVec 32 := v2189
  ![5, 0, v2190.toNat]

def k0_chk38 (v2184 : BitVec 32) : Prop :=
  (128 ∣ (k0_mult38 v2184).toNat) ∧
  (∀ a, (k0_off75 v2184) a + S1x128x1152.size a ≤ S32x128x16384.size a) ∧
  (∀ (hinb : ∀ a, (k0_off75 v2184) a + S1x128x1152.size a ≤ S32x128x16384.size a), (Rect.unit (s := S32x128x16384) (k0_off75 v2184) S1x128x1152.size hinb).WholeWords (EltTy.packing .fp8e4m3)) ∧
  (∀ a, (k0_off76 v2184) a + S1x2x1152.size a ≤ S32x2x16384.size a)
theorem k0_mult38_dvd : ∀ (v2184 : BitVec 32) (k0_hw38 : k0_chk38 v2184), 128 ∣ (k0_mult38 v2184).toNat := fun v2184 k0_hw38 => k0_hw38.1
theorem k0_off75_inb : ∀ (v2184 : BitVec 32) (k0_hw38 : k0_chk38 v2184), ∀ a, (k0_off75 v2184) a + S1x128x1152.size a ≤ S32x128x16384.size a := fun v2184 k0_hw38 => k0_hw38.2.1
theorem k0_off75_wordsfp8e4m3 : ∀ (v2184 : BitVec 32) (k0_hw38 : k0_chk38 v2184), (Rect.unit (s := S32x128x16384) (k0_off75 v2184) S1x128x1152.size (k0_off75_inb v2184 k0_hw38)).WholeWords (EltTy.packing .fp8e4m3) := fun v2184 k0_hw38 => k0_hw38.2.2.1 (k0_off75_inb v2184 k0_hw38)
theorem k0_off76_inb : ∀ (v2184 : BitVec 32) (k0_hw38 : k0_chk38 v2184), ∀ a, (k0_off76 v2184) a + S1x2x1152.size a ≤ S32x2x16384.size a := fun v2184 k0_hw38 => k0_hw38.2.2.2

def k0_mult39 (v2329 : BitVec 32) : BitVec 32 :=
  let c15232_i32_1589 : BitVec 32 := 15232#32
  let c0_i32_1588 : BitVec 32 := 0#32
  let c1023_i32_1585 : BitVec 32 := 1023#32
  let v2330 : BitVec 32 := Scalar.subi v2329 c1023_i32_1585
  let c7_i32_1586 : BitVec 32 := 7#32
  let v2331 : BitVec 32 := Scalar.shrsi v2330 c7_i32_1586
  let c7_i32_1587 : BitVec 32 := 7#32
  let v2332 : BitVec 32 := Scalar.shli v2331 c7_i32_1587
  let v2333 : BitVec 32 := Scalar.maxsi c0_i32_1588 v2332
  let v2334 : BitVec 32 := Scalar.minsi c15232_i32_1589 v2333
  v2334

def k0_off77 (v2329 : BitVec 32) : Fin 3 → Nat :=
  let c6_i32_1590 : BitVec 32 := 6#32
  let c0_i32_1595 : BitVec 32 := 0#32
  let c15232_i32_1589 : BitVec 32 := 15232#32
  let c0_i32_1588 : BitVec 32 := 0#32
  let c1023_i32_1585 : BitVec 32 := 1023#32
  let v2330 : BitVec 32 := Scalar.subi v2329 c1023_i32_1585
  let c7_i32_1586 : BitVec 32 := 7#32
  let v2331 : BitVec 32 := Scalar.shrsi v2330 c7_i32_1586
  let c7_i32_1587 : BitVec 32 := 7#32
  let v2332 : BitVec 32 := Scalar.shli v2331 c7_i32_1587
  let v2333 : BitVec 32 := Scalar.maxsi c0_i32_1588 v2332
  let v2334 : BitVec 32 := Scalar.minsi c15232_i32_1589 v2333
  let v2335 : BitVec 32 := v2334
  ![6, 0, v2335.toNat]
def k0_off78 (v2329 : BitVec 32) : Fin 3 → Nat :=
  let c6_i32_1596 : BitVec 32 := 6#32
  let c0_i32_1601 : BitVec 32 := 0#32
  let c15232_i32_1589 : BitVec 32 := 15232#32
  let c0_i32_1588 : BitVec 32 := 0#32
  let c1023_i32_1585 : BitVec 32 := 1023#32
  let v2330 : BitVec 32 := Scalar.subi v2329 c1023_i32_1585
  let c7_i32_1586 : BitVec 32 := 7#32
  let v2331 : BitVec 32 := Scalar.shrsi v2330 c7_i32_1586
  let c7_i32_1587 : BitVec 32 := 7#32
  let v2332 : BitVec 32 := Scalar.shli v2331 c7_i32_1587
  let v2333 : BitVec 32 := Scalar.maxsi c0_i32_1588 v2332
  let v2334 : BitVec 32 := Scalar.minsi c15232_i32_1589 v2333
  let v2335 : BitVec 32 := v2334
  ![6, 0, v2335.toNat]

def k0_chk39 (v2329 : BitVec 32) : Prop :=
  (128 ∣ (k0_mult39 v2329).toNat) ∧
  (∀ a, (k0_off77 v2329) a + S1x128x1152.size a ≤ S32x128x16384.size a) ∧
  (∀ (hinb : ∀ a, (k0_off77 v2329) a + S1x128x1152.size a ≤ S32x128x16384.size a), (Rect.unit (s := S32x128x16384) (k0_off77 v2329) S1x128x1152.size hinb).WholeWords (EltTy.packing .fp8e4m3)) ∧
  (∀ a, (k0_off78 v2329) a + S1x2x1152.size a ≤ S32x2x16384.size a)
theorem k0_mult39_dvd : ∀ (v2329 : BitVec 32) (k0_hw39 : k0_chk39 v2329), 128 ∣ (k0_mult39 v2329).toNat := fun v2329 k0_hw39 => k0_hw39.1
theorem k0_off77_inb : ∀ (v2329 : BitVec 32) (k0_hw39 : k0_chk39 v2329), ∀ a, (k0_off77 v2329) a + S1x128x1152.size a ≤ S32x128x16384.size a := fun v2329 k0_hw39 => k0_hw39.2.1
theorem k0_off77_wordsfp8e4m3 : ∀ (v2329 : BitVec 32) (k0_hw39 : k0_chk39 v2329), (Rect.unit (s := S32x128x16384) (k0_off77 v2329) S1x128x1152.size (k0_off77_inb v2329 k0_hw39)).WholeWords (EltTy.packing .fp8e4m3) := fun v2329 k0_hw39 => k0_hw39.2.2.1 (k0_off77_inb v2329 k0_hw39)
theorem k0_off78_inb : ∀ (v2329 : BitVec 32) (k0_hw39 : k0_chk39 v2329), ∀ a, (k0_off78 v2329) a + S1x2x1152.size a ≤ S32x2x16384.size a := fun v2329 k0_hw39 => k0_hw39.2.2.2

def k0_mult40 (v2474 : BitVec 32) : BitVec 32 :=
  let c15232_i32_1677 : BitVec 32 := 15232#32
  let c0_i32_1676 : BitVec 32 := 0#32
  let c1023_i32_1673 : BitVec 32 := 1023#32
  let v2475 : BitVec 32 := Scalar.subi v2474 c1023_i32_1673
  let c7_i32_1674 : BitVec 32 := 7#32
  let v2476 : BitVec 32 := Scalar.shrsi v2475 c7_i32_1674
  let c7_i32_1675 : BitVec 32 := 7#32
  let v2477 : BitVec 32 := Scalar.shli v2476 c7_i32_1675
  let v2478 : BitVec 32 := Scalar.maxsi c0_i32_1676 v2477
  let v2479 : BitVec 32 := Scalar.minsi c15232_i32_1677 v2478
  v2479

def k0_off79 (v2474 : BitVec 32) : Fin 3 → Nat :=
  let c7_i32_1678 : BitVec 32 := 7#32
  let c0_i32_1683 : BitVec 32 := 0#32
  let c15232_i32_1677 : BitVec 32 := 15232#32
  let c0_i32_1676 : BitVec 32 := 0#32
  let c1023_i32_1673 : BitVec 32 := 1023#32
  let v2475 : BitVec 32 := Scalar.subi v2474 c1023_i32_1673
  let c7_i32_1674 : BitVec 32 := 7#32
  let v2476 : BitVec 32 := Scalar.shrsi v2475 c7_i32_1674
  let c7_i32_1675 : BitVec 32 := 7#32
  let v2477 : BitVec 32 := Scalar.shli v2476 c7_i32_1675
  let v2478 : BitVec 32 := Scalar.maxsi c0_i32_1676 v2477
  let v2479 : BitVec 32 := Scalar.minsi c15232_i32_1677 v2478
  let v2480 : BitVec 32 := v2479
  ![7, 0, v2480.toNat]
def k0_off80 (v2474 : BitVec 32) : Fin 3 → Nat :=
  let c7_i32_1684 : BitVec 32 := 7#32
  let c0_i32_1689 : BitVec 32 := 0#32
  let c15232_i32_1677 : BitVec 32 := 15232#32
  let c0_i32_1676 : BitVec 32 := 0#32
  let c1023_i32_1673 : BitVec 32 := 1023#32
  let v2475 : BitVec 32 := Scalar.subi v2474 c1023_i32_1673
  let c7_i32_1674 : BitVec 32 := 7#32
  let v2476 : BitVec 32 := Scalar.shrsi v2475 c7_i32_1674
  let c7_i32_1675 : BitVec 32 := 7#32
  let v2477 : BitVec 32 := Scalar.shli v2476 c7_i32_1675
  let v2478 : BitVec 32 := Scalar.maxsi c0_i32_1676 v2477
  let v2479 : BitVec 32 := Scalar.minsi c15232_i32_1677 v2478
  let v2480 : BitVec 32 := v2479
  ![7, 0, v2480.toNat]

def k0_chk40 (v2474 : BitVec 32) : Prop :=
  (128 ∣ (k0_mult40 v2474).toNat) ∧
  (∀ a, (k0_off79 v2474) a + S1x128x1152.size a ≤ S32x128x16384.size a) ∧
  (∀ (hinb : ∀ a, (k0_off79 v2474) a + S1x128x1152.size a ≤ S32x128x16384.size a), (Rect.unit (s := S32x128x16384) (k0_off79 v2474) S1x128x1152.size hinb).WholeWords (EltTy.packing .fp8e4m3)) ∧
  (∀ a, (k0_off80 v2474) a + S1x2x1152.size a ≤ S32x2x16384.size a)
theorem k0_mult40_dvd : ∀ (v2474 : BitVec 32) (k0_hw40 : k0_chk40 v2474), 128 ∣ (k0_mult40 v2474).toNat := fun v2474 k0_hw40 => k0_hw40.1
theorem k0_off79_inb : ∀ (v2474 : BitVec 32) (k0_hw40 : k0_chk40 v2474), ∀ a, (k0_off79 v2474) a + S1x128x1152.size a ≤ S32x128x16384.size a := fun v2474 k0_hw40 => k0_hw40.2.1
theorem k0_off79_wordsfp8e4m3 : ∀ (v2474 : BitVec 32) (k0_hw40 : k0_chk40 v2474), (Rect.unit (s := S32x128x16384) (k0_off79 v2474) S1x128x1152.size (k0_off79_inb v2474 k0_hw40)).WholeWords (EltTy.packing .fp8e4m3) := fun v2474 k0_hw40 => k0_hw40.2.2.1 (k0_off79_inb v2474 k0_hw40)
theorem k0_off80_inb : ∀ (v2474 : BitVec 32) (k0_hw40 : k0_chk40 v2474), ∀ a, (k0_off80 v2474) a + S1x2x1152.size a ≤ S32x2x16384.size a := fun v2474 k0_hw40 => k0_hw40.2.2.2

def k0_mult41 (v2619 : BitVec 32) : BitVec 32 :=
  let c15232_i32_1765 : BitVec 32 := 15232#32
  let c0_i32_1764 : BitVec 32 := 0#32
  let c1023_i32_1761 : BitVec 32 := 1023#32
  let v2620 : BitVec 32 := Scalar.subi v2619 c1023_i32_1761
  let c7_i32_1762 : BitVec 32 := 7#32
  let v2621 : BitVec 32 := Scalar.shrsi v2620 c7_i32_1762
  let c7_i32_1763 : BitVec 32 := 7#32
  let v2622 : BitVec 32 := Scalar.shli v2621 c7_i32_1763
  let v2623 : BitVec 32 := Scalar.maxsi c0_i32_1764 v2622
  let v2624 : BitVec 32 := Scalar.minsi c15232_i32_1765 v2623
  v2624

def k0_off81 (v2619 : BitVec 32) : Fin 3 → Nat :=
  let c8_i32_1766 : BitVec 32 := 8#32
  let c0_i32_1771 : BitVec 32 := 0#32
  let c15232_i32_1765 : BitVec 32 := 15232#32
  let c0_i32_1764 : BitVec 32 := 0#32
  let c1023_i32_1761 : BitVec 32 := 1023#32
  let v2620 : BitVec 32 := Scalar.subi v2619 c1023_i32_1761
  let c7_i32_1762 : BitVec 32 := 7#32
  let v2621 : BitVec 32 := Scalar.shrsi v2620 c7_i32_1762
  let c7_i32_1763 : BitVec 32 := 7#32
  let v2622 : BitVec 32 := Scalar.shli v2621 c7_i32_1763
  let v2623 : BitVec 32 := Scalar.maxsi c0_i32_1764 v2622
  let v2624 : BitVec 32 := Scalar.minsi c15232_i32_1765 v2623
  let v2625 : BitVec 32 := v2624
  ![8, 0, v2625.toNat]
def k0_off82 (v2619 : BitVec 32) : Fin 3 → Nat :=
  let c8_i32_1772 : BitVec 32 := 8#32
  let c0_i32_1777 : BitVec 32 := 0#32
  let c15232_i32_1765 : BitVec 32 := 15232#32
  let c0_i32_1764 : BitVec 32 := 0#32
  let c1023_i32_1761 : BitVec 32 := 1023#32
  let v2620 : BitVec 32 := Scalar.subi v2619 c1023_i32_1761
  let c7_i32_1762 : BitVec 32 := 7#32
  let v2621 : BitVec 32 := Scalar.shrsi v2620 c7_i32_1762
  let c7_i32_1763 : BitVec 32 := 7#32
  let v2622 : BitVec 32 := Scalar.shli v2621 c7_i32_1763
  let v2623 : BitVec 32 := Scalar.maxsi c0_i32_1764 v2622
  let v2624 : BitVec 32 := Scalar.minsi c15232_i32_1765 v2623
  let v2625 : BitVec 32 := v2624
  ![8, 0, v2625.toNat]

def k0_chk41 (v2619 : BitVec 32) : Prop :=
  (128 ∣ (k0_mult41 v2619).toNat) ∧
  (∀ a, (k0_off81 v2619) a + S1x128x1152.size a ≤ S32x128x16384.size a) ∧
  (∀ (hinb : ∀ a, (k0_off81 v2619) a + S1x128x1152.size a ≤ S32x128x16384.size a), (Rect.unit (s := S32x128x16384) (k0_off81 v2619) S1x128x1152.size hinb).WholeWords (EltTy.packing .fp8e4m3)) ∧
  (∀ a, (k0_off82 v2619) a + S1x2x1152.size a ≤ S32x2x16384.size a)
theorem k0_mult41_dvd : ∀ (v2619 : BitVec 32) (k0_hw41 : k0_chk41 v2619), 128 ∣ (k0_mult41 v2619).toNat := fun v2619 k0_hw41 => k0_hw41.1
theorem k0_off81_inb : ∀ (v2619 : BitVec 32) (k0_hw41 : k0_chk41 v2619), ∀ a, (k0_off81 v2619) a + S1x128x1152.size a ≤ S32x128x16384.size a := fun v2619 k0_hw41 => k0_hw41.2.1
theorem k0_off81_wordsfp8e4m3 : ∀ (v2619 : BitVec 32) (k0_hw41 : k0_chk41 v2619), (Rect.unit (s := S32x128x16384) (k0_off81 v2619) S1x128x1152.size (k0_off81_inb v2619 k0_hw41)).WholeWords (EltTy.packing .fp8e4m3) := fun v2619 k0_hw41 => k0_hw41.2.2.1 (k0_off81_inb v2619 k0_hw41)
theorem k0_off82_inb : ∀ (v2619 : BitVec 32) (k0_hw41 : k0_chk41 v2619), ∀ a, (k0_off82 v2619) a + S1x2x1152.size a ≤ S32x2x16384.size a := fun v2619 k0_hw41 => k0_hw41.2.2.2

def k0_mult42 (v2764 : BitVec 32) : BitVec 32 :=
  let c15232_i32_1853 : BitVec 32 := 15232#32
  let c0_i32_1852 : BitVec 32 := 0#32
  let c1023_i32_1849 : BitVec 32 := 1023#32
  let v2765 : BitVec 32 := Scalar.subi v2764 c1023_i32_1849
  let c7_i32_1850 : BitVec 32 := 7#32
  let v2766 : BitVec 32 := Scalar.shrsi v2765 c7_i32_1850
  let c7_i32_1851 : BitVec 32 := 7#32
  let v2767 : BitVec 32 := Scalar.shli v2766 c7_i32_1851
  let v2768 : BitVec 32 := Scalar.maxsi c0_i32_1852 v2767
  let v2769 : BitVec 32 := Scalar.minsi c15232_i32_1853 v2768
  v2769

def k0_off83 (v2764 : BitVec 32) : Fin 3 → Nat :=
  let c9_i32_1854 : BitVec 32 := 9#32
  let c0_i32_1859 : BitVec 32 := 0#32
  let c15232_i32_1853 : BitVec 32 := 15232#32
  let c0_i32_1852 : BitVec 32 := 0#32
  let c1023_i32_1849 : BitVec 32 := 1023#32
  let v2765 : BitVec 32 := Scalar.subi v2764 c1023_i32_1849
  let c7_i32_1850 : BitVec 32 := 7#32
  let v2766 : BitVec 32 := Scalar.shrsi v2765 c7_i32_1850
  let c7_i32_1851 : BitVec 32 := 7#32
  let v2767 : BitVec 32 := Scalar.shli v2766 c7_i32_1851
  let v2768 : BitVec 32 := Scalar.maxsi c0_i32_1852 v2767
  let v2769 : BitVec 32 := Scalar.minsi c15232_i32_1853 v2768
  let v2770 : BitVec 32 := v2769
  ![9, 0, v2770.toNat]
def k0_off84 (v2764 : BitVec 32) : Fin 3 → Nat :=
  let c9_i32_1860 : BitVec 32 := 9#32
  let c0_i32_1865 : BitVec 32 := 0#32
  let c15232_i32_1853 : BitVec 32 := 15232#32
  let c0_i32_1852 : BitVec 32 := 0#32
  let c1023_i32_1849 : BitVec 32 := 1023#32
  let v2765 : BitVec 32 := Scalar.subi v2764 c1023_i32_1849
  let c7_i32_1850 : BitVec 32 := 7#32
  let v2766 : BitVec 32 := Scalar.shrsi v2765 c7_i32_1850
  let c7_i32_1851 : BitVec 32 := 7#32
  let v2767 : BitVec 32 := Scalar.shli v2766 c7_i32_1851
  let v2768 : BitVec 32 := Scalar.maxsi c0_i32_1852 v2767
  let v2769 : BitVec 32 := Scalar.minsi c15232_i32_1853 v2768
  let v2770 : BitVec 32 := v2769
  ![9, 0, v2770.toNat]

def k0_chk42 (v2764 : BitVec 32) : Prop :=
  (128 ∣ (k0_mult42 v2764).toNat) ∧
  (∀ a, (k0_off83 v2764) a + S1x128x1152.size a ≤ S32x128x16384.size a) ∧
  (∀ (hinb : ∀ a, (k0_off83 v2764) a + S1x128x1152.size a ≤ S32x128x16384.size a), (Rect.unit (s := S32x128x16384) (k0_off83 v2764) S1x128x1152.size hinb).WholeWords (EltTy.packing .fp8e4m3)) ∧
  (∀ a, (k0_off84 v2764) a + S1x2x1152.size a ≤ S32x2x16384.size a)
theorem k0_mult42_dvd : ∀ (v2764 : BitVec 32) (k0_hw42 : k0_chk42 v2764), 128 ∣ (k0_mult42 v2764).toNat := fun v2764 k0_hw42 => k0_hw42.1
theorem k0_off83_inb : ∀ (v2764 : BitVec 32) (k0_hw42 : k0_chk42 v2764), ∀ a, (k0_off83 v2764) a + S1x128x1152.size a ≤ S32x128x16384.size a := fun v2764 k0_hw42 => k0_hw42.2.1
theorem k0_off83_wordsfp8e4m3 : ∀ (v2764 : BitVec 32) (k0_hw42 : k0_chk42 v2764), (Rect.unit (s := S32x128x16384) (k0_off83 v2764) S1x128x1152.size (k0_off83_inb v2764 k0_hw42)).WholeWords (EltTy.packing .fp8e4m3) := fun v2764 k0_hw42 => k0_hw42.2.2.1 (k0_off83_inb v2764 k0_hw42)
theorem k0_off84_inb : ∀ (v2764 : BitVec 32) (k0_hw42 : k0_chk42 v2764), ∀ a, (k0_off84 v2764) a + S1x2x1152.size a ≤ S32x2x16384.size a := fun v2764 k0_hw42 => k0_hw42.2.2.2

def k0_mult43 (v2909 : BitVec 32) : BitVec 32 :=
  let c15232_i32_1941 : BitVec 32 := 15232#32
  let c0_i32_1940 : BitVec 32 := 0#32
  let c1023_i32_1937 : BitVec 32 := 1023#32
  let v2910 : BitVec 32 := Scalar.subi v2909 c1023_i32_1937
  let c7_i32_1938 : BitVec 32 := 7#32
  let v2911 : BitVec 32 := Scalar.shrsi v2910 c7_i32_1938
  let c7_i32_1939 : BitVec 32 := 7#32
  let v2912 : BitVec 32 := Scalar.shli v2911 c7_i32_1939
  let v2913 : BitVec 32 := Scalar.maxsi c0_i32_1940 v2912
  let v2914 : BitVec 32 := Scalar.minsi c15232_i32_1941 v2913
  v2914

def k0_off85 (v2909 : BitVec 32) : Fin 3 → Nat :=
  let c10_i32_1942 : BitVec 32 := 10#32
  let c0_i32_1947 : BitVec 32 := 0#32
  let c15232_i32_1941 : BitVec 32 := 15232#32
  let c0_i32_1940 : BitVec 32 := 0#32
  let c1023_i32_1937 : BitVec 32 := 1023#32
  let v2910 : BitVec 32 := Scalar.subi v2909 c1023_i32_1937
  let c7_i32_1938 : BitVec 32 := 7#32
  let v2911 : BitVec 32 := Scalar.shrsi v2910 c7_i32_1938
  let c7_i32_1939 : BitVec 32 := 7#32
  let v2912 : BitVec 32 := Scalar.shli v2911 c7_i32_1939
  let v2913 : BitVec 32 := Scalar.maxsi c0_i32_1940 v2912
  let v2914 : BitVec 32 := Scalar.minsi c15232_i32_1941 v2913
  let v2915 : BitVec 32 := v2914
  ![10, 0, v2915.toNat]
def k0_off86 (v2909 : BitVec 32) : Fin 3 → Nat :=
  let c10_i32_1948 : BitVec 32 := 10#32
  let c0_i32_1953 : BitVec 32 := 0#32
  let c15232_i32_1941 : BitVec 32 := 15232#32
  let c0_i32_1940 : BitVec 32 := 0#32
  let c1023_i32_1937 : BitVec 32 := 1023#32
  let v2910 : BitVec 32 := Scalar.subi v2909 c1023_i32_1937
  let c7_i32_1938 : BitVec 32 := 7#32
  let v2911 : BitVec 32 := Scalar.shrsi v2910 c7_i32_1938
  let c7_i32_1939 : BitVec 32 := 7#32
  let v2912 : BitVec 32 := Scalar.shli v2911 c7_i32_1939
  let v2913 : BitVec 32 := Scalar.maxsi c0_i32_1940 v2912
  let v2914 : BitVec 32 := Scalar.minsi c15232_i32_1941 v2913
  let v2915 : BitVec 32 := v2914
  ![10, 0, v2915.toNat]

def k0_chk43 (v2909 : BitVec 32) : Prop :=
  (128 ∣ (k0_mult43 v2909).toNat) ∧
  (∀ a, (k0_off85 v2909) a + S1x128x1152.size a ≤ S32x128x16384.size a) ∧
  (∀ (hinb : ∀ a, (k0_off85 v2909) a + S1x128x1152.size a ≤ S32x128x16384.size a), (Rect.unit (s := S32x128x16384) (k0_off85 v2909) S1x128x1152.size hinb).WholeWords (EltTy.packing .fp8e4m3)) ∧
  (∀ a, (k0_off86 v2909) a + S1x2x1152.size a ≤ S32x2x16384.size a)
theorem k0_mult43_dvd : ∀ (v2909 : BitVec 32) (k0_hw43 : k0_chk43 v2909), 128 ∣ (k0_mult43 v2909).toNat := fun v2909 k0_hw43 => k0_hw43.1
theorem k0_off85_inb : ∀ (v2909 : BitVec 32) (k0_hw43 : k0_chk43 v2909), ∀ a, (k0_off85 v2909) a + S1x128x1152.size a ≤ S32x128x16384.size a := fun v2909 k0_hw43 => k0_hw43.2.1
theorem k0_off85_wordsfp8e4m3 : ∀ (v2909 : BitVec 32) (k0_hw43 : k0_chk43 v2909), (Rect.unit (s := S32x128x16384) (k0_off85 v2909) S1x128x1152.size (k0_off85_inb v2909 k0_hw43)).WholeWords (EltTy.packing .fp8e4m3) := fun v2909 k0_hw43 => k0_hw43.2.2.1 (k0_off85_inb v2909 k0_hw43)
theorem k0_off86_inb : ∀ (v2909 : BitVec 32) (k0_hw43 : k0_chk43 v2909), ∀ a, (k0_off86 v2909) a + S1x2x1152.size a ≤ S32x2x16384.size a := fun v2909 k0_hw43 => k0_hw43.2.2.2

def k0_mult44 (v3054 : BitVec 32) : BitVec 32 :=
  let c15232_i32_2029 : BitVec 32 := 15232#32
  let c0_i32_2028 : BitVec 32 := 0#32
  let c1023_i32_2025 : BitVec 32 := 1023#32
  let v3055 : BitVec 32 := Scalar.subi v3054 c1023_i32_2025
  let c7_i32_2026 : BitVec 32 := 7#32
  let v3056 : BitVec 32 := Scalar.shrsi v3055 c7_i32_2026
  let c7_i32_2027 : BitVec 32 := 7#32
  let v3057 : BitVec 32 := Scalar.shli v3056 c7_i32_2027
  let v3058 : BitVec 32 := Scalar.maxsi c0_i32_2028 v3057
  let v3059 : BitVec 32 := Scalar.minsi c15232_i32_2029 v3058
  v3059

def k0_off87 (v3054 : BitVec 32) : Fin 3 → Nat :=
  let c11_i32_2030 : BitVec 32 := 11#32
  let c0_i32_2035 : BitVec 32 := 0#32
  let c15232_i32_2029 : BitVec 32 := 15232#32
  let c0_i32_2028 : BitVec 32 := 0#32
  let c1023_i32_2025 : BitVec 32 := 1023#32
  let v3055 : BitVec 32 := Scalar.subi v3054 c1023_i32_2025
  let c7_i32_2026 : BitVec 32 := 7#32
  let v3056 : BitVec 32 := Scalar.shrsi v3055 c7_i32_2026
  let c7_i32_2027 : BitVec 32 := 7#32
  let v3057 : BitVec 32 := Scalar.shli v3056 c7_i32_2027
  let v3058 : BitVec 32 := Scalar.maxsi c0_i32_2028 v3057
  let v3059 : BitVec 32 := Scalar.minsi c15232_i32_2029 v3058
  let v3060 : BitVec 32 := v3059
  ![11, 0, v3060.toNat]
def k0_off88 (v3054 : BitVec 32) : Fin 3 → Nat :=
  let c11_i32_2036 : BitVec 32 := 11#32
  let c0_i32_2041 : BitVec 32 := 0#32
  let c15232_i32_2029 : BitVec 32 := 15232#32
  let c0_i32_2028 : BitVec 32 := 0#32
  let c1023_i32_2025 : BitVec 32 := 1023#32
  let v3055 : BitVec 32 := Scalar.subi v3054 c1023_i32_2025
  let c7_i32_2026 : BitVec 32 := 7#32
  let v3056 : BitVec 32 := Scalar.shrsi v3055 c7_i32_2026
  let c7_i32_2027 : BitVec 32 := 7#32
  let v3057 : BitVec 32 := Scalar.shli v3056 c7_i32_2027
  let v3058 : BitVec 32 := Scalar.maxsi c0_i32_2028 v3057
  let v3059 : BitVec 32 := Scalar.minsi c15232_i32_2029 v3058
  let v3060 : BitVec 32 := v3059
  ![11, 0, v3060.toNat]

def k0_chk44 (v3054 : BitVec 32) : Prop :=
  (128 ∣ (k0_mult44 v3054).toNat) ∧
  (∀ a, (k0_off87 v3054) a + S1x128x1152.size a ≤ S32x128x16384.size a) ∧
  (∀ (hinb : ∀ a, (k0_off87 v3054) a + S1x128x1152.size a ≤ S32x128x16384.size a), (Rect.unit (s := S32x128x16384) (k0_off87 v3054) S1x128x1152.size hinb).WholeWords (EltTy.packing .fp8e4m3)) ∧
  (∀ a, (k0_off88 v3054) a + S1x2x1152.size a ≤ S32x2x16384.size a)
theorem k0_mult44_dvd : ∀ (v3054 : BitVec 32) (k0_hw44 : k0_chk44 v3054), 128 ∣ (k0_mult44 v3054).toNat := fun v3054 k0_hw44 => k0_hw44.1
theorem k0_off87_inb : ∀ (v3054 : BitVec 32) (k0_hw44 : k0_chk44 v3054), ∀ a, (k0_off87 v3054) a + S1x128x1152.size a ≤ S32x128x16384.size a := fun v3054 k0_hw44 => k0_hw44.2.1
theorem k0_off87_wordsfp8e4m3 : ∀ (v3054 : BitVec 32) (k0_hw44 : k0_chk44 v3054), (Rect.unit (s := S32x128x16384) (k0_off87 v3054) S1x128x1152.size (k0_off87_inb v3054 k0_hw44)).WholeWords (EltTy.packing .fp8e4m3) := fun v3054 k0_hw44 => k0_hw44.2.2.1 (k0_off87_inb v3054 k0_hw44)
theorem k0_off88_inb : ∀ (v3054 : BitVec 32) (k0_hw44 : k0_chk44 v3054), ∀ a, (k0_off88 v3054) a + S1x2x1152.size a ≤ S32x2x16384.size a := fun v3054 k0_hw44 => k0_hw44.2.2.2

def k0_mult45 (v3199 : BitVec 32) : BitVec 32 :=
  let c15232_i32_2117 : BitVec 32 := 15232#32
  let c0_i32_2116 : BitVec 32 := 0#32
  let c1023_i32_2113 : BitVec 32 := 1023#32
  let v3200 : BitVec 32 := Scalar.subi v3199 c1023_i32_2113
  let c7_i32_2114 : BitVec 32 := 7#32
  let v3201 : BitVec 32 := Scalar.shrsi v3200 c7_i32_2114
  let c7_i32_2115 : BitVec 32 := 7#32
  let v3202 : BitVec 32 := Scalar.shli v3201 c7_i32_2115
  let v3203 : BitVec 32 := Scalar.maxsi c0_i32_2116 v3202
  let v3204 : BitVec 32 := Scalar.minsi c15232_i32_2117 v3203
  v3204

def k0_off89 (v3199 : BitVec 32) : Fin 3 → Nat :=
  let c12_i32_2118 : BitVec 32 := 12#32
  let c0_i32_2123 : BitVec 32 := 0#32
  let c15232_i32_2117 : BitVec 32 := 15232#32
  let c0_i32_2116 : BitVec 32 := 0#32
  let c1023_i32_2113 : BitVec 32 := 1023#32
  let v3200 : BitVec 32 := Scalar.subi v3199 c1023_i32_2113
  let c7_i32_2114 : BitVec 32 := 7#32
  let v3201 : BitVec 32 := Scalar.shrsi v3200 c7_i32_2114
  let c7_i32_2115 : BitVec 32 := 7#32
  let v3202 : BitVec 32 := Scalar.shli v3201 c7_i32_2115
  let v3203 : BitVec 32 := Scalar.maxsi c0_i32_2116 v3202
  let v3204 : BitVec 32 := Scalar.minsi c15232_i32_2117 v3203
  let v3205 : BitVec 32 := v3204
  ![12, 0, v3205.toNat]
def k0_off90 (v3199 : BitVec 32) : Fin 3 → Nat :=
  let c12_i32_2124 : BitVec 32 := 12#32
  let c0_i32_2129 : BitVec 32 := 0#32
  let c15232_i32_2117 : BitVec 32 := 15232#32
  let c0_i32_2116 : BitVec 32 := 0#32
  let c1023_i32_2113 : BitVec 32 := 1023#32
  let v3200 : BitVec 32 := Scalar.subi v3199 c1023_i32_2113
  let c7_i32_2114 : BitVec 32 := 7#32
  let v3201 : BitVec 32 := Scalar.shrsi v3200 c7_i32_2114
  let c7_i32_2115 : BitVec 32 := 7#32
  let v3202 : BitVec 32 := Scalar.shli v3201 c7_i32_2115
  let v3203 : BitVec 32 := Scalar.maxsi c0_i32_2116 v3202
  let v3204 : BitVec 32 := Scalar.minsi c15232_i32_2117 v3203
  let v3205 : BitVec 32 := v3204
  ![12, 0, v3205.toNat]

def k0_chk45 (v3199 : BitVec 32) : Prop :=
  (128 ∣ (k0_mult45 v3199).toNat) ∧
  (∀ a, (k0_off89 v3199) a + S1x128x1152.size a ≤ S32x128x16384.size a) ∧
  (∀ (hinb : ∀ a, (k0_off89 v3199) a + S1x128x1152.size a ≤ S32x128x16384.size a), (Rect.unit (s := S32x128x16384) (k0_off89 v3199) S1x128x1152.size hinb).WholeWords (EltTy.packing .fp8e4m3)) ∧
  (∀ a, (k0_off90 v3199) a + S1x2x1152.size a ≤ S32x2x16384.size a)
theorem k0_mult45_dvd : ∀ (v3199 : BitVec 32) (k0_hw45 : k0_chk45 v3199), 128 ∣ (k0_mult45 v3199).toNat := fun v3199 k0_hw45 => k0_hw45.1
theorem k0_off89_inb : ∀ (v3199 : BitVec 32) (k0_hw45 : k0_chk45 v3199), ∀ a, (k0_off89 v3199) a + S1x128x1152.size a ≤ S32x128x16384.size a := fun v3199 k0_hw45 => k0_hw45.2.1
theorem k0_off89_wordsfp8e4m3 : ∀ (v3199 : BitVec 32) (k0_hw45 : k0_chk45 v3199), (Rect.unit (s := S32x128x16384) (k0_off89 v3199) S1x128x1152.size (k0_off89_inb v3199 k0_hw45)).WholeWords (EltTy.packing .fp8e4m3) := fun v3199 k0_hw45 => k0_hw45.2.2.1 (k0_off89_inb v3199 k0_hw45)
theorem k0_off90_inb : ∀ (v3199 : BitVec 32) (k0_hw45 : k0_chk45 v3199), ∀ a, (k0_off90 v3199) a + S1x2x1152.size a ≤ S32x2x16384.size a := fun v3199 k0_hw45 => k0_hw45.2.2.2

def k0_mult46 (v3344 : BitVec 32) : BitVec 32 :=
  let c15232_i32_2205 : BitVec 32 := 15232#32
  let c0_i32_2204 : BitVec 32 := 0#32
  let c1023_i32_2201 : BitVec 32 := 1023#32
  let v3345 : BitVec 32 := Scalar.subi v3344 c1023_i32_2201
  let c7_i32_2202 : BitVec 32 := 7#32
  let v3346 : BitVec 32 := Scalar.shrsi v3345 c7_i32_2202
  let c7_i32_2203 : BitVec 32 := 7#32
  let v3347 : BitVec 32 := Scalar.shli v3346 c7_i32_2203
  let v3348 : BitVec 32 := Scalar.maxsi c0_i32_2204 v3347
  let v3349 : BitVec 32 := Scalar.minsi c15232_i32_2205 v3348
  v3349

def k0_off91 (v3344 : BitVec 32) : Fin 3 → Nat :=
  let c13_i32_2206 : BitVec 32 := 13#32
  let c0_i32_2211 : BitVec 32 := 0#32
  let c15232_i32_2205 : BitVec 32 := 15232#32
  let c0_i32_2204 : BitVec 32 := 0#32
  let c1023_i32_2201 : BitVec 32 := 1023#32
  let v3345 : BitVec 32 := Scalar.subi v3344 c1023_i32_2201
  let c7_i32_2202 : BitVec 32 := 7#32
  let v3346 : BitVec 32 := Scalar.shrsi v3345 c7_i32_2202
  let c7_i32_2203 : BitVec 32 := 7#32
  let v3347 : BitVec 32 := Scalar.shli v3346 c7_i32_2203
  let v3348 : BitVec 32 := Scalar.maxsi c0_i32_2204 v3347
  let v3349 : BitVec 32 := Scalar.minsi c15232_i32_2205 v3348
  let v3350 : BitVec 32 := v3349
  ![13, 0, v3350.toNat]
def k0_off92 (v3344 : BitVec 32) : Fin 3 → Nat :=
  let c13_i32_2212 : BitVec 32 := 13#32
  let c0_i32_2217 : BitVec 32 := 0#32
  let c15232_i32_2205 : BitVec 32 := 15232#32
  let c0_i32_2204 : BitVec 32 := 0#32
  let c1023_i32_2201 : BitVec 32 := 1023#32
  let v3345 : BitVec 32 := Scalar.subi v3344 c1023_i32_2201
  let c7_i32_2202 : BitVec 32 := 7#32
  let v3346 : BitVec 32 := Scalar.shrsi v3345 c7_i32_2202
  let c7_i32_2203 : BitVec 32 := 7#32
  let v3347 : BitVec 32 := Scalar.shli v3346 c7_i32_2203
  let v3348 : BitVec 32 := Scalar.maxsi c0_i32_2204 v3347
  let v3349 : BitVec 32 := Scalar.minsi c15232_i32_2205 v3348
  let v3350 : BitVec 32 := v3349
  ![13, 0, v3350.toNat]

def k0_chk46 (v3344 : BitVec 32) : Prop :=
  (128 ∣ (k0_mult46 v3344).toNat) ∧
  (∀ a, (k0_off91 v3344) a + S1x128x1152.size a ≤ S32x128x16384.size a) ∧
  (∀ (hinb : ∀ a, (k0_off91 v3344) a + S1x128x1152.size a ≤ S32x128x16384.size a), (Rect.unit (s := S32x128x16384) (k0_off91 v3344) S1x128x1152.size hinb).WholeWords (EltTy.packing .fp8e4m3)) ∧
  (∀ a, (k0_off92 v3344) a + S1x2x1152.size a ≤ S32x2x16384.size a)
theorem k0_mult46_dvd : ∀ (v3344 : BitVec 32) (k0_hw46 : k0_chk46 v3344), 128 ∣ (k0_mult46 v3344).toNat := fun v3344 k0_hw46 => k0_hw46.1
theorem k0_off91_inb : ∀ (v3344 : BitVec 32) (k0_hw46 : k0_chk46 v3344), ∀ a, (k0_off91 v3344) a + S1x128x1152.size a ≤ S32x128x16384.size a := fun v3344 k0_hw46 => k0_hw46.2.1
theorem k0_off91_wordsfp8e4m3 : ∀ (v3344 : BitVec 32) (k0_hw46 : k0_chk46 v3344), (Rect.unit (s := S32x128x16384) (k0_off91 v3344) S1x128x1152.size (k0_off91_inb v3344 k0_hw46)).WholeWords (EltTy.packing .fp8e4m3) := fun v3344 k0_hw46 => k0_hw46.2.2.1 (k0_off91_inb v3344 k0_hw46)
theorem k0_off92_inb : ∀ (v3344 : BitVec 32) (k0_hw46 : k0_chk46 v3344), ∀ a, (k0_off92 v3344) a + S1x2x1152.size a ≤ S32x2x16384.size a := fun v3344 k0_hw46 => k0_hw46.2.2.2

def k0_mult47 (v3489 : BitVec 32) : BitVec 32 :=
  let c15232_i32_2293 : BitVec 32 := 15232#32
  let c0_i32_2292 : BitVec 32 := 0#32
  let c1023_i32_2289 : BitVec 32 := 1023#32
  let v3490 : BitVec 32 := Scalar.subi v3489 c1023_i32_2289
  let c7_i32_2290 : BitVec 32 := 7#32
  let v3491 : BitVec 32 := Scalar.shrsi v3490 c7_i32_2290
  let c7_i32_2291 : BitVec 32 := 7#32
  let v3492 : BitVec 32 := Scalar.shli v3491 c7_i32_2291
  let v3493 : BitVec 32 := Scalar.maxsi c0_i32_2292 v3492
  let v3494 : BitVec 32 := Scalar.minsi c15232_i32_2293 v3493
  v3494

def k0_off93 (v3489 : BitVec 32) : Fin 3 → Nat :=
  let c14_i32_2294 : BitVec 32 := 14#32
  let c0_i32_2299 : BitVec 32 := 0#32
  let c15232_i32_2293 : BitVec 32 := 15232#32
  let c0_i32_2292 : BitVec 32 := 0#32
  let c1023_i32_2289 : BitVec 32 := 1023#32
  let v3490 : BitVec 32 := Scalar.subi v3489 c1023_i32_2289
  let c7_i32_2290 : BitVec 32 := 7#32
  let v3491 : BitVec 32 := Scalar.shrsi v3490 c7_i32_2290
  let c7_i32_2291 : BitVec 32 := 7#32
  let v3492 : BitVec 32 := Scalar.shli v3491 c7_i32_2291
  let v3493 : BitVec 32 := Scalar.maxsi c0_i32_2292 v3492
  let v3494 : BitVec 32 := Scalar.minsi c15232_i32_2293 v3493
  let v3495 : BitVec 32 := v3494
  ![14, 0, v3495.toNat]
def k0_off94 (v3489 : BitVec 32) : Fin 3 → Nat :=
  let c14_i32_2300 : BitVec 32 := 14#32
  let c0_i32_2305 : BitVec 32 := 0#32
  let c15232_i32_2293 : BitVec 32 := 15232#32
  let c0_i32_2292 : BitVec 32 := 0#32
  let c1023_i32_2289 : BitVec 32 := 1023#32
  let v3490 : BitVec 32 := Scalar.subi v3489 c1023_i32_2289
  let c7_i32_2290 : BitVec 32 := 7#32
  let v3491 : BitVec 32 := Scalar.shrsi v3490 c7_i32_2290
  let c7_i32_2291 : BitVec 32 := 7#32
  let v3492 : BitVec 32 := Scalar.shli v3491 c7_i32_2291
  let v3493 : BitVec 32 := Scalar.maxsi c0_i32_2292 v3492
  let v3494 : BitVec 32 := Scalar.minsi c15232_i32_2293 v3493
  let v3495 : BitVec 32 := v3494
  ![14, 0, v3495.toNat]

def k0_chk47 (v3489 : BitVec 32) : Prop :=
  (128 ∣ (k0_mult47 v3489).toNat) ∧
  (∀ a, (k0_off93 v3489) a + S1x128x1152.size a ≤ S32x128x16384.size a) ∧
  (∀ (hinb : ∀ a, (k0_off93 v3489) a + S1x128x1152.size a ≤ S32x128x16384.size a), (Rect.unit (s := S32x128x16384) (k0_off93 v3489) S1x128x1152.size hinb).WholeWords (EltTy.packing .fp8e4m3)) ∧
  (∀ a, (k0_off94 v3489) a + S1x2x1152.size a ≤ S32x2x16384.size a)
theorem k0_mult47_dvd : ∀ (v3489 : BitVec 32) (k0_hw47 : k0_chk47 v3489), 128 ∣ (k0_mult47 v3489).toNat := fun v3489 k0_hw47 => k0_hw47.1
theorem k0_off93_inb : ∀ (v3489 : BitVec 32) (k0_hw47 : k0_chk47 v3489), ∀ a, (k0_off93 v3489) a + S1x128x1152.size a ≤ S32x128x16384.size a := fun v3489 k0_hw47 => k0_hw47.2.1
theorem k0_off93_wordsfp8e4m3 : ∀ (v3489 : BitVec 32) (k0_hw47 : k0_chk47 v3489), (Rect.unit (s := S32x128x16384) (k0_off93 v3489) S1x128x1152.size (k0_off93_inb v3489 k0_hw47)).WholeWords (EltTy.packing .fp8e4m3) := fun v3489 k0_hw47 => k0_hw47.2.2.1 (k0_off93_inb v3489 k0_hw47)
theorem k0_off94_inb : ∀ (v3489 : BitVec 32) (k0_hw47 : k0_chk47 v3489), ∀ a, (k0_off94 v3489) a + S1x2x1152.size a ≤ S32x2x16384.size a := fun v3489 k0_hw47 => k0_hw47.2.2.2

def k0_mult48 (v3634 : BitVec 32) : BitVec 32 :=
  let c15232_i32_2381 : BitVec 32 := 15232#32
  let c0_i32_2380 : BitVec 32 := 0#32
  let c1023_i32_2377 : BitVec 32 := 1023#32
  let v3635 : BitVec 32 := Scalar.subi v3634 c1023_i32_2377
  let c7_i32_2378 : BitVec 32 := 7#32
  let v3636 : BitVec 32 := Scalar.shrsi v3635 c7_i32_2378
  let c7_i32_2379 : BitVec 32 := 7#32
  let v3637 : BitVec 32 := Scalar.shli v3636 c7_i32_2379
  let v3638 : BitVec 32 := Scalar.maxsi c0_i32_2380 v3637
  let v3639 : BitVec 32 := Scalar.minsi c15232_i32_2381 v3638
  v3639

def k0_off95 (v3634 : BitVec 32) : Fin 3 → Nat :=
  let c15_i32_2382 : BitVec 32 := 15#32
  let c0_i32_2387 : BitVec 32 := 0#32
  let c15232_i32_2381 : BitVec 32 := 15232#32
  let c0_i32_2380 : BitVec 32 := 0#32
  let c1023_i32_2377 : BitVec 32 := 1023#32
  let v3635 : BitVec 32 := Scalar.subi v3634 c1023_i32_2377
  let c7_i32_2378 : BitVec 32 := 7#32
  let v3636 : BitVec 32 := Scalar.shrsi v3635 c7_i32_2378
  let c7_i32_2379 : BitVec 32 := 7#32
  let v3637 : BitVec 32 := Scalar.shli v3636 c7_i32_2379
  let v3638 : BitVec 32 := Scalar.maxsi c0_i32_2380 v3637
  let v3639 : BitVec 32 := Scalar.minsi c15232_i32_2381 v3638
  let v3640 : BitVec 32 := v3639
  ![15, 0, v3640.toNat]
def k0_off96 (v3634 : BitVec 32) : Fin 3 → Nat :=
  let c15_i32_2388 : BitVec 32 := 15#32
  let c0_i32_2393 : BitVec 32 := 0#32
  let c15232_i32_2381 : BitVec 32 := 15232#32
  let c0_i32_2380 : BitVec 32 := 0#32
  let c1023_i32_2377 : BitVec 32 := 1023#32
  let v3635 : BitVec 32 := Scalar.subi v3634 c1023_i32_2377
  let c7_i32_2378 : BitVec 32 := 7#32
  let v3636 : BitVec 32 := Scalar.shrsi v3635 c7_i32_2378
  let c7_i32_2379 : BitVec 32 := 7#32
  let v3637 : BitVec 32 := Scalar.shli v3636 c7_i32_2379
  let v3638 : BitVec 32 := Scalar.maxsi c0_i32_2380 v3637
  let v3639 : BitVec 32 := Scalar.minsi c15232_i32_2381 v3638
  let v3640 : BitVec 32 := v3639
  ![15, 0, v3640.toNat]

def k0_chk48 (v3634 : BitVec 32) : Prop :=
  (128 ∣ (k0_mult48 v3634).toNat) ∧
  (∀ a, (k0_off95 v3634) a + S1x128x1152.size a ≤ S32x128x16384.size a) ∧
  (∀ (hinb : ∀ a, (k0_off95 v3634) a + S1x128x1152.size a ≤ S32x128x16384.size a), (Rect.unit (s := S32x128x16384) (k0_off95 v3634) S1x128x1152.size hinb).WholeWords (EltTy.packing .fp8e4m3)) ∧
  (∀ a, (k0_off96 v3634) a + S1x2x1152.size a ≤ S32x2x16384.size a)
theorem k0_mult48_dvd : ∀ (v3634 : BitVec 32) (k0_hw48 : k0_chk48 v3634), 128 ∣ (k0_mult48 v3634).toNat := fun v3634 k0_hw48 => k0_hw48.1
theorem k0_off95_inb : ∀ (v3634 : BitVec 32) (k0_hw48 : k0_chk48 v3634), ∀ a, (k0_off95 v3634) a + S1x128x1152.size a ≤ S32x128x16384.size a := fun v3634 k0_hw48 => k0_hw48.2.1
theorem k0_off95_wordsfp8e4m3 : ∀ (v3634 : BitVec 32) (k0_hw48 : k0_chk48 v3634), (Rect.unit (s := S32x128x16384) (k0_off95 v3634) S1x128x1152.size (k0_off95_inb v3634 k0_hw48)).WholeWords (EltTy.packing .fp8e4m3) := fun v3634 k0_hw48 => k0_hw48.2.2.1 (k0_off95_inb v3634 k0_hw48)
theorem k0_off96_inb : ∀ (v3634 : BitVec 32) (k0_hw48 : k0_chk48 v3634), ∀ a, (k0_off96 v3634) a + S1x2x1152.size a ≤ S32x2x16384.size a := fun v3634 k0_hw48 => k0_hw48.2.2.2

def k0_mult49 (v3779 : BitVec 32) : BitVec 32 :=
  let c15232_i32_2469 : BitVec 32 := 15232#32
  let c0_i32_2468 : BitVec 32 := 0#32
  let c1023_i32_2465 : BitVec 32 := 1023#32
  let v3780 : BitVec 32 := Scalar.subi v3779 c1023_i32_2465
  let c7_i32_2466 : BitVec 32 := 7#32
  let v3781 : BitVec 32 := Scalar.shrsi v3780 c7_i32_2466
  let c7_i32_2467 : BitVec 32 := 7#32
  let v3782 : BitVec 32 := Scalar.shli v3781 c7_i32_2467
  let v3783 : BitVec 32 := Scalar.maxsi c0_i32_2468 v3782
  let v3784 : BitVec 32 := Scalar.minsi c15232_i32_2469 v3783
  v3784

def k0_off97 (v3779 : BitVec 32) : Fin 3 → Nat :=
  let c16_i32_2470 : BitVec 32 := 16#32
  let c0_i32_2475 : BitVec 32 := 0#32
  let c15232_i32_2469 : BitVec 32 := 15232#32
  let c0_i32_2468 : BitVec 32 := 0#32
  let c1023_i32_2465 : BitVec 32 := 1023#32
  let v3780 : BitVec 32 := Scalar.subi v3779 c1023_i32_2465
  let c7_i32_2466 : BitVec 32 := 7#32
  let v3781 : BitVec 32 := Scalar.shrsi v3780 c7_i32_2466
  let c7_i32_2467 : BitVec 32 := 7#32
  let v3782 : BitVec 32 := Scalar.shli v3781 c7_i32_2467
  let v3783 : BitVec 32 := Scalar.maxsi c0_i32_2468 v3782
  let v3784 : BitVec 32 := Scalar.minsi c15232_i32_2469 v3783
  let v3785 : BitVec 32 := v3784
  ![16, 0, v3785.toNat]
def k0_off98 (v3779 : BitVec 32) : Fin 3 → Nat :=
  let c16_i32_2476 : BitVec 32 := 16#32
  let c0_i32_2481 : BitVec 32 := 0#32
  let c15232_i32_2469 : BitVec 32 := 15232#32
  let c0_i32_2468 : BitVec 32 := 0#32
  let c1023_i32_2465 : BitVec 32 := 1023#32
  let v3780 : BitVec 32 := Scalar.subi v3779 c1023_i32_2465
  let c7_i32_2466 : BitVec 32 := 7#32
  let v3781 : BitVec 32 := Scalar.shrsi v3780 c7_i32_2466
  let c7_i32_2467 : BitVec 32 := 7#32
  let v3782 : BitVec 32 := Scalar.shli v3781 c7_i32_2467
  let v3783 : BitVec 32 := Scalar.maxsi c0_i32_2468 v3782
  let v3784 : BitVec 32 := Scalar.minsi c15232_i32_2469 v3783
  let v3785 : BitVec 32 := v3784
  ![16, 0, v3785.toNat]

def k0_chk49 (v3779 : BitVec 32) : Prop :=
  (128 ∣ (k0_mult49 v3779).toNat) ∧
  (∀ a, (k0_off97 v3779) a + S1x128x1152.size a ≤ S32x128x16384.size a) ∧
  (∀ (hinb : ∀ a, (k0_off97 v3779) a + S1x128x1152.size a ≤ S32x128x16384.size a), (Rect.unit (s := S32x128x16384) (k0_off97 v3779) S1x128x1152.size hinb).WholeWords (EltTy.packing .fp8e4m3)) ∧
  (∀ a, (k0_off98 v3779) a + S1x2x1152.size a ≤ S32x2x16384.size a)
theorem k0_mult49_dvd : ∀ (v3779 : BitVec 32) (k0_hw49 : k0_chk49 v3779), 128 ∣ (k0_mult49 v3779).toNat := fun v3779 k0_hw49 => k0_hw49.1
theorem k0_off97_inb : ∀ (v3779 : BitVec 32) (k0_hw49 : k0_chk49 v3779), ∀ a, (k0_off97 v3779) a + S1x128x1152.size a ≤ S32x128x16384.size a := fun v3779 k0_hw49 => k0_hw49.2.1
theorem k0_off97_wordsfp8e4m3 : ∀ (v3779 : BitVec 32) (k0_hw49 : k0_chk49 v3779), (Rect.unit (s := S32x128x16384) (k0_off97 v3779) S1x128x1152.size (k0_off97_inb v3779 k0_hw49)).WholeWords (EltTy.packing .fp8e4m3) := fun v3779 k0_hw49 => k0_hw49.2.2.1 (k0_off97_inb v3779 k0_hw49)
theorem k0_off98_inb : ∀ (v3779 : BitVec 32) (k0_hw49 : k0_chk49 v3779), ∀ a, (k0_off98 v3779) a + S1x2x1152.size a ≤ S32x2x16384.size a := fun v3779 k0_hw49 => k0_hw49.2.2.2

def k0_mult50 (v3924 : BitVec 32) : BitVec 32 :=
  let c15232_i32_2557 : BitVec 32 := 15232#32
  let c0_i32_2556 : BitVec 32 := 0#32
  let c1023_i32_2553 : BitVec 32 := 1023#32
  let v3925 : BitVec 32 := Scalar.subi v3924 c1023_i32_2553
  let c7_i32_2554 : BitVec 32 := 7#32
  let v3926 : BitVec 32 := Scalar.shrsi v3925 c7_i32_2554
  let c7_i32_2555 : BitVec 32 := 7#32
  let v3927 : BitVec 32 := Scalar.shli v3926 c7_i32_2555
  let v3928 : BitVec 32 := Scalar.maxsi c0_i32_2556 v3927
  let v3929 : BitVec 32 := Scalar.minsi c15232_i32_2557 v3928
  v3929

def k0_off99 (v3924 : BitVec 32) : Fin 3 → Nat :=
  let c17_i32_2558 : BitVec 32 := 17#32
  let c0_i32_2563 : BitVec 32 := 0#32
  let c15232_i32_2557 : BitVec 32 := 15232#32
  let c0_i32_2556 : BitVec 32 := 0#32
  let c1023_i32_2553 : BitVec 32 := 1023#32
  let v3925 : BitVec 32 := Scalar.subi v3924 c1023_i32_2553
  let c7_i32_2554 : BitVec 32 := 7#32
  let v3926 : BitVec 32 := Scalar.shrsi v3925 c7_i32_2554
  let c7_i32_2555 : BitVec 32 := 7#32
  let v3927 : BitVec 32 := Scalar.shli v3926 c7_i32_2555
  let v3928 : BitVec 32 := Scalar.maxsi c0_i32_2556 v3927
  let v3929 : BitVec 32 := Scalar.minsi c15232_i32_2557 v3928
  let v3930 : BitVec 32 := v3929
  ![17, 0, v3930.toNat]
def k0_off100 (v3924 : BitVec 32) : Fin 3 → Nat :=
  let c17_i32_2564 : BitVec 32 := 17#32
  let c0_i32_2569 : BitVec 32 := 0#32
  let c15232_i32_2557 : BitVec 32 := 15232#32
  let c0_i32_2556 : BitVec 32 := 0#32
  let c1023_i32_2553 : BitVec 32 := 1023#32
  let v3925 : BitVec 32 := Scalar.subi v3924 c1023_i32_2553
  let c7_i32_2554 : BitVec 32 := 7#32
  let v3926 : BitVec 32 := Scalar.shrsi v3925 c7_i32_2554
  let c7_i32_2555 : BitVec 32 := 7#32
  let v3927 : BitVec 32 := Scalar.shli v3926 c7_i32_2555
  let v3928 : BitVec 32 := Scalar.maxsi c0_i32_2556 v3927
  let v3929 : BitVec 32 := Scalar.minsi c15232_i32_2557 v3928
  let v3930 : BitVec 32 := v3929
  ![17, 0, v3930.toNat]

def k0_chk50 (v3924 : BitVec 32) : Prop :=
  (128 ∣ (k0_mult50 v3924).toNat) ∧
  (∀ a, (k0_off99 v3924) a + S1x128x1152.size a ≤ S32x128x16384.size a) ∧
  (∀ (hinb : ∀ a, (k0_off99 v3924) a + S1x128x1152.size a ≤ S32x128x16384.size a), (Rect.unit (s := S32x128x16384) (k0_off99 v3924) S1x128x1152.size hinb).WholeWords (EltTy.packing .fp8e4m3)) ∧
  (∀ a, (k0_off100 v3924) a + S1x2x1152.size a ≤ S32x2x16384.size a)
theorem k0_mult50_dvd : ∀ (v3924 : BitVec 32) (k0_hw50 : k0_chk50 v3924), 128 ∣ (k0_mult50 v3924).toNat := fun v3924 k0_hw50 => k0_hw50.1
theorem k0_off99_inb : ∀ (v3924 : BitVec 32) (k0_hw50 : k0_chk50 v3924), ∀ a, (k0_off99 v3924) a + S1x128x1152.size a ≤ S32x128x16384.size a := fun v3924 k0_hw50 => k0_hw50.2.1
theorem k0_off99_wordsfp8e4m3 : ∀ (v3924 : BitVec 32) (k0_hw50 : k0_chk50 v3924), (Rect.unit (s := S32x128x16384) (k0_off99 v3924) S1x128x1152.size (k0_off99_inb v3924 k0_hw50)).WholeWords (EltTy.packing .fp8e4m3) := fun v3924 k0_hw50 => k0_hw50.2.2.1 (k0_off99_inb v3924 k0_hw50)
theorem k0_off100_inb : ∀ (v3924 : BitVec 32) (k0_hw50 : k0_chk50 v3924), ∀ a, (k0_off100 v3924) a + S1x2x1152.size a ≤ S32x2x16384.size a := fun v3924 k0_hw50 => k0_hw50.2.2.2

def k0_mult51 (v4069 : BitVec 32) : BitVec 32 :=
  let c15232_i32_2645 : BitVec 32 := 15232#32
  let c0_i32_2644 : BitVec 32 := 0#32
  let c1023_i32_2641 : BitVec 32 := 1023#32
  let v4070 : BitVec 32 := Scalar.subi v4069 c1023_i32_2641
  let c7_i32_2642 : BitVec 32 := 7#32
  let v4071 : BitVec 32 := Scalar.shrsi v4070 c7_i32_2642
  let c7_i32_2643 : BitVec 32 := 7#32
  let v4072 : BitVec 32 := Scalar.shli v4071 c7_i32_2643
  let v4073 : BitVec 32 := Scalar.maxsi c0_i32_2644 v4072
  let v4074 : BitVec 32 := Scalar.minsi c15232_i32_2645 v4073
  v4074

def k0_off101 (v4069 : BitVec 32) : Fin 3 → Nat :=
  let c18_i32_2646 : BitVec 32 := 18#32
  let c0_i32_2651 : BitVec 32 := 0#32
  let c15232_i32_2645 : BitVec 32 := 15232#32
  let c0_i32_2644 : BitVec 32 := 0#32
  let c1023_i32_2641 : BitVec 32 := 1023#32
  let v4070 : BitVec 32 := Scalar.subi v4069 c1023_i32_2641
  let c7_i32_2642 : BitVec 32 := 7#32
  let v4071 : BitVec 32 := Scalar.shrsi v4070 c7_i32_2642
  let c7_i32_2643 : BitVec 32 := 7#32
  let v4072 : BitVec 32 := Scalar.shli v4071 c7_i32_2643
  let v4073 : BitVec 32 := Scalar.maxsi c0_i32_2644 v4072
  let v4074 : BitVec 32 := Scalar.minsi c15232_i32_2645 v4073
  let v4075 : BitVec 32 := v4074
  ![18, 0, v4075.toNat]
def k0_off102 (v4069 : BitVec 32) : Fin 3 → Nat :=
  let c18_i32_2652 : BitVec 32 := 18#32
  let c0_i32_2657 : BitVec 32 := 0#32
  let c15232_i32_2645 : BitVec 32 := 15232#32
  let c0_i32_2644 : BitVec 32 := 0#32
  let c1023_i32_2641 : BitVec 32 := 1023#32
  let v4070 : BitVec 32 := Scalar.subi v4069 c1023_i32_2641
  let c7_i32_2642 : BitVec 32 := 7#32
  let v4071 : BitVec 32 := Scalar.shrsi v4070 c7_i32_2642
  let c7_i32_2643 : BitVec 32 := 7#32
  let v4072 : BitVec 32 := Scalar.shli v4071 c7_i32_2643
  let v4073 : BitVec 32 := Scalar.maxsi c0_i32_2644 v4072
  let v4074 : BitVec 32 := Scalar.minsi c15232_i32_2645 v4073
  let v4075 : BitVec 32 := v4074
  ![18, 0, v4075.toNat]

def k0_chk51 (v4069 : BitVec 32) : Prop :=
  (128 ∣ (k0_mult51 v4069).toNat) ∧
  (∀ a, (k0_off101 v4069) a + S1x128x1152.size a ≤ S32x128x16384.size a) ∧
  (∀ (hinb : ∀ a, (k0_off101 v4069) a + S1x128x1152.size a ≤ S32x128x16384.size a), (Rect.unit (s := S32x128x16384) (k0_off101 v4069) S1x128x1152.size hinb).WholeWords (EltTy.packing .fp8e4m3)) ∧
  (∀ a, (k0_off102 v4069) a + S1x2x1152.size a ≤ S32x2x16384.size a)
theorem k0_mult51_dvd : ∀ (v4069 : BitVec 32) (k0_hw51 : k0_chk51 v4069), 128 ∣ (k0_mult51 v4069).toNat := fun v4069 k0_hw51 => k0_hw51.1
theorem k0_off101_inb : ∀ (v4069 : BitVec 32) (k0_hw51 : k0_chk51 v4069), ∀ a, (k0_off101 v4069) a + S1x128x1152.size a ≤ S32x128x16384.size a := fun v4069 k0_hw51 => k0_hw51.2.1
theorem k0_off101_wordsfp8e4m3 : ∀ (v4069 : BitVec 32) (k0_hw51 : k0_chk51 v4069), (Rect.unit (s := S32x128x16384) (k0_off101 v4069) S1x128x1152.size (k0_off101_inb v4069 k0_hw51)).WholeWords (EltTy.packing .fp8e4m3) := fun v4069 k0_hw51 => k0_hw51.2.2.1 (k0_off101_inb v4069 k0_hw51)
theorem k0_off102_inb : ∀ (v4069 : BitVec 32) (k0_hw51 : k0_chk51 v4069), ∀ a, (k0_off102 v4069) a + S1x2x1152.size a ≤ S32x2x16384.size a := fun v4069 k0_hw51 => k0_hw51.2.2.2

def k0_mult52 (v4214 : BitVec 32) : BitVec 32 :=
  let c15232_i32_2733 : BitVec 32 := 15232#32
  let c0_i32_2732 : BitVec 32 := 0#32
  let c1023_i32_2729 : BitVec 32 := 1023#32
  let v4215 : BitVec 32 := Scalar.subi v4214 c1023_i32_2729
  let c7_i32_2730 : BitVec 32 := 7#32
  let v4216 : BitVec 32 := Scalar.shrsi v4215 c7_i32_2730
  let c7_i32_2731 : BitVec 32 := 7#32
  let v4217 : BitVec 32 := Scalar.shli v4216 c7_i32_2731
  let v4218 : BitVec 32 := Scalar.maxsi c0_i32_2732 v4217
  let v4219 : BitVec 32 := Scalar.minsi c15232_i32_2733 v4218
  v4219

def k0_off103 (v4214 : BitVec 32) : Fin 3 → Nat :=
  let c19_i32_2734 : BitVec 32 := 19#32
  let c0_i32_2739 : BitVec 32 := 0#32
  let c15232_i32_2733 : BitVec 32 := 15232#32
  let c0_i32_2732 : BitVec 32 := 0#32
  let c1023_i32_2729 : BitVec 32 := 1023#32
  let v4215 : BitVec 32 := Scalar.subi v4214 c1023_i32_2729
  let c7_i32_2730 : BitVec 32 := 7#32
  let v4216 : BitVec 32 := Scalar.shrsi v4215 c7_i32_2730
  let c7_i32_2731 : BitVec 32 := 7#32
  let v4217 : BitVec 32 := Scalar.shli v4216 c7_i32_2731
  let v4218 : BitVec 32 := Scalar.maxsi c0_i32_2732 v4217
  let v4219 : BitVec 32 := Scalar.minsi c15232_i32_2733 v4218
  let v4220 : BitVec 32 := v4219
  ![19, 0, v4220.toNat]
def k0_off104 (v4214 : BitVec 32) : Fin 3 → Nat :=
  let c19_i32_2740 : BitVec 32 := 19#32
  let c0_i32_2745 : BitVec 32 := 0#32
  let c15232_i32_2733 : BitVec 32 := 15232#32
  let c0_i32_2732 : BitVec 32 := 0#32
  let c1023_i32_2729 : BitVec 32 := 1023#32
  let v4215 : BitVec 32 := Scalar.subi v4214 c1023_i32_2729
  let c7_i32_2730 : BitVec 32 := 7#32
  let v4216 : BitVec 32 := Scalar.shrsi v4215 c7_i32_2730
  let c7_i32_2731 : BitVec 32 := 7#32
  let v4217 : BitVec 32 := Scalar.shli v4216 c7_i32_2731
  let v4218 : BitVec 32 := Scalar.maxsi c0_i32_2732 v4217
  let v4219 : BitVec 32 := Scalar.minsi c15232_i32_2733 v4218
  let v4220 : BitVec 32 := v4219
  ![19, 0, v4220.toNat]

def k0_chk52 (v4214 : BitVec 32) : Prop :=
  (128 ∣ (k0_mult52 v4214).toNat) ∧
  (∀ a, (k0_off103 v4214) a + S1x128x1152.size a ≤ S32x128x16384.size a) ∧
  (∀ (hinb : ∀ a, (k0_off103 v4214) a + S1x128x1152.size a ≤ S32x128x16384.size a), (Rect.unit (s := S32x128x16384) (k0_off103 v4214) S1x128x1152.size hinb).WholeWords (EltTy.packing .fp8e4m3)) ∧
  (∀ a, (k0_off104 v4214) a + S1x2x1152.size a ≤ S32x2x16384.size a)
theorem k0_mult52_dvd : ∀ (v4214 : BitVec 32) (k0_hw52 : k0_chk52 v4214), 128 ∣ (k0_mult52 v4214).toNat := fun v4214 k0_hw52 => k0_hw52.1
theorem k0_off103_inb : ∀ (v4214 : BitVec 32) (k0_hw52 : k0_chk52 v4214), ∀ a, (k0_off103 v4214) a + S1x128x1152.size a ≤ S32x128x16384.size a := fun v4214 k0_hw52 => k0_hw52.2.1
theorem k0_off103_wordsfp8e4m3 : ∀ (v4214 : BitVec 32) (k0_hw52 : k0_chk52 v4214), (Rect.unit (s := S32x128x16384) (k0_off103 v4214) S1x128x1152.size (k0_off103_inb v4214 k0_hw52)).WholeWords (EltTy.packing .fp8e4m3) := fun v4214 k0_hw52 => k0_hw52.2.2.1 (k0_off103_inb v4214 k0_hw52)
theorem k0_off104_inb : ∀ (v4214 : BitVec 32) (k0_hw52 : k0_chk52 v4214), ∀ a, (k0_off104 v4214) a + S1x2x1152.size a ≤ S32x2x16384.size a := fun v4214 k0_hw52 => k0_hw52.2.2.2

def k0_mult53 (v4359 : BitVec 32) : BitVec 32 :=
  let c15232_i32_2821 : BitVec 32 := 15232#32
  let c0_i32_2820 : BitVec 32 := 0#32
  let c1023_i32_2817 : BitVec 32 := 1023#32
  let v4360 : BitVec 32 := Scalar.subi v4359 c1023_i32_2817
  let c7_i32_2818 : BitVec 32 := 7#32
  let v4361 : BitVec 32 := Scalar.shrsi v4360 c7_i32_2818
  let c7_i32_2819 : BitVec 32 := 7#32
  let v4362 : BitVec 32 := Scalar.shli v4361 c7_i32_2819
  let v4363 : BitVec 32 := Scalar.maxsi c0_i32_2820 v4362
  let v4364 : BitVec 32 := Scalar.minsi c15232_i32_2821 v4363
  v4364

def k0_off105 (v4359 : BitVec 32) : Fin 3 → Nat :=
  let c20_i32_2822 : BitVec 32 := 20#32
  let c0_i32_2827 : BitVec 32 := 0#32
  let c15232_i32_2821 : BitVec 32 := 15232#32
  let c0_i32_2820 : BitVec 32 := 0#32
  let c1023_i32_2817 : BitVec 32 := 1023#32
  let v4360 : BitVec 32 := Scalar.subi v4359 c1023_i32_2817
  let c7_i32_2818 : BitVec 32 := 7#32
  let v4361 : BitVec 32 := Scalar.shrsi v4360 c7_i32_2818
  let c7_i32_2819 : BitVec 32 := 7#32
  let v4362 : BitVec 32 := Scalar.shli v4361 c7_i32_2819
  let v4363 : BitVec 32 := Scalar.maxsi c0_i32_2820 v4362
  let v4364 : BitVec 32 := Scalar.minsi c15232_i32_2821 v4363
  let v4365 : BitVec 32 := v4364
  ![20, 0, v4365.toNat]
def k0_off106 (v4359 : BitVec 32) : Fin 3 → Nat :=
  let c20_i32_2828 : BitVec 32 := 20#32
  let c0_i32_2833 : BitVec 32 := 0#32
  let c15232_i32_2821 : BitVec 32 := 15232#32
  let c0_i32_2820 : BitVec 32 := 0#32
  let c1023_i32_2817 : BitVec 32 := 1023#32
  let v4360 : BitVec 32 := Scalar.subi v4359 c1023_i32_2817
  let c7_i32_2818 : BitVec 32 := 7#32
  let v4361 : BitVec 32 := Scalar.shrsi v4360 c7_i32_2818
  let c7_i32_2819 : BitVec 32 := 7#32
  let v4362 : BitVec 32 := Scalar.shli v4361 c7_i32_2819
  let v4363 : BitVec 32 := Scalar.maxsi c0_i32_2820 v4362
  let v4364 : BitVec 32 := Scalar.minsi c15232_i32_2821 v4363
  let v4365 : BitVec 32 := v4364
  ![20, 0, v4365.toNat]

def k0_chk53 (v4359 : BitVec 32) : Prop :=
  (128 ∣ (k0_mult53 v4359).toNat) ∧
  (∀ a, (k0_off105 v4359) a + S1x128x1152.size a ≤ S32x128x16384.size a) ∧
  (∀ (hinb : ∀ a, (k0_off105 v4359) a + S1x128x1152.size a ≤ S32x128x16384.size a), (Rect.unit (s := S32x128x16384) (k0_off105 v4359) S1x128x1152.size hinb).WholeWords (EltTy.packing .fp8e4m3)) ∧
  (∀ a, (k0_off106 v4359) a + S1x2x1152.size a ≤ S32x2x16384.size a)
theorem k0_mult53_dvd : ∀ (v4359 : BitVec 32) (k0_hw53 : k0_chk53 v4359), 128 ∣ (k0_mult53 v4359).toNat := fun v4359 k0_hw53 => k0_hw53.1
theorem k0_off105_inb : ∀ (v4359 : BitVec 32) (k0_hw53 : k0_chk53 v4359), ∀ a, (k0_off105 v4359) a + S1x128x1152.size a ≤ S32x128x16384.size a := fun v4359 k0_hw53 => k0_hw53.2.1
theorem k0_off105_wordsfp8e4m3 : ∀ (v4359 : BitVec 32) (k0_hw53 : k0_chk53 v4359), (Rect.unit (s := S32x128x16384) (k0_off105 v4359) S1x128x1152.size (k0_off105_inb v4359 k0_hw53)).WholeWords (EltTy.packing .fp8e4m3) := fun v4359 k0_hw53 => k0_hw53.2.2.1 (k0_off105_inb v4359 k0_hw53)
theorem k0_off106_inb : ∀ (v4359 : BitVec 32) (k0_hw53 : k0_chk53 v4359), ∀ a, (k0_off106 v4359) a + S1x2x1152.size a ≤ S32x2x16384.size a := fun v4359 k0_hw53 => k0_hw53.2.2.2

def k0_mult54 (v4504 : BitVec 32) : BitVec 32 :=
  let c15232_i32_2909 : BitVec 32 := 15232#32
  let c0_i32_2908 : BitVec 32 := 0#32
  let c1023_i32_2905 : BitVec 32 := 1023#32
  let v4505 : BitVec 32 := Scalar.subi v4504 c1023_i32_2905
  let c7_i32_2906 : BitVec 32 := 7#32
  let v4506 : BitVec 32 := Scalar.shrsi v4505 c7_i32_2906
  let c7_i32_2907 : BitVec 32 := 7#32
  let v4507 : BitVec 32 := Scalar.shli v4506 c7_i32_2907
  let v4508 : BitVec 32 := Scalar.maxsi c0_i32_2908 v4507
  let v4509 : BitVec 32 := Scalar.minsi c15232_i32_2909 v4508
  v4509

def k0_off107 (v4504 : BitVec 32) : Fin 3 → Nat :=
  let c21_i32_2910 : BitVec 32 := 21#32
  let c0_i32_2915 : BitVec 32 := 0#32
  let c15232_i32_2909 : BitVec 32 := 15232#32
  let c0_i32_2908 : BitVec 32 := 0#32
  let c1023_i32_2905 : BitVec 32 := 1023#32
  let v4505 : BitVec 32 := Scalar.subi v4504 c1023_i32_2905
  let c7_i32_2906 : BitVec 32 := 7#32
  let v4506 : BitVec 32 := Scalar.shrsi v4505 c7_i32_2906
  let c7_i32_2907 : BitVec 32 := 7#32
  let v4507 : BitVec 32 := Scalar.shli v4506 c7_i32_2907
  let v4508 : BitVec 32 := Scalar.maxsi c0_i32_2908 v4507
  let v4509 : BitVec 32 := Scalar.minsi c15232_i32_2909 v4508
  let v4510 : BitVec 32 := v4509
  ![21, 0, v4510.toNat]
def k0_off108 (v4504 : BitVec 32) : Fin 3 → Nat :=
  let c21_i32_2916 : BitVec 32 := 21#32
  let c0_i32_2921 : BitVec 32 := 0#32
  let c15232_i32_2909 : BitVec 32 := 15232#32
  let c0_i32_2908 : BitVec 32 := 0#32
  let c1023_i32_2905 : BitVec 32 := 1023#32
  let v4505 : BitVec 32 := Scalar.subi v4504 c1023_i32_2905
  let c7_i32_2906 : BitVec 32 := 7#32
  let v4506 : BitVec 32 := Scalar.shrsi v4505 c7_i32_2906
  let c7_i32_2907 : BitVec 32 := 7#32
  let v4507 : BitVec 32 := Scalar.shli v4506 c7_i32_2907
  let v4508 : BitVec 32 := Scalar.maxsi c0_i32_2908 v4507
  let v4509 : BitVec 32 := Scalar.minsi c15232_i32_2909 v4508
  let v4510 : BitVec 32 := v4509
  ![21, 0, v4510.toNat]

def k0_chk54 (v4504 : BitVec 32) : Prop :=
  (128 ∣ (k0_mult54 v4504).toNat) ∧
  (∀ a, (k0_off107 v4504) a + S1x128x1152.size a ≤ S32x128x16384.size a) ∧
  (∀ (hinb : ∀ a, (k0_off107 v4504) a + S1x128x1152.size a ≤ S32x128x16384.size a), (Rect.unit (s := S32x128x16384) (k0_off107 v4504) S1x128x1152.size hinb).WholeWords (EltTy.packing .fp8e4m3)) ∧
  (∀ a, (k0_off108 v4504) a + S1x2x1152.size a ≤ S32x2x16384.size a)
theorem k0_mult54_dvd : ∀ (v4504 : BitVec 32) (k0_hw54 : k0_chk54 v4504), 128 ∣ (k0_mult54 v4504).toNat := fun v4504 k0_hw54 => k0_hw54.1
theorem k0_off107_inb : ∀ (v4504 : BitVec 32) (k0_hw54 : k0_chk54 v4504), ∀ a, (k0_off107 v4504) a + S1x128x1152.size a ≤ S32x128x16384.size a := fun v4504 k0_hw54 => k0_hw54.2.1
theorem k0_off107_wordsfp8e4m3 : ∀ (v4504 : BitVec 32) (k0_hw54 : k0_chk54 v4504), (Rect.unit (s := S32x128x16384) (k0_off107 v4504) S1x128x1152.size (k0_off107_inb v4504 k0_hw54)).WholeWords (EltTy.packing .fp8e4m3) := fun v4504 k0_hw54 => k0_hw54.2.2.1 (k0_off107_inb v4504 k0_hw54)
theorem k0_off108_inb : ∀ (v4504 : BitVec 32) (k0_hw54 : k0_chk54 v4504), ∀ a, (k0_off108 v4504) a + S1x2x1152.size a ≤ S32x2x16384.size a := fun v4504 k0_hw54 => k0_hw54.2.2.2

def k0_mult55 (v4649 : BitVec 32) : BitVec 32 :=
  let c15232_i32_2997 : BitVec 32 := 15232#32
  let c0_i32_2996 : BitVec 32 := 0#32
  let c1023_i32_2993 : BitVec 32 := 1023#32
  let v4650 : BitVec 32 := Scalar.subi v4649 c1023_i32_2993
  let c7_i32_2994 : BitVec 32 := 7#32
  let v4651 : BitVec 32 := Scalar.shrsi v4650 c7_i32_2994
  let c7_i32_2995 : BitVec 32 := 7#32
  let v4652 : BitVec 32 := Scalar.shli v4651 c7_i32_2995
  let v4653 : BitVec 32 := Scalar.maxsi c0_i32_2996 v4652
  let v4654 : BitVec 32 := Scalar.minsi c15232_i32_2997 v4653
  v4654

def k0_off109 (v4649 : BitVec 32) : Fin 3 → Nat :=
  let c22_i32_2998 : BitVec 32 := 22#32
  let c0_i32_3003 : BitVec 32 := 0#32
  let c15232_i32_2997 : BitVec 32 := 15232#32
  let c0_i32_2996 : BitVec 32 := 0#32
  let c1023_i32_2993 : BitVec 32 := 1023#32
  let v4650 : BitVec 32 := Scalar.subi v4649 c1023_i32_2993
  let c7_i32_2994 : BitVec 32 := 7#32
  let v4651 : BitVec 32 := Scalar.shrsi v4650 c7_i32_2994
  let c7_i32_2995 : BitVec 32 := 7#32
  let v4652 : BitVec 32 := Scalar.shli v4651 c7_i32_2995
  let v4653 : BitVec 32 := Scalar.maxsi c0_i32_2996 v4652
  let v4654 : BitVec 32 := Scalar.minsi c15232_i32_2997 v4653
  let v4655 : BitVec 32 := v4654
  ![22, 0, v4655.toNat]
def k0_off110 (v4649 : BitVec 32) : Fin 3 → Nat :=
  let c22_i32_3004 : BitVec 32 := 22#32
  let c0_i32_3009 : BitVec 32 := 0#32
  let c15232_i32_2997 : BitVec 32 := 15232#32
  let c0_i32_2996 : BitVec 32 := 0#32
  let c1023_i32_2993 : BitVec 32 := 1023#32
  let v4650 : BitVec 32 := Scalar.subi v4649 c1023_i32_2993
  let c7_i32_2994 : BitVec 32 := 7#32
  let v4651 : BitVec 32 := Scalar.shrsi v4650 c7_i32_2994
  let c7_i32_2995 : BitVec 32 := 7#32
  let v4652 : BitVec 32 := Scalar.shli v4651 c7_i32_2995
  let v4653 : BitVec 32 := Scalar.maxsi c0_i32_2996 v4652
  let v4654 : BitVec 32 := Scalar.minsi c15232_i32_2997 v4653
  let v4655 : BitVec 32 := v4654
  ![22, 0, v4655.toNat]

def k0_chk55 (v4649 : BitVec 32) : Prop :=
  (128 ∣ (k0_mult55 v4649).toNat) ∧
  (∀ a, (k0_off109 v4649) a + S1x128x1152.size a ≤ S32x128x16384.size a) ∧
  (∀ (hinb : ∀ a, (k0_off109 v4649) a + S1x128x1152.size a ≤ S32x128x16384.size a), (Rect.unit (s := S32x128x16384) (k0_off109 v4649) S1x128x1152.size hinb).WholeWords (EltTy.packing .fp8e4m3)) ∧
  (∀ a, (k0_off110 v4649) a + S1x2x1152.size a ≤ S32x2x16384.size a)
theorem k0_mult55_dvd : ∀ (v4649 : BitVec 32) (k0_hw55 : k0_chk55 v4649), 128 ∣ (k0_mult55 v4649).toNat := fun v4649 k0_hw55 => k0_hw55.1
theorem k0_off109_inb : ∀ (v4649 : BitVec 32) (k0_hw55 : k0_chk55 v4649), ∀ a, (k0_off109 v4649) a + S1x128x1152.size a ≤ S32x128x16384.size a := fun v4649 k0_hw55 => k0_hw55.2.1
theorem k0_off109_wordsfp8e4m3 : ∀ (v4649 : BitVec 32) (k0_hw55 : k0_chk55 v4649), (Rect.unit (s := S32x128x16384) (k0_off109 v4649) S1x128x1152.size (k0_off109_inb v4649 k0_hw55)).WholeWords (EltTy.packing .fp8e4m3) := fun v4649 k0_hw55 => k0_hw55.2.2.1 (k0_off109_inb v4649 k0_hw55)
theorem k0_off110_inb : ∀ (v4649 : BitVec 32) (k0_hw55 : k0_chk55 v4649), ∀ a, (k0_off110 v4649) a + S1x2x1152.size a ≤ S32x2x16384.size a := fun v4649 k0_hw55 => k0_hw55.2.2.2

def k0_mult56 (v4794 : BitVec 32) : BitVec 32 :=
  let c15232_i32_3085 : BitVec 32 := 15232#32
  let c0_i32_3084 : BitVec 32 := 0#32
  let c1023_i32_3081 : BitVec 32 := 1023#32
  let v4795 : BitVec 32 := Scalar.subi v4794 c1023_i32_3081
  let c7_i32_3082 : BitVec 32 := 7#32
  let v4796 : BitVec 32 := Scalar.shrsi v4795 c7_i32_3082
  let c7_i32_3083 : BitVec 32 := 7#32
  let v4797 : BitVec 32 := Scalar.shli v4796 c7_i32_3083
  let v4798 : BitVec 32 := Scalar.maxsi c0_i32_3084 v4797
  let v4799 : BitVec 32 := Scalar.minsi c15232_i32_3085 v4798
  v4799

def k0_off111 (v4794 : BitVec 32) : Fin 3 → Nat :=
  let c23_i32_3086 : BitVec 32 := 23#32
  let c0_i32_3091 : BitVec 32 := 0#32
  let c15232_i32_3085 : BitVec 32 := 15232#32
  let c0_i32_3084 : BitVec 32 := 0#32
  let c1023_i32_3081 : BitVec 32 := 1023#32
  let v4795 : BitVec 32 := Scalar.subi v4794 c1023_i32_3081
  let c7_i32_3082 : BitVec 32 := 7#32
  let v4796 : BitVec 32 := Scalar.shrsi v4795 c7_i32_3082
  let c7_i32_3083 : BitVec 32 := 7#32
  let v4797 : BitVec 32 := Scalar.shli v4796 c7_i32_3083
  let v4798 : BitVec 32 := Scalar.maxsi c0_i32_3084 v4797
  let v4799 : BitVec 32 := Scalar.minsi c15232_i32_3085 v4798
  let v4800 : BitVec 32 := v4799
  ![23, 0, v4800.toNat]
def k0_off112 (v4794 : BitVec 32) : Fin 3 → Nat :=
  let c23_i32_3092 : BitVec 32 := 23#32
  let c0_i32_3097 : BitVec 32 := 0#32
  let c15232_i32_3085 : BitVec 32 := 15232#32
  let c0_i32_3084 : BitVec 32 := 0#32
  let c1023_i32_3081 : BitVec 32 := 1023#32
  let v4795 : BitVec 32 := Scalar.subi v4794 c1023_i32_3081
  let c7_i32_3082 : BitVec 32 := 7#32
  let v4796 : BitVec 32 := Scalar.shrsi v4795 c7_i32_3082
  let c7_i32_3083 : BitVec 32 := 7#32
  let v4797 : BitVec 32 := Scalar.shli v4796 c7_i32_3083
  let v4798 : BitVec 32 := Scalar.maxsi c0_i32_3084 v4797
  let v4799 : BitVec 32 := Scalar.minsi c15232_i32_3085 v4798
  let v4800 : BitVec 32 := v4799
  ![23, 0, v4800.toNat]

def k0_chk56 (v4794 : BitVec 32) : Prop :=
  (128 ∣ (k0_mult56 v4794).toNat) ∧
  (∀ a, (k0_off111 v4794) a + S1x128x1152.size a ≤ S32x128x16384.size a) ∧
  (∀ (hinb : ∀ a, (k0_off111 v4794) a + S1x128x1152.size a ≤ S32x128x16384.size a), (Rect.unit (s := S32x128x16384) (k0_off111 v4794) S1x128x1152.size hinb).WholeWords (EltTy.packing .fp8e4m3)) ∧
  (∀ a, (k0_off112 v4794) a + S1x2x1152.size a ≤ S32x2x16384.size a)
theorem k0_mult56_dvd : ∀ (v4794 : BitVec 32) (k0_hw56 : k0_chk56 v4794), 128 ∣ (k0_mult56 v4794).toNat := fun v4794 k0_hw56 => k0_hw56.1
theorem k0_off111_inb : ∀ (v4794 : BitVec 32) (k0_hw56 : k0_chk56 v4794), ∀ a, (k0_off111 v4794) a + S1x128x1152.size a ≤ S32x128x16384.size a := fun v4794 k0_hw56 => k0_hw56.2.1
theorem k0_off111_wordsfp8e4m3 : ∀ (v4794 : BitVec 32) (k0_hw56 : k0_chk56 v4794), (Rect.unit (s := S32x128x16384) (k0_off111 v4794) S1x128x1152.size (k0_off111_inb v4794 k0_hw56)).WholeWords (EltTy.packing .fp8e4m3) := fun v4794 k0_hw56 => k0_hw56.2.2.1 (k0_off111_inb v4794 k0_hw56)
theorem k0_off112_inb : ∀ (v4794 : BitVec 32) (k0_hw56 : k0_chk56 v4794), ∀ a, (k0_off112 v4794) a + S1x2x1152.size a ≤ S32x2x16384.size a := fun v4794 k0_hw56 => k0_hw56.2.2.2

def k0_mult57 (v4939 : BitVec 32) : BitVec 32 :=
  let c15232_i32_3173 : BitVec 32 := 15232#32
  let c0_i32_3172 : BitVec 32 := 0#32
  let c1023_i32_3169 : BitVec 32 := 1023#32
  let v4940 : BitVec 32 := Scalar.subi v4939 c1023_i32_3169
  let c7_i32_3170 : BitVec 32 := 7#32
  let v4941 : BitVec 32 := Scalar.shrsi v4940 c7_i32_3170
  let c7_i32_3171 : BitVec 32 := 7#32
  let v4942 : BitVec 32 := Scalar.shli v4941 c7_i32_3171
  let v4943 : BitVec 32 := Scalar.maxsi c0_i32_3172 v4942
  let v4944 : BitVec 32 := Scalar.minsi c15232_i32_3173 v4943
  v4944

def k0_off113 (v4939 : BitVec 32) : Fin 3 → Nat :=
  let c24_i32_3174 : BitVec 32 := 24#32
  let c0_i32_3179 : BitVec 32 := 0#32
  let c15232_i32_3173 : BitVec 32 := 15232#32
  let c0_i32_3172 : BitVec 32 := 0#32
  let c1023_i32_3169 : BitVec 32 := 1023#32
  let v4940 : BitVec 32 := Scalar.subi v4939 c1023_i32_3169
  let c7_i32_3170 : BitVec 32 := 7#32
  let v4941 : BitVec 32 := Scalar.shrsi v4940 c7_i32_3170
  let c7_i32_3171 : BitVec 32 := 7#32
  let v4942 : BitVec 32 := Scalar.shli v4941 c7_i32_3171
  let v4943 : BitVec 32 := Scalar.maxsi c0_i32_3172 v4942
  let v4944 : BitVec 32 := Scalar.minsi c15232_i32_3173 v4943
  let v4945 : BitVec 32 := v4944
  ![24, 0, v4945.toNat]
def k0_off114 (v4939 : BitVec 32) : Fin 3 → Nat :=
  let c24_i32_3180 : BitVec 32 := 24#32
  let c0_i32_3185 : BitVec 32 := 0#32
  let c15232_i32_3173 : BitVec 32 := 15232#32
  let c0_i32_3172 : BitVec 32 := 0#32
  let c1023_i32_3169 : BitVec 32 := 1023#32
  let v4940 : BitVec 32 := Scalar.subi v4939 c1023_i32_3169
  let c7_i32_3170 : BitVec 32 := 7#32
  let v4941 : BitVec 32 := Scalar.shrsi v4940 c7_i32_3170
  let c7_i32_3171 : BitVec 32 := 7#32
  let v4942 : BitVec 32 := Scalar.shli v4941 c7_i32_3171
  let v4943 : BitVec 32 := Scalar.maxsi c0_i32_3172 v4942
  let v4944 : BitVec 32 := Scalar.minsi c15232_i32_3173 v4943
  let v4945 : BitVec 32 := v4944
  ![24, 0, v4945.toNat]

def k0_chk57 (v4939 : BitVec 32) : Prop :=
  (128 ∣ (k0_mult57 v4939).toNat) ∧
  (∀ a, (k0_off113 v4939) a + S1x128x1152.size a ≤ S32x128x16384.size a) ∧
  (∀ (hinb : ∀ a, (k0_off113 v4939) a + S1x128x1152.size a ≤ S32x128x16384.size a), (Rect.unit (s := S32x128x16384) (k0_off113 v4939) S1x128x1152.size hinb).WholeWords (EltTy.packing .fp8e4m3)) ∧
  (∀ a, (k0_off114 v4939) a + S1x2x1152.size a ≤ S32x2x16384.size a)
theorem k0_mult57_dvd : ∀ (v4939 : BitVec 32) (k0_hw57 : k0_chk57 v4939), 128 ∣ (k0_mult57 v4939).toNat := fun v4939 k0_hw57 => k0_hw57.1
theorem k0_off113_inb : ∀ (v4939 : BitVec 32) (k0_hw57 : k0_chk57 v4939), ∀ a, (k0_off113 v4939) a + S1x128x1152.size a ≤ S32x128x16384.size a := fun v4939 k0_hw57 => k0_hw57.2.1
theorem k0_off113_wordsfp8e4m3 : ∀ (v4939 : BitVec 32) (k0_hw57 : k0_chk57 v4939), (Rect.unit (s := S32x128x16384) (k0_off113 v4939) S1x128x1152.size (k0_off113_inb v4939 k0_hw57)).WholeWords (EltTy.packing .fp8e4m3) := fun v4939 k0_hw57 => k0_hw57.2.2.1 (k0_off113_inb v4939 k0_hw57)
theorem k0_off114_inb : ∀ (v4939 : BitVec 32) (k0_hw57 : k0_chk57 v4939), ∀ a, (k0_off114 v4939) a + S1x2x1152.size a ≤ S32x2x16384.size a := fun v4939 k0_hw57 => k0_hw57.2.2.2

def k0_mult58 (v5084 : BitVec 32) : BitVec 32 :=
  let c15232_i32_3261 : BitVec 32 := 15232#32
  let c0_i32_3260 : BitVec 32 := 0#32
  let c1023_i32_3257 : BitVec 32 := 1023#32
  let v5085 : BitVec 32 := Scalar.subi v5084 c1023_i32_3257
  let c7_i32_3258 : BitVec 32 := 7#32
  let v5086 : BitVec 32 := Scalar.shrsi v5085 c7_i32_3258
  let c7_i32_3259 : BitVec 32 := 7#32
  let v5087 : BitVec 32 := Scalar.shli v5086 c7_i32_3259
  let v5088 : BitVec 32 := Scalar.maxsi c0_i32_3260 v5087
  let v5089 : BitVec 32 := Scalar.minsi c15232_i32_3261 v5088
  v5089

def k0_off115 (v5084 : BitVec 32) : Fin 3 → Nat :=
  let c25_i32_3262 : BitVec 32 := 25#32
  let c0_i32_3267 : BitVec 32 := 0#32
  let c15232_i32_3261 : BitVec 32 := 15232#32
  let c0_i32_3260 : BitVec 32 := 0#32
  let c1023_i32_3257 : BitVec 32 := 1023#32
  let v5085 : BitVec 32 := Scalar.subi v5084 c1023_i32_3257
  let c7_i32_3258 : BitVec 32 := 7#32
  let v5086 : BitVec 32 := Scalar.shrsi v5085 c7_i32_3258
  let c7_i32_3259 : BitVec 32 := 7#32
  let v5087 : BitVec 32 := Scalar.shli v5086 c7_i32_3259
  let v5088 : BitVec 32 := Scalar.maxsi c0_i32_3260 v5087
  let v5089 : BitVec 32 := Scalar.minsi c15232_i32_3261 v5088
  let v5090 : BitVec 32 := v5089
  ![25, 0, v5090.toNat]
def k0_off116 (v5084 : BitVec 32) : Fin 3 → Nat :=
  let c25_i32_3268 : BitVec 32 := 25#32
  let c0_i32_3273 : BitVec 32 := 0#32
  let c15232_i32_3261 : BitVec 32 := 15232#32
  let c0_i32_3260 : BitVec 32 := 0#32
  let c1023_i32_3257 : BitVec 32 := 1023#32
  let v5085 : BitVec 32 := Scalar.subi v5084 c1023_i32_3257
  let c7_i32_3258 : BitVec 32 := 7#32
  let v5086 : BitVec 32 := Scalar.shrsi v5085 c7_i32_3258
  let c7_i32_3259 : BitVec 32 := 7#32
  let v5087 : BitVec 32 := Scalar.shli v5086 c7_i32_3259
  let v5088 : BitVec 32 := Scalar.maxsi c0_i32_3260 v5087
  let v5089 : BitVec 32 := Scalar.minsi c15232_i32_3261 v5088
  let v5090 : BitVec 32 := v5089
  ![25, 0, v5090.toNat]

def k0_chk58 (v5084 : BitVec 32) : Prop :=
  (128 ∣ (k0_mult58 v5084).toNat) ∧
  (∀ a, (k0_off115 v5084) a + S1x128x1152.size a ≤ S32x128x16384.size a) ∧
  (∀ (hinb : ∀ a, (k0_off115 v5084) a + S1x128x1152.size a ≤ S32x128x16384.size a), (Rect.unit (s := S32x128x16384) (k0_off115 v5084) S1x128x1152.size hinb).WholeWords (EltTy.packing .fp8e4m3)) ∧
  (∀ a, (k0_off116 v5084) a + S1x2x1152.size a ≤ S32x2x16384.size a)
theorem k0_mult58_dvd : ∀ (v5084 : BitVec 32) (k0_hw58 : k0_chk58 v5084), 128 ∣ (k0_mult58 v5084).toNat := fun v5084 k0_hw58 => k0_hw58.1
theorem k0_off115_inb : ∀ (v5084 : BitVec 32) (k0_hw58 : k0_chk58 v5084), ∀ a, (k0_off115 v5084) a + S1x128x1152.size a ≤ S32x128x16384.size a := fun v5084 k0_hw58 => k0_hw58.2.1
theorem k0_off115_wordsfp8e4m3 : ∀ (v5084 : BitVec 32) (k0_hw58 : k0_chk58 v5084), (Rect.unit (s := S32x128x16384) (k0_off115 v5084) S1x128x1152.size (k0_off115_inb v5084 k0_hw58)).WholeWords (EltTy.packing .fp8e4m3) := fun v5084 k0_hw58 => k0_hw58.2.2.1 (k0_off115_inb v5084 k0_hw58)
theorem k0_off116_inb : ∀ (v5084 : BitVec 32) (k0_hw58 : k0_chk58 v5084), ∀ a, (k0_off116 v5084) a + S1x2x1152.size a ≤ S32x2x16384.size a := fun v5084 k0_hw58 => k0_hw58.2.2.2

def k0_mult59 (v5229 : BitVec 32) : BitVec 32 :=
  let c15232_i32_3349 : BitVec 32 := 15232#32
  let c0_i32_3348 : BitVec 32 := 0#32
  let c1023_i32_3345 : BitVec 32 := 1023#32
  let v5230 : BitVec 32 := Scalar.subi v5229 c1023_i32_3345
  let c7_i32_3346 : BitVec 32 := 7#32
  let v5231 : BitVec 32 := Scalar.shrsi v5230 c7_i32_3346
  let c7_i32_3347 : BitVec 32 := 7#32
  let v5232 : BitVec 32 := Scalar.shli v5231 c7_i32_3347
  let v5233 : BitVec 32 := Scalar.maxsi c0_i32_3348 v5232
  let v5234 : BitVec 32 := Scalar.minsi c15232_i32_3349 v5233
  v5234

def k0_off117 (v5229 : BitVec 32) : Fin 3 → Nat :=
  let c26_i32_3350 : BitVec 32 := 26#32
  let c0_i32_3355 : BitVec 32 := 0#32
  let c15232_i32_3349 : BitVec 32 := 15232#32
  let c0_i32_3348 : BitVec 32 := 0#32
  let c1023_i32_3345 : BitVec 32 := 1023#32
  let v5230 : BitVec 32 := Scalar.subi v5229 c1023_i32_3345
  let c7_i32_3346 : BitVec 32 := 7#32
  let v5231 : BitVec 32 := Scalar.shrsi v5230 c7_i32_3346
  let c7_i32_3347 : BitVec 32 := 7#32
  let v5232 : BitVec 32 := Scalar.shli v5231 c7_i32_3347
  let v5233 : BitVec 32 := Scalar.maxsi c0_i32_3348 v5232
  let v5234 : BitVec 32 := Scalar.minsi c15232_i32_3349 v5233
  let v5235 : BitVec 32 := v5234
  ![26, 0, v5235.toNat]
def k0_off118 (v5229 : BitVec 32) : Fin 3 → Nat :=
  let c26_i32_3356 : BitVec 32 := 26#32
  let c0_i32_3361 : BitVec 32 := 0#32
  let c15232_i32_3349 : BitVec 32 := 15232#32
  let c0_i32_3348 : BitVec 32 := 0#32
  let c1023_i32_3345 : BitVec 32 := 1023#32
  let v5230 : BitVec 32 := Scalar.subi v5229 c1023_i32_3345
  let c7_i32_3346 : BitVec 32 := 7#32
  let v5231 : BitVec 32 := Scalar.shrsi v5230 c7_i32_3346
  let c7_i32_3347 : BitVec 32 := 7#32
  let v5232 : BitVec 32 := Scalar.shli v5231 c7_i32_3347
  let v5233 : BitVec 32 := Scalar.maxsi c0_i32_3348 v5232
  let v5234 : BitVec 32 := Scalar.minsi c15232_i32_3349 v5233
  let v5235 : BitVec 32 := v5234
  ![26, 0, v5235.toNat]

def k0_chk59 (v5229 : BitVec 32) : Prop :=
  (128 ∣ (k0_mult59 v5229).toNat) ∧
  (∀ a, (k0_off117 v5229) a + S1x128x1152.size a ≤ S32x128x16384.size a) ∧
  (∀ (hinb : ∀ a, (k0_off117 v5229) a + S1x128x1152.size a ≤ S32x128x16384.size a), (Rect.unit (s := S32x128x16384) (k0_off117 v5229) S1x128x1152.size hinb).WholeWords (EltTy.packing .fp8e4m3)) ∧
  (∀ a, (k0_off118 v5229) a + S1x2x1152.size a ≤ S32x2x16384.size a)
theorem k0_mult59_dvd : ∀ (v5229 : BitVec 32) (k0_hw59 : k0_chk59 v5229), 128 ∣ (k0_mult59 v5229).toNat := fun v5229 k0_hw59 => k0_hw59.1
theorem k0_off117_inb : ∀ (v5229 : BitVec 32) (k0_hw59 : k0_chk59 v5229), ∀ a, (k0_off117 v5229) a + S1x128x1152.size a ≤ S32x128x16384.size a := fun v5229 k0_hw59 => k0_hw59.2.1
theorem k0_off117_wordsfp8e4m3 : ∀ (v5229 : BitVec 32) (k0_hw59 : k0_chk59 v5229), (Rect.unit (s := S32x128x16384) (k0_off117 v5229) S1x128x1152.size (k0_off117_inb v5229 k0_hw59)).WholeWords (EltTy.packing .fp8e4m3) := fun v5229 k0_hw59 => k0_hw59.2.2.1 (k0_off117_inb v5229 k0_hw59)
theorem k0_off118_inb : ∀ (v5229 : BitVec 32) (k0_hw59 : k0_chk59 v5229), ∀ a, (k0_off118 v5229) a + S1x2x1152.size a ≤ S32x2x16384.size a := fun v5229 k0_hw59 => k0_hw59.2.2.2

def k0_mult60 (v5374 : BitVec 32) : BitVec 32 :=
  let c15232_i32_3437 : BitVec 32 := 15232#32
  let c0_i32_3436 : BitVec 32 := 0#32
  let c1023_i32_3433 : BitVec 32 := 1023#32
  let v5375 : BitVec 32 := Scalar.subi v5374 c1023_i32_3433
  let c7_i32_3434 : BitVec 32 := 7#32
  let v5376 : BitVec 32 := Scalar.shrsi v5375 c7_i32_3434
  let c7_i32_3435 : BitVec 32 := 7#32
  let v5377 : BitVec 32 := Scalar.shli v5376 c7_i32_3435
  let v5378 : BitVec 32 := Scalar.maxsi c0_i32_3436 v5377
  let v5379 : BitVec 32 := Scalar.minsi c15232_i32_3437 v5378
  v5379

def k0_off119 (v5374 : BitVec 32) : Fin 3 → Nat :=
  let c27_i32_3438 : BitVec 32 := 27#32
  let c0_i32_3443 : BitVec 32 := 0#32
  let c15232_i32_3437 : BitVec 32 := 15232#32
  let c0_i32_3436 : BitVec 32 := 0#32
  let c1023_i32_3433 : BitVec 32 := 1023#32
  let v5375 : BitVec 32 := Scalar.subi v5374 c1023_i32_3433
  let c7_i32_3434 : BitVec 32 := 7#32
  let v5376 : BitVec 32 := Scalar.shrsi v5375 c7_i32_3434
  let c7_i32_3435 : BitVec 32 := 7#32
  let v5377 : BitVec 32 := Scalar.shli v5376 c7_i32_3435
  let v5378 : BitVec 32 := Scalar.maxsi c0_i32_3436 v5377
  let v5379 : BitVec 32 := Scalar.minsi c15232_i32_3437 v5378
  let v5380 : BitVec 32 := v5379
  ![27, 0, v5380.toNat]
def k0_off120 (v5374 : BitVec 32) : Fin 3 → Nat :=
  let c27_i32_3444 : BitVec 32 := 27#32
  let c0_i32_3449 : BitVec 32 := 0#32
  let c15232_i32_3437 : BitVec 32 := 15232#32
  let c0_i32_3436 : BitVec 32 := 0#32
  let c1023_i32_3433 : BitVec 32 := 1023#32
  let v5375 : BitVec 32 := Scalar.subi v5374 c1023_i32_3433
  let c7_i32_3434 : BitVec 32 := 7#32
  let v5376 : BitVec 32 := Scalar.shrsi v5375 c7_i32_3434
  let c7_i32_3435 : BitVec 32 := 7#32
  let v5377 : BitVec 32 := Scalar.shli v5376 c7_i32_3435
  let v5378 : BitVec 32 := Scalar.maxsi c0_i32_3436 v5377
  let v5379 : BitVec 32 := Scalar.minsi c15232_i32_3437 v5378
  let v5380 : BitVec 32 := v5379
  ![27, 0, v5380.toNat]

def k0_chk60 (v5374 : BitVec 32) : Prop :=
  (128 ∣ (k0_mult60 v5374).toNat) ∧
  (∀ a, (k0_off119 v5374) a + S1x128x1152.size a ≤ S32x128x16384.size a) ∧
  (∀ (hinb : ∀ a, (k0_off119 v5374) a + S1x128x1152.size a ≤ S32x128x16384.size a), (Rect.unit (s := S32x128x16384) (k0_off119 v5374) S1x128x1152.size hinb).WholeWords (EltTy.packing .fp8e4m3)) ∧
  (∀ a, (k0_off120 v5374) a + S1x2x1152.size a ≤ S32x2x16384.size a)
theorem k0_mult60_dvd : ∀ (v5374 : BitVec 32) (k0_hw60 : k0_chk60 v5374), 128 ∣ (k0_mult60 v5374).toNat := fun v5374 k0_hw60 => k0_hw60.1
theorem k0_off119_inb : ∀ (v5374 : BitVec 32) (k0_hw60 : k0_chk60 v5374), ∀ a, (k0_off119 v5374) a + S1x128x1152.size a ≤ S32x128x16384.size a := fun v5374 k0_hw60 => k0_hw60.2.1
theorem k0_off119_wordsfp8e4m3 : ∀ (v5374 : BitVec 32) (k0_hw60 : k0_chk60 v5374), (Rect.unit (s := S32x128x16384) (k0_off119 v5374) S1x128x1152.size (k0_off119_inb v5374 k0_hw60)).WholeWords (EltTy.packing .fp8e4m3) := fun v5374 k0_hw60 => k0_hw60.2.2.1 (k0_off119_inb v5374 k0_hw60)
theorem k0_off120_inb : ∀ (v5374 : BitVec 32) (k0_hw60 : k0_chk60 v5374), ∀ a, (k0_off120 v5374) a + S1x2x1152.size a ≤ S32x2x16384.size a := fun v5374 k0_hw60 => k0_hw60.2.2.2

def k0_mult61 (v5519 : BitVec 32) : BitVec 32 :=
  let c15232_i32_3525 : BitVec 32 := 15232#32
  let c0_i32_3524 : BitVec 32 := 0#32
  let c1023_i32_3521 : BitVec 32 := 1023#32
  let v5520 : BitVec 32 := Scalar.subi v5519 c1023_i32_3521
  let c7_i32_3522 : BitVec 32 := 7#32
  let v5521 : BitVec 32 := Scalar.shrsi v5520 c7_i32_3522
  let c7_i32_3523 : BitVec 32 := 7#32
  let v5522 : BitVec 32 := Scalar.shli v5521 c7_i32_3523
  let v5523 : BitVec 32 := Scalar.maxsi c0_i32_3524 v5522
  let v5524 : BitVec 32 := Scalar.minsi c15232_i32_3525 v5523
  v5524

def k0_off121 (v5519 : BitVec 32) : Fin 3 → Nat :=
  let c28_i32_3526 : BitVec 32 := 28#32
  let c0_i32_3531 : BitVec 32 := 0#32
  let c15232_i32_3525 : BitVec 32 := 15232#32
  let c0_i32_3524 : BitVec 32 := 0#32
  let c1023_i32_3521 : BitVec 32 := 1023#32
  let v5520 : BitVec 32 := Scalar.subi v5519 c1023_i32_3521
  let c7_i32_3522 : BitVec 32 := 7#32
  let v5521 : BitVec 32 := Scalar.shrsi v5520 c7_i32_3522
  let c7_i32_3523 : BitVec 32 := 7#32
  let v5522 : BitVec 32 := Scalar.shli v5521 c7_i32_3523
  let v5523 : BitVec 32 := Scalar.maxsi c0_i32_3524 v5522
  let v5524 : BitVec 32 := Scalar.minsi c15232_i32_3525 v5523
  let v5525 : BitVec 32 := v5524
  ![28, 0, v5525.toNat]
def k0_off122 (v5519 : BitVec 32) : Fin 3 → Nat :=
  let c28_i32_3532 : BitVec 32 := 28#32
  let c0_i32_3537 : BitVec 32 := 0#32
  let c15232_i32_3525 : BitVec 32 := 15232#32
  let c0_i32_3524 : BitVec 32 := 0#32
  let c1023_i32_3521 : BitVec 32 := 1023#32
  let v5520 : BitVec 32 := Scalar.subi v5519 c1023_i32_3521
  let c7_i32_3522 : BitVec 32 := 7#32
  let v5521 : BitVec 32 := Scalar.shrsi v5520 c7_i32_3522
  let c7_i32_3523 : BitVec 32 := 7#32
  let v5522 : BitVec 32 := Scalar.shli v5521 c7_i32_3523
  let v5523 : BitVec 32 := Scalar.maxsi c0_i32_3524 v5522
  let v5524 : BitVec 32 := Scalar.minsi c15232_i32_3525 v5523
  let v5525 : BitVec 32 := v5524
  ![28, 0, v5525.toNat]

def k0_chk61 (v5519 : BitVec 32) : Prop :=
  (128 ∣ (k0_mult61 v5519).toNat) ∧
  (∀ a, (k0_off121 v5519) a + S1x128x1152.size a ≤ S32x128x16384.size a) ∧
  (∀ (hinb : ∀ a, (k0_off121 v5519) a + S1x128x1152.size a ≤ S32x128x16384.size a), (Rect.unit (s := S32x128x16384) (k0_off121 v5519) S1x128x1152.size hinb).WholeWords (EltTy.packing .fp8e4m3)) ∧
  (∀ a, (k0_off122 v5519) a + S1x2x1152.size a ≤ S32x2x16384.size a)
theorem k0_mult61_dvd : ∀ (v5519 : BitVec 32) (k0_hw61 : k0_chk61 v5519), 128 ∣ (k0_mult61 v5519).toNat := fun v5519 k0_hw61 => k0_hw61.1
theorem k0_off121_inb : ∀ (v5519 : BitVec 32) (k0_hw61 : k0_chk61 v5519), ∀ a, (k0_off121 v5519) a + S1x128x1152.size a ≤ S32x128x16384.size a := fun v5519 k0_hw61 => k0_hw61.2.1
theorem k0_off121_wordsfp8e4m3 : ∀ (v5519 : BitVec 32) (k0_hw61 : k0_chk61 v5519), (Rect.unit (s := S32x128x16384) (k0_off121 v5519) S1x128x1152.size (k0_off121_inb v5519 k0_hw61)).WholeWords (EltTy.packing .fp8e4m3) := fun v5519 k0_hw61 => k0_hw61.2.2.1 (k0_off121_inb v5519 k0_hw61)
theorem k0_off122_inb : ∀ (v5519 : BitVec 32) (k0_hw61 : k0_chk61 v5519), ∀ a, (k0_off122 v5519) a + S1x2x1152.size a ≤ S32x2x16384.size a := fun v5519 k0_hw61 => k0_hw61.2.2.2

def k0_mult62 (v5664 : BitVec 32) : BitVec 32 :=
  let c15232_i32_3613 : BitVec 32 := 15232#32
  let c0_i32_3612 : BitVec 32 := 0#32
  let c1023_i32_3609 : BitVec 32 := 1023#32
  let v5665 : BitVec 32 := Scalar.subi v5664 c1023_i32_3609
  let c7_i32_3610 : BitVec 32 := 7#32
  let v5666 : BitVec 32 := Scalar.shrsi v5665 c7_i32_3610
  let c7_i32_3611 : BitVec 32 := 7#32
  let v5667 : BitVec 32 := Scalar.shli v5666 c7_i32_3611
  let v5668 : BitVec 32 := Scalar.maxsi c0_i32_3612 v5667
  let v5669 : BitVec 32 := Scalar.minsi c15232_i32_3613 v5668
  v5669

def k0_off123 (v5664 : BitVec 32) : Fin 3 → Nat :=
  let c29_i32_3614 : BitVec 32 := 29#32
  let c0_i32_3619 : BitVec 32 := 0#32
  let c15232_i32_3613 : BitVec 32 := 15232#32
  let c0_i32_3612 : BitVec 32 := 0#32
  let c1023_i32_3609 : BitVec 32 := 1023#32
  let v5665 : BitVec 32 := Scalar.subi v5664 c1023_i32_3609
  let c7_i32_3610 : BitVec 32 := 7#32
  let v5666 : BitVec 32 := Scalar.shrsi v5665 c7_i32_3610
  let c7_i32_3611 : BitVec 32 := 7#32
  let v5667 : BitVec 32 := Scalar.shli v5666 c7_i32_3611
  let v5668 : BitVec 32 := Scalar.maxsi c0_i32_3612 v5667
  let v5669 : BitVec 32 := Scalar.minsi c15232_i32_3613 v5668
  let v5670 : BitVec 32 := v5669
  ![29, 0, v5670.toNat]
def k0_off124 (v5664 : BitVec 32) : Fin 3 → Nat :=
  let c29_i32_3620 : BitVec 32 := 29#32
  let c0_i32_3625 : BitVec 32 := 0#32
  let c15232_i32_3613 : BitVec 32 := 15232#32
  let c0_i32_3612 : BitVec 32 := 0#32
  let c1023_i32_3609 : BitVec 32 := 1023#32
  let v5665 : BitVec 32 := Scalar.subi v5664 c1023_i32_3609
  let c7_i32_3610 : BitVec 32 := 7#32
  let v5666 : BitVec 32 := Scalar.shrsi v5665 c7_i32_3610
  let c7_i32_3611 : BitVec 32 := 7#32
  let v5667 : BitVec 32 := Scalar.shli v5666 c7_i32_3611
  let v5668 : BitVec 32 := Scalar.maxsi c0_i32_3612 v5667
  let v5669 : BitVec 32 := Scalar.minsi c15232_i32_3613 v5668
  let v5670 : BitVec 32 := v5669
  ![29, 0, v5670.toNat]

def k0_chk62 (v5664 : BitVec 32) : Prop :=
  (128 ∣ (k0_mult62 v5664).toNat) ∧
  (∀ a, (k0_off123 v5664) a + S1x128x1152.size a ≤ S32x128x16384.size a) ∧
  (∀ (hinb : ∀ a, (k0_off123 v5664) a + S1x128x1152.size a ≤ S32x128x16384.size a), (Rect.unit (s := S32x128x16384) (k0_off123 v5664) S1x128x1152.size hinb).WholeWords (EltTy.packing .fp8e4m3)) ∧
  (∀ a, (k0_off124 v5664) a + S1x2x1152.size a ≤ S32x2x16384.size a)
theorem k0_mult62_dvd : ∀ (v5664 : BitVec 32) (k0_hw62 : k0_chk62 v5664), 128 ∣ (k0_mult62 v5664).toNat := fun v5664 k0_hw62 => k0_hw62.1
theorem k0_off123_inb : ∀ (v5664 : BitVec 32) (k0_hw62 : k0_chk62 v5664), ∀ a, (k0_off123 v5664) a + S1x128x1152.size a ≤ S32x128x16384.size a := fun v5664 k0_hw62 => k0_hw62.2.1
theorem k0_off123_wordsfp8e4m3 : ∀ (v5664 : BitVec 32) (k0_hw62 : k0_chk62 v5664), (Rect.unit (s := S32x128x16384) (k0_off123 v5664) S1x128x1152.size (k0_off123_inb v5664 k0_hw62)).WholeWords (EltTy.packing .fp8e4m3) := fun v5664 k0_hw62 => k0_hw62.2.2.1 (k0_off123_inb v5664 k0_hw62)
theorem k0_off124_inb : ∀ (v5664 : BitVec 32) (k0_hw62 : k0_chk62 v5664), ∀ a, (k0_off124 v5664) a + S1x2x1152.size a ≤ S32x2x16384.size a := fun v5664 k0_hw62 => k0_hw62.2.2.2

def k0_mult63 (v5809 : BitVec 32) : BitVec 32 :=
  let c15232_i32_3701 : BitVec 32 := 15232#32
  let c0_i32_3700 : BitVec 32 := 0#32
  let c1023_i32_3697 : BitVec 32 := 1023#32
  let v5810 : BitVec 32 := Scalar.subi v5809 c1023_i32_3697
  let c7_i32_3698 : BitVec 32 := 7#32
  let v5811 : BitVec 32 := Scalar.shrsi v5810 c7_i32_3698
  let c7_i32_3699 : BitVec 32 := 7#32
  let v5812 : BitVec 32 := Scalar.shli v5811 c7_i32_3699
  let v5813 : BitVec 32 := Scalar.maxsi c0_i32_3700 v5812
  let v5814 : BitVec 32 := Scalar.minsi c15232_i32_3701 v5813
  v5814

def k0_off125 (v5809 : BitVec 32) : Fin 3 → Nat :=
  let c30_i32_3702 : BitVec 32 := 30#32
  let c0_i32_3707 : BitVec 32 := 0#32
  let c15232_i32_3701 : BitVec 32 := 15232#32
  let c0_i32_3700 : BitVec 32 := 0#32
  let c1023_i32_3697 : BitVec 32 := 1023#32
  let v5810 : BitVec 32 := Scalar.subi v5809 c1023_i32_3697
  let c7_i32_3698 : BitVec 32 := 7#32
  let v5811 : BitVec 32 := Scalar.shrsi v5810 c7_i32_3698
  let c7_i32_3699 : BitVec 32 := 7#32
  let v5812 : BitVec 32 := Scalar.shli v5811 c7_i32_3699
  let v5813 : BitVec 32 := Scalar.maxsi c0_i32_3700 v5812
  let v5814 : BitVec 32 := Scalar.minsi c15232_i32_3701 v5813
  let v5815 : BitVec 32 := v5814
  ![30, 0, v5815.toNat]
def k0_off126 (v5809 : BitVec 32) : Fin 3 → Nat :=
  let c30_i32_3708 : BitVec 32 := 30#32
  let c0_i32_3713 : BitVec 32 := 0#32
  let c15232_i32_3701 : BitVec 32 := 15232#32
  let c0_i32_3700 : BitVec 32 := 0#32
  let c1023_i32_3697 : BitVec 32 := 1023#32
  let v5810 : BitVec 32 := Scalar.subi v5809 c1023_i32_3697
  let c7_i32_3698 : BitVec 32 := 7#32
  let v5811 : BitVec 32 := Scalar.shrsi v5810 c7_i32_3698
  let c7_i32_3699 : BitVec 32 := 7#32
  let v5812 : BitVec 32 := Scalar.shli v5811 c7_i32_3699
  let v5813 : BitVec 32 := Scalar.maxsi c0_i32_3700 v5812
  let v5814 : BitVec 32 := Scalar.minsi c15232_i32_3701 v5813
  let v5815 : BitVec 32 := v5814
  ![30, 0, v5815.toNat]

def k0_chk63 (v5809 : BitVec 32) : Prop :=
  (128 ∣ (k0_mult63 v5809).toNat) ∧
  (∀ a, (k0_off125 v5809) a + S1x128x1152.size a ≤ S32x128x16384.size a) ∧
  (∀ (hinb : ∀ a, (k0_off125 v5809) a + S1x128x1152.size a ≤ S32x128x16384.size a), (Rect.unit (s := S32x128x16384) (k0_off125 v5809) S1x128x1152.size hinb).WholeWords (EltTy.packing .fp8e4m3)) ∧
  (∀ a, (k0_off126 v5809) a + S1x2x1152.size a ≤ S32x2x16384.size a)
theorem k0_mult63_dvd : ∀ (v5809 : BitVec 32) (k0_hw63 : k0_chk63 v5809), 128 ∣ (k0_mult63 v5809).toNat := fun v5809 k0_hw63 => k0_hw63.1
theorem k0_off125_inb : ∀ (v5809 : BitVec 32) (k0_hw63 : k0_chk63 v5809), ∀ a, (k0_off125 v5809) a + S1x128x1152.size a ≤ S32x128x16384.size a := fun v5809 k0_hw63 => k0_hw63.2.1
theorem k0_off125_wordsfp8e4m3 : ∀ (v5809 : BitVec 32) (k0_hw63 : k0_chk63 v5809), (Rect.unit (s := S32x128x16384) (k0_off125 v5809) S1x128x1152.size (k0_off125_inb v5809 k0_hw63)).WholeWords (EltTy.packing .fp8e4m3) := fun v5809 k0_hw63 => k0_hw63.2.2.1 (k0_off125_inb v5809 k0_hw63)
theorem k0_off126_inb : ∀ (v5809 : BitVec 32) (k0_hw63 : k0_chk63 v5809), ∀ a, (k0_off126 v5809) a + S1x2x1152.size a ≤ S32x2x16384.size a := fun v5809 k0_hw63 => k0_hw63.2.2.2

def k0_mult64 (v5954 : BitVec 32) : BitVec 32 :=
  let c15232_i32_3789 : BitVec 32 := 15232#32
  let c0_i32_3788 : BitVec 32 := 0#32
  let c1023_i32_3785 : BitVec 32 := 1023#32
  let v5955 : BitVec 32 := Scalar.subi v5954 c1023_i32_3785
  let c7_i32_3786 : BitVec 32 := 7#32
  let v5956 : BitVec 32 := Scalar.shrsi v5955 c7_i32_3786
  let c7_i32_3787 : BitVec 32 := 7#32
  let v5957 : BitVec 32 := Scalar.shli v5956 c7_i32_3787
  let v5958 : BitVec 32 := Scalar.maxsi c0_i32_3788 v5957
  let v5959 : BitVec 32 := Scalar.minsi c15232_i32_3789 v5958
  v5959

def k0_off127 (v5954 : BitVec 32) : Fin 3 → Nat :=
  let c31_i32_3790 : BitVec 32 := 31#32
  let c0_i32_3795 : BitVec 32 := 0#32
  let c15232_i32_3789 : BitVec 32 := 15232#32
  let c0_i32_3788 : BitVec 32 := 0#32
  let c1023_i32_3785 : BitVec 32 := 1023#32
  let v5955 : BitVec 32 := Scalar.subi v5954 c1023_i32_3785
  let c7_i32_3786 : BitVec 32 := 7#32
  let v5956 : BitVec 32 := Scalar.shrsi v5955 c7_i32_3786
  let c7_i32_3787 : BitVec 32 := 7#32
  let v5957 : BitVec 32 := Scalar.shli v5956 c7_i32_3787
  let v5958 : BitVec 32 := Scalar.maxsi c0_i32_3788 v5957
  let v5959 : BitVec 32 := Scalar.minsi c15232_i32_3789 v5958
  let v5960 : BitVec 32 := v5959
  ![31, 0, v5960.toNat]
def k0_off128 (v5954 : BitVec 32) : Fin 3 → Nat :=
  let c31_i32_3796 : BitVec 32 := 31#32
  let c0_i32_3801 : BitVec 32 := 0#32
  let c15232_i32_3789 : BitVec 32 := 15232#32
  let c0_i32_3788 : BitVec 32 := 0#32
  let c1023_i32_3785 : BitVec 32 := 1023#32
  let v5955 : BitVec 32 := Scalar.subi v5954 c1023_i32_3785
  let c7_i32_3786 : BitVec 32 := 7#32
  let v5956 : BitVec 32 := Scalar.shrsi v5955 c7_i32_3786
  let c7_i32_3787 : BitVec 32 := 7#32
  let v5957 : BitVec 32 := Scalar.shli v5956 c7_i32_3787
  let v5958 : BitVec 32 := Scalar.maxsi c0_i32_3788 v5957
  let v5959 : BitVec 32 := Scalar.minsi c15232_i32_3789 v5958
  let v5960 : BitVec 32 := v5959
  ![31, 0, v5960.toNat]

def k0_chk64 (v5954 : BitVec 32) : Prop :=
  (128 ∣ (k0_mult64 v5954).toNat) ∧
  (∀ a, (k0_off127 v5954) a + S1x128x1152.size a ≤ S32x128x16384.size a) ∧
  (∀ (hinb : ∀ a, (k0_off127 v5954) a + S1x128x1152.size a ≤ S32x128x16384.size a), (Rect.unit (s := S32x128x16384) (k0_off127 v5954) S1x128x1152.size hinb).WholeWords (EltTy.packing .fp8e4m3)) ∧
  (∀ a, (k0_off128 v5954) a + S1x2x1152.size a ≤ S32x2x16384.size a)
theorem k0_mult64_dvd : ∀ (v5954 : BitVec 32) (k0_hw64 : k0_chk64 v5954), 128 ∣ (k0_mult64 v5954).toNat := fun v5954 k0_hw64 => k0_hw64.1
theorem k0_off127_inb : ∀ (v5954 : BitVec 32) (k0_hw64 : k0_chk64 v5954), ∀ a, (k0_off127 v5954) a + S1x128x1152.size a ≤ S32x128x16384.size a := fun v5954 k0_hw64 => k0_hw64.2.1
theorem k0_off127_wordsfp8e4m3 : ∀ (v5954 : BitVec 32) (k0_hw64 : k0_chk64 v5954), (Rect.unit (s := S32x128x16384) (k0_off127 v5954) S1x128x1152.size (k0_off127_inb v5954 k0_hw64)).WholeWords (EltTy.packing .fp8e4m3) := fun v5954 k0_hw64 => k0_hw64.2.2.1 (k0_off127_inb v5954 k0_hw64)
theorem k0_off128_inb : ∀ (v5954 : BitVec 32) (k0_hw64 : k0_chk64 v5954), ∀ a, (k0_off128 v5954) a + S1x2x1152.size a ≤ S32x2x16384.size a := fun v5954 k0_hw64 => k0_hw64.2.2.2
-- ==== ReferenceIdeal.lean ====
abbrev S32x1x16x64 : Shape := ⟨4, ![32, 1, 16, 64]⟩
abbrev S32x1x2x64 : Shape := ⟨4, ![32, 1, 2, 64]⟩
abbrev S32x16384x2x64 : Shape := ⟨4, ![32, 16384, 2, 64]⟩
abbrev S32x16384x2 : Shape := ⟨3, ![32, 16384, 2]⟩
abbrev S32 : Shape := ⟨1, ![32]⟩
abbrev S_ : Shape := ⟨0, ![]⟩
abbrev S32x1x2 : Shape := ⟨3, ![32, 1, 2]⟩
abbrev S254 : Shape := ⟨1, ![254]⟩
abbrev S32x1x2x1 : Shape := ⟨4, ![32, 1, 2, 1]⟩
abbrev S1x1x1x254 : Shape := ⟨4, ![1, 1, 1, 254]⟩
abbrev S32x1x2x254 : Shape := ⟨4, ![32, 1, 2, 254]⟩
abbrev S32x1x2x8x64 : Shape := ⟨5, ![32, 1, 2, 8, 64]⟩
abbrev S32x2x16384x1x8 : Shape := ⟨5, ![32, 2, 16384, 1, 8]⟩
abbrev S32x1x2x8x16384 : Shape := ⟨5, ![32, 1, 2, 8, 16384]⟩
abbrev S32x2x1x1x8 : Shape := ⟨5, ![32, 2, 1, 1, 8]⟩
abbrev S32x1x2x8x1 : Shape := ⟨5, ![32, 1, 2, 8, 1]⟩
abbrev S16384 : Shape := ⟨1, ![16384]⟩
abbrev S1x16384 : Shape := ⟨2, ![1, 16384]⟩
abbrev S32x1 : Shape := ⟨2, ![32, 1]⟩
abbrev S32x16384 : Shape := ⟨2, ![32, 16384]⟩
abbrev S32x1x1x1x16384 : Shape := ⟨5, ![32, 1, 1, 1, 16384]⟩
abbrev S32x2x16384 : Shape := ⟨3, ![32, 2, 16384]⟩
abbrev S32x1x2x1x16384 : Shape := ⟨5, ![32, 1, 2, 1, 16384]⟩
abbrev S32x2x1 : Shape := ⟨3, ![32, 2, 1]⟩
abbrev S32x1x2x1x1 : Shape := ⟨5, ![32, 1, 2, 1, 1]⟩
abbrev S32x1x2x8x16385 : Shape := ⟨5, ![32, 1, 2, 8, 16385]⟩
abbrev S32x1x2x8 : Shape := ⟨4, ![32, 1, 2, 8]⟩
abbrev S32x2x64x1x8 : Shape := ⟨5, ![32, 2, 64, 1, 8]⟩
abbrev S32x16x64 : Shape := ⟨3, ![32, 16, 64]⟩
abbrev S32x2x64 : Shape := ⟨3, ![32, 2, 64]⟩
abbrev S2x32x64 : Shape := ⟨3, ![2, 32, 64]⟩
abbrev S32x2 : Shape := ⟨2, ![32, 2]⟩
abbrev S2x32 : Shape := ⟨2, ![2, 32]⟩

abbrev nBuf : Space → Nat
  | .hbm => 227
  | .vmem => 10
  | .smem => 0
  | _ => 0

abbrev hbmTy0_0 (i : Nat) : BufTy := match i % 128 with
  | 0 => ⟨S32x1x16x64, .bf16⟩
  | 1 => ⟨S32x1x2x64, .bf16⟩
  | 2 => ⟨S32x1x2x64, .bf16⟩
  | 3 => ⟨S32x16384x2x64, .fp8e4m3⟩
  | 4 => ⟨S32x16384x2x64, .fp8e4m3⟩
  | 5 => ⟨S32x16384x2, .f32⟩
  | 6 => ⟨S32x16384x2, .f32⟩
  | 7 => ⟨S32, .i32⟩
  | 8 => ⟨S32x1x2x64, .f32⟩
  | 9 => ⟨S32x1x2x64, .f32⟩
  | 10 => ⟨S_, .f32⟩
  | 11 => ⟨S32x1x2, .f32⟩
  | 12 => ⟨S_, .f32⟩
  | 13 => ⟨S32x1x2, .f32⟩
  | 14 => ⟨S32x1x2, .f32⟩
  | 15 => ⟨S254, .i32⟩
  | 16 => ⟨S_, .i32⟩
  | 17 => ⟨S254, .i32⟩
  | 18 => ⟨S254, .i32⟩
  | 19 => ⟨S254, .f32⟩
  | 20 => ⟨S_, .f32⟩
  | 21 => ⟨S254, .f32⟩
  | 22 => ⟨S254, .f32⟩
  | 23 => ⟨S32x1x2x1, .f32⟩
  | 24 => ⟨S1x1x1x254, .f32⟩
  | 25 => ⟨S32x1x2x254, .f32⟩
  | 26 => ⟨S32x1x2x254, .f32⟩
  | 27 => ⟨S32x1x2x254, .i1⟩
  | 28 => ⟨S_, .f32⟩
  | 29 => ⟨S_, .f32⟩
  | 30 => ⟨S32x1x2x254, .f32⟩
  | 31 => ⟨S32x1x2x254, .f32⟩
  | 32 => ⟨S32x1x2x254, .f32⟩
  | 33 => ⟨S32x1x2x254, .f32⟩
  | 34 => ⟨S_, .f32⟩
  | 35 => ⟨S32x1x2, .f32⟩
  | 36 => ⟨S_, .f32⟩
  | 37 => ⟨S32x1x2, .f32⟩
  | 38 => ⟨S32x1x2, .i1⟩
  | 39 => ⟨S_, .f32⟩
  | 40 => ⟨S32x1x2, .f32⟩
  | 41 => ⟨S32x1x2, .i1⟩
  | 42 => ⟨S32x1x2, .i1⟩
  | 43 => ⟨S_, .f32⟩
  | 44 => ⟨S32x1x2, .f32⟩
  | 45 => ⟨S32x1x2, .f32⟩
  | 46 => ⟨S_, .f32⟩
  | 47 => ⟨S_, .f32⟩
  | 48 => ⟨S32x1x2, .f32⟩
  | 49 => ⟨S32x1x2, .f32⟩
  | 50 => ⟨S_, .f32⟩
  | 51 => ⟨S32x1x2, .f32⟩
  | 52 => ⟨S32x1x2, .f32⟩
  | 53 => ⟨S32x1x2, .f32⟩
  | 54 => ⟨S_, .f32⟩
  | 55 => ⟨S32x1x2, .f32⟩
  | 56 => ⟨S32x1x2, .f32⟩
  | 57 => ⟨S32x1x2x1, .f32⟩
  | 58 => ⟨S32x1x2x64, .f32⟩
  | 59 => ⟨S32x1x2x64, .f32⟩
  | 60 => ⟨S_, .f32⟩
  | 61 => ⟨S_, .f32⟩
  | 62 => ⟨S_, .f32⟩
  | 63 => ⟨S32x1x2x64, .f32⟩
  | 64 => ⟨S32x1x2x64, .f32⟩
  | 65 => ⟨S_, .f32⟩
  | 66 => ⟨S32x1x2x64, .f32⟩
  | 67 => ⟨S32x1x2x64, .f32⟩
  | 68 => ⟨S32x1x2x64, .f32⟩
  | 69 => ⟨S32x1x2x64, .f32⟩
  | 70 => ⟨S_, .f32⟩
  | 71 => ⟨S32x1x2, .f32⟩
  | 72 => ⟨S_, .f32⟩
  | 73 => ⟨S32x1x2, .f32⟩
  | 74 => ⟨S32x1x2, .f32⟩
  | 75 => ⟨S254, .i32⟩
  | 76 => ⟨S_, .i32⟩
  | 77 => ⟨S254, .i32⟩
  | 78 => ⟨S254, .i32⟩
  | 79 => ⟨S254, .f32⟩
  | 80 => ⟨S_, .f32⟩
  | 81 => ⟨S254, .f32⟩
  | 82 => ⟨S254, .f32⟩
  | 83 => ⟨S32x1x2x1, .f32⟩
  | 84 => ⟨S1x1x1x254, .f32⟩
  | 85 => ⟨S32x1x2x254, .f32⟩
  | 86 => ⟨S32x1x2x254, .f32⟩
  | 87 => ⟨S32x1x2x254, .i1⟩
  | 88 => ⟨S_, .f32⟩
  | 89 => ⟨S_, .f32⟩
  | 90 => ⟨S32x1x2x254, .f32⟩
  | 91 => ⟨S32x1x2x254, .f32⟩
  | 92 => ⟨S32x1x2x254, .f32⟩
  | 93 => ⟨S32x1x2x254, .f32⟩
  | 94 => ⟨S_, .f32⟩
  | 95 => ⟨S32x1x2, .f32⟩
  | 96 => ⟨S_, .f32⟩
  | 97 => ⟨S32x1x2, .f32⟩
  | 98 => ⟨S32x1x2, .i1⟩
  | 99 => ⟨S_, .f32⟩
  | 100 => ⟨S32x1x2, .f32⟩
  | 101 => ⟨S32x1x2, .i1⟩
  | 102 => ⟨S32x1x2, .i1⟩
  | 103 => ⟨S_, .f32⟩
  | 104 => ⟨S32x1x2, .f32⟩
  | 105 => ⟨S32x1x2, .f32⟩
  | 106 => ⟨S_, .f32⟩
  | 107 => ⟨S_, .f32⟩
  | 108 => ⟨S32x1x2, .f32⟩
  | 109 => ⟨S32x1x2, .f32⟩
  | 110 => ⟨S_, .f32⟩
  | 111 => ⟨S32x1x2, .f32⟩
  | 112 => ⟨S32x1x2, .f32⟩
  | 113 => ⟨S32x1x2, .f32⟩
  | 114 => ⟨S_, .f32⟩
  | 115 => ⟨S32x1x2, .f32⟩
  | 116 => ⟨S32x1x2, .f32⟩
  | 117 => ⟨S32x1x2x1, .f32⟩
  | 118 => ⟨S32x1x2x64, .f32⟩
  | 119 => ⟨S32x1x2x64, .f32⟩
  | 120 => ⟨S_, .f32⟩
  | 121 => ⟨S_, .f32⟩
  | 122 => ⟨S_, .f32⟩
  | 123 => ⟨S32x1x2x64, .f32⟩
  | 124 => ⟨S32x1x2x64, .f32⟩
  | 125 => ⟨S_, .f32⟩
  | 126 => ⟨S32x1x2x64, .f32⟩
  | 127 => ⟨S32x1x2x64, .f32⟩
  | _ => ⟨S32x1x16x64, .bf16⟩

abbrev hbmTy0_1 (i : Nat) : BufTy := match i % 128 with
  | 0 => ⟨S32x1x2x64, .fp8e4m3⟩
  | 1 => ⟨S32x1x2x64, .fp8e4m3⟩
  | 2 => ⟨S32x1x2x64, .bf16⟩
  | 3 => ⟨S32x1x2x64, .bf16⟩
  | 4 => ⟨S32x16384x2x64, .bf16⟩
  | 5 => ⟨S32x16384x2x64, .bf16⟩
  | 6 => ⟨S32x1x2x8x64, .bf16⟩
  | 7 => ⟨S32x2x16384x1x8, .f32⟩
  | 8 => ⟨S32x1x2x8x16384, .f32⟩
  | 9 => ⟨S32x2x1x1x8, .f32⟩
  | 10 => ⟨S32x1x2x8x1, .f32⟩
  | 11 => ⟨S16384, .i32⟩
  | 12 => ⟨S1x16384, .i32⟩
  | 13 => ⟨S32x1, .i32⟩
  | 14 => ⟨S32x16384, .i32⟩
  | 15 => ⟨S32x16384, .i32⟩
  | 16 => ⟨S32x16384, .i1⟩
  | 17 => ⟨S32x1, .i32⟩
  | 18 => ⟨S_, .i32⟩
  | 19 => ⟨S32x1, .i32⟩
  | 20 => ⟨S32x1, .i32⟩
  | 21 => ⟨S32x16384, .i32⟩
  | 22 => ⟨S32x16384, .i32⟩
  | 23 => ⟨S32x16384, .i1⟩
  | 24 => ⟨S32x16384, .i1⟩
  | 25 => ⟨S32x1x1x1x16384, .i1⟩
  | 26 => ⟨S32x2x16384, .f32⟩
  | 27 => ⟨S32x1x2x1x16384, .f32⟩
  | 28 => ⟨S32x1x2x8x16384, .f32⟩
  | 29 => ⟨S32x1x2x8x16384, .f32⟩
  | 30 => ⟨S_, .f32⟩
  | 31 => ⟨S32x1x2x8x16384, .f32⟩
  | 32 => ⟨S32x1x2x8x16384, .f32⟩
  | 33 => ⟨S_, .f32⟩
  | 34 => ⟨S_, .f32⟩
  | 35 => ⟨S32x1x2x8x16384, .i1⟩
  | 36 => ⟨S32x1x2x8x16384, .f32⟩
  | 37 => ⟨S32x1x2x8x16384, .f32⟩
  | 38 => ⟨S32x2x1, .f32⟩
  | 39 => ⟨S32x1x2x1x1, .f32⟩
  | 40 => ⟨S32x1x2x8x1, .f32⟩
  | 41 => ⟨S32x1x2x8x1, .f32⟩
  | 42 => ⟨S_, .f32⟩
  | 43 => ⟨S32x1x2x8x1, .f32⟩
  | 44 => ⟨S32x1x2x8x1, .f32⟩
  | 45 => ⟨S32x1x2x8x16385, .f32⟩
  | 46 => ⟨S_, .f32⟩
  | 47 => ⟨S32x1x2x8, .f32⟩
  | 48 => ⟨S_, .f32⟩
  | 49 => ⟨S32x1x2x8, .f32⟩
  | 50 => ⟨S32x1x2x8, .f32⟩
  | 51 => ⟨S32x1x2x8x1, .f32⟩
  | 52 => ⟨S32x1x2x8x16385, .f32⟩
  | 53 => ⟨S32x1x2x8x16385, .f32⟩
  | 54 => ⟨S32x1x2x8x16385, .f32⟩
  | 55 => ⟨S_, .f32⟩
  | 56 => ⟨S32x1x2x8, .f32⟩
  | 57 => ⟨S32x1x2x8x1, .f32⟩
  | 58 => ⟨S32x1x2x8x16385, .f32⟩
  | 59 => ⟨S32x1x2x8x16385, .f32⟩
  | 60 => ⟨S32x1x2x8x16384, .f32⟩
  | 61 => ⟨S32x1x2x8x1, .f32⟩
  | 62 => ⟨S32x2x16384, .f32⟩
  | 63 => ⟨S32x1x2x1x16384, .f32⟩
  | 64 => ⟨S32x1x2x8x16384, .f32⟩
  | 65 => ⟨S32x1x2x8x16384, .f32⟩
  | 66 => ⟨S32x1x2x8x16384, .bf16⟩
  | 67 => ⟨S32x2x64x1x8, .f32⟩
  | 68 => ⟨S32x1x2x8x64, .f32⟩
  | 69 => ⟨S32x2x1, .f32⟩
  | 70 => ⟨S32x1x2x1x1, .f32⟩
  | 71 => ⟨S32x1x2x8x1, .f32⟩
  | 72 => ⟨S32x1x2x8x1, .f32⟩
  | 73 => ⟨S32x1x2x8x1, .bf16⟩
  | 74 => ⟨S32x2x64x1x8, .f32⟩
  | 75 => ⟨S32x1x2x8x64, .f32⟩
  | 76 => ⟨S_, .f32⟩
  | 77 => ⟨S32x1x2x8, .f32⟩
  | 78 => ⟨S32x1x2x8x1, .f32⟩
  | 79 => ⟨S32x1x2x8x1, .f32⟩
  | 80 => ⟨S_, .f32⟩
  | 81 => ⟨S32x1x2x8x1, .f32⟩
  | 82 => ⟨S32x1x2x8x1, .i1⟩
  | 83 => ⟨S32x1x2x8x64, .f32⟩
  | 84 => ⟨S_, .f32⟩
  | 85 => ⟨S_, .f32⟩
  | 86 => ⟨S32x1x2x8x64, .i1⟩
  | 87 => ⟨S32x1x2x8x64, .f32⟩
  | 88 => ⟨S32x1x2x8x64, .f32⟩
  | 89 => ⟨S32x16x64, .f32⟩
  | 90 => ⟨S32x16x64, .bf16⟩
  | 91 => ⟨S32x2x64, .fp8e4m3⟩
  | 92 => ⟨S2x32x64, .fp8e4m3⟩
  | 93 => ⟨S32x2, .f32⟩
  | 94 => ⟨S2x32, .f32⟩
  | 95 => ⟨S32x2x64, .fp8e4m3⟩
  | 96 => ⟨S2x32x64, .fp8e4m3⟩
  | 97 => ⟨S32x2, .f32⟩
  | 98 => ⟨S2x32, .f32⟩
  | _ => ⟨S32x1x16x64, .bf16⟩

abbrev hbmTy (i : Nat) : BufTy := match i / 128 with
  | 0 => hbmTy0_0 i
  | 1 => hbmTy0_1 i
  | _ => ⟨S32x1x16x64, .bf16⟩

abbrev bufTy : (tb : Table) → Fin (tcTables nBuf tb) → BufTy
  | .hbm, ⟨i, _⟩ => hbmTy i
  | .local _ .vmem, ⟨0, _⟩ => ⟨S32x1x2x64, .f32⟩
  | .local _ .vmem, ⟨1, _⟩ => ⟨S32x1x2x64, .f32⟩
  | .local _ .vmem, ⟨2, _⟩ => ⟨S32x16384x2x64, .fp8e4m3⟩
  | .local _ .vmem, ⟨3, _⟩ => ⟨S32x16384x2x64, .fp8e4m3⟩
  | .local _ .vmem, ⟨4, _⟩ => ⟨S32x1x2x64, .fp8e4m3⟩
  | .local _ .vmem, ⟨5, _⟩ => ⟨S32x1x2x64, .fp8e4m3⟩
  | .local _ .vmem, ⟨6, _⟩ => ⟨S32x1x2x64, .bf16⟩
  | .local _ .vmem, ⟨7, _⟩ => ⟨S32x1x2x64, .bf16⟩
  | .local _ .vmem, ⟨8, _⟩ => ⟨S32x16384x2x64, .bf16⟩
  | .local _ .vmem, ⟨9, _⟩ => ⟨S32x16384x2x64, .bf16⟩
  | _, _ => ⟨S32x1x16x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_v17 : Ref sig .tc := ⟨.hbm, 33, rfl⟩
abbrev main_cst_4 : Ref sig .tc := ⟨.hbm, 34, rfl⟩
abbrev main_v18 : Ref sig .tc := ⟨.hbm, 35, rfl⟩
abbrev main_cst_5 : Ref sig .tc := ⟨.hbm, 36, rfl⟩
abbrev main_v19 : Ref sig .tc := ⟨.hbm, 37, rfl⟩
abbrev main_v20 : Ref sig .tc := ⟨.hbm, 38, rfl⟩
abbrev main_cst_6 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_7 : Ref sig .tc := ⟨.hbm, 43, rfl⟩
abbrev main_v24 : Ref sig .tc := ⟨.hbm, 44, rfl⟩
abbrev main_v25 : Ref sig .tc := ⟨.hbm, 45, rfl⟩
abbrev main_cst_8 : Ref sig .tc := ⟨.hbm, 46, rfl⟩
abbrev main_call1_v0 : Ref sig .tc := ⟨.hbm, 47, rfl⟩
abbrev main_call1_v1 : Ref sig .tc := ⟨.hbm, 48, rfl⟩
abbrev main_v26 : Ref sig .tc := ⟨.hbm, 49, rfl⟩
abbrev main_cst_9 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_10 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_11 : Ref sig .tc := ⟨.hbm, 60, rfl⟩
abbrev main_cst_12 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_cst_13 : Ref sig .tc := ⟨.hbm, 70, rfl⟩
abbrev main_v38 : Ref sig .tc := ⟨.hbm, 71, rfl⟩
abbrev main_cst_14 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_c_15 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_cst_16 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_cst_17 : Ref sig .tc := ⟨.hbm, 88, rfl⟩
abbrev main_cst_18 : Ref sig .tc := ⟨.hbm, 89, rfl⟩
abbrev main_call3_v0 : Ref sig .tc := ⟨.hbm, 90, rfl⟩
abbrev main_call3_v1 : Ref sig .tc := ⟨.hbm, 91, rfl⟩
abbrev main_v52 : Ref sig .tc := ⟨.hbm, 92, rfl⟩
abbrev main_v53 : Ref sig .tc := ⟨.hbm, 93, rfl⟩
abbrev main_cst_19 : Ref sig .tc := ⟨.hbm, 94, rfl⟩
abbrev main_v54 : Ref sig .tc := ⟨.hbm, 95, rfl⟩
abbrev main_cst_20 : Ref sig .tc := ⟨.hbm, 96, rfl⟩
abbrev main_v55 : Ref sig .tc := ⟨.hbm, 97, rfl⟩
abbrev main_v56 : Ref sig .tc := ⟨.hbm, 98, rfl⟩
abbrev main_cst_21 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_cst_22 : Ref sig .tc := ⟨.hbm, 103, rfl⟩
abbrev main_v60 : Ref sig .tc := ⟨.hbm, 104, rfl⟩
abbrev main_v61 : Ref sig .tc := ⟨.hbm, 105, rfl⟩
abbrev main_cst_23 : Ref sig .tc := ⟨.hbm, 106, rfl⟩
abbrev main_call4_v0 : Ref sig .tc := ⟨.hbm, 107, rfl⟩
abbrev main_call4_v1 : Ref sig .tc := ⟨.hbm, 108, rfl⟩
abbrev main_v62 : Ref sig .tc := ⟨.hbm, 109, rfl⟩
abbrev main_cst_24 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_cst_25 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_cst_26 : Ref sig .tc := ⟨.hbm, 120, rfl⟩
abbrev main_cst_27 : Ref sig .tc := ⟨.hbm, 121, rfl⟩
abbrev main_call5_v0 : Ref sig .tc := ⟨.hbm, 122, rfl⟩
abbrev main_call5_v1 : Ref sig .tc := ⟨.hbm, 123, rfl⟩
abbrev main_call5_v2 : Ref sig .tc := ⟨.hbm, 124, rfl⟩
abbrev main_call5_v3 : Ref sig .tc := ⟨.hbm, 125, rfl⟩
abbrev main_call5_v4 : Ref sig .tc := ⟨.hbm, 126, rfl⟩
abbrev main_v71 : Ref sig .tc := ⟨.hbm, 127, rfl⟩
abbrev main_v72_0 : Ref sig .tc := ⟨.hbm, 128, rfl⟩
abbrev main_v72_1 : Ref sig .tc := ⟨.hbm, 129, rfl⟩
abbrev main_v72_2 : Ref sig .tc := ⟨.hbm, 130, rfl⟩
abbrev main_v72_3 : Ref sig .tc := ⟨.hbm, 131, rfl⟩
abbrev main_v72_4 : Ref sig .tc := ⟨.hbm, 132, rfl⟩
abbrev main_v72_5 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_c_28 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_cst_29 : Ref sig .tc := ⟨.hbm, 158, rfl⟩
abbrev main_v96 : Ref sig .tc := ⟨.hbm, 159, rfl⟩
abbrev main_v97 : Ref sig .tc := ⟨.hbm, 160, rfl⟩
abbrev main_cst_30 : Ref sig .tc := ⟨.hbm, 161, rfl⟩
abbrev main_call6_v0 : Ref sig .tc := ⟨.hbm, 162, rfl⟩
abbrev main_call6_v1 : Ref sig .tc := ⟨.hbm, 163, rfl⟩
abbrev main_call6_v2 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_v101 : Ref sig .tc := ⟨.hbm, 168, rfl⟩
abbrev main_v102 : Ref sig .tc := ⟨.hbm, 169, rfl⟩
abbrev main_cst_31 : Ref sig .tc := ⟨.hbm, 170, rfl⟩
abbrev main_v103 : Ref sig .tc := ⟨.hbm, 171, rfl⟩
abbrev main_v104 : Ref sig .tc := ⟨.hbm, 172, rfl⟩
abbrev main_v105 : Ref sig .tc := ⟨.hbm, 173, rfl⟩
abbrev main_cst_32 : Ref sig .tc := ⟨.hbm, 174, rfl⟩
abbrev main_v106 : Ref sig .tc := ⟨.hbm, 175, rfl⟩
abbrev main_cst_33 : Ref sig .tc := ⟨.hbm, 176, rfl⟩
abbrev main_v107 : Ref sig .tc := ⟨.hbm, 177, rfl⟩
abbrev main_v108 : Ref sig .tc := ⟨.hbm, 178, rfl⟩
abbrev main_v109 : Ref sig .tc := ⟨.hbm, 179, rfl⟩
abbrev main_v110 : Ref sig .tc := ⟨.hbm, 180, rfl⟩
abbrev main_v111 : Ref sig .tc := ⟨.hbm, 181, rfl⟩
abbrev main_v112 : Ref sig .tc := ⟨.hbm, 182, rfl⟩
abbrev main_cst_34 : Ref sig .tc := ⟨.hbm, 183, rfl⟩
abbrev main_v113 : Ref sig .tc := ⟨.hbm, 184, rfl⟩
abbrev main_v114 : Ref sig .tc := ⟨.hbm, 185, rfl⟩
abbrev main_v115 : Ref sig .tc := ⟨.hbm, 186, rfl⟩
abbrev main_v116 : Ref sig .tc := ⟨.hbm, 187, rfl⟩
abbrev main_v117 : Ref sig .tc := ⟨.hbm, 188, rfl⟩
abbrev main_v118 : Ref sig .tc := ⟨.hbm, 189, rfl⟩
abbrev main_v119 : Ref sig .tc := ⟨.hbm, 190, rfl⟩
abbrev main_v120 : Ref sig .tc := ⟨.hbm, 191, rfl⟩
abbrev main_v121 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_v125 : Ref sig .tc := ⟨.hbm, 196, rfl⟩
abbrev main_v126 : Ref sig .tc := ⟨.hbm, 197, rfl⟩
abbrev main_v127 : Ref sig .tc := ⟨.hbm, 198, rfl⟩
abbrev main_v128 : Ref sig .tc := ⟨.hbm, 199, rfl⟩
abbrev main_v129 : Ref sig .tc := ⟨.hbm, 200, rfl⟩
abbrev main_v130 : Ref sig .tc := ⟨.hbm, 201, rfl⟩
abbrev main_v131 : Ref sig .tc := ⟨.hbm, 202, rfl⟩
abbrev main_v132 : Ref sig .tc := ⟨.hbm, 203, rfl⟩
abbrev main_cst_35 : Ref sig .tc := ⟨.hbm, 204, rfl⟩
abbrev main_v133 : Ref sig .tc := ⟨.hbm, 205, rfl⟩
abbrev main_v134 : Ref sig .tc := ⟨.hbm, 206, rfl⟩
abbrev main_v135 : Ref sig .tc := ⟨.hbm, 207, rfl⟩
abbrev main_cst_36 : Ref sig .tc := ⟨.hbm, 208, rfl⟩
abbrev main_v136 : Ref sig .tc := ⟨.hbm, 209, rfl⟩
abbrev main_v137 : Ref sig .tc := ⟨.hbm, 210, rfl⟩
abbrev main_v138 : Ref sig .tc := ⟨.hbm, 211, rfl⟩
abbrev main_cst_37 : Ref sig .tc := ⟨.hbm, 212, rfl⟩
abbrev main_call7_v0 : Ref sig .tc := ⟨.hbm, 213, rfl⟩
abbrev main_call7_v1 : Ref sig .tc := ⟨.hbm, 214, rfl⟩
abbrev main_call7_v2 : Ref sig .tc := ⟨.hbm, 215, rfl⟩
abbrev main_v139 : Ref sig .tc := ⟨.hbm, 216, rfl⟩
abbrev main_v140 : Ref sig .tc := ⟨.hbm, 217, rfl⟩
abbrev main_v141 : Ref sig .tc := ⟨.hbm, 218, rfl⟩
abbrev main_v142 : Ref sig .tc := ⟨.hbm, 219, rfl⟩
abbrev main_v143 : Ref sig .tc := ⟨.hbm, 220, rfl⟩
abbrev main_v144 : Ref sig .tc := ⟨.hbm, 221, rfl⟩
abbrev main_v145 : Ref sig .tc := ⟨.hbm, 222, rfl⟩
abbrev main_v146 : Ref sig .tc := ⟨.hbm, 223, rfl⟩
abbrev main_v147 : Ref sig .tc := ⟨.hbm, 224, rfl⟩
abbrev main_v148 : Ref sig .tc := ⟨.hbm, 225, rfl⟩
abbrev main_v149 : Ref sig .tc := ⟨.hbm, 226, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S32x1x2x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x1x2x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x16384x2x64 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x16384x2x64 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x1x2x64 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x1x2x64 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x1x2x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x1x2x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x16384x2x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32x16384x2x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.KernelWin.lean ====
/-
  The window of one batch row: the start position the kernel computes from a cache length, and the side condition
  it assumes of that start.
-/
module

public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import Idealize.ShloMosaic.Lib.Pipeline.FrameBody
public import Idealize.ShloMosaic.Lib.Pipeline.FrameValue
public import Idealize.ShloMosaic.Lib.Ring
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- Where the window of a row with cache length `w` starts: `w - 1023`, rounded down to a multiple of 128 and clipped. -/
def winBase (w : BitVec 32) : BitVec 32 :=
  Scalar.minsi 15232#32 (Scalar.maxsi 0#32 (Scalar.shli (Scalar.shrsi (Scalar.subi w 1023#32) 7#32) 7#32))

/-- Shifting a word right and left by seven bits rounds its integer down to a multiple of 128. -/
theorem roundDown_toInt (x : BitVec 32) :
    (Scalar.shli (Scalar.shrsi x 7#32) 7#32).toInt = 128 * (x.toInt / 128) := by
  have h2 : x.toInt < 2147483648 := by have := BitVec.toInt_lt (x := x); simpa using this
  have h1 : -2147483648 ≤ x.toInt := by have := BitVec.le_toInt (x := x); simpa using this
  have e : Scalar.shli (Scalar.shrsi x 7#32) 7#32 = (x.sshiftRight 7) <<< 7 := rfl
  have hs : (x.sshiftRight 7).toInt = x.toInt / 128 := by
    rw [BitVec.toInt_sshiftRight, Int.shiftRight_eq_div_pow]; rfl
  rw [e, BitVec.toInt_shiftLeft]
  generalize x.sshiftRight 7 = y at hs ⊢
  have hy := BitVec.toInt_eq_toNat_cond y
  have hl := y.isLt
  rw [Nat.shiftLeft_eq]
  simp only [Int.bmod]
  push_cast
  split_ifs at * <;> omega

/-- The start of the window as an integer. -/
theorem winBase_toInt (w : BitVec 32) :
    (winBase w).toInt = min 15232 (max 0 (128 * ((w - 1023#32).toInt / 128))) := by
  have h := roundDown_toInt (w - 1023#32)
  have e : winBase w = IntOp.minsi 15232#32 (IntOp.maxsi 0#32 (Scalar.shli (Scalar.shrsi (w - 1023#32) 7#32) 7#32)) := rfl
  rw [e]
  generalize (Scalar.shli (Scalar.shrsi (w - 1023#32) 7#32) 7#32) = z at h ⊢
  rw [← h]
  have e1 : (15232#32).toInt = 15232 := by decide
  have e0 : (0#32).toInt = 0 := by decide
  simp only [IntOp.minsi, IntOp.maxsi, BitVec.slt, decide_eq_true_eq]
  split_ifs <;> omega

/-- The start is at most 15232. -/
theorem winBase_le (w : BitVec 32) : (winBase w).toNat ≤ 15232 := by
  have h := winBase_toInt w
  have := BitVec.toInt_eq_toNat_cond (winBase w)
  have := (winBase w).isLt
  split_ifs at * <;> omega

/-- The start is a multiple of 128. -/
theorem winBase_dvd (w : BitVec 32) : 128 ∣ (winBase w).toNat := by
  have h := winBase_toInt w
  have := BitVec.toInt_eq_toNat_cond (winBase w)
  have := (winBase w).isLt
  split_ifs at * <;> omega

/-- What the kernel assumes of the word it reads for row `b`. -/
def winChk (b : ℕ) (w : BitVec 32) : Prop :=
  (128 ∣ (winBase w).toNat) ∧
  (∀ a, (![b, 0, (winBase w).toNat] : Fin 3 → ℕ) a + S1x128x1152.size a ≤ S32x128x16384.size a) ∧
  (∀ (hinb : ∀ a, (![b, 0, (winBase w).toNat] : Fin 3 → ℕ) a + S1x128x1152.size a ≤ S32x128x16384.size a),
    (Rect.unit (s := S32x128x16384) ![b, 0, (winBase w).toNat] S1x128x1152.size hinb).WholeWords (EltTy.packing .fp8e4m3)) ∧
  (∀ a, (![b, 0, (winBase w).toNat] : Fin 3 → ℕ) a + S1x2x1152.size a ≤ S32x2x16384.size a)

/-- The assumption holds of every row and every word. -/
theorem winChk_of (b : ℕ) (w : BitVec 32) (hb : b < 32) : winChk b w := by
  have h1 := winBase_le w
  refine ⟨winBase_dvd w, ?_, ?_, ?_⟩
  · intro a; fin_cases a <;> simp [S1x128x1152, S32x128x16384] <;> omega
  · intro hinb
    exact .inl (.inr ⟨by decide, rfl, .inl ⟨⟨0, rfl⟩, ⟨32, rfl⟩⟩⟩)
  · intro a; fin_cases a <;> simp [S1x2x1152, S32x2x16384] <;> omega

end Cert.Kernel.Hand

end
-- ==== Proof.KernelBody.lean ====
/-
  The run of the kernel body.
-/
module

public import proofs.«01_k».proof.Proof.KernelWin
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import Idealize.ShloMosaic.Lib.Pipeline.FrameBody
public import Idealize.ShloMosaic.Lib.Pipeline.FrameValue
public import Idealize.ShloMosaic.Lib.Ring
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

/-- Buffer `b` of core `c`: its contents type, and it held whole at `f`. -/
abbrev Bf (c : Dev nD) (b : Ref sig .tc) : Type := Buf (Elt F) ((Memref.whole b).view.loc (c : Thread nD τ))
abbrev pt (c : Dev nD) (b : Ref sig .tc) (f : Bf (F := F) c b) : sProp 𝕄 := (Memref.whole b).view.loc (c : Thread nD τ) ↦{fullShare} f

set_option sl_exec.dmaWindow true in
set_option sl_exec.rejoinFuel 64 in
set_option maxHeartbeats 0 in
noncomputable def kernelRun (c : Dev nD) (f0 : Bf (F := F) c main_v0) (f1 : Bf (F := F) c main_v1) (f2 : Bf (F := F) c main_v2) (f3 : Bf (F := F) c main_v4) (f4 : Bf (F := F) c main_v6) (f5 : Bf (F := F) c main_v7) (f6 : Bf (F := F) c main_v8) (f7 : Bf (F := F) c main_arg7)
    (o0 : Bf (F := F) c main_v9_0) (o1 : Bf (F := F) c main_v9_1) (o2 : Bf (F := F) c main_v9_2) (o3 : Bf (F := F) c main_v9_3) (o4 : Bf (F := F) c main_v9_4) (s0 : Bf (F := F) c cc0_scratch0) (s1 : Bf (F := F) c cc0_scratch1) (s2 : Bf (F := F) c cc0_scratch2) (s3 : Bf (F := F) c cc0_scratch3) (s4 : Bf (F := F) c cc0_scratch4) (s5 : Bf (F := F) c cc0_scratch5) (s6 : Bf (F := F) c cc0_scratch6) (s7 : Bf (F := F) c cc0_scratch7) (s8 : Bf (F := F) c cc0_scratch8) (s9 : Bf (F := F) c cc0_scratch9) (s10 : Bf (F := F) c cc0_scratch10) (s11 : Bf (F := F) c cc0_scratch11) (s12 : Bf (F := F) c cc0_scratch12) (s13 : Bf (F := F) c cc0_scratch13) (s14 : Bf (F := F) c cc0_scratch14) (s15 : Bf (F := F) c cc0_scratch15) :
    { R : Bf (F := F) c main_v9_0 × Bf (F := F) c main_v9_1 × Bf (F := F) c main_v9_2 × Bf (F := F) c main_v9_3 × Bf (F := F) c main_v9_4 //
      ∀ (W : Waits sig Unit) (K : PUnit → sProp 𝕄),
        iprop(pt c main_v0 f0 ∗ pt c main_v1 f1 ∗ pt c main_v2 f2 ∗ pt c main_v4 f3 ∗ pt c main_v6 f4 ∗ pt c main_v7 f5 ∗ pt c main_v8 f6 ∗ pt c main_arg7 f7 ∗ pt c main_v9_0 o0 ∗ pt c main_v9_1 o1 ∗ pt c main_v9_2 o2 ∗ pt c main_v9_3 o3 ∗ pt c main_v9_4 o4 ∗ pt c cc0_scratch0 s0 ∗ pt c cc0_scratch1 s1 ∗ pt c cc0_scratch2 s2 ∗ pt c cc0_scratch3 s3 ∗ pt c cc0_scratch4 s4 ∗ pt c cc0_scratch5 s5 ∗ pt c cc0_scratch6 s6 ∗ pt c cc0_scratch7 s7 ∗ pt c cc0_scratch8 s8 ∗ pt c cc0_scratch9 s9 ∗ pt c cc0_scratch10 s10 ∗ pt c cc0_scratch11 s11 ∗ pt c cc0_scratch12 s12 ∗ pt c cc0_scratch13 s13 ∗ pt c cc0_scratch14 s14 ∗ pt c cc0_scratch15 s15 ∗ semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0 ∗ semVal ((c : Thread nD τ), SemLoc.dma 54) 0 ∗ semVal ((c : Thread nD τ), SemLoc.dma 55) 0 ∗ semVal ((c : Thread nD τ), SemLoc.dma 56) 0 ∗ semVal ((c : Thread nD τ), SemLoc.dma 57) 0 ∗ semVal ((c : Thread nD τ), SemLoc.dma 58) 0 ∗ semVal ((c : Thread nD τ), SemLoc.dma 59) 0 ∗ semVal ((c : Thread nD τ), SemLoc.dma 60) 0 ∗ semVal ((c : Thread nD τ), SemLoc.dma 61) 0 ∗ semVal ((c : Thread nD τ), SemLoc.dma 62) 0 ∗ semVal ((c : Thread nD τ), SemLoc.dma 63) 0 ∗ semVal ((c : Thread nD τ), SemLoc.dma 64) 0 ∗ semVal ((c : Thread nD τ), SemLoc.dma 65) 0 ∗ semVal ((c : Thread nD τ), SemLoc.dma 66) 0 ∗ semVal ((c : Thread nD τ), SemLoc.dma 67) 0 ∗ semVal ((c : Thread nD τ), SemLoc.dma 68) 0 ∗ semVal ((c : Thread nD τ), SemLoc.dma 69) 0 ∗ semVal ((c : Thread nD τ), SemLoc.dma 70) 0 ∗ semVal ((c : Thread nD τ), SemLoc.dma 71) 0 ∗ semVal ((c : Thread nD τ), SemLoc.dma 72) 0 ∗ semVal ((c : Thread nD τ), SemLoc.dma 73) 0 ∗ semVal ((c : Thread nD τ), SemLoc.dma 74) 0 ∗ semVal ((c : Thread nD τ), SemLoc.dma 75) 0 ∗ semVal ((c : Thread nD τ), SemLoc.dma 76) 0 ∗ semVal ((c : Thread nD τ), SemLoc.dma 77) 0 ∗ semVal ((c : Thread nD τ), SemLoc.dma 78) 0 ∗ semVal ((c : Thread nD τ), SemLoc.dma 79) 0 ∗ semVal ((c : Thread nD τ), SemLoc.dma 80) 0 ∗ semVal ((c : Thread nD τ), SemLoc.dma 81) 0 ∗ semVal ((c : Thread nD τ), SemLoc.dma 82) 0 ∗ semVal ((c : Thread nD τ), SemLoc.dma 83) 0 ∗ semVal ((c : Thread nD τ), SemLoc.dma 84) 0 ∗ semVal ((c : Thread nD τ), SemLoc.dma 85) 0 ∗ semVal ((c : Thread nD τ), SemLoc.dma 86) 0 ∗ semVal ((c : Thread nD τ), SemLoc.dma 87) 0 ∗ semVal ((c : Thread nD τ), SemLoc.dma 88) 0 ∗ semVal ((c : Thread nD τ), SemLoc.dma 89) 0 ∗ semVal ((c : Thread nD τ), SemLoc.dma 90) 0 ∗ semVal ((c : Thread nD τ), SemLoc.dma 91) 0 ∗ semVal ((c : Thread nD τ), SemLoc.dma 92) 0 ∗ semVal ((c : Thread nD τ), SemLoc.dma 93) 0 ∗ semVal ((c : Thread nD τ), SemLoc.dma 94) 0 ∗ semVal ((c : Thread nD τ), SemLoc.dma 95) 0 ∗ semVal ((c : Thread nD τ), SemLoc.dma 96) 0 ∗ semVal ((c : Thread nD τ), SemLoc.dma 97) 0 ∗ semVal ((c : Thread nD τ), SemLoc.dma 98) 0 ∗ semVal ((c : Thread nD τ), SemLoc.dma 99) 0 ∗ semVal ((c : Thread nD τ), SemLoc.dma 100) 0 ∗ semVal ((c : Thread nD τ), SemLoc.dma 101) 0 ∗ semVal ((c : Thread nD τ), SemLoc.dma 102) 0 ∗ semVal ((c : Thread nD τ), SemLoc.dma 103) 0 ∗ semVal ((c : Thread nD τ), SemLoc.dma 104) 0 ∗ semVal ((c : Thread nD τ), SemLoc.dma 105) 0 ∗ semVal ((c : Thread nD τ), SemLoc.dma 106) 0 ∗ semVal ((c : Thread nD τ), SemLoc.dma 107) 0 ∗ semVal ((c : Thread nD τ), SemLoc.dma 108) 0 ∗ semVal ((c : Thread nD τ), SemLoc.dma 109) 0 ∗ semVal ((c : Thread nD τ), SemLoc.dma 110) 0 ∗ semVal ((c : Thread nD τ), SemLoc.dma 111) 0 ∗ semVal ((c : Thread nD τ), SemLoc.dma 112) 0 ∗ semVal ((c : Thread nD τ), SemLoc.dma 113) 0 ∗ semVal ((c : Thread nD τ), SemLoc.dma 114) 0 ∗ semVal ((c : Thread nD τ), SemLoc.dma 115) 0 ∗ semVal ((c : Thread nD τ), SemLoc.dma 116) 0 ∗ semVal ((c : Thread nD τ), SemLoc.dma 117) 0 ∗ semVal ((c : Thread nD τ), SemLoc.dma 118) 0 ∗ semVal ((c : Thread nD τ), SemLoc.dma 119) 0 ∗ semVal ((c : Thread nD τ), SemLoc.dma 120) 0 ∗ semVal ((c : Thread nD τ), SemLoc.dma 121) 0 ∗ semVal ((c : Thread nD τ), SemLoc.dma 122) 0 ∗ semVal ((c : Thread nD τ), SemLoc.dma 123) 0 ∗ semVal ((c : Thread nD τ), SemLoc.dma 124) 0 ∗ semVal ((c : Thread nD τ), SemLoc.dma 125) 0 ∗ semVal ((c : Thread nD τ), SemLoc.dma 126) 0 ∗ semVal ((c : Thread nD τ), SemLoc.dma 127) 0 ∗ semVal ((c : Thread nD τ), SemLoc.dma 128) 0 ∗ semVal ((c : Thread nD τ), SemLoc.dma 129) 0 ∗ semVal ((c : Thread nD τ), SemLoc.dma 130) 0 ∗ semVal ((c : Thread nD τ), SemLoc.dma 131) 0 ∗ semVal ((c : Thread nD τ), SemLoc.dma 132) 0 ∗ semVal ((c : Thread nD τ), SemLoc.dma 133) 0 ∗ semVal ((c : Thread nD τ), SemLoc.dma 134) 0 ∗ semVal ((c : Thread nD τ), SemLoc.dma 135) 0 ∗ semVal ((c : Thread nD τ), SemLoc.dma 136) 0 ∗ owes (c : Thread nD τ) 0 W
          ∗ (iprop(pt c main_v0 f0 ∗ pt c main_v1 f1 ∗ pt c main_v2 f2 ∗ pt c main_v4 f3 ∗ pt c main_v6 f4 ∗ pt c main_v7 f5 ∗ pt c main_v8 f6 ∗ pt c main_arg7 f7 ∗ pt c main_v9_0 R.1 ∗ pt c main_v9_1 R.2.1 ∗ pt c main_v9_2 R.2.2.1 ∗ pt c main_v9_3 R.2.2.2.1 ∗ pt c main_v9_4 R.2.2.2.2 ∗ (∃ f, pt c cc0_scratch0 f) ∗ (∃ f, pt c cc0_scratch1 f) ∗ (∃ f, pt c cc0_scratch2 f) ∗ (∃ f, pt c cc0_scratch3 f) ∗ (∃ f, pt c cc0_scratch4 f) ∗ (∃ f, pt c cc0_scratch5 f) ∗ (∃ f, pt c cc0_scratch6 f) ∗ (∃ f, pt c cc0_scratch7 f) ∗ (∃ f, pt c cc0_scratch8 f) ∗ (∃ f, pt c cc0_scratch9 f) ∗ (∃ f, pt c cc0_scratch10 f) ∗ (∃ f, pt c cc0_scratch11 f) ∗ (∃ f, pt c cc0_scratch12 f) ∗ (∃ f, pt c cc0_scratch13 f) ∗ (∃ f, pt c cc0_scratch14 f) ∗ (∃ f, pt c cc0_scratch15 f) ∗ semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0 ∗ semVal ((c : Thread nD τ), SemLoc.dma 54) 0 ∗ semVal ((c : Thread nD τ), SemLoc.dma 55) 0 ∗ semVal ((c : Thread nD τ), SemLoc.dma 56) 0 ∗ semVal ((c : Thread nD τ), SemLoc.dma 57) 0 ∗ semVal ((c : Thread nD τ), SemLoc.dma 58) 0 ∗ semVal ((c : Thread nD τ), SemLoc.dma 59) 0 ∗ semVal ((c : Thread nD τ), SemLoc.dma 60) 0 ∗ semVal ((c : Thread nD τ), SemLoc.dma 61) 0 ∗ semVal ((c : Thread nD τ), SemLoc.dma 62) 0 ∗ semVal ((c : Thread nD τ), SemLoc.dma 63) 0 ∗ semVal ((c : Thread nD τ), SemLoc.dma 64) 0 ∗ semVal ((c : Thread nD τ), SemLoc.dma 65) 0 ∗ semVal ((c : Thread nD τ), SemLoc.dma 66) 0 ∗ semVal ((c : Thread nD τ), SemLoc.dma 67) 0 ∗ semVal ((c : Thread nD τ), SemLoc.dma 68) 0 ∗ semVal ((c : Thread nD τ), SemLoc.dma 69) 0 ∗ semVal ((c : Thread nD τ), SemLoc.dma 70) 0 ∗ semVal ((c : Thread nD τ), SemLoc.dma 71) 0 ∗ semVal ((c : Thread nD τ), SemLoc.dma 72) 0 ∗ semVal ((c : Thread nD τ), SemLoc.dma 73) 0 ∗ semVal ((c : Thread nD τ), SemLoc.dma 74) 0 ∗ semVal ((c : Thread nD τ), SemLoc.dma 75) 0 ∗ semVal ((c : Thread nD τ), SemLoc.dma 76) 0 ∗ semVal ((c : Thread nD τ), SemLoc.dma 77) 0 ∗ semVal ((c : Thread nD τ), SemLoc.dma 78) 0 ∗ semVal ((c : Thread nD τ), SemLoc.dma 79) 0 ∗ semVal ((c : Thread nD τ), SemLoc.dma 80) 0 ∗ semVal ((c : Thread nD τ), SemLoc.dma 81) 0 ∗ semVal ((c : Thread nD τ), SemLoc.dma 82) 0 ∗ semVal ((c : Thread nD τ), SemLoc.dma 83) 0 ∗ semVal ((c : Thread nD τ), SemLoc.dma 84) 0 ∗ semVal ((c : Thread nD τ), SemLoc.dma 85) 0 ∗ semVal ((c : Thread nD τ), SemLoc.dma 86) 0 ∗ semVal ((c : Thread nD τ), SemLoc.dma 87) 0 ∗ semVal ((c : Thread nD τ), SemLoc.dma 88) 0 ∗ semVal ((c : Thread nD τ), SemLoc.dma 89) 0 ∗ semVal ((c : Thread nD τ), SemLoc.dma 90) 0 ∗ semVal ((c : Thread nD τ), SemLoc.dma 91) 0 ∗ semVal ((c : Thread nD τ), SemLoc.dma 92) 0 ∗ semVal ((c : Thread nD τ), SemLoc.dma 93) 0 ∗ semVal ((c : Thread nD τ), SemLoc.dma 94) 0 ∗ semVal ((c : Thread nD τ), SemLoc.dma 95) 0 ∗ semVal ((c : Thread nD τ), SemLoc.dma 96) 0 ∗ semVal ((c : Thread nD τ), SemLoc.dma 97) 0 ∗ semVal ((c : Thread nD τ), SemLoc.dma 98) 0 ∗ semVal ((c : Thread nD τ), SemLoc.dma 99) 0 ∗ semVal ((c : Thread nD τ), SemLoc.dma 100) 0 ∗ semVal ((c : Thread nD τ), SemLoc.dma 101) 0 ∗ semVal ((c : Thread nD τ), SemLoc.dma 102) 0 ∗ semVal ((c : Thread nD τ), SemLoc.dma 103) 0 ∗ semVal ((c : Thread nD τ), SemLoc.dma 104) 0 ∗ semVal ((c : Thread nD τ), SemLoc.dma 105) 0 ∗ semVal ((c : Thread nD τ), SemLoc.dma 106) 0 ∗ semVal ((c : Thread nD τ), SemLoc.dma 107) 0 ∗ semVal ((c : Thread nD τ), SemLoc.dma 108) 0 ∗ semVal ((c : Thread nD τ), SemLoc.dma 109) 0 ∗ semVal ((c : Thread nD τ), SemLoc.dma 110) 0 ∗ semVal ((c : Thread nD τ), SemLoc.dma 111) 0 ∗ semVal ((c : Thread nD τ), SemLoc.dma 112) 0 ∗ semVal ((c : Thread nD τ), SemLoc.dma 113) 0 ∗ semVal ((c : Thread nD τ), SemLoc.dma 114) 0 ∗ semVal ((c : Thread nD τ), SemLoc.dma 115) 0 ∗ semVal ((c : Thread nD τ), SemLoc.dma 116) 0 ∗ semVal ((c : Thread nD τ), SemLoc.dma 117) 0 ∗ semVal ((c : Thread nD τ), SemLoc.dma 118) 0 ∗ semVal ((c : Thread nD τ), SemLoc.dma 119) 0 ∗ semVal ((c : Thread nD τ), SemLoc.dma 120) 0 ∗ semVal ((c : Thread nD τ), SemLoc.dma 121) 0 ∗ semVal ((c : Thread nD τ), SemLoc.dma 122) 0 ∗ semVal ((c : Thread nD τ), SemLoc.dma 123) 0 ∗ semVal ((c : Thread nD τ), SemLoc.dma 124) 0 ∗ semVal ((c : Thread nD τ), SemLoc.dma 125) 0 ∗ semVal ((c : Thread nD τ), SemLoc.dma 126) 0 ∗ semVal ((c : Thread nD τ), SemLoc.dma 127) 0 ∗ semVal ((c : Thread nD τ), SemLoc.dma 128) 0 ∗ semVal ((c : Thread nD τ), SemLoc.dma 129) 0 ∗ semVal ((c : Thread nD τ), SemLoc.dma 130) 0 ∗ semVal ((c : Thread nD τ), SemLoc.dma 131) 0 ∗ semVal ((c : Thread nD τ), SemLoc.dma 132) 0 ∗ semVal ((c : Thread nD τ), SemLoc.dma 133) 0 ∗ semVal ((c : Thread nD τ), SemLoc.dma 134) 0 ∗ semVal ((c : Thread nD τ), SemLoc.dma 135) 0 ∗ semVal ((c : Thread nD τ), SemLoc.dma 136) 0 ∗ (∃ W', owes (c : Thread nD τ) 0 W')) -∗ K ⟨⟩))
        ⊢ wp frame (wpE (defs₀ (F := F)) Variants.none c none) Set.univ
            (cc0_swa_decode (Memref.whole main_v0) (Memref.isWhole_whole _) (Memref.whole main_v1) (Memref.isWhole_whole _) (Memref.whole main_v2) (Memref.isWhole_whole _) (Memref.whole main_v4) (Memref.isWhole_whole _) (Memref.whole main_v6) (Memref.isWhole_whole _) (Memref.whole main_v7) (Memref.isWhole_whole _) (Memref.whole main_v8) (Memref.isWhole_whole _) (Memref.whole main_arg7) (Memref.isWhole_whole _) (Memref.whole main_v9_0) (Memref.isWhole_whole _) (Memref.whole main_v9_1) (Memref.isWhole_whole _) (Memref.whole main_v9_2) (Memref.isWhole_whole _) (Memref.whole main_v9_3) (Memref.isWhole_whole _) (Memref.whole main_v9_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) cc0_scratch16 cc0_scratch17 cc0_scratch18 cc0_scratch19 cc0_scratch20 cc0_scratch21 cc0_scratch22) K } := by
  refine ⟨⟨?_, ?_, ?_, ?_, ?_⟩, fun W K => ?run⟩
  case run =>
    iintro ⟨F0, F1, F2, F3, F4, F5, F6, F7, O0, O1, O2, O3, O4, S0, S1, S2, S3, S4, S5, S6, S7, S8, S9, S10, S11, S12, S13, S14, S15, Q0, Q1, Q2, Q3, Q4, Q5, Q6, Q7, Q8, Q9, Q10, Q11, Q12, Q13, Q14, Q15, Q16, Q17, Q18, Q19, Q20, Q21, Q22, Q23, Q24, Q25, Q26, Q27, Q28, Q29, Q30, Q31, Q32, Q33, Q34, Q35, Q36, Q37, Q38, Q39, Q40, Q41, Q42, Q43, Q44, Q45, Q46, Q47, Q48, Q49, Q50, Q51, Q52, Q53, Q54, Q55, Q56, Q57, Q58, Q59, Q60, Q61, Q62, Q63, Q64, Q65, Q66, Q67, Q68, Q69, Q70, Q71, Q72, Q73, Q74, Q75, Q76, Q77, Q78, Q79, Q80, Q81, Q82, Q83, Q84, Q85, Q86, Q87, Q88, Q89, Q90, Q91, Q92, Q93, Q94, Q95, Q96, Q97, Q98, Q99, Q100, Q101, Q102, Q103, Q104, Q105, Q106, Q107, Q108, Q109, Q110, Q111, Q112, Q113, Q114, Q115, Q116, Q117, Q118, Q119, Q120, Q121, Q122, Q123, Q124, Q125, Q126, Q127, Q128, Q129, Q130, Q131, Q132, Q133, Q134, Q135, Q136, HW, Hk⟩
    sl_exec_parts! (disch := exact winChk_of _ _ (by decide))
    sl_step
    iapply Hk
    isplitl [F0]; · iexact F0
    isplitl [F1]; · iexact F1
    isplitl [F2]; · iexact F2
    isplitl [F3]; · iexact F3
    isplitl [F4]; · iexact F4
    isplitl [F5]; · iexact F5
    isplitl [F6]; · iexact F6
    isplitl [F7]; · iexact F7
    isplitl [O0]; · iexact O0
    isplitl [O1]; · iexact O1
    isplitl [O2]; · iexact O2
    isplitl [O3]; · iexact O3
    isplitl [O4]; · iexact O4
    isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    isplitl [S6]; · iexists _; iexact S6
    isplitl [S7]; · iexists _; iexact S7
    isplitl [S8]; · iexists _; iexact S8
    isplitl [S9]; · iexists _; iexact S9
    isplitl [S10]; · iexists _; iexact S10
    isplitl [S11]; · iexists _; iexact S11
    isplitl [S12]; · iexists _; iexact S12
    isplitl [S13]; · iexists _; iexact S13
    isplitl [S14]; · iexists _; iexact S14
    isplitl [S15]; · iexists _; iexact S15
    isplitl [Q0]; · iexact Q0
    isplitl [Q1]; · iexact Q1
    isplitl [Q2]; · iexact Q2
    isplitl [Q3]; · iexact Q3
    isplitl [Q4]; · iexact Q4
    isplitl [Q5]; · iexact Q5
    isplitl [Q6]; · iexact Q6
    isplitl [Q7]; · iexact Q7
    isplitl [Q8]; · iexact Q8
    isplitl [Q9]; · iexact Q9
    isplitl [Q10]; · iexact Q10
    isplitl [Q11]; · iexact Q11
    isplitl [Q12]; · iexact Q12
    isplitl [Q13]; · iexact Q13
    isplitl [Q14]; · iexact Q14
    isplitl [Q15]; · iexact Q15
    isplitl [Q16]; · iexact Q16
    isplitl [Q17]; · iexact Q17
    isplitl [Q18]; · iexact Q18
    isplitl [Q19]; · iexact Q19
    isplitl [Q20]; · iexact Q20
    isplitl [Q21]; · iexact Q21
    isplitl [Q22]; · iexact Q22
    isplitl [Q23]; · iexact Q23
    isplitl [Q24]; · iexact Q24
    isplitl [Q25]; · iexact Q25
    isplitl [Q26]; · iexact Q26
    isplitl [Q27]; · iexact Q27
    isplitl [Q28]; · iexact Q28
    isplitl [Q29]; · iexact Q29
    isplitl [Q30]; · iexact Q30
    isplitl [Q31]; · iexact Q31
    isplitl [Q32]; · iexact Q32
    isplitl [Q33]; · iexact Q33
    isplitl [Q34]; · iexact Q34
    isplitl [Q35]; · iexact Q35
    isplitl [Q36]; · iexact Q36
    isplitl [Q37]; · iexact Q37
    isplitl [Q38]; · iexact Q38
    isplitl [Q39]; · iexact Q39
    isplitl [Q40]; · iexact Q40
    isplitl [Q41]; · iexact Q41
    isplitl [Q42]; · iexact Q42
    isplitl [Q43]; · iexact Q43
    isplitl [Q44]; · iexact Q44
    isplitl [Q45]; · iexact Q45
    isplitl [Q46]; · iexact Q46
    isplitl [Q47]; · iexact Q47
    isplitl [Q48]; · iexact Q48
    isplitl [Q49]; · iexact Q49
    isplitl [Q50]; · iexact Q50
    isplitl [Q51]; · iexact Q51
    isplitl [Q52]; · iexact Q52
    isplitl [Q53]; · iexact Q53
    isplitl [Q54]; · iexact Q54
    isplitl [Q55]; · iexact Q55
    isplitl [Q56]; · iexact Q56
    isplitl [Q57]; · iexact Q57
    isplitl [Q58]; · iexact Q58
    isplitl [Q59]; · iexact Q59
    isplitl [Q60]; · iexact Q60
    isplitl [Q61]; · iexact Q61
    isplitl [Q62]; · iexact Q62
    isplitl [Q63]; · iexact Q63
    isplitl [Q64]; · iexact Q64
    isplitl [Q65]; · iexact Q65
    isplitl [Q66]; · iexact Q66
    isplitl [Q67]; · iexact Q67
    isplitl [Q68]; · iexact Q68
    isplitl [Q69]; · iexact Q69
    isplitl [Q70]; · iexact Q70
    isplitl [Q71]; · iexact Q71
    isplitl [Q72]; · iexact Q72
    isplitl [Q73]; · iexact Q73
    isplitl [Q74]; · iexact Q74
    isplitl [Q75]; · iexact Q75
    isplitl [Q76]; · iexact Q76
    isplitl [Q77]; · iexact Q77
    isplitl [Q78]; · iexact Q78
    isplitl [Q79]; · iexact Q79
    isplitl [Q80]; · iexact Q80
    isplitl [Q81]; · iexact Q81
    isplitl [Q82]; · iexact Q82
    isplitl [Q83]; · iexact Q83
    isplitl [Q84]; · iexact Q84
    isplitl [Q85]; · iexact Q85
    isplitl [Q86]; · iexact Q86
    isplitl [Q87]; · iexact Q87
    isplitl [Q88]; · iexact Q88
    isplitl [Q89]; · iexact Q89
    isplitl [Q90]; · iexact Q90
    isplitl [Q91]; · iexact Q91
    isplitl [Q92]; · iexact Q92
    isplitl [Q93]; · iexact Q93
    isplitl [Q94]; · iexact Q94
    isplitl [Q95]; · iexact Q95
    isplitl [Q96]; · iexact Q96
    isplitl [Q97]; · iexact Q97
    isplitl [Q98]; · iexact Q98
    isplitl [Q99]; · iexact Q99
    isplitl [Q100]; · iexact Q100
    isplitl [Q101]; · iexact Q101
    isplitl [Q102]; · iexact Q102
    isplitl [Q103]; · iexact Q103
    isplitl [Q104]; · iexact Q104
    isplitl [Q105]; · iexact Q105
    isplitl [Q106]; · iexact Q106
    isplitl [Q107]; · iexact Q107
    isplitl [Q108]; · iexact Q108
    isplitl [Q109]; · iexact Q109
    isplitl [Q110]; · iexact Q110
    isplitl [Q111]; · iexact Q111
    isplitl [Q112]; · iexact Q112
    isplitl [Q113]; · iexact Q113
    isplitl [Q114]; · iexact Q114
    isplitl [Q115]; · iexact Q115
    isplitl [Q116]; · iexact Q116
    isplitl [Q117]; · iexact Q117
    isplitl [Q118]; · iexact Q118
    isplitl [Q119]; · iexact Q119
    isplitl [Q120]; · iexact Q120
    isplitl [Q121]; · iexact Q121
    isplitl [Q122]; · iexact Q122
    isplitl [Q123]; · iexact Q123
    isplitl [Q124]; · iexact Q124
    isplitl [Q125]; · iexact Q125
    isplitl [Q126]; · iexact Q126
    isplitl [Q127]; · iexact Q127
    isplitl [Q128]; · iexact Q128
    isplitl [Q129]; · iexact Q129
    isplitl [Q130]; · iexact Q130
    isplitl [Q131]; · iexact Q131
    isplitl [Q132]; · iexact Q132
    isplitl [Q133]; · iexact Q133
    isplitl [Q134]; · iexact Q134
    isplitl [Q135]; · iexact Q135
    isplitl [Q136]; · iexact Q136
    iexists _; iexact HW

end Cert.Kernel.Hand

end
-- ==== Proof.KernelFrame.lean ====
/-
  The frame of the program: every run ends, leaves the arguments as they were and every semaphore at zero.
-/
module

public import proofs.«01_k».proof.Proof.KernelBody
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import Idealize.ShloMosaic.Lib.Pipeline.FrameBody
public import Idealize.ShloMosaic.Lib.Pipeline.FrameValue
public import Idealize.ShloMosaic.Lib.Ring
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

variable (m : (ℓ : Loc nD τ sig) → Buf (Elt F) ℓ) (ρ : Dev nD → PrngReg)

/-- The result buffers, which the body writes itself. -/
def R0 : Finset (Ref sig .tc) := {main_v9_0, main_v9_1, main_v9_2, main_v9_3, main_v9_4}
/-- The buffers the body's copies read. -/
def H0 : Finset (Ref sig .tc) := {main_v0, main_v1, main_v2, main_v4, main_v6, main_v7, main_v8, main_arg7}
theorem H0_sub : H0 ⊆ Pipeline.restRefs sig (cfg0.spec) := by decide
theorem R0_sub : R0 ⊆ Pipeline.restRefs sig (cfg0.spec) \ H0 := by decide

/-- The body's semaphores: all of them. -/
abbrev osem0 : Fin 137 → SemLoc sig := fun j => SemLoc.dma j
theorem ownSemFacts0 : Pipeline.OwnSemFacts (cfg0.spec) osem0 := ⟨by decide, fun a b h => SemLoc.dma.inj h, fun k w => w.elim0⟩

set_option maxRecDepth 100000 in
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0 ∗ semVal ((c : Thread nD τ), SemLoc.dma 54) 0 ∗ semVal ((c : Thread nD τ), SemLoc.dma 55) 0 ∗ semVal ((c : Thread nD τ), SemLoc.dma 56) 0 ∗ semVal ((c : Thread nD τ), SemLoc.dma 57) 0 ∗ semVal ((c : Thread nD τ), SemLoc.dma 58) 0 ∗ semVal ((c : Thread nD τ), SemLoc.dma 59) 0 ∗ semVal ((c : Thread nD τ), SemLoc.dma 60) 0 ∗ semVal ((c : Thread nD τ), SemLoc.dma 61) 0 ∗ semVal ((c : Thread nD τ), SemLoc.dma 62) 0 ∗ semVal ((c : Thread nD τ), SemLoc.dma 63) 0 ∗ semVal ((c : Thread nD τ), SemLoc.dma 64) 0 ∗ semVal ((c : Thread nD τ), SemLoc.dma 65) 0 ∗ semVal ((c : Thread nD τ), SemLoc.dma 66) 0 ∗ semVal ((c : Thread nD τ), SemLoc.dma 67) 0 ∗ semVal ((c : Thread nD τ), SemLoc.dma 68) 0 ∗ semVal ((c : Thread nD τ), SemLoc.dma 69) 0 ∗ semVal ((c : Thread nD τ), SemLoc.dma 70) 0 ∗ semVal ((c : Thread nD τ), SemLoc.dma 71) 0 ∗ semVal ((c : Thread nD τ), SemLoc.dma 72) 0 ∗ semVal ((c : Thread nD τ), SemLoc.dma 73) 0 ∗ semVal ((c : Thread nD τ), SemLoc.dma 74) 0 ∗ semVal ((c : Thread nD τ), SemLoc.dma 75) 0 ∗ semVal ((c : Thread nD τ), SemLoc.dma 76) 0 ∗ semVal ((c : Thread nD τ), SemLoc.dma 77) 0 ∗ semVal ((c : Thread nD τ), SemLoc.dma 78) 0 ∗ semVal ((c : Thread nD τ), SemLoc.dma 79) 0 ∗ semVal ((c : Thread nD τ), SemLoc.dma 80) 0 ∗ semVal ((c : Thread nD τ), SemLoc.dma 81) 0 ∗ semVal ((c : Thread nD τ), SemLoc.dma 82) 0 ∗ semVal ((c : Thread nD τ), SemLoc.dma 83) 0 ∗ semVal ((c : Thread nD τ), SemLoc.dma 84) 0 ∗ semVal ((c : Thread nD τ), SemLoc.dma 85) 0 ∗ semVal ((c : Thread nD τ), SemLoc.dma 86) 0 ∗ semVal ((c : Thread nD τ), SemLoc.dma 87) 0 ∗ semVal ((c : Thread nD τ), SemLoc.dma 88) 0 ∗ semVal ((c : Thread nD τ), SemLoc.dma 89) 0 ∗ semVal ((c : Thread nD τ), SemLoc.dma 90) 0 ∗ semVal ((c : Thread nD τ), SemLoc.dma 91) 0 ∗ semVal ((c : Thread nD τ), SemLoc.dma 92) 0 ∗ semVal ((c : Thread nD τ), SemLoc.dma 93) 0 ∗ semVal ((c : Thread nD τ), SemLoc.dma 94) 0 ∗ semVal ((c : Thread nD τ), SemLoc.dma 95) 0 ∗ semVal ((c : Thread nD τ), SemLoc.dma 96) 0 ∗ semVal ((c : Thread nD τ), SemLoc.dma 97) 0 ∗ semVal ((c : Thread nD τ), SemLoc.dma 98) 0 ∗ semVal ((c : Thread nD τ), SemLoc.dma 99) 0 ∗ semVal ((c : Thread nD τ), SemLoc.dma 100) 0 ∗ semVal ((c : Thread nD τ), SemLoc.dma 101) 0 ∗ semVal ((c : Thread nD τ), SemLoc.dma 102) 0 ∗ semVal ((c : Thread nD τ), SemLoc.dma 103) 0 ∗ semVal ((c : Thread nD τ), SemLoc.dma 104) 0 ∗ semVal ((c : Thread nD τ), SemLoc.dma 105) 0 ∗ semVal ((c : Thread nD τ), SemLoc.dma 106) 0 ∗ semVal ((c : Thread nD τ), SemLoc.dma 107) 0 ∗ semVal ((c : Thread nD τ), SemLoc.dma 108) 0 ∗ semVal ((c : Thread nD τ), SemLoc.dma 109) 0 ∗ semVal ((c : Thread nD τ), SemLoc.dma 110) 0 ∗ semVal ((c : Thread nD τ), SemLoc.dma 111) 0 ∗ semVal ((c : Thread nD τ), SemLoc.dma 112) 0 ∗ semVal ((c : Thread nD τ), SemLoc.dma 113) 0 ∗ semVal ((c : Thread nD τ), SemLoc.dma 114) 0 ∗ semVal ((c : Thread nD τ), SemLoc.dma 115) 0 ∗ semVal ((c : Thread nD τ), SemLoc.dma 116) 0 ∗ semVal ((c : Thread nD τ), SemLoc.dma 117) 0 ∗ semVal ((c : Thread nD τ), SemLoc.dma 118) 0 ∗ semVal ((c : Thread nD τ), SemLoc.dma 119) 0 ∗ semVal ((c : Thread nD τ), SemLoc.dma 120) 0 ∗ semVal ((c : Thread nD τ), SemLoc.dma 121) 0 ∗ semVal ((c : Thread nD τ), SemLoc.dma 122) 0 ∗ semVal ((c : Thread nD τ), SemLoc.dma 123) 0 ∗ semVal ((c : Thread nD τ), SemLoc.dma 124) 0 ∗ semVal ((c : Thread nD τ), SemLoc.dma 125) 0 ∗ semVal ((c : Thread nD τ), SemLoc.dma 126) 0 ∗ semVal ((c : Thread nD τ), SemLoc.dma 127) 0 ∗ semVal ((c : Thread nD τ), SemLoc.dma 128) 0 ∗ semVal ((c : Thread nD τ), SemLoc.dma 129) 0 ∗ semVal ((c : Thread nD τ), SemLoc.dma 130) 0 ∗ semVal ((c : Thread nD τ), SemLoc.dma 131) 0 ∗ semVal ((c : Thread nD τ), SemLoc.dma 132) 0 ∗ semVal ((c : Thread nD τ), SemLoc.dma 133) 0 ∗ semVal ((c : Thread nD τ), SemLoc.dma 134) 0 ∗ semVal ((c : Thread nD τ), SemLoc.dma 135) 0 ∗ semVal ((c : Thread nD τ), SemLoc.dma 136) 0) := by
  rw [Pipeline.ownSems0_eq_of_list c osem0 [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79, 80, 81, 82, 83, 84, 85, 86, 87, 88, 89, 90, 91, 92, 93, 94, 95, 96, 97, 98, 99, 100, 101, 102, 103, 104, 105, 106, 107, 108, 109, 110, 111, 112, 113, 114, 115, 116, 117, 118, 119, 120, 121, 122, 123, 124, 125, 126, 127, 128, 129, 130, 131, 132, 133, 134, 135, 136]
    (by rw [eq_comm, Finset.eq_univ_iff_forall]; decide +kernel) (by decide +kernel)]
  rfl

/-- What each buffer of a core holds when the region is entered: after the host operations before it. -/
abbrev V (c : Dev nD) (b : Ref sig .tc) : Buf (Elt F) ((c : Thread nD τ).loc b) := StableHlo.after hostOps0 (fun b => m (c, b)) b

set_option maxHeartbeats 800000 in
/-- The main program up to the region. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem hbmPts0_eq (c : Dev nD) :
    (bigSep H0 (fun b => ((c : Thread nD τ).loc b) ↦{fullShare} V m c b) : sProp 𝕄)
      = iprop(pt c main_v0 (V m c main_v0) ∗ pt c main_v1 (V m c main_v1) ∗ pt c main_v2 (V m c main_v2) ∗ pt c main_v4 (V m c main_v4) ∗ pt c main_v6 (V m c main_v6) ∗ pt c main_v7 (V m c main_v7) ∗ pt c main_v8 (V m c main_v8) ∗ pt c main_arg7 (V m c main_arg7)) := by
  rw [BI.bigSep_eq_bigSepL_of_eq [main_v0, main_v1, main_v2, main_v4, main_v6, main_v7, main_v8, main_arg7] (by decide) (by decide)]; rfl

/-- The result buffers, each whole at some contents. -/
theorem ownedPts0_eq (c : Dev nD) :
    (Pipeline.owned R0 c : sProp 𝕄) = iprop((∃ f, pt c main_v9_0 f) ∗ (∃ f, pt c main_v9_1 f) ∗ (∃ f, pt c main_v9_2 f) ∗ (∃ f, pt c main_v9_3 f) ∗ (∃ f, pt c main_v9_4 f)) := by
  unfold Pipeline.owned; rw [BI.bigSep_eq_bigSepL_of_eq [main_v9_0, main_v9_1, main_v9_2, main_v9_3, main_v9_4] (by decide) (by decide)]; rfl

/-- The proof data of the one region on core `c`. -/
def dats (_ : Fin 1) (c : Dev nD) : Dat τ (Elt F) Unit ℕ (Pipeline.UD sig nD τ) ℕ cfg0 c where
  A w := V m c (Pipeline.arrRef (cfg0.spec) w)
  after w t := w.elim0
  Φ _ := Pipeline.ΦDR osem0 (cfg0.spec) H0 R0 (V m) c
  q _ := fullShare
  owed _ := 0

theorem A_eq (c : Dev nD) (w : Fin cfg0.W) : (dats m 0 c).A w = V m c (Pipeline.arrRef (cfg0.spec) w) := w.elim0

set_option maxHeartbeats 0 in
set_option maxRecDepth 100000 in
theorem sound_body (c : Dev nD) (t : Fin cfg0.N) :
    iprop((dats m 0 c).Φ t.castSucc ∗ (dats m 0 c).owesAt () t.castSucc ∗ emp)
      ⊢ wp frame (wpE (defs₀ (F := F)) Variants.none c none) Set.univ (bodyAt0 t)
        (fun _ => iprop((dats m 0 c).Φ t.succ ∗ (dats m 0 c).owesAt () t.succ ∗ emp)) := by
  unfold bodyAt0
  rw [show (dats m 0 c).Φ t.succ = Pipeline.ΦDR osem0 (cfg0.spec) H0 R0 (V m) c from rfl, show (dats m 0 c).Φ t.castSucc = Pipeline.ΦDR osem0 (cfg0.spec) H0 R0 (V m) c from rfl,
    Pipeline.ΦDR_eq, scopedRest0_eq, ownSems00_eq, hbmPts0_eq, ownedPts0_eq]
  unfold Dat.owesAt Pipeline.owesWithin
  rw [show (dats m 0 c).owed t.castSucc = 0 from rfl, show (dats m 0 c).owed t.succ = 0 from rfl]
  iintro ⟨⟨⟨⟨%s0, S0⟩, ⟨%s1, S1⟩, ⟨%s2, S2⟩, ⟨%s3, S3⟩, ⟨%s4, S4⟩, ⟨%s5, S5⟩, ⟨%s6, S6⟩, ⟨%s8, S8⟩, ⟨%s9, S9⟩, ⟨%s10, S10⟩, ⟨%s11, S11⟩, ⟨%s12, S12⟩, ⟨%s13, S13⟩, ⟨%s14, S14⟩, ⟨%s15, S15⟩, ⟨%s7, S7⟩⟩, Hg, ⟨Q0, Q1, Q2, Q3, Q4, Q5, Q6, Q7, Q8, Q9, Q10, Q11, Q12, Q13, Q14, Q15, Q16, Q17, Q18, Q19, Q20, Q21, Q22, Q23, Q24, Q25, Q26, Q27, Q28, Q29, Q30, Q31, Q32, Q33, Q34, Q35, Q36, Q37, Q38, Q39, Q40, Q41, Q42, Q43, Q44, Q45, Q46, Q47, Q48, Q49, Q50, Q51, Q52, Q53, Q54, Q55, Q56, Q57, Q58, Q59, Q60, Q61, Q62, Q63, Q64, Q65, Q66, Q67, Q68, Q69, Q70, Q71, Q72, Q73, Q74, Q75, Q76, Q77, Q78, Q79, Q80, Q81, Q82, Q83, Q84, Q85, Q86, Q87, Q88, Q89, Q90, Q91, Q92, Q93, Q94, Q95, Q96, Q97, Q98, Q99, Q100, Q101, Q102, Q103, Q104, Q105, Q106, Q107, Q108, Q109, Q110, Q111, Q112, Q113, Q114, Q115, Q116, Q117, Q118, Q119, Q120, Q121, Q122, Q123, Q124, Q125, Q126, Q127, Q128, Q129, Q130, Q131, Q132, Q133, Q134, Q135, Q136⟩, ⟨F0, F1, F2, F3, F4, F5, F6, F7⟩, ⟨⟨%o0, O0⟩, ⟨%o1, O1⟩, ⟨%o2, O2⟩, ⟨%o3, O3⟩, ⟨%o4, O4⟩⟩⟩, ⟨%W, -, HW⟩, -⟩
  iapply ((kernelRun c (V m c main_v0) (V m c main_v1) (V m c main_v2) (V m c main_v4) (V m c main_v6) (V m c main_v7) (V m c main_v8) (V m c main_arg7) o0 o1 o2 o3 o4 s0 s1 s2 s3 s4 s5 s6 s7 s8 s9 s10 s11 s12 s13 s14 s15).2 W _)
  isplitl [F0]; · iexact F0
  isplitl [F1]; · iexact F1
  isplitl [F2]; · iexact F2
  isplitl [F3]; · iexact F3
  isplitl [F4]; · iexact F4
  isplitl [F5]; · iexact F5
  isplitl [F6]; · iexact F6
  isplitl [F7]; · iexact F7
  isplitl [O0]; · iexact O0
  isplitl [O1]; · iexact O1
  isplitl [O2]; · iexact O2
  isplitl [O3]; · iexact O3
  isplitl [O4]; · iexact O4
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  isplitl [Q0]; · iexact Q0
  isplitl [Q1]; · iexact Q1
  isplitl [Q2]; · iexact Q2
  isplitl [Q3]; · iexact Q3
  isplitl [Q4]; · iexact Q4
  isplitl [Q5]; · iexact Q5
  isplitl [Q6]; · iexact Q6
  isplitl [Q7]; · iexact Q7
  isplitl [Q8]; · iexact Q8
  isplitl [Q9]; · iexact Q9
  isplitl [Q10]; · iexact Q10
  isplitl [Q11]; · iexact Q11
  isplitl [Q12]; · iexact Q12
  isplitl [Q13]; · iexact Q13
  isplitl [Q14]; · iexact Q14
  isplitl [Q15]; · iexact Q15
  isplitl [Q16]; · iexact Q16
  isplitl [Q17]; · iexact Q17
  isplitl [Q18]; · iexact Q18
  isplitl [Q19]; · iexact Q19
  isplitl [Q20]; · iexact Q20
  isplitl [Q21]; · iexact Q21
  isplitl [Q22]; · iexact Q22
  isplitl [Q23]; · iexact Q23
  isplitl [Q24]; · iexact Q24
  isplitl [Q25]; · iexact Q25
  isplitl [Q26]; · iexact Q26
  isplitl [Q27]; · iexact Q27
  isplitl [Q28]; · iexact Q28
  isplitl [Q29]; · iexact Q29
  isplitl [Q30]; · iexact Q30
  isplitl [Q31]; · iexact Q31
  isplitl [Q32]; · iexact Q32
  isplitl [Q33]; · iexact Q33
  isplitl [Q34]; · iexact Q34
  isplitl [Q35]; · iexact Q35
  isplitl [Q36]; · iexact Q36
  isplitl [Q37]; · iexact Q37
  isplitl [Q38]; · iexact Q38
  isplitl [Q39]; · iexact Q39
  isplitl [Q40]; · iexact Q40
  isplitl [Q41]; · iexact Q41
  isplitl [Q42]; · iexact Q42
  isplitl [Q43]; · iexact Q43
  isplitl [Q44]; · iexact Q44
  isplitl [Q45]; · iexact Q45
  isplitl [Q46]; · iexact Q46
  isplitl [Q47]; · iexact Q47
  isplitl [Q48]; · iexact Q48
  isplitl [Q49]; · iexact Q49
  isplitl [Q50]; · iexact Q50
  isplitl [Q51]; · iexact Q51
  isplitl [Q52]; · iexact Q52
  isplitl [Q53]; · iexact Q53
  isplitl [Q54]; · iexact Q54
  isplitl [Q55]; · iexact Q55
  isplitl [Q56]; · iexact Q56
  isplitl [Q57]; · iexact Q57
  isplitl [Q58]; · iexact Q58
  isplitl [Q59]; · iexact Q59
  isplitl [Q60]; · iexact Q60
  isplitl [Q61]; · iexact Q61
  isplitl [Q62]; · iexact Q62
  isplitl [Q63]; · iexact Q63
  isplitl [Q64]; · iexact Q64
  isplitl [Q65]; · iexact Q65
  isplitl [Q66]; · iexact Q66
  isplitl [Q67]; · iexact Q67
  isplitl [Q68]; · iexact Q68
  isplitl [Q69]; · iexact Q69
  isplitl [Q70]; · iexact Q70
  isplitl [Q71]; · iexact Q71
  isplitl [Q72]; · iexact Q72
  isplitl [Q73]; · iexact Q73
  isplitl [Q74]; · iexact Q74
  isplitl [Q75]; · iexact Q75
  isplitl [Q76]; · iexact Q76
  isplitl [Q77]; · iexact Q77
  isplitl [Q78]; · iexact Q78
  isplitl [Q79]; · iexact Q79
  isplitl [Q80]; · iexact Q80
  isplitl [Q81]; · iexact Q81
  isplitl [Q82]; · iexact Q82
  isplitl [Q83]; · iexact Q83
  isplitl [Q84]; · iexact Q84
  isplitl [Q85]; · iexact Q85
  isplitl [Q86]; · iexact Q86
  isplitl [Q87]; · iexact Q87
  isplitl [Q88]; · iexact Q88
  isplitl [Q89]; · iexact Q89
  isplitl [Q90]; · iexact Q90
  isplitl [Q91]; · iexact Q91
  isplitl [Q92]; · iexact Q92
  isplitl [Q93]; · iexact Q93
  isplitl [Q94]; · iexact Q94
  isplitl [Q95]; · iexact Q95
  isplitl [Q96]; · iexact Q96
  isplitl [Q97]; · iexact Q97
  isplitl [Q98]; · iexact Q98
  isplitl [Q99]; · iexact Q99
  isplitl [Q100]; · iexact Q100
  isplitl [Q101]; · iexact Q101
  isplitl [Q102]; · iexact Q102
  isplitl [Q103]; · iexact Q103
  isplitl [Q104]; · iexact Q104
  isplitl [Q105]; · iexact Q105
  isplitl [Q106]; · iexact Q106
  isplitl [Q107]; · iexact Q107
  isplitl [Q108]; · iexact Q108
  isplitl [Q109]; · iexact Q109
  isplitl [Q110]; · iexact Q110
  isplitl [Q111]; · iexact Q111
  isplitl [Q112]; · iexact Q112
  isplitl [Q113]; · iexact Q113
  isplitl [Q114]; · iexact Q114
  isplitl [Q115]; · iexact Q115
  isplitl [Q116]; · iexact Q116
  isplitl [Q117]; · iexact Q117
  isplitl [Q118]; · iexact Q118
  isplitl [Q119]; · iexact Q119
  isplitl [Q120]; · iexact Q120
  isplitl [Q121]; · iexact Q121
  isplitl [Q122]; · iexact Q122
  isplitl [Q123]; · iexact Q123
  isplitl [Q124]; · iexact Q124
  isplitl [Q125]; · iexact Q125
  isplitl [Q126]; · iexact Q126
  isplitl [Q127]; · iexact Q127
  isplitl [Q128]; · iexact Q128
  isplitl [Q129]; · iexact Q129
  isplitl [Q130]; · iexact Q130
  isplitl [Q131]; · iexact Q131
  isplitl [Q132]; · iexact Q132
  isplitl [Q133]; · iexact Q133
  isplitl [Q134]; · iexact Q134
  isplitl [Q135]; · iexact Q135
  isplitl [Q136]; · iexact Q136
  isplitl [HW]; · iexact HW
  iintro ⟨F0, F1, F2, F3, F4, F5, F6, F7, O0, O1, O2, O3, O4, S0, S1, S2, S3, S4, S5, S6, S7, S8, S9, S10, S11, S12, S13, S14, S15, Q0, Q1, Q2, Q3, Q4, Q5, Q6, Q7, Q8, Q9, Q10, Q11, Q12, Q13, Q14, Q15, Q16, Q17, Q18, Q19, Q20, Q21, Q22, Q23, Q24, Q25, Q26, Q27, Q28, Q29, Q30, Q31, Q32, Q33, Q34, Q35, Q36, Q37, Q38, Q39, Q40, Q41, Q42, Q43, Q44, Q45, Q46, Q47, Q48, Q49, Q50, Q51, Q52, Q53, Q54, Q55, Q56, Q57, Q58, Q59, Q60, Q61, Q62, Q63, Q64, Q65, Q66, Q67, Q68, Q69, Q70, Q71, Q72, Q73, Q74, Q75, Q76, Q77, Q78, Q79, Q80, Q81, Q82, Q83, Q84, Q85, Q86, Q87, Q88, Q89, Q90, Q91, Q92, Q93, Q94, Q95, Q96, Q97, Q98, Q99, Q100, Q101, Q102, Q103, Q104, Q105, Q106, Q107, Q108, Q109, Q110, Q111, Q112, Q113, Q114, Q115, Q116, Q117, Q118, Q119, Q120, Q121, Q122, Q123, Q124, Q125, Q126, Q127, Q128, Q129, Q130, Q131, Q132, Q133, Q134, Q135, Q136, ⟨%W', HW'⟩⟩
  isplitl [F0 F1 F2 F3 F4 F5 F6 F7 O0 O1 O2 O3 O4 S0 S1 S2 S3 S4 S5 S6 S7 S8 S9 S10 S11 S12 S13 S14 S15 Q0 Q1 Q2 Q3 Q4 Q5 Q6 Q7 Q8 Q9 Q10 Q11 Q12 Q13 Q14 Q15 Q16 Q17 Q18 Q19 Q20 Q21 Q22 Q23 Q24 Q25 Q26 Q27 Q28 Q29 Q30 Q31 Q32 Q33 Q34 Q35 Q36 Q37 Q38 Q39 Q40 Q41 Q42 Q43 Q44 Q45 Q46 Q47 Q48 Q49 Q50 Q51 Q52 Q53 Q54 Q55 Q56 Q57 Q58 Q59 Q60 Q61 Q62 Q63 Q64 Q65 Q66 Q67 Q68 Q69 Q70 Q71 Q72 Q73 Q74 Q75 Q76 Q77 Q78 Q79 Q80 Q81 Q82 Q83 Q84 Q85 Q86 Q87 Q88 Q89 Q90 Q91 Q92 Q93 Q94 Q95 Q96 Q97 Q98 Q99 Q100 Q101 Q102 Q103 Q104 Q105 Q106 Q107 Q108 Q109 Q110 Q111 Q112 Q113 Q114 Q115 Q116 Q117 Q118 Q119 Q120 Q121 Q122 Q123 Q124 Q125 Q126 Q127 Q128 Q129 Q130 Q131 Q132 Q133 Q134 Q135 Q136 Hg]
  · isplitl [S0 S1 S2 S3 S4 S5 S6 S7 S8 S9 S10 S11 S12 S13 S14 S15]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S8]; · iexact S8
      isplitl [S9]; · iexact S9
      isplitl [S10]; · iexact S10
      isplitl [S11]; · iexact S11
      isplitl [S12]; · iexact S12
      isplitl [S13]; · iexact S13
      isplitl [S14]; · iexact S14
      isplitl [S15]; · iexact S15
      iexact S7
    isplitl [Hg]; · iexact Hg
    isplitl [Q0 Q1 Q2 Q3 Q4 Q5 Q6 Q7 Q8 Q9 Q10 Q11 Q12 Q13 Q14 Q15 Q16 Q17 Q18 Q19 Q20 Q21 Q22 Q23 Q24 Q25 Q26 Q27 Q28 Q29 Q30 Q31 Q32 Q33 Q34 Q35 Q36 Q37 Q38 Q39 Q40 Q41 Q42 Q43 Q44 Q45 Q46 Q47 Q48 Q49 Q50 Q51 Q52 Q53 Q54 Q55 Q56 Q57 Q58 Q59 Q60 Q61 Q62 Q63 Q64 Q65 Q66 Q67 Q68 Q69 Q70 Q71 Q72 Q73 Q74 Q75 Q76 Q77 Q78 Q79 Q80 Q81 Q82 Q83 Q84 Q85 Q86 Q87 Q88 Q89 Q90 Q91 Q92 Q93 Q94 Q95 Q96 Q97 Q98 Q99 Q100 Q101 Q102 Q103 Q104 Q105 Q106 Q107 Q108 Q109 Q110 Q111 Q112 Q113 Q114 Q115 Q116 Q117 Q118 Q119 Q120 Q121 Q122 Q123 Q124 Q125 Q126 Q127 Q128 Q129 Q130 Q131 Q132 Q133 Q134 Q135 Q136]
    · isplitl [Q0]; · iexact Q0
      isplitl [Q1]; · iexact Q1
      isplitl [Q2]; · iexact Q2
      isplitl [Q3]; · iexact Q3
      isplitl [Q4]; · iexact Q4
      isplitl [Q5]; · iexact Q5
      isplitl [Q6]; · iexact Q6
      isplitl [Q7]; · iexact Q7
      isplitl [Q8]; · iexact Q8
      isplitl [Q9]; · iexact Q9
      isplitl [Q10]; · iexact Q10
      isplitl [Q11]; · iexact Q11
      isplitl [Q12]; · iexact Q12
      isplitl [Q13]; · iexact Q13
      isplitl [Q14]; · iexact Q14
      isplitl [Q15]; · iexact Q15
      isplitl [Q16]; · iexact Q16
      isplitl [Q17]; · iexact Q17
      isplitl [Q18]; · iexact Q18
      isplitl [Q19]; · iexact Q19
      isplitl [Q20]; · iexact Q20
      isplitl [Q21]; · iexact Q21
      isplitl [Q22]; · iexact Q22
      isplitl [Q23]; · iexact Q23
      isplitl [Q24]; · iexact Q24
      isplitl [Q25]; · iexact Q25
      isplitl [Q26]; · iexact Q26
      isplitl [Q27]; · iexact Q27
      isplitl [Q28]; · iexact Q28
      isplitl [Q29]; · iexact Q29
      isplitl [Q30]; · iexact Q30
      isplitl [Q31]; · iexact Q31
      isplitl [Q32]; · iexact Q32
      isplitl [Q33]; · iexact Q33
      isplitl [Q34]; · iexact Q34
      isplitl [Q35]; · iexact Q35
      isplitl [Q36]; · iexact Q36
      isplitl [Q37]; · iexact Q37
      isplitl [Q38]; · iexact Q38
      isplitl [Q39]; · iexact Q39
      isplitl [Q40]; · iexact Q40
      isplitl [Q41]; · iexact Q41
      isplitl [Q42]; · iexact Q42
      isplitl [Q43]; · iexact Q43
      isplitl [Q44]; · iexact Q44
      isplitl [Q45]; · iexact Q45
      isplitl [Q46]; · iexact Q46
      isplitl [Q47]; · iexact Q47
      isplitl [Q48]; · iexact Q48
      isplitl [Q49]; · iexact Q49
      isplitl [Q50]; · iexact Q50
      isplitl [Q51]; · iexact Q51
      isplitl [Q52]; · iexact Q52
      isplitl [Q53]; · iexact Q53
      isplitl [Q54]; · iexact Q54
      isplitl [Q55]; · iexact Q55
      isplitl [Q56]; · iexact Q56
      isplitl [Q57]; · iexact Q57
      isplitl [Q58]; · iexact Q58
      isplitl [Q59]; · iexact Q59
      isplitl [Q60]; · iexact Q60
      isplitl [Q61]; · iexact Q61
      isplitl [Q62]; · iexact Q62
      isplitl [Q63]; · iexact Q63
      isplitl [Q64]; · iexact Q64
      isplitl [Q65]; · iexact Q65
      isplitl [Q66]; · iexact Q66
      isplitl [Q67]; · iexact Q67
      isplitl [Q68]; · iexact Q68
      isplitl [Q69]; · iexact Q69
      isplitl [Q70]; · iexact Q70
      isplitl [Q71]; · iexact Q71
      isplitl [Q72]; · iexact Q72
      isplitl [Q73]; · iexact Q73
      isplitl [Q74]; · iexact Q74
      isplitl [Q75]; · iexact Q75
      isplitl [Q76]; · iexact Q76
      isplitl [Q77]; · iexact Q77
      isplitl [Q78]; · iexact Q78
      isplitl [Q79]; · iexact Q79
      isplitl [Q80]; · iexact Q80
      isplitl [Q81]; · iexact Q81
      isplitl [Q82]; · iexact Q82
      isplitl [Q83]; · iexact Q83
      isplitl [Q84]; · iexact Q84
      isplitl [Q85]; · iexact Q85
      isplitl [Q86]; · iexact Q86
      isplitl [Q87]; · iexact Q87
      isplitl [Q88]; · iexact Q88
      isplitl [Q89]; · iexact Q89
      isplitl [Q90]; · iexact Q90
      isplitl [Q91]; · iexact Q91
      isplitl [Q92]; · iexact Q92
      isplitl [Q93]; · iexact Q93
      isplitl [Q94]; · iexact Q94
      isplitl [Q95]; · iexact Q95
      isplitl [Q96]; · iexact Q96
      isplitl [Q97]; · iexact Q97
      isplitl [Q98]; · iexact Q98
      isplitl [Q99]; · iexact Q99
      isplitl [Q100]; · iexact Q100
      isplitl [Q101]; · iexact Q101
      isplitl [Q102]; · iexact Q102
      isplitl [Q103]; · iexact Q103
      isplitl [Q104]; · iexact Q104
      isplitl [Q105]; · iexact Q105
      isplitl [Q106]; · iexact Q106
      isplitl [Q107]; · iexact Q107
      isplitl [Q108]; · iexact Q108
      isplitl [Q109]; · iexact Q109
      isplitl [Q110]; · iexact Q110
      isplitl [Q111]; · iexact Q111
      isplitl [Q112]; · iexact Q112
      isplitl [Q113]; · iexact Q113
      isplitl [Q114]; · iexact Q114
      isplitl [Q115]; · iexact Q115
      isplitl [Q116]; · iexact Q116
      isplitl [Q117]; · iexact Q117
      isplitl [Q118]; · iexact Q118
      isplitl [Q119]; · iexact Q119
      isplitl [Q120]; · iexact Q120
      isplitl [Q121]; · iexact Q121
      isplitl [Q122]; · iexact Q122
      isplitl [Q123]; · iexact Q123
      isplitl [Q124]; · iexact Q124
      isplitl [Q125]; · iexact Q125
      isplitl [Q126]; · iexact Q126
      isplitl [Q127]; · iexact Q127
      isplitl [Q128]; · iexact Q128
      isplitl [Q129]; · iexact Q129
      isplitl [Q130]; · iexact Q130
      isplitl [Q131]; · iexact Q131
      isplitl [Q132]; · iexact Q132
      isplitl [Q133]; · iexact Q133
      isplitl [Q134]; · iexact Q134
      isplitl [Q135]; · iexact Q135
      iexact Q136
    isplitl [F0 F1 F2 F3 F4 F5 F6 F7]
    · isplitl [F0]; · iexact F0
      isplitl [F1]; · iexact F1
      isplitl [F2]; · iexact F2
      isplitl [F3]; · iexact F3
      isplitl [F4]; · iexact F4
      isplitl [F5]; · iexact F5
      isplitl [F6]; · iexact F6
      iexact F7
    isplitl [O0]; · iexists _; iexact O0
    isplitl [O1]; · iexists _; iexact O1
    isplitl [O2]; · iexists _; iexact O2
    isplitl [O3]; · iexists _; iexact O3
    iexists _; iexact O4
  isplitl [HW']
  · iexists W'; isplitr; · ipureintro; exact fun _ _ => Or.inl trivial
    iexact HW'
  iempintro

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [defs₀_row]
  exact triple_restated (sound_body m c t)
    rfl (by rw [show (Finset.univ : Finset (Fin cfg0.W)) = ∅ from rfl, BI.bigSep_empty]; exact .rfl)
    fun _ => by rw [show (Finset.univ : Finset (Fin cfg0.W)) = ∅ from rfl, BI.bigSep_empty]; exact .rfl

set_option backward.isDefEq.respectTransparency.types false in
theorem run_main : θ_run defs (onTc (τ := τ) (main (F := F))) (s₀ m ρ) (fun r => Pipeline.FramePostR cfgs (dats m) 0 R0 (V m) r ∧ r.2.sem = fun _ => 0) :=
  Pipeline.θ_run_frame_dmaR (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun _ => .rfl)

/-- THE FRAME: every run ends, the arguments are unchanged and every semaphore ends at zero. -/
theorem args_kept : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7))
      ∧ r.2.sem = fun _ => 0) :=
  (θ_run defs _ _).mono (fun _ h => ⟨fun c => ⟨((h.1 c).2 main_arg0 (Finset.mem_sdiff.mpr ⟨Pipeline.mem_restRefs_of main_arg0 (by decide) (by decide), by decide⟩)).trans (V_main_arg0 m c), ((h.1 c).2 main_arg1 (Finset.mem_sdiff.mpr ⟨Pipeline.mem_restRefs_of main_arg1 (by decide) (by decide), by decide⟩)).trans (V_main_arg1 m c), ((h.1 c).2 main_arg2 (Finset.mem_sdiff.mpr ⟨Pipeline.mem_restRefs_of main_arg2 (by decide) (by decide), by decide⟩)).trans (V_main_arg2 m c), ((h.1 c).2 main_arg3 (Finset.mem_sdiff.mpr ⟨Pipeline.mem_restRefs_of main_arg3 (by decide) (by decide), by decide⟩)).trans (V_main_arg3 m c), ((h.1 c).2 main_arg4 (Finset.mem_sdiff.mpr ⟨Pipeline.mem_restRefs_of main_arg4 (by decide) (by decide), by decide⟩)).trans (V_main_arg4 m c), ((h.1 c).2 main_arg5 (Finset.mem_sdiff.mpr ⟨Pipeline.mem_restRefs_of main_arg5 (by decide) (by decide), by decide⟩)).trans (V_main_arg5 m c), ((h.1 c).2 main_arg6 (Finset.mem_sdiff.mpr ⟨Pipeline.mem_restRefs_of main_arg6 (by decide) (by decide), by decide⟩)).trans (V_main_arg6 m c), ((h.1 c).2 main_arg7 (Finset.mem_sdiff.mpr ⟨Pipeline.mem_restRefs_of main_arg7 (by decide) (by decide), by decide⟩)).trans (V_main_arg7 m c)⟩, h.2⟩) (run_main m ρ)

end Cert.Kernel.Hand

end
-- ==== Proof.KernelIdealWin.lean ====
/-
  The window of one batch row: the start position the kernel computes from a cache length, and the side condition
  it assumes of that start.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameValue
public import Idealize.ShloMosaic.Lib.Ring
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- Where the window of a row with cache length `w` starts: `w - 1023`, rounded down to a multiple of 128 and clipped. -/
def winBase (w : BitVec 32) : BitVec 32 :=
  Scalar.minsi 15232#32 (Scalar.maxsi 0#32 (Scalar.shli (Scalar.shrsi (Scalar.subi w 1023#32) 7#32) 7#32))

/-- Shifting a word right and left by seven bits rounds its integer down to a multiple of 128. -/
theorem roundDown_toInt (x : BitVec 32) :
    (Scalar.shli (Scalar.shrsi x 7#32) 7#32).toInt = 128 * (x.toInt / 128) := by
  have h2 : x.toInt < 2147483648 := by have := BitVec.toInt_lt (x := x); simpa using this
  have h1 : -2147483648 ≤ x.toInt := by have := BitVec.le_toInt (x := x); simpa using this
  have e : Scalar.shli (Scalar.shrsi x 7#32) 7#32 = (x.sshiftRight 7) <<< 7 := rfl
  have hs : (x.sshiftRight 7).toInt = x.toInt / 128 := by
    rw [BitVec.toInt_sshiftRight, Int.shiftRight_eq_div_pow]; rfl
  rw [e, BitVec.toInt_shiftLeft]
  generalize x.sshiftRight 7 = y at hs ⊢
  have hy := BitVec.toInt_eq_toNat_cond y
  have hl := y.isLt
  rw [Nat.shiftLeft_eq]
  simp only [Int.bmod]
  push_cast
  split_ifs at * <;> omega

/-- The start of the window as an integer. -/
theorem winBase_toInt (w : BitVec 32) :
    (winBase w).toInt = min 15232 (max 0 (128 * ((w - 1023#32).toInt / 128))) := by
  have h := roundDown_toInt (w - 1023#32)
  have e : winBase w = IntOp.minsi 15232#32 (IntOp.maxsi 0#32 (Scalar.shli (Scalar.shrsi (w - 1023#32) 7#32) 7#32)) := rfl
  rw [e]
  generalize (Scalar.shli (Scalar.shrsi (w - 1023#32) 7#32) 7#32) = z at h ⊢
  rw [← h]
  have e1 : (15232#32).toInt = 15232 := by decide
  have e0 : (0#32).toInt = 0 := by decide
  simp only [IntOp.minsi, IntOp.maxsi, BitVec.slt, decide_eq_true_eq]
  split_ifs <;> omega

/-- The start is at most 15232. -/
theorem winBase_le (w : BitVec 32) : (winBase w).toNat ≤ 15232 := by
  have h := winBase_toInt w
  have := BitVec.toInt_eq_toNat_cond (winBase w)
  have := (winBase w).isLt
  split_ifs at * <;> omega

/-- The start is a multiple of 128. -/
theorem winBase_dvd (w : BitVec 32) : 128 ∣ (winBase w).toNat := by
  have h := winBase_toInt w
  have := BitVec.toInt_eq_toNat_cond (winBase w)
  have := (winBase w).isLt
  split_ifs at * <;> omega

/-- What the kernel assumes of the word it reads for row `b`. -/
def winChk (b : ℕ) (w : BitVec 32) : Prop :=
  (128 ∣ (winBase w).toNat) ∧
  (∀ a, (![b, 0, (winBase w).toNat] : Fin 3 → ℕ) a + S1x128x1152.size a ≤ S32x128x16384.size a) ∧
  (∀ (hinb : ∀ a, (![b, 0, (winBase w).toNat] : Fin 3 → ℕ) a + S1x128x1152.size a ≤ S32x128x16384.size a),
    (Rect.unit (s := S32x128x16384) ![b, 0, (winBase w).toNat] S1x128x1152.size hinb).WholeWords (EltTy.packing .fp8e4m3)) ∧
  (∀ a, (![b, 0, (winBase w).toNat] : Fin 3 → ℕ) a + S1x2x1152.size a ≤ S32x2x16384.size a)

/-- The assumption holds of every row and every word. -/
theorem winChk_of (b : ℕ) (w : BitVec 32) (hb : b < 32) : winChk b w := by
  have h1 := winBase_le w
  refine ⟨winBase_dvd w, ?_, ?_, ?_⟩
  · intro a; fin_cases a <;> simp [S1x128x1152, S32x128x16384] <;> omega
  · intro hinb
    exact .inl (.inr ⟨by decide, rfl, .inl ⟨⟨0, rfl⟩, ⟨32, rfl⟩⟩⟩)
  · intro a; fin_cases a <;> simp [S1x2x1152, S32x2x16384] <;> omega

end Cert.KernelIdeal.Hand

end
-- ==== Proof.KernelIdealBody.lean ====
/-
  The run of the kernel body.
-/
module

public import proofs.«01_k».proof.Proof.KernelIdealWin
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameValue
public import Idealize.ShloMosaic.Lib.Ring
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Buffer `b` of core `c`: its contents type, and it held whole at `f`. -/
abbrev Bf (c : Dev nD) (b : Ref sig .tc) : Type := Buf (Elt F) ((Memref.whole b).view.loc (c : Thread nD τ))
abbrev pt (c : Dev nD) (b : Ref sig .tc) (f : Bf (F := F) c b) : sProp 𝕄 := (Memref.whole b).view.loc (c : Thread nD τ) ↦{fullShare} f

set_option sl_exec.dmaWindow true in
set_option sl_exec.rejoinFuel 64 in
set_option maxHeartbeats 0 in
noncomputable def kernelRun (c : Dev nD) (f0 : Bf (F := F) c main_v0) (f1 : Bf (F := F) c main_v1) (f2 : Bf (F := F) c main_v2) (f3 : Bf (F := F) c main_v4) (f4 : Bf (F := F) c main_v6) (f5 : Bf (F := F) c main_v7) (f6 : Bf (F := F) c main_v8) (f7 : Bf (F := F) c main_arg7)
    (o0 : Bf (F := F) c main_v9_0) (o1 : Bf (F := F) c main_v9_1) (o2 : Bf (F := F) c main_v9_2) (o3 : Bf (F := F) c main_v9_3) (o4 : Bf (F := F) c main_v9_4) (s0 : Bf (F := F) c cc0_scratch0) (s1 : Bf (F := F) c cc0_scratch1) (s2 : Bf (F := F) c cc0_scratch2) (s3 : Bf (F := F) c cc0_scratch3) (s4 : Bf (F := F) c cc0_scratch4) (s5 : Bf (F := F) c cc0_scratch5) (s6 : Bf (F := F) c cc0_scratch6) (s7 : Bf (F := F) c cc0_scratch7) (s8 : Bf (F := F) c cc0_scratch8) (s9 : Bf (F := F) c cc0_scratch9) (s10 : Bf (F := F) c cc0_scratch10) (s11 : Bf (F := F) c cc0_scratch11) (s12 : Bf (F := F) c cc0_scratch12) (s13 : Bf (F := F) c cc0_scratch13) (s14 : Bf (F := F) c cc0_scratch14) (s15 : Bf (F := F) c cc0_scratch15) :
    { R : Bf (F := F) c main_v9_0 × Bf (F := F) c main_v9_1 × Bf (F := F) c main_v9_2 × Bf (F := F) c main_v9_3 × Bf (F := F) c main_v9_4 //
      ∀ (W : Waits sig Unit) (K : PUnit → sProp 𝕄),
        iprop(pt c main_v0 f0 ∗ pt c main_v1 f1 ∗ pt c main_v2 f2 ∗ pt c main_v4 f3 ∗ pt c main_v6 f4 ∗ pt c main_v7 f5 ∗ pt c main_v8 f6 ∗ pt c main_arg7 f7 ∗ pt c main_v9_0 o0 ∗ pt c main_v9_1 o1 ∗ pt c main_v9_2 o2 ∗ pt c main_v9_3 o3 ∗ pt c main_v9_4 o4 ∗ pt c cc0_scratch0 s0 ∗ pt c cc0_scratch1 s1 ∗ pt c cc0_scratch2 s2 ∗ pt c cc0_scratch3 s3 ∗ pt c cc0_scratch4 s4 ∗ pt c cc0_scratch5 s5 ∗ pt c cc0_scratch6 s6 ∗ pt c cc0_scratch7 s7 ∗ pt c cc0_scratch8 s8 ∗ pt c cc0_scratch9 s9 ∗ pt c cc0_scratch10 s10 ∗ pt c cc0_scratch11 s11 ∗ pt c cc0_scratch12 s12 ∗ pt c cc0_scratch13 s13 ∗ pt c cc0_scratch14 s14 ∗ pt c cc0_scratch15 s15 ∗ semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0 ∗ semVal ((c : Thread nD τ), SemLoc.dma 54) 0 ∗ semVal ((c : Thread nD τ), SemLoc.dma 55) 0 ∗ semVal ((c : Thread nD τ), SemLoc.dma 56) 0 ∗ semVal ((c : Thread nD τ), SemLoc.dma 57) 0 ∗ semVal ((c : Thread nD τ), SemLoc.dma 58) 0 ∗ semVal ((c : Thread nD τ), SemLoc.dma 59) 0 ∗ semVal ((c : Thread nD τ), SemLoc.dma 60) 0 ∗ semVal ((c : Thread nD τ), SemLoc.dma 61) 0 ∗ semVal ((c : Thread nD τ), SemLoc.dma 62) 0 ∗ semVal ((c : Thread nD τ), SemLoc.dma 63) 0 ∗ semVal ((c : Thread nD τ), SemLoc.dma 64) 0 ∗ semVal ((c : Thread nD τ), SemLoc.dma 65) 0 ∗ semVal ((c : Thread nD τ), SemLoc.dma 66) 0 ∗ semVal ((c : Thread nD τ), SemLoc.dma 67) 0 ∗ semVal ((c : Thread nD τ), SemLoc.dma 68) 0 ∗ semVal ((c : Thread nD τ), SemLoc.dma 69) 0 ∗ semVal ((c : Thread nD τ), SemLoc.dma 70) 0 ∗ semVal ((c : Thread nD τ), SemLoc.dma 71) 0 ∗ semVal ((c : Thread nD τ), SemLoc.dma 72) 0 ∗ semVal ((c : Thread nD τ), SemLoc.dma 73) 0 ∗ semVal ((c : Thread nD τ), SemLoc.dma 74) 0 ∗ semVal ((c : Thread nD τ), SemLoc.dma 75) 0 ∗ semVal ((c : Thread nD τ), SemLoc.dma 76) 0 ∗ semVal ((c : Thread nD τ), SemLoc.dma 77) 0 ∗ semVal ((c : Thread nD τ), SemLoc.dma 78) 0 ∗ semVal ((c : Thread nD τ), SemLoc.dma 79) 0 ∗ semVal ((c : Thread nD τ), SemLoc.dma 80) 0 ∗ semVal ((c : Thread nD τ), SemLoc.dma 81) 0 ∗ semVal ((c : Thread nD τ), SemLoc.dma 82) 0 ∗ semVal ((c : Thread nD τ), SemLoc.dma 83) 0 ∗ semVal ((c : Thread nD τ), SemLoc.dma 84) 0 ∗ semVal ((c : Thread nD τ), SemLoc.dma 85) 0 ∗ semVal ((c : Thread nD τ), SemLoc.dma 86) 0 ∗ semVal ((c : Thread nD τ), SemLoc.dma 87) 0 ∗ semVal ((c : Thread nD τ), SemLoc.dma 88) 0 ∗ semVal ((c : Thread nD τ), SemLoc.dma 89) 0 ∗ semVal ((c : Thread nD τ), SemLoc.dma 90) 0 ∗ semVal ((c : Thread nD τ), SemLoc.dma 91) 0 ∗ semVal ((c : Thread nD τ), SemLoc.dma 92) 0 ∗ semVal ((c : Thread nD τ), SemLoc.dma 93) 0 ∗ semVal ((c : Thread nD τ), SemLoc.dma 94) 0 ∗ semVal ((c : Thread nD τ), SemLoc.dma 95) 0 ∗ semVal ((c : Thread nD τ), SemLoc.dma 96) 0 ∗ semVal ((c : Thread nD τ), SemLoc.dma 97) 0 ∗ semVal ((c : Thread nD τ), SemLoc.dma 98) 0 ∗ semVal ((c : Thread nD τ), SemLoc.dma 99) 0 ∗ semVal ((c : Thread nD τ), SemLoc.dma 100) 0 ∗ semVal ((c : Thread nD τ), SemLoc.dma 101) 0 ∗ semVal ((c : Thread nD τ), SemLoc.dma 102) 0 ∗ semVal ((c : Thread nD τ), SemLoc.dma 103) 0 ∗ semVal ((c : Thread nD τ), SemLoc.dma 104) 0 ∗ semVal ((c : Thread nD τ), SemLoc.dma 105) 0 ∗ semVal ((c : Thread nD τ), SemLoc.dma 106) 0 ∗ semVal ((c : Thread nD τ), SemLoc.dma 107) 0 ∗ semVal ((c : Thread nD τ), SemLoc.dma 108) 0 ∗ semVal ((c : Thread nD τ), SemLoc.dma 109) 0 ∗ semVal ((c : Thread nD τ), SemLoc.dma 110) 0 ∗ semVal ((c : Thread nD τ), SemLoc.dma 111) 0 ∗ semVal ((c : Thread nD τ), SemLoc.dma 112) 0 ∗ semVal ((c : Thread nD τ), SemLoc.dma 113) 0 ∗ semVal ((c : Thread nD τ), SemLoc.dma 114) 0 ∗ semVal ((c : Thread nD τ), SemLoc.dma 115) 0 ∗ semVal ((c : Thread nD τ), SemLoc.dma 116) 0 ∗ semVal ((c : Thread nD τ), SemLoc.dma 117) 0 ∗ semVal ((c : Thread nD τ), SemLoc.dma 118) 0 ∗ semVal ((c : Thread nD τ), SemLoc.dma 119) 0 ∗ semVal ((c : Thread nD τ), SemLoc.dma 120) 0 ∗ semVal ((c : Thread nD τ), SemLoc.dma 121) 0 ∗ semVal ((c : Thread nD τ), SemLoc.dma 122) 0 ∗ semVal ((c : Thread nD τ), SemLoc.dma 123) 0 ∗ semVal ((c : Thread nD τ), SemLoc.dma 124) 0 ∗ semVal ((c : Thread nD τ), SemLoc.dma 125) 0 ∗ semVal ((c : Thread nD τ), SemLoc.dma 126) 0 ∗ semVal ((c : Thread nD τ), SemLoc.dma 127) 0 ∗ semVal ((c : Thread nD τ), SemLoc.dma 128) 0 ∗ semVal ((c : Thread nD τ), SemLoc.dma 129) 0 ∗ semVal ((c : Thread nD τ), SemLoc.dma 130) 0 ∗ semVal ((c : Thread nD τ), SemLoc.dma 131) 0 ∗ semVal ((c : Thread nD τ), SemLoc.dma 132) 0 ∗ semVal ((c : Thread nD τ), SemLoc.dma 133) 0 ∗ semVal ((c : Thread nD τ), SemLoc.dma 134) 0 ∗ semVal ((c : Thread nD τ), SemLoc.dma 135) 0 ∗ semVal ((c : Thread nD τ), SemLoc.dma 136) 0 ∗ owes (c : Thread nD τ) 0 W
          ∗ (iprop(pt c main_v0 f0 ∗ pt c main_v1 f1 ∗ pt c main_v2 f2 ∗ pt c main_v4 f3 ∗ pt c main_v6 f4 ∗ pt c main_v7 f5 ∗ pt c main_v8 f6 ∗ pt c main_arg7 f7 ∗ pt c main_v9_0 R.1 ∗ pt c main_v9_1 R.2.1 ∗ pt c main_v9_2 R.2.2.1 ∗ pt c main_v9_3 R.2.2.2.1 ∗ pt c main_v9_4 R.2.2.2.2 ∗ (∃ f, pt c cc0_scratch0 f) ∗ (∃ f, pt c cc0_scratch1 f) ∗ (∃ f, pt c cc0_scratch2 f) ∗ (∃ f, pt c cc0_scratch3 f) ∗ (∃ f, pt c cc0_scratch4 f) ∗ (∃ f, pt c cc0_scratch5 f) ∗ (∃ f, pt c cc0_scratch6 f) ∗ (∃ f, pt c cc0_scratch7 f) ∗ (∃ f, pt c cc0_scratch8 f) ∗ (∃ f, pt c cc0_scratch9 f) ∗ (∃ f, pt c cc0_scratch10 f) ∗ (∃ f, pt c cc0_scratch11 f) ∗ (∃ f, pt c cc0_scratch12 f) ∗ (∃ f, pt c cc0_scratch13 f) ∗ (∃ f, pt c cc0_scratch14 f) ∗ (∃ f, pt c cc0_scratch15 f) ∗ semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0 ∗ semVal ((c : Thread nD τ), SemLoc.dma 54) 0 ∗ semVal ((c : Thread nD τ), SemLoc.dma 55) 0 ∗ semVal ((c : Thread nD τ), SemLoc.dma 56) 0 ∗ semVal ((c : Thread nD τ), SemLoc.dma 57) 0 ∗ semVal ((c : Thread nD τ), SemLoc.dma 58) 0 ∗ semVal ((c : Thread nD τ), SemLoc.dma 59) 0 ∗ semVal ((c : Thread nD τ), SemLoc.dma 60) 0 ∗ semVal ((c : Thread nD τ), SemLoc.dma 61) 0 ∗ semVal ((c : Thread nD τ), SemLoc.dma 62) 0 ∗ semVal ((c : Thread nD τ), SemLoc.dma 63) 0 ∗ semVal ((c : Thread nD τ), SemLoc.dma 64) 0 ∗ semVal ((c : Thread nD τ), SemLoc.dma 65) 0 ∗ semVal ((c : Thread nD τ), SemLoc.dma 66) 0 ∗ semVal ((c : Thread nD τ), SemLoc.dma 67) 0 ∗ semVal ((c : Thread nD τ), SemLoc.dma 68) 0 ∗ semVal ((c : Thread nD τ), SemLoc.dma 69) 0 ∗ semVal ((c : Thread nD τ), SemLoc.dma 70) 0 ∗ semVal ((c : Thread nD τ), SemLoc.dma 71) 0 ∗ semVal ((c : Thread nD τ), SemLoc.dma 72) 0 ∗ semVal ((c : Thread nD τ), SemLoc.dma 73) 0 ∗ semVal ((c : Thread nD τ), SemLoc.dma 74) 0 ∗ semVal ((c : Thread nD τ), SemLoc.dma 75) 0 ∗ semVal ((c : Thread nD τ), SemLoc.dma 76) 0 ∗ semVal ((c : Thread nD τ), SemLoc.dma 77) 0 ∗ semVal ((c : Thread nD τ), SemLoc.dma 78) 0 ∗ semVal ((c : Thread nD τ), SemLoc.dma 79) 0 ∗ semVal ((c : Thread nD τ), SemLoc.dma 80) 0 ∗ semVal ((c : Thread nD τ), SemLoc.dma 81) 0 ∗ semVal ((c : Thread nD τ), SemLoc.dma 82) 0 ∗ semVal ((c : Thread nD τ), SemLoc.dma 83) 0 ∗ semVal ((c : Thread nD τ), SemLoc.dma 84) 0 ∗ semVal ((c : Thread nD τ), SemLoc.dma 85) 0 ∗ semVal ((c : Thread nD τ), SemLoc.dma 86) 0 ∗ semVal ((c : Thread nD τ), SemLoc.dma 87) 0 ∗ semVal ((c : Thread nD τ), SemLoc.dma 88) 0 ∗ semVal ((c : Thread nD τ), SemLoc.dma 89) 0 ∗ semVal ((c : Thread nD τ), SemLoc.dma 90) 0 ∗ semVal ((c : Thread nD τ), SemLoc.dma 91) 0 ∗ semVal ((c : Thread nD τ), SemLoc.dma 92) 0 ∗ semVal ((c : Thread nD τ), SemLoc.dma 93) 0 ∗ semVal ((c : Thread nD τ), SemLoc.dma 94) 0 ∗ semVal ((c : Thread nD τ), SemLoc.dma 95) 0 ∗ semVal ((c : Thread nD τ), SemLoc.dma 96) 0 ∗ semVal ((c : Thread nD τ), SemLoc.dma 97) 0 ∗ semVal ((c : Thread nD τ), SemLoc.dma 98) 0 ∗ semVal ((c : Thread nD τ), SemLoc.dma 99) 0 ∗ semVal ((c : Thread nD τ), SemLoc.dma 100) 0 ∗ semVal ((c : Thread nD τ), SemLoc.dma 101) 0 ∗ semVal ((c : Thread nD τ), SemLoc.dma 102) 0 ∗ semVal ((c : Thread nD τ), SemLoc.dma 103) 0 ∗ semVal ((c : Thread nD τ), SemLoc.dma 104) 0 ∗ semVal ((c : Thread nD τ), SemLoc.dma 105) 0 ∗ semVal ((c : Thread nD τ), SemLoc.dma 106) 0 ∗ semVal ((c : Thread nD τ), SemLoc.dma 107) 0 ∗ semVal ((c : Thread nD τ), SemLoc.dma 108) 0 ∗ semVal ((c : Thread nD τ), SemLoc.dma 109) 0 ∗ semVal ((c : Thread nD τ), SemLoc.dma 110) 0 ∗ semVal ((c : Thread nD τ), SemLoc.dma 111) 0 ∗ semVal ((c : Thread nD τ), SemLoc.dma 112) 0 ∗ semVal ((c : Thread nD τ), SemLoc.dma 113) 0 ∗ semVal ((c : Thread nD τ), SemLoc.dma 114) 0 ∗ semVal ((c : Thread nD τ), SemLoc.dma 115) 0 ∗ semVal ((c : Thread nD τ), SemLoc.dma 116) 0 ∗ semVal ((c : Thread nD τ), SemLoc.dma 117) 0 ∗ semVal ((c : Thread nD τ), SemLoc.dma 118) 0 ∗ semVal ((c : Thread nD τ), SemLoc.dma 119) 0 ∗ semVal ((c : Thread nD τ), SemLoc.dma 120) 0 ∗ semVal ((c : Thread nD τ), SemLoc.dma 121) 0 ∗ semVal ((c : Thread nD τ), SemLoc.dma 122) 0 ∗ semVal ((c : Thread nD τ), SemLoc.dma 123) 0 ∗ semVal ((c : Thread nD τ), SemLoc.dma 124) 0 ∗ semVal ((c : Thread nD τ), SemLoc.dma 125) 0 ∗ semVal ((c : Thread nD τ), SemLoc.dma 126) 0 ∗ semVal ((c : Thread nD τ), SemLoc.dma 127) 0 ∗ semVal ((c : Thread nD τ), SemLoc.dma 128) 0 ∗ semVal ((c : Thread nD τ), SemLoc.dma 129) 0 ∗ semVal ((c : Thread nD τ), SemLoc.dma 130) 0 ∗ semVal ((c : Thread nD τ), SemLoc.dma 131) 0 ∗ semVal ((c : Thread nD τ), SemLoc.dma 132) 0 ∗ semVal ((c : Thread nD τ), SemLoc.dma 133) 0 ∗ semVal ((c : Thread nD τ), SemLoc.dma 134) 0 ∗ semVal ((c : Thread nD τ), SemLoc.dma 135) 0 ∗ semVal ((c : Thread nD τ), SemLoc.dma 136) 0 ∗ (∃ W', owes (c : Thread nD τ) 0 W')) -∗ K ⟨⟩))
        ⊢ wp frame (wpE (defs₀ (F := F)) Variants.none c none) Set.univ
            (cc0_swa_decode (Memref.whole main_v0) (Memref.isWhole_whole _) (Memref.whole main_v1) (Memref.isWhole_whole _) (Memref.whole main_v2) (Memref.isWhole_whole _) (Memref.whole main_v4) (Memref.isWhole_whole _) (Memref.whole main_v6) (Memref.isWhole_whole _) (Memref.whole main_v7) (Memref.isWhole_whole _) (Memref.whole main_v8) (Memref.isWhole_whole _) (Memref.whole main_arg7) (Memref.isWhole_whole _) (Memref.whole main_v9_0) (Memref.isWhole_whole _) (Memref.whole main_v9_1) (Memref.isWhole_whole _) (Memref.whole main_v9_2) (Memref.isWhole_whole _) (Memref.whole main_v9_3) (Memref.isWhole_whole _) (Memref.whole main_v9_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) cc0_scratch16 cc0_scratch17 cc0_scratch18 cc0_scratch19 cc0_scratch20 cc0_scratch21 cc0_scratch22) K } := by
  refine ⟨⟨?_, ?_, ?_, ?_, ?_⟩, fun W K => ?run⟩
  case run =>
    iintro ⟨F0, F1, F2, F3, F4, F5, F6, F7, O0, O1, O2, O3, O4, S0, S1, S2, S3, S4, S5, S6, S7, S8, S9, S10, S11, S12, S13, S14, S15, Q0, Q1, Q2, Q3, Q4, Q5, Q6, Q7, Q8, Q9, Q10, Q11, Q12, Q13, Q14, Q15, Q16, Q17, Q18, Q19, Q20, Q21, Q22, Q23, Q24, Q25, Q26, Q27, Q28, Q29, Q30, Q31, Q32, Q33, Q34, Q35, Q36, Q37, Q38, Q39, Q40, Q41, Q42, Q43, Q44, Q45, Q46, Q47, Q48, Q49, Q50, Q51, Q52, Q53, Q54, Q55, Q56, Q57, Q58, Q59, Q60, Q61, Q62, Q63, Q64, Q65, Q66, Q67, Q68, Q69, Q70, Q71, Q72, Q73, Q74, Q75, Q76, Q77, Q78, Q79, Q80, Q81, Q82, Q83, Q84, Q85, Q86, Q87, Q88, Q89, Q90, Q91, Q92, Q93, Q94, Q95, Q96, Q97, Q98, Q99, Q100, Q101, Q102, Q103, Q104, Q105, Q106, Q107, Q108, Q109, Q110, Q111, Q112, Q113, Q114, Q115, Q116, Q117, Q118, Q119, Q120, Q121, Q122, Q123, Q124, Q125, Q126, Q127, Q128, Q129, Q130, Q131, Q132, Q133, Q134, Q135, Q136, HW, Hk⟩
    sl_exec_parts! (disch := exact winChk_of _ _ (by decide))
    sl_step
    iapply Hk
    isplitl [F0]; · iexact F0
    isplitl [F1]; · iexact F1
    isplitl [F2]; · iexact F2
    isplitl [F3]; · iexact F3
    isplitl [F4]; · iexact F4
    isplitl [F5]; · iexact F5
    isplitl [F6]; · iexact F6
    isplitl [F7]; · iexact F7
    isplitl [O0]; · iexact O0
    isplitl [O1]; · iexact O1
    isplitl [O2]; · iexact O2
    isplitl [O3]; · iexact O3
    isplitl [O4]; · iexact O4
    isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    isplitl [S6]; · iexists _; iexact S6
    isplitl [S7]; · iexists _; iexact S7
    isplitl [S8]; · iexists _; iexact S8
    isplitl [S9]; · iexists _; iexact S9
    isplitl [S10]; · iexists _; iexact S10
    isplitl [S11]; · iexists _; iexact S11
    isplitl [S12]; · iexists _; iexact S12
    isplitl [S13]; · iexists _; iexact S13
    isplitl [S14]; · iexists _; iexact S14
    isplitl [S15]; · iexists _; iexact S15
    isplitl [Q0]; · iexact Q0
    isplitl [Q1]; · iexact Q1
    isplitl [Q2]; · iexact Q2
    isplitl [Q3]; · iexact Q3
    isplitl [Q4]; · iexact Q4
    isplitl [Q5]; · iexact Q5
    isplitl [Q6]; · iexact Q6
    isplitl [Q7]; · iexact Q7
    isplitl [Q8]; · iexact Q8
    isplitl [Q9]; · iexact Q9
    isplitl [Q10]; · iexact Q10
    isplitl [Q11]; · iexact Q11
    isplitl [Q12]; · iexact Q12
    isplitl [Q13]; · iexact Q13
    isplitl [Q14]; · iexact Q14
    isplitl [Q15]; · iexact Q15
    isplitl [Q16]; · iexact Q16
    isplitl [Q17]; · iexact Q17
    isplitl [Q18]; · iexact Q18
    isplitl [Q19]; · iexact Q19
    isplitl [Q20]; · iexact Q20
    isplitl [Q21]; · iexact Q21
    isplitl [Q22]; · iexact Q22
    isplitl [Q23]; · iexact Q23
    isplitl [Q24]; · iexact Q24
    isplitl [Q25]; · iexact Q25
    isplitl [Q26]; · iexact Q26
    isplitl [Q27]; · iexact Q27
    isplitl [Q28]; · iexact Q28
    isplitl [Q29]; · iexact Q29
    isplitl [Q30]; · iexact Q30
    isplitl [Q31]; · iexact Q31
    isplitl [Q32]; · iexact Q32
    isplitl [Q33]; · iexact Q33
    isplitl [Q34]; · iexact Q34
    isplitl [Q35]; · iexact Q35
    isplitl [Q36]; · iexact Q36
    isplitl [Q37]; · iexact Q37
    isplitl [Q38]; · iexact Q38
    isplitl [Q39]; · iexact Q39
    isplitl [Q40]; · iexact Q40
    isplitl [Q41]; · iexact Q41
    isplitl [Q42]; · iexact Q42
    isplitl [Q43]; · iexact Q43
    isplitl [Q44]; · iexact Q44
    isplitl [Q45]; · iexact Q45
    isplitl [Q46]; · iexact Q46
    isplitl [Q47]; · iexact Q47
    isplitl [Q48]; · iexact Q48
    isplitl [Q49]; · iexact Q49
    isplitl [Q50]; · iexact Q50
    isplitl [Q51]; · iexact Q51
    isplitl [Q52]; · iexact Q52
    isplitl [Q53]; · iexact Q53
    isplitl [Q54]; · iexact Q54
    isplitl [Q55]; · iexact Q55
    isplitl [Q56]; · iexact Q56
    isplitl [Q57]; · iexact Q57
    isplitl [Q58]; · iexact Q58
    isplitl [Q59]; · iexact Q59
    isplitl [Q60]; · iexact Q60
    isplitl [Q61]; · iexact Q61
    isplitl [Q62]; · iexact Q62
    isplitl [Q63]; · iexact Q63
    isplitl [Q64]; · iexact Q64
    isplitl [Q65]; · iexact Q65
    isplitl [Q66]; · iexact Q66
    isplitl [Q67]; · iexact Q67
    isplitl [Q68]; · iexact Q68
    isplitl [Q69]; · iexact Q69
    isplitl [Q70]; · iexact Q70
    isplitl [Q71]; · iexact Q71
    isplitl [Q72]; · iexact Q72
    isplitl [Q73]; · iexact Q73
    isplitl [Q74]; · iexact Q74
    isplitl [Q75]; · iexact Q75
    isplitl [Q76]; · iexact Q76
    isplitl [Q77]; · iexact Q77
    isplitl [Q78]; · iexact Q78
    isplitl [Q79]; · iexact Q79
    isplitl [Q80]; · iexact Q80
    isplitl [Q81]; · iexact Q81
    isplitl [Q82]; · iexact Q82
    isplitl [Q83]; · iexact Q83
    isplitl [Q84]; · iexact Q84
    isplitl [Q85]; · iexact Q85
    isplitl [Q86]; · iexact Q86
    isplitl [Q87]; · iexact Q87
    isplitl [Q88]; · iexact Q88
    isplitl [Q89]; · iexact Q89
    isplitl [Q90]; · iexact Q90
    isplitl [Q91]; · iexact Q91
    isplitl [Q92]; · iexact Q92
    isplitl [Q93]; · iexact Q93
    isplitl [Q94]; · iexact Q94
    isplitl [Q95]; · iexact Q95
    isplitl [Q96]; · iexact Q96
    isplitl [Q97]; · iexact Q97
    isplitl [Q98]; · iexact Q98
    isplitl [Q99]; · iexact Q99
    isplitl [Q100]; · iexact Q100
    isplitl [Q101]; · iexact Q101
    isplitl [Q102]; · iexact Q102
    isplitl [Q103]; · iexact Q103
    isplitl [Q104]; · iexact Q104
    isplitl [Q105]; · iexact Q105
    isplitl [Q106]; · iexact Q106
    isplitl [Q107]; · iexact Q107
    isplitl [Q108]; · iexact Q108
    isplitl [Q109]; · iexact Q109
    isplitl [Q110]; · iexact Q110
    isplitl [Q111]; · iexact Q111
    isplitl [Q112]; · iexact Q112
    isplitl [Q113]; · iexact Q113
    isplitl [Q114]; · iexact Q114
    isplitl [Q115]; · iexact Q115
    isplitl [Q116]; · iexact Q116
    isplitl [Q117]; · iexact Q117
    isplitl [Q118]; · iexact Q118
    isplitl [Q119]; · iexact Q119
    isplitl [Q120]; · iexact Q120
    isplitl [Q121]; · iexact Q121
    isplitl [Q122]; · iexact Q122
    isplitl [Q123]; · iexact Q123
    isplitl [Q124]; · iexact Q124
    isplitl [Q125]; · iexact Q125
    isplitl [Q126]; · iexact Q126
    isplitl [Q127]; · iexact Q127
    isplitl [Q128]; · iexact Q128
    isplitl [Q129]; · iexact Q129
    isplitl [Q130]; · iexact Q130
    isplitl [Q131]; · iexact Q131
    isplitl [Q132]; · iexact Q132
    isplitl [Q133]; · iexact Q133
    isplitl [Q134]; · iexact Q134
    isplitl [Q135]; · iexact Q135
    isplitl [Q136]; · iexact Q136
    iexists _; iexact HW

end Cert.KernelIdeal.Hand

end
-- ==== Proof.KernelIdealFrame.lean ====
/-
  The frame of the program: every run ends, leaves the arguments as they were and every semaphore at zero.
-/
module

public import proofs.«01_k».proof.Proof.KernelIdealBody
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameValue
public import Idealize.ShloMosaic.Lib.Ring
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The result buffers, which the body writes itself. -/
def R0 : Finset (Ref sig .tc) := {main_v9_0, main_v9_1, main_v9_2, main_v9_3, main_v9_4}
/-- The buffers the body's copies read. -/
def H0 : Finset (Ref sig .tc) := {main_v0, main_v1, main_v2, main_v4, main_v6, main_v7, main_v8, main_arg7}
theorem H0_sub : H0 ⊆ Pipeline.restRefs sig (cfg0.spec) := by decide
theorem R0_sub : R0 ⊆ Pipeline.restRefs sig (cfg0.spec) \ H0 := by decide

/-- The body's semaphores: all of them. -/
abbrev osem0 : Fin 137 → SemLoc sig := fun j => SemLoc.dma j
theorem ownSemFacts0 : Pipeline.OwnSemFacts (cfg0.spec) osem0 := ⟨by decide, fun a b h => SemLoc.dma.inj h, fun k w => w.elim0⟩

set_option maxRecDepth 100000 in
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0 ∗ semVal ((c : Thread nD τ), SemLoc.dma 54) 0 ∗ semVal ((c : Thread nD τ), SemLoc.dma 55) 0 ∗ semVal ((c : Thread nD τ), SemLoc.dma 56) 0 ∗ semVal ((c : Thread nD τ), SemLoc.dma 57) 0 ∗ semVal ((c : Thread nD τ), SemLoc.dma 58) 0 ∗ semVal ((c : Thread nD τ), SemLoc.dma 59) 0 ∗ semVal ((c : Thread nD τ), SemLoc.dma 60) 0 ∗ semVal ((c : Thread nD τ), SemLoc.dma 61) 0 ∗ semVal ((c : Thread nD τ), SemLoc.dma 62) 0 ∗ semVal ((c : Thread nD τ), SemLoc.dma 63) 0 ∗ semVal ((c : Thread nD τ), SemLoc.dma 64) 0 ∗ semVal ((c : Thread nD τ), SemLoc.dma 65) 0 ∗ semVal ((c : Thread nD τ), SemLoc.dma 66) 0 ∗ semVal ((c : Thread nD τ), SemLoc.dma 67) 0 ∗ semVal ((c : Thread nD τ), SemLoc.dma 68) 0 ∗ semVal ((c : Thread nD τ), SemLoc.dma 69) 0 ∗ semVal ((c : Thread nD τ), SemLoc.dma 70) 0 ∗ semVal ((c : Thread nD τ), SemLoc.dma 71) 0 ∗ semVal ((c : Thread nD τ), SemLoc.dma 72) 0 ∗ semVal ((c : Thread nD τ), SemLoc.dma 73) 0 ∗ semVal ((c : Thread nD τ), SemLoc.dma 74) 0 ∗ semVal ((c : Thread nD τ), SemLoc.dma 75) 0 ∗ semVal ((c : Thread nD τ), SemLoc.dma 76) 0 ∗ semVal ((c : Thread nD τ), SemLoc.dma 77) 0 ∗ semVal ((c : Thread nD τ), SemLoc.dma 78) 0 ∗ semVal ((c : Thread nD τ), SemLoc.dma 79) 0 ∗ semVal ((c : Thread nD τ), SemLoc.dma 80) 0 ∗ semVal ((c : Thread nD τ), SemLoc.dma 81) 0 ∗ semVal ((c : Thread nD τ), SemLoc.dma 82) 0 ∗ semVal ((c : Thread nD τ), SemLoc.dma 83) 0 ∗ semVal ((c : Thread nD τ), SemLoc.dma 84) 0 ∗ semVal ((c : Thread nD τ), SemLoc.dma 85) 0 ∗ semVal ((c : Thread nD τ), SemLoc.dma 86) 0 ∗ semVal ((c : Thread nD τ), SemLoc.dma 87) 0 ∗ semVal ((c : Thread nD τ), SemLoc.dma 88) 0 ∗ semVal ((c : Thread nD τ), SemLoc.dma 89) 0 ∗ semVal ((c : Thread nD τ), SemLoc.dma 90) 0 ∗ semVal ((c : Thread nD τ), SemLoc.dma 91) 0 ∗ semVal ((c : Thread nD τ), SemLoc.dma 92) 0 ∗ semVal ((c : Thread nD τ), SemLoc.dma 93) 0 ∗ semVal ((c : Thread nD τ), SemLoc.dma 94) 0 ∗ semVal ((c : Thread nD τ), SemLoc.dma 95) 0 ∗ semVal ((c : Thread nD τ), SemLoc.dma 96) 0 ∗ semVal ((c : Thread nD τ), SemLoc.dma 97) 0 ∗ semVal ((c : Thread nD τ), SemLoc.dma 98) 0 ∗ semVal ((c : Thread nD τ), SemLoc.dma 99) 0 ∗ semVal ((c : Thread nD τ), SemLoc.dma 100) 0 ∗ semVal ((c : Thread nD τ), SemLoc.dma 101) 0 ∗ semVal ((c : Thread nD τ), SemLoc.dma 102) 0 ∗ semVal ((c : Thread nD τ), SemLoc.dma 103) 0 ∗ semVal ((c : Thread nD τ), SemLoc.dma 104) 0 ∗ semVal ((c : Thread nD τ), SemLoc.dma 105) 0 ∗ semVal ((c : Thread nD τ), SemLoc.dma 106) 0 ∗ semVal ((c : Thread nD τ), SemLoc.dma 107) 0 ∗ semVal ((c : Thread nD τ), SemLoc.dma 108) 0 ∗ semVal ((c : Thread nD τ), SemLoc.dma 109) 0 ∗ semVal ((c : Thread nD τ), SemLoc.dma 110) 0 ∗ semVal ((c : Thread nD τ), SemLoc.dma 111) 0 ∗ semVal ((c : Thread nD τ), SemLoc.dma 112) 0 ∗ semVal ((c : Thread nD τ), SemLoc.dma 113) 0 ∗ semVal ((c : Thread nD τ), SemLoc.dma 114) 0 ∗ semVal ((c : Thread nD τ), SemLoc.dma 115) 0 ∗ semVal ((c : Thread nD τ), SemLoc.dma 116) 0 ∗ semVal ((c : Thread nD τ), SemLoc.dma 117) 0 ∗ semVal ((c : Thread nD τ), SemLoc.dma 118) 0 ∗ semVal ((c : Thread nD τ), SemLoc.dma 119) 0 ∗ semVal ((c : Thread nD τ), SemLoc.dma 120) 0 ∗ semVal ((c : Thread nD τ), SemLoc.dma 121) 0 ∗ semVal ((c : Thread nD τ), SemLoc.dma 122) 0 ∗ semVal ((c : Thread nD τ), SemLoc.dma 123) 0 ∗ semVal ((c : Thread nD τ), SemLoc.dma 124) 0 ∗ semVal ((c : Thread nD τ), SemLoc.dma 125) 0 ∗ semVal ((c : Thread nD τ), SemLoc.dma 126) 0 ∗ semVal ((c : Thread nD τ), SemLoc.dma 127) 0 ∗ semVal ((c : Thread nD τ), SemLoc.dma 128) 0 ∗ semVal ((c : Thread nD τ), SemLoc.dma 129) 0 ∗ semVal ((c : Thread nD τ), SemLoc.dma 130) 0 ∗ semVal ((c : Thread nD τ), SemLoc.dma 131) 0 ∗ semVal ((c : Thread nD τ), SemLoc.dma 132) 0 ∗ semVal ((c : Thread nD τ), SemLoc.dma 133) 0 ∗ semVal ((c : Thread nD τ), SemLoc.dma 134) 0 ∗ semVal ((c : Thread nD τ), SemLoc.dma 135) 0 ∗ semVal ((c : Thread nD τ), SemLoc.dma 136) 0) := by
  rw [Pipeline.ownSems0_eq_of_list c osem0 [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79, 80, 81, 82, 83, 84, 85, 86, 87, 88, 89, 90, 91, 92, 93, 94, 95, 96, 97, 98, 99, 100, 101, 102, 103, 104, 105, 106, 107, 108, 109, 110, 111, 112, 113, 114, 115, 116, 117, 118, 119, 120, 121, 122, 123, 124, 125, 126, 127, 128, 129, 130, 131, 132, 133, 134, 135, 136]
    (by rw [eq_comm, Finset.eq_univ_iff_forall]; decide +kernel) (by decide +kernel)]
  rfl

/-- What each buffer of a core holds when the region is entered: after the host operations before it. -/
abbrev V (c : Dev nD) (b : Ref sig .tc) : Buf (Elt F) ((c : Thread nD τ).loc b) := StableHlo.after hostOps0 (fun b => m (c, b)) b

set_option maxHeartbeats 800000 in
/-- The main program up to the region. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem hbmPts0_eq (c : Dev nD) :
    (bigSep H0 (fun b => ((c : Thread nD τ).loc b) ↦{fullShare} V m c b) : sProp 𝕄)
      = iprop(pt c main_v0 (V m c main_v0) ∗ pt c main_v1 (V m c main_v1) ∗ pt c main_v2 (V m c main_v2) ∗ pt c main_v4 (V m c main_v4) ∗ pt c main_v6 (V m c main_v6) ∗ pt c main_v7 (V m c main_v7) ∗ pt c main_v8 (V m c main_v8) ∗ pt c main_arg7 (V m c main_arg7)) := by
  rw [BI.bigSep_eq_bigSepL_of_eq [main_v0, main_v1, main_v2, main_v4, main_v6, main_v7, main_v8, main_arg7] (by decide) (by decide)]; rfl

/-- The result buffers, each whole at some contents. -/
theorem ownedPts0_eq (c : Dev nD) :
    (Pipeline.owned R0 c : sProp 𝕄) = iprop((∃ f, pt c main_v9_0 f) ∗ (∃ f, pt c main_v9_1 f) ∗ (∃ f, pt c main_v9_2 f) ∗ (∃ f, pt c main_v9_3 f) ∗ (∃ f, pt c main_v9_4 f)) := by
  unfold Pipeline.owned; rw [BI.bigSep_eq_bigSepL_of_eq [main_v9_0, main_v9_1, main_v9_2, main_v9_3, main_v9_4] (by decide) (by decide)]; rfl

/-- The proof data of the one region on core `c`. -/
def dats (_ : Fin 1) (c : Dev nD) : Dat τ (Elt F) Unit ℕ (Pipeline.UD sig nD τ) ℕ cfg0 c where
  A w := V m c (Pipeline.arrRef (cfg0.spec) w)
  after w t := w.elim0
  Φ _ := Pipeline.ΦDR osem0 (cfg0.spec) H0 R0 (V m) c
  q _ := fullShare
  owed _ := 0

theorem A_eq (c : Dev nD) (w : Fin cfg0.W) : (dats m 0 c).A w = V m c (Pipeline.arrRef (cfg0.spec) w) := w.elim0

set_option maxHeartbeats 0 in
set_option maxRecDepth 100000 in
theorem sound_body (c : Dev nD) (t : Fin cfg0.N) :
    iprop((dats m 0 c).Φ t.castSucc ∗ (dats m 0 c).owesAt () t.castSucc ∗ emp)
      ⊢ wp frame (wpE (defs₀ (F := F)) Variants.none c none) Set.univ (bodyAt0 t)
        (fun _ => iprop((dats m 0 c).Φ t.succ ∗ (dats m 0 c).owesAt () t.succ ∗ emp)) := by
  unfold bodyAt0
  rw [show (dats m 0 c).Φ t.succ = Pipeline.ΦDR osem0 (cfg0.spec) H0 R0 (V m) c from rfl, show (dats m 0 c).Φ t.castSucc = Pipeline.ΦDR osem0 (cfg0.spec) H0 R0 (V m) c from rfl,
    Pipeline.ΦDR_eq, scopedRest0_eq, ownSems00_eq, hbmPts0_eq, ownedPts0_eq]
  unfold Dat.owesAt Pipeline.owesWithin
  rw [show (dats m 0 c).owed t.castSucc = 0 from rfl, show (dats m 0 c).owed t.succ = 0 from rfl]
  iintro ⟨⟨⟨⟨%s0, S0⟩, ⟨%s1, S1⟩, ⟨%s2, S2⟩, ⟨%s3, S3⟩, ⟨%s4, S4⟩, ⟨%s5, S5⟩, ⟨%s6, S6⟩, ⟨%s8, S8⟩, ⟨%s9, S9⟩, ⟨%s10, S10⟩, ⟨%s11, S11⟩, ⟨%s12, S12⟩, ⟨%s13, S13⟩, ⟨%s14, S14⟩, ⟨%s15, S15⟩, ⟨%s7, S7⟩⟩, Hg, ⟨Q0, Q1, Q2, Q3, Q4, Q5, Q6, Q7, Q8, Q9, Q10, Q11, Q12, Q13, Q14, Q15, Q16, Q17, Q18, Q19, Q20, Q21, Q22, Q23, Q24, Q25, Q26, Q27, Q28, Q29, Q30, Q31, Q32, Q33, Q34, Q35, Q36, Q37, Q38, Q39, Q40, Q41, Q42, Q43, Q44, Q45, Q46, Q47, Q48, Q49, Q50, Q51, Q52, Q53, Q54, Q55, Q56, Q57, Q58, Q59, Q60, Q61, Q62, Q63, Q64, Q65, Q66, Q67, Q68, Q69, Q70, Q71, Q72, Q73, Q74, Q75, Q76, Q77, Q78, Q79, Q80, Q81, Q82, Q83, Q84, Q85, Q86, Q87, Q88, Q89, Q90, Q91, Q92, Q93, Q94, Q95, Q96, Q97, Q98, Q99, Q100, Q101, Q102, Q103, Q104, Q105, Q106, Q107, Q108, Q109, Q110, Q111, Q112, Q113, Q114, Q115, Q116, Q117, Q118, Q119, Q120, Q121, Q122, Q123, Q124, Q125, Q126, Q127, Q128, Q129, Q130, Q131, Q132, Q133, Q134, Q135, Q136⟩, ⟨F0, F1, F2, F3, F4, F5, F6, F7⟩, ⟨⟨%o0, O0⟩, ⟨%o1, O1⟩, ⟨%o2, O2⟩, ⟨%o3, O3⟩, ⟨%o4, O4⟩⟩⟩, ⟨%W, -, HW⟩, -⟩
  iapply ((kernelRun c (V m c main_v0) (V m c main_v1) (V m c main_v2) (V m c main_v4) (V m c main_v6) (V m c main_v7) (V m c main_v8) (V m c main_arg7) o0 o1 o2 o3 o4 s0 s1 s2 s3 s4 s5 s6 s7 s8 s9 s10 s11 s12 s13 s14 s15).2 W _)
  isplitl [F0]; · iexact F0
  isplitl [F1]; · iexact F1
  isplitl [F2]; · iexact F2
  isplitl [F3]; · iexact F3
  isplitl [F4]; · iexact F4
  isplitl [F5]; · iexact F5
  isplitl [F6]; · iexact F6
  isplitl [F7]; · iexact F7
  isplitl [O0]; · iexact O0
  isplitl [O1]; · iexact O1
  isplitl [O2]; · iexact O2
  isplitl [O3]; · iexact O3
  isplitl [O4]; · iexact O4
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  isplitl [Q0]; · iexact Q0
  isplitl [Q1]; · iexact Q1
  isplitl [Q2]; · iexact Q2
  isplitl [Q3]; · iexact Q3
  isplitl [Q4]; · iexact Q4
  isplitl [Q5]; · iexact Q5
  isplitl [Q6]; · iexact Q6
  isplitl [Q7]; · iexact Q7
  isplitl [Q8]; · iexact Q8
  isplitl [Q9]; · iexact Q9
  isplitl [Q10]; · iexact Q10
  isplitl [Q11]; · iexact Q11
  isplitl [Q12]; · iexact Q12
  isplitl [Q13]; · iexact Q13
  isplitl [Q14]; · iexact Q14
  isplitl [Q15]; · iexact Q15
  isplitl [Q16]; · iexact Q16
  isplitl [Q17]; · iexact Q17
  isplitl [Q18]; · iexact Q18
  isplitl [Q19]; · iexact Q19
  isplitl [Q20]; · iexact Q20
  isplitl [Q21]; · iexact Q21
  isplitl [Q22]; · iexact Q22
  isplitl [Q23]; · iexact Q23
  isplitl [Q24]; · iexact Q24
  isplitl [Q25]; · iexact Q25
  isplitl [Q26]; · iexact Q26
  isplitl [Q27]; · iexact Q27
  isplitl [Q28]; · iexact Q28
  isplitl [Q29]; · iexact Q29
  isplitl [Q30]; · iexact Q30
  isplitl [Q31]; · iexact Q31
  isplitl [Q32]; · iexact Q32
  isplitl [Q33]; · iexact Q33
  isplitl [Q34]; · iexact Q34
  isplitl [Q35]; · iexact Q35
  isplitl [Q36]; · iexact Q36
  isplitl [Q37]; · iexact Q37
  isplitl [Q38]; · iexact Q38
  isplitl [Q39]; · iexact Q39
  isplitl [Q40]; · iexact Q40
  isplitl [Q41]; · iexact Q41
  isplitl [Q42]; · iexact Q42
  isplitl [Q43]; · iexact Q43
  isplitl [Q44]; · iexact Q44
  isplitl [Q45]; · iexact Q45
  isplitl [Q46]; · iexact Q46
  isplitl [Q47]; · iexact Q47
  isplitl [Q48]; · iexact Q48
  isplitl [Q49]; · iexact Q49
  isplitl [Q50]; · iexact Q50
  isplitl [Q51]; · iexact Q51
  isplitl [Q52]; · iexact Q52
  isplitl [Q53]; · iexact Q53
  isplitl [Q54]; · iexact Q54
  isplitl [Q55]; · iexact Q55
  isplitl [Q56]; · iexact Q56
  isplitl [Q57]; · iexact Q57
  isplitl [Q58]; · iexact Q58
  isplitl [Q59]; · iexact Q59
  isplitl [Q60]; · iexact Q60
  isplitl [Q61]; · iexact Q61
  isplitl [Q62]; · iexact Q62
  isplitl [Q63]; · iexact Q63
  isplitl [Q64]; · iexact Q64
  isplitl [Q65]; · iexact Q65
  isplitl [Q66]; · iexact Q66
  isplitl [Q67]; · iexact Q67
  isplitl [Q68]; · iexact Q68
  isplitl [Q69]; · iexact Q69
  isplitl [Q70]; · iexact Q70
  isplitl [Q71]; · iexact Q71
  isplitl [Q72]; · iexact Q72
  isplitl [Q73]; · iexact Q73
  isplitl [Q74]; · iexact Q74
  isplitl [Q75]; · iexact Q75
  isplitl [Q76]; · iexact Q76
  isplitl [Q77]; · iexact Q77
  isplitl [Q78]; · iexact Q78
  isplitl [Q79]; · iexact Q79
  isplitl [Q80]; · iexact Q80
  isplitl [Q81]; · iexact Q81
  isplitl [Q82]; · iexact Q82
  isplitl [Q83]; · iexact Q83
  isplitl [Q84]; · iexact Q84
  isplitl [Q85]; · iexact Q85
  isplitl [Q86]; · iexact Q86
  isplitl [Q87]; · iexact Q87
  isplitl [Q88]; · iexact Q88
  isplitl [Q89]; · iexact Q89
  isplitl [Q90]; · iexact Q90
  isplitl [Q91]; · iexact Q91
  isplitl [Q92]; · iexact Q92
  isplitl [Q93]; · iexact Q93
  isplitl [Q94]; · iexact Q94
  isplitl [Q95]; · iexact Q95
  isplitl [Q96]; · iexact Q96
  isplitl [Q97]; · iexact Q97
  isplitl [Q98]; · iexact Q98
  isplitl [Q99]; · iexact Q99
  isplitl [Q100]; · iexact Q100
  isplitl [Q101]; · iexact Q101
  isplitl [Q102]; · iexact Q102
  isplitl [Q103]; · iexact Q103
  isplitl [Q104]; · iexact Q104
  isplitl [Q105]; · iexact Q105
  isplitl [Q106]; · iexact Q106
  isplitl [Q107]; · iexact Q107
  isplitl [Q108]; · iexact Q108
  isplitl [Q109]; · iexact Q109
  isplitl [Q110]; · iexact Q110
  isplitl [Q111]; · iexact Q111
  isplitl [Q112]; · iexact Q112
  isplitl [Q113]; · iexact Q113
  isplitl [Q114]; · iexact Q114
  isplitl [Q115]; · iexact Q115
  isplitl [Q116]; · iexact Q116
  isplitl [Q117]; · iexact Q117
  isplitl [Q118]; · iexact Q118
  isplitl [Q119]; · iexact Q119
  isplitl [Q120]; · iexact Q120
  isplitl [Q121]; · iexact Q121
  isplitl [Q122]; · iexact Q122
  isplitl [Q123]; · iexact Q123
  isplitl [Q124]; · iexact Q124
  isplitl [Q125]; · iexact Q125
  isplitl [Q126]; · iexact Q126
  isplitl [Q127]; · iexact Q127
  isplitl [Q128]; · iexact Q128
  isplitl [Q129]; · iexact Q129
  isplitl [Q130]; · iexact Q130
  isplitl [Q131]; · iexact Q131
  isplitl [Q132]; · iexact Q132
  isplitl [Q133]; · iexact Q133
  isplitl [Q134]; · iexact Q134
  isplitl [Q135]; · iexact Q135
  isplitl [Q136]; · iexact Q136
  isplitl [HW]; · iexact HW
  iintro ⟨F0, F1, F2, F3, F4, F5, F6, F7, O0, O1, O2, O3, O4, S0, S1, S2, S3, S4, S5, S6, S7, S8, S9, S10, S11, S12, S13, S14, S15, Q0, Q1, Q2, Q3, Q4, Q5, Q6, Q7, Q8, Q9, Q10, Q11, Q12, Q13, Q14, Q15, Q16, Q17, Q18, Q19, Q20, Q21, Q22, Q23, Q24, Q25, Q26, Q27, Q28, Q29, Q30, Q31, Q32, Q33, Q34, Q35, Q36, Q37, Q38, Q39, Q40, Q41, Q42, Q43, Q44, Q45, Q46, Q47, Q48, Q49, Q50, Q51, Q52, Q53, Q54, Q55, Q56, Q57, Q58, Q59, Q60, Q61, Q62, Q63, Q64, Q65, Q66, Q67, Q68, Q69, Q70, Q71, Q72, Q73, Q74, Q75, Q76, Q77, Q78, Q79, Q80, Q81, Q82, Q83, Q84, Q85, Q86, Q87, Q88, Q89, Q90, Q91, Q92, Q93, Q94, Q95, Q96, Q97, Q98, Q99, Q100, Q101, Q102, Q103, Q104, Q105, Q106, Q107, Q108, Q109, Q110, Q111, Q112, Q113, Q114, Q115, Q116, Q117, Q118, Q119, Q120, Q121, Q122, Q123, Q124, Q125, Q126, Q127, Q128, Q129, Q130, Q131, Q132, Q133, Q134, Q135, Q136, ⟨%W', HW'⟩⟩
  isplitl [F0 F1 F2 F3 F4 F5 F6 F7 O0 O1 O2 O3 O4 S0 S1 S2 S3 S4 S5 S6 S7 S8 S9 S10 S11 S12 S13 S14 S15 Q0 Q1 Q2 Q3 Q4 Q5 Q6 Q7 Q8 Q9 Q10 Q11 Q12 Q13 Q14 Q15 Q16 Q17 Q18 Q19 Q20 Q21 Q22 Q23 Q24 Q25 Q26 Q27 Q28 Q29 Q30 Q31 Q32 Q33 Q34 Q35 Q36 Q37 Q38 Q39 Q40 Q41 Q42 Q43 Q44 Q45 Q46 Q47 Q48 Q49 Q50 Q51 Q52 Q53 Q54 Q55 Q56 Q57 Q58 Q59 Q60 Q61 Q62 Q63 Q64 Q65 Q66 Q67 Q68 Q69 Q70 Q71 Q72 Q73 Q74 Q75 Q76 Q77 Q78 Q79 Q80 Q81 Q82 Q83 Q84 Q85 Q86 Q87 Q88 Q89 Q90 Q91 Q92 Q93 Q94 Q95 Q96 Q97 Q98 Q99 Q100 Q101 Q102 Q103 Q104 Q105 Q106 Q107 Q108 Q109 Q110 Q111 Q112 Q113 Q114 Q115 Q116 Q117 Q118 Q119 Q120 Q121 Q122 Q123 Q124 Q125 Q126 Q127 Q128 Q129 Q130 Q131 Q132 Q133 Q134 Q135 Q136 Hg]
  · isplitl [S0 S1 S2 S3 S4 S5 S6 S7 S8 S9 S10 S11 S12 S13 S14 S15]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S8]; · iexact S8
      isplitl [S9]; · iexact S9
      isplitl [S10]; · iexact S10
      isplitl [S11]; · iexact S11
      isplitl [S12]; · iexact S12
      isplitl [S13]; · iexact S13
      isplitl [S14]; · iexact S14
      isplitl [S15]; · iexact S15
      iexact S7
    isplitl [Hg]; · iexact Hg
    isplitl [Q0 Q1 Q2 Q3 Q4 Q5 Q6 Q7 Q8 Q9 Q10 Q11 Q12 Q13 Q14 Q15 Q16 Q17 Q18 Q19 Q20 Q21 Q22 Q23 Q24 Q25 Q26 Q27 Q28 Q29 Q30 Q31 Q32 Q33 Q34 Q35 Q36 Q37 Q38 Q39 Q40 Q41 Q42 Q43 Q44 Q45 Q46 Q47 Q48 Q49 Q50 Q51 Q52 Q53 Q54 Q55 Q56 Q57 Q58 Q59 Q60 Q61 Q62 Q63 Q64 Q65 Q66 Q67 Q68 Q69 Q70 Q71 Q72 Q73 Q74 Q75 Q76 Q77 Q78 Q79 Q80 Q81 Q82 Q83 Q84 Q85 Q86 Q87 Q88 Q89 Q90 Q91 Q92 Q93 Q94 Q95 Q96 Q97 Q98 Q99 Q100 Q101 Q102 Q103 Q104 Q105 Q106 Q107 Q108 Q109 Q110 Q111 Q112 Q113 Q114 Q115 Q116 Q117 Q118 Q119 Q120 Q121 Q122 Q123 Q124 Q125 Q126 Q127 Q128 Q129 Q130 Q131 Q132 Q133 Q134 Q135 Q136]
    · isplitl [Q0]; · iexact Q0
      isplitl [Q1]; · iexact Q1
      isplitl [Q2]; · iexact Q2
      isplitl [Q3]; · iexact Q3
      isplitl [Q4]; · iexact Q4
      isplitl [Q5]; · iexact Q5
      isplitl [Q6]; · iexact Q6
      isplitl [Q7]; · iexact Q7
      isplitl [Q8]; · iexact Q8
      isplitl [Q9]; · iexact Q9
      isplitl [Q10]; · iexact Q10
      isplitl [Q11]; · iexact Q11
      isplitl [Q12]; · iexact Q12
      isplitl [Q13]; · iexact Q13
      isplitl [Q14]; · iexact Q14
      isplitl [Q15]; · iexact Q15
      isplitl [Q16]; · iexact Q16
      isplitl [Q17]; · iexact Q17
      isplitl [Q18]; · iexact Q18
      isplitl [Q19]; · iexact Q19
      isplitl [Q20]; · iexact Q20
      isplitl [Q21]; · iexact Q21
      isplitl [Q22]; · iexact Q22
      isplitl [Q23]; · iexact Q23
      isplitl [Q24]; · iexact Q24
      isplitl [Q25]; · iexact Q25
      isplitl [Q26]; · iexact Q26
      isplitl [Q27]; · iexact Q27
      isplitl [Q28]; · iexact Q28
      isplitl [Q29]; · iexact Q29
      isplitl [Q30]; · iexact Q30
      isplitl [Q31]; · iexact Q31
      isplitl [Q32]; · iexact Q32
      isplitl [Q33]; · iexact Q33
      isplitl [Q34]; · iexact Q34
      isplitl [Q35]; · iexact Q35
      isplitl [Q36]; · iexact Q36
      isplitl [Q37]; · iexact Q37
      isplitl [Q38]; · iexact Q38
      isplitl [Q39]; · iexact Q39
      isplitl [Q40]; · iexact Q40
      isplitl [Q41]; · iexact Q41
      isplitl [Q42]; · iexact Q42
      isplitl [Q43]; · iexact Q43
      isplitl [Q44]; · iexact Q44
      isplitl [Q45]; · iexact Q45
      isplitl [Q46]; · iexact Q46
      isplitl [Q47]; · iexact Q47
      isplitl [Q48]; · iexact Q48
      isplitl [Q49]; · iexact Q49
      isplitl [Q50]; · iexact Q50
      isplitl [Q51]; · iexact Q51
      isplitl [Q52]; · iexact Q52
      isplitl [Q53]; · iexact Q53
      isplitl [Q54]; · iexact Q54
      isplitl [Q55]; · iexact Q55
      isplitl [Q56]; · iexact Q56
      isplitl [Q57]; · iexact Q57
      isplitl [Q58]; · iexact Q58
      isplitl [Q59]; · iexact Q59
      isplitl [Q60]; · iexact Q60
      isplitl [Q61]; · iexact Q61
      isplitl [Q62]; · iexact Q62
      isplitl [Q63]; · iexact Q63
      isplitl [Q64]; · iexact Q64
      isplitl [Q65]; · iexact Q65
      isplitl [Q66]; · iexact Q66
      isplitl [Q67]; · iexact Q67
      isplitl [Q68]; · iexact Q68
      isplitl [Q69]; · iexact Q69
      isplitl [Q70]; · iexact Q70
      isplitl [Q71]; · iexact Q71
      isplitl [Q72]; · iexact Q72
      isplitl [Q73]; · iexact Q73
      isplitl [Q74]; · iexact Q74
      isplitl [Q75]; · iexact Q75
      isplitl [Q76]; · iexact Q76
      isplitl [Q77]; · iexact Q77
      isplitl [Q78]; · iexact Q78
      isplitl [Q79]; · iexact Q79
      isplitl [Q80]; · iexact Q80
      isplitl [Q81]; · iexact Q81
      isplitl [Q82]; · iexact Q82
      isplitl [Q83]; · iexact Q83
      isplitl [Q84]; · iexact Q84
      isplitl [Q85]; · iexact Q85
      isplitl [Q86]; · iexact Q86
      isplitl [Q87]; · iexact Q87
      isplitl [Q88]; · iexact Q88
      isplitl [Q89]; · iexact Q89
      isplitl [Q90]; · iexact Q90
      isplitl [Q91]; · iexact Q91
      isplitl [Q92]; · iexact Q92
      isplitl [Q93]; · iexact Q93
      isplitl [Q94]; · iexact Q94
      isplitl [Q95]; · iexact Q95
      isplitl [Q96]; · iexact Q96
      isplitl [Q97]; · iexact Q97
      isplitl [Q98]; · iexact Q98
      isplitl [Q99]; · iexact Q99
      isplitl [Q100]; · iexact Q100
      isplitl [Q101]; · iexact Q101
      isplitl [Q102]; · iexact Q102
      isplitl [Q103]; · iexact Q103
      isplitl [Q104]; · iexact Q104
      isplitl [Q105]; · iexact Q105
      isplitl [Q106]; · iexact Q106
      isplitl [Q107]; · iexact Q107
      isplitl [Q108]; · iexact Q108
      isplitl [Q109]; · iexact Q109
      isplitl [Q110]; · iexact Q110
      isplitl [Q111]; · iexact Q111
      isplitl [Q112]; · iexact Q112
      isplitl [Q113]; · iexact Q113
      isplitl [Q114]; · iexact Q114
      isplitl [Q115]; · iexact Q115
      isplitl [Q116]; · iexact Q116
      isplitl [Q117]; · iexact Q117
      isplitl [Q118]; · iexact Q118
      isplitl [Q119]; · iexact Q119
      isplitl [Q120]; · iexact Q120
      isplitl [Q121]; · iexact Q121
      isplitl [Q122]; · iexact Q122
      isplitl [Q123]; · iexact Q123
      isplitl [Q124]; · iexact Q124
      isplitl [Q125]; · iexact Q125
      isplitl [Q126]; · iexact Q126
      isplitl [Q127]; · iexact Q127
      isplitl [Q128]; · iexact Q128
      isplitl [Q129]; · iexact Q129
      isplitl [Q130]; · iexact Q130
      isplitl [Q131]; · iexact Q131
      isplitl [Q132]; · iexact Q132
      isplitl [Q133]; · iexact Q133
      isplitl [Q134]; · iexact Q134
      isplitl [Q135]; · iexact Q135
      iexact Q136
    isplitl [F0 F1 F2 F3 F4 F5 F6 F7]
    · isplitl [F0]; · iexact F0
      isplitl [F1]; · iexact F1
      isplitl [F2]; · iexact F2
      isplitl [F3]; · iexact F3
      isplitl [F4]; · iexact F4
      isplitl [F5]; · iexact F5
      isplitl [F6]; · iexact F6
      iexact F7
    isplitl [O0]; · iexists _; iexact O0
    isplitl [O1]; · iexists _; iexact O1
    isplitl [O2]; · iexists _; iexact O2
    isplitl [O3]; · iexists _; iexact O3
    iexists _; iexact O4
  isplitl [HW']
  · iexists W'; isplitr; · ipureintro; exact fun _ _ => Or.inl trivial
    iexact HW'
  iempintro

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [defs₀_row]
  exact triple_restated (sound_body m c t)
    rfl (by rw [show (Finset.univ : Finset (Fin cfg0.W)) = ∅ from rfl, BI.bigSep_empty]; exact .rfl)
    fun _ => by rw [show (Finset.univ : Finset (Fin cfg0.W)) = ∅ from rfl, BI.bigSep_empty]; exact .rfl

set_option backward.isDefEq.respectTransparency.types false in
theorem run_main : θ_run defs (onTc (τ := τ) (main (F := F))) (s₀ m ρ) (fun r => Pipeline.FramePostR cfgs (dats m) 0 R0 (V m) r ∧ r.2.sem = fun _ => 0) :=
  Pipeline.θ_run_frame_dmaR (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun _ => .rfl)

/-- THE FRAME: every run ends, the arguments are unchanged and every semaphore ends at zero. -/
theorem args_kept : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7))
      ∧ r.2.sem = fun _ => 0) :=
  (θ_run defs _ _).mono (fun _ h => ⟨fun c => ⟨((h.1 c).2 main_arg0 (Finset.mem_sdiff.mpr ⟨Pipeline.mem_restRefs_of main_arg0 (by decide) (by decide), by decide⟩)).trans (V_main_arg0 m c), ((h.1 c).2 main_arg1 (Finset.mem_sdiff.mpr ⟨Pipeline.mem_restRefs_of main_arg1 (by decide) (by decide), by decide⟩)).trans (V_main_arg1 m c), ((h.1 c).2 main_arg2 (Finset.mem_sdiff.mpr ⟨Pipeline.mem_restRefs_of main_arg2 (by decide) (by decide), by decide⟩)).trans (V_main_arg2 m c), ((h.1 c).2 main_arg3 (Finset.mem_sdiff.mpr ⟨Pipeline.mem_restRefs_of main_arg3 (by decide) (by decide), by decide⟩)).trans (V_main_arg3 m c), ((h.1 c).2 main_arg4 (Finset.mem_sdiff.mpr ⟨Pipeline.mem_restRefs_of main_arg4 (by decide) (by decide), by decide⟩)).trans (V_main_arg4 m c), ((h.1 c).2 main_arg5 (Finset.mem_sdiff.mpr ⟨Pipeline.mem_restRefs_of main_arg5 (by decide) (by decide), by decide⟩)).trans (V_main_arg5 m c), ((h.1 c).2 main_arg6 (Finset.mem_sdiff.mpr ⟨Pipeline.mem_restRefs_of main_arg6 (by decide) (by decide), by decide⟩)).trans (V_main_arg6 m c), ((h.1 c).2 main_arg7 (Finset.mem_sdiff.mpr ⟨Pipeline.mem_restRefs_of main_arg7 (by decide) (by decide), by decide⟩)).trans (V_main_arg7 m c)⟩, h.2⟩) (run_main m ρ)

end Cert.KernelIdeal.Hand

end
-- ==== Proof.KernelIdealRun.lean ====
/-
  The results of the program: every run ends with the five result buffers at given contents, provided the body's run
  leaves them there.
-/
module

public import proofs.«01_k».proof.Proof.KernelIdealFrame
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameValue
public import Idealize.ShloMosaic.Lib.Ring
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

variable (X : (c : Dev nD) → Bf (F := F) c main_v9_0 × Bf (F := F) c main_v9_1 × Bf (F := F) c main_v9_2 × Bf (F := F) c main_v9_3 × Bf (F := F) c main_v9_4)

/-- The contents at the region's end: the results at `X`, everything else as the region found it. -/
def G (c : Dev nD) : (b : Ref sig .tc) → Buf (Elt F) ((c : Thread nD τ).loc b) :=
  Function.update (Function.update (Function.update (Function.update (Function.update (V m c)
    main_v9_0 (X c).1) main_v9_1 (X c).2.1) main_v9_2 (X c).2.2.1) main_v9_3 (X c).2.2.2.1) main_v9_4 (X c).2.2.2.2

theorem G_v9_0 (c : Dev nD) : G m X c main_v9_0 = (X c).1 := by
  unfold G; rw [Function.update_of_ne (show main_v9_0 ≠ main_v9_4 by decide)]; rw [Function.update_of_ne (show main_v9_0 ≠ main_v9_3 by decide)]; rw [Function.update_of_ne (show main_v9_0 ≠ main_v9_2 by decide)]; rw [Function.update_of_ne (show main_v9_0 ≠ main_v9_1 by decide)]; exact Function.update_self ..
theorem G_v9_1 (c : Dev nD) : G m X c main_v9_1 = (X c).2.1 := by
  unfold G; rw [Function.update_of_ne (show main_v9_1 ≠ main_v9_4 by decide)]; rw [Function.update_of_ne (show main_v9_1 ≠ main_v9_3 by decide)]; rw [Function.update_of_ne (show main_v9_1 ≠ main_v9_2 by decide)]; exact Function.update_self ..
theorem G_v9_2 (c : Dev nD) : G m X c main_v9_2 = (X c).2.2.1 := by
  unfold G; rw [Function.update_of_ne (show main_v9_2 ≠ main_v9_4 by decide)]; rw [Function.update_of_ne (show main_v9_2 ≠ main_v9_3 by decide)]; exact Function.update_self ..
theorem G_v9_3 (c : Dev nD) : G m X c main_v9_3 = (X c).2.2.2.1 := by
  unfold G; rw [Function.update_of_ne (show main_v9_3 ≠ main_v9_4 by decide)]; exact Function.update_self ..
theorem G_v9_4 (c : Dev nD) : G m X c main_v9_4 = (X c).2.2.2.2 := by
  unfold G; exact Function.update_self ..

theorem routedV_eq (c : Dev nD) :
    (Pipeline.routed R0 c (V m c) : sProp 𝕄) = iprop(pt c main_v9_0 (V m c main_v9_0) ∗ pt c main_v9_1 (V m c main_v9_1) ∗ pt c main_v9_2 (V m c main_v9_2) ∗ pt c main_v9_3 (V m c main_v9_3) ∗ pt c main_v9_4 (V m c main_v9_4)) := by
  unfold Pipeline.routed; rw [BI.bigSep_eq_bigSepL_of_eq [main_v9_0, main_v9_1, main_v9_2, main_v9_3, main_v9_4] (by decide) (by decide)]; rfl
theorem routedG_eq (c : Dev nD) :
    (Pipeline.routed R0 c (G m X c) : sProp 𝕄) = iprop(pt c main_v9_0 (X c).1 ∗ pt c main_v9_1 (X c).2.1 ∗ pt c main_v9_2 (X c).2.2.1
      ∗ pt c main_v9_3 (X c).2.2.2.1 ∗ pt c main_v9_4 (X c).2.2.2.2) := by
  unfold Pipeline.routed; rw [BI.bigSep_eq_bigSepL_of_eq [main_v9_0, main_v9_1, main_v9_2, main_v9_3, main_v9_4] (by decide) (by decide)]
  simp only [BI.bigSepL_cons_cons, BI.bigSepL_singleton, G_v9_0, G_v9_1, G_v9_2, G_v9_3, G_v9_4]
  rfl

/-- The proof data of the one region on core `c`. -/
def datsG (_ : Fin 1) (c : Dev nD) : Dat τ (Elt F) Unit ℕ (Pipeline.UD sig nD τ) ℕ cfg0 c where
  A w := V m c (Pipeline.arrRef (cfg0.spec) w)
  after w t := w.elim0
  Φ t := if t = 0 then Pipeline.ΦDRG osem0 (cfg0.spec) H0 R0 (V m) (V m) c else Pipeline.ΦDRG osem0 (cfg0.spec) H0 R0 (V m) (G m X) c
  q _ := fullShare
  owed _ := 0

theorem Φ_zero (c : Dev nD) : (datsG m X 0 c).Φ 0 = Pipeline.ΦDRG osem0 (cfg0.spec) H0 R0 (V m) (V m) c := by
  dsimp only [datsG]; exact if_pos rfl
theorem Φ_last (c : Dev nD) : (datsG m X 0 c).Φ (Fin.last cfg0.N) = Pipeline.ΦDRG osem0 (cfg0.spec) H0 R0 (V m) (G m X) c := by
  dsimp only [datsG]; exact if_neg (by decide)

theorem A_eqG (c : Dev nD) (w : Fin cfg0.W) : (datsG m X 0 c).A w = V m c (Pipeline.arrRef (cfg0.spec) w) := w.elim0

set_option maxHeartbeats 0 in
set_option maxRecDepth 100000 in
theorem sound_bodyG
    (hX : ∀ (c : Dev nD) (s0 : Bf (F := F) c cc0_scratch0) (s1 : Bf (F := F) c cc0_scratch1) (s2 : Bf (F := F) c cc0_scratch2) (s3 : Bf (F := F) c cc0_scratch3) (s4 : Bf (F := F) c cc0_scratch4) (s5 : Bf (F := F) c cc0_scratch5) (s6 : Bf (F := F) c cc0_scratch6) (s7 : Bf (F := F) c cc0_scratch7) (s8 : Bf (F := F) c cc0_scratch8) (s9 : Bf (F := F) c cc0_scratch9) (s10 : Bf (F := F) c cc0_scratch10) (s11 : Bf (F := F) c cc0_scratch11) (s12 : Bf (F := F) c cc0_scratch12) (s13 : Bf (F := F) c cc0_scratch13) (s14 : Bf (F := F) c cc0_scratch14) (s15 : Bf (F := F) c cc0_scratch15),
      (kernelRun c (V m c main_v0) (V m c main_v1) (V m c main_v2) (V m c main_v4) (V m c main_v6) (V m c main_v7) (V m c main_v8) (V m c main_arg7) (V m c main_v9_0) (V m c main_v9_1) (V m c main_v9_2) (V m c main_v9_3) (V m c main_v9_4) s0 s1 s2 s3 s4 s5 s6 s7 s8 s9 s10 s11 s12 s13 s14 s15).1 = X c) (c : Dev nD) (t : Fin cfg0.N) :
    iprop((datsG m X 0 c).Φ t.castSucc ∗ (datsG m X 0 c).owesAt () t.castSucc ∗ emp)
      ⊢ wp frame (wpE (defs₀ (F := F)) Variants.none c none) Set.univ (bodyAt0 t)
        (fun _ => iprop((datsG m X 0 c).Φ t.succ ∗ (datsG m X 0 c).owesAt () t.succ ∗ emp)) := by
  unfold bodyAt0
  have h0 : t.castSucc = (0 : Fin (cfg0.N + 1)) := by rw [fin_N0 t]; rfl
  have h1 : t.succ ≠ (0 : Fin (cfg0.N + 1)) := Fin.succ_ne_zero t
  rw [show (datsG m X 0 c).Φ t.castSucc = Pipeline.ΦDRG osem0 (cfg0.spec) H0 R0 (V m) (V m) c from by dsimp only [datsG]; exact if_pos h0,
    show (datsG m X 0 c).Φ t.succ = Pipeline.ΦDRG osem0 (cfg0.spec) H0 R0 (V m) (G m X) c from by dsimp only [datsG]; exact if_neg h1,
    Pipeline.ΦDRG_eq, Pipeline.ΦDRG_eq, scopedRest0_eq, ownSems00_eq, hbmPts0_eq, routedV_eq, routedG_eq]
  unfold Dat.owesAt Pipeline.owesWithin
  rw [show (datsG m X 0 c).owed t.castSucc = 0 from rfl, show (datsG m X 0 c).owed t.succ = 0 from rfl]
  iintro ⟨⟨⟨⟨%s0, S0⟩, ⟨%s1, S1⟩, ⟨%s2, S2⟩, ⟨%s3, S3⟩, ⟨%s4, S4⟩, ⟨%s5, S5⟩, ⟨%s6, S6⟩, ⟨%s8, S8⟩, ⟨%s9, S9⟩, ⟨%s10, S10⟩, ⟨%s11, S11⟩, ⟨%s12, S12⟩, ⟨%s13, S13⟩, ⟨%s14, S14⟩, ⟨%s15, S15⟩, ⟨%s7, S7⟩⟩, Hg, ⟨Q0, Q1, Q2, Q3, Q4, Q5, Q6, Q7, Q8, Q9, Q10, Q11, Q12, Q13, Q14, Q15, Q16, Q17, Q18, Q19, Q20, Q21, Q22, Q23, Q24, Q25, Q26, Q27, Q28, Q29, Q30, Q31, Q32, Q33, Q34, Q35, Q36, Q37, Q38, Q39, Q40, Q41, Q42, Q43, Q44, Q45, Q46, Q47, Q48, Q49, Q50, Q51, Q52, Q53, Q54, Q55, Q56, Q57, Q58, Q59, Q60, Q61, Q62, Q63, Q64, Q65, Q66, Q67, Q68, Q69, Q70, Q71, Q72, Q73, Q74, Q75, Q76, Q77, Q78, Q79, Q80, Q81, Q82, Q83, Q84, Q85, Q86, Q87, Q88, Q89, Q90, Q91, Q92, Q93, Q94, Q95, Q96, Q97, Q98, Q99, Q100, Q101, Q102, Q103, Q104, Q105, Q106, Q107, Q108, Q109, Q110, Q111, Q112, Q113, Q114, Q115, Q116, Q117, Q118, Q119, Q120, Q121, Q122, Q123, Q124, Q125, Q126, Q127, Q128, Q129, Q130, Q131, Q132, Q133, Q134, Q135, Q136⟩, ⟨F0, F1, F2, F3, F4, F5, F6, F7⟩, ⟨O0, O1, O2, O3, O4⟩⟩, ⟨%W, -, HW⟩, -⟩
  have hrun := fun K => (kernelRun c (V m c main_v0) (V m c main_v1) (V m c main_v2) (V m c main_v4) (V m c main_v6) (V m c main_v7) (V m c main_v8) (V m c main_arg7) (V m c main_v9_0) (V m c main_v9_1) (V m c main_v9_2) (V m c main_v9_3) (V m c main_v9_4) s0 s1 s2 s3 s4 s5 s6 s7 s8 s9 s10 s11 s12 s13 s14 s15).2 W K
  rw [hX c s0 s1 s2 s3 s4 s5 s6 s7 s8 s9 s10 s11 s12 s13 s14 s15] at hrun
  iapply (hrun _)
  isplitl [F0]; · iexact F0
  isplitl [F1]; · iexact F1
  isplitl [F2]; · iexact F2
  isplitl [F3]; · iexact F3
  isplitl [F4]; · iexact F4
  isplitl [F5]; · iexact F5
  isplitl [F6]; · iexact F6
  isplitl [F7]; · iexact F7
  isplitl [O0]; · iexact O0
  isplitl [O1]; · iexact O1
  isplitl [O2]; · iexact O2
  isplitl [O3]; · iexact O3
  isplitl [O4]; · iexact O4
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  isplitl [Q0]; · iexact Q0
  isplitl [Q1]; · iexact Q1
  isplitl [Q2]; · iexact Q2
  isplitl [Q3]; · iexact Q3
  isplitl [Q4]; · iexact Q4
  isplitl [Q5]; · iexact Q5
  isplitl [Q6]; · iexact Q6
  isplitl [Q7]; · iexact Q7
  isplitl [Q8]; · iexact Q8
  isplitl [Q9]; · iexact Q9
  isplitl [Q10]; · iexact Q10
  isplitl [Q11]; · iexact Q11
  isplitl [Q12]; · iexact Q12
  isplitl [Q13]; · iexact Q13
  isplitl [Q14]; · iexact Q14
  isplitl [Q15]; · iexact Q15
  isplitl [Q16]; · iexact Q16
  isplitl [Q17]; · iexact Q17
  isplitl [Q18]; · iexact Q18
  isplitl [Q19]; · iexact Q19
  isplitl [Q20]; · iexact Q20
  isplitl [Q21]; · iexact Q21
  isplitl [Q22]; · iexact Q22
  isplitl [Q23]; · iexact Q23
  isplitl [Q24]; · iexact Q24
  isplitl [Q25]; · iexact Q25
  isplitl [Q26]; · iexact Q26
  isplitl [Q27]; · iexact Q27
  isplitl [Q28]; · iexact Q28
  isplitl [Q29]; · iexact Q29
  isplitl [Q30]; · iexact Q30
  isplitl [Q31]; · iexact Q31
  isplitl [Q32]; · iexact Q32
  isplitl [Q33]; · iexact Q33
  isplitl [Q34]; · iexact Q34
  isplitl [Q35]; · iexact Q35
  isplitl [Q36]; · iexact Q36
  isplitl [Q37]; · iexact Q37
  isplitl [Q38]; · iexact Q38
  isplitl [Q39]; · iexact Q39
  isplitl [Q40]; · iexact Q40
  isplitl [Q41]; · iexact Q41
  isplitl [Q42]; · iexact Q42
  isplitl [Q43]; · iexact Q43
  isplitl [Q44]; · iexact Q44
  isplitl [Q45]; · iexact Q45
  isplitl [Q46]; · iexact Q46
  isplitl [Q47]; · iexact Q47
  isplitl [Q48]; · iexact Q48
  isplitl [Q49]; · iexact Q49
  isplitl [Q50]; · iexact Q50
  isplitl [Q51]; · iexact Q51
  isplitl [Q52]; · iexact Q52
  isplitl [Q53]; · iexact Q53
  isplitl [Q54]; · iexact Q54
  isplitl [Q55]; · iexact Q55
  isplitl [Q56]; · iexact Q56
  isplitl [Q57]; · iexact Q57
  isplitl [Q58]; · iexact Q58
  isplitl [Q59]; · iexact Q59
  isplitl [Q60]; · iexact Q60
  isplitl [Q61]; · iexact Q61
  isplitl [Q62]; · iexact Q62
  isplitl [Q63]; · iexact Q63
  isplitl [Q64]; · iexact Q64
  isplitl [Q65]; · iexact Q65
  isplitl [Q66]; · iexact Q66
  isplitl [Q67]; · iexact Q67
  isplitl [Q68]; · iexact Q68
  isplitl [Q69]; · iexact Q69
  isplitl [Q70]; · iexact Q70
  isplitl [Q71]; · iexact Q71
  isplitl [Q72]; · iexact Q72
  isplitl [Q73]; · iexact Q73
  isplitl [Q74]; · iexact Q74
  isplitl [Q75]; · iexact Q75
  isplitl [Q76]; · iexact Q76
  isplitl [Q77]; · iexact Q77
  isplitl [Q78]; · iexact Q78
  isplitl [Q79]; · iexact Q79
  isplitl [Q80]; · iexact Q80
  isplitl [Q81]; · iexact Q81
  isplitl [Q82]; · iexact Q82
  isplitl [Q83]; · iexact Q83
  isplitl [Q84]; · iexact Q84
  isplitl [Q85]; · iexact Q85
  isplitl [Q86]; · iexact Q86
  isplitl [Q87]; · iexact Q87
  isplitl [Q88]; · iexact Q88
  isplitl [Q89]; · iexact Q89
  isplitl [Q90]; · iexact Q90
  isplitl [Q91]; · iexact Q91
  isplitl [Q92]; · iexact Q92
  isplitl [Q93]; · iexact Q93
  isplitl [Q94]; · iexact Q94
  isplitl [Q95]; · iexact Q95
  isplitl [Q96]; · iexact Q96
  isplitl [Q97]; · iexact Q97
  isplitl [Q98]; · iexact Q98
  isplitl [Q99]; · iexact Q99
  isplitl [Q100]; · iexact Q100
  isplitl [Q101]; · iexact Q101
  isplitl [Q102]; · iexact Q102
  isplitl [Q103]; · iexact Q103
  isplitl [Q104]; · iexact Q104
  isplitl [Q105]; · iexact Q105
  isplitl [Q106]; · iexact Q106
  isplitl [Q107]; · iexact Q107
  isplitl [Q108]; · iexact Q108
  isplitl [Q109]; · iexact Q109
  isplitl [Q110]; · iexact Q110
  isplitl [Q111]; · iexact Q111
  isplitl [Q112]; · iexact Q112
  isplitl [Q113]; · iexact Q113
  isplitl [Q114]; · iexact Q114
  isplitl [Q115]; · iexact Q115
  isplitl [Q116]; · iexact Q116
  isplitl [Q117]; · iexact Q117
  isplitl [Q118]; · iexact Q118
  isplitl [Q119]; · iexact Q119
  isplitl [Q120]; · iexact Q120
  isplitl [Q121]; · iexact Q121
  isplitl [Q122]; · iexact Q122
  isplitl [Q123]; · iexact Q123
  isplitl [Q124]; · iexact Q124
  isplitl [Q125]; · iexact Q125
  isplitl [Q126]; · iexact Q126
  isplitl [Q127]; · iexact Q127
  isplitl [Q128]; · iexact Q128
  isplitl [Q129]; · iexact Q129
  isplitl [Q130]; · iexact Q130
  isplitl [Q131]; · iexact Q131
  isplitl [Q132]; · iexact Q132
  isplitl [Q133]; · iexact Q133
  isplitl [Q134]; · iexact Q134
  isplitl [Q135]; · iexact Q135
  isplitl [Q136]; · iexact Q136
  isplitl [HW]; · iexact HW
  iintro ⟨F0, F1, F2, F3, F4, F5, F6, F7, O0, O1, O2, O3, O4, S0, S1, S2, S3, S4, S5, S6, S7, S8, S9, S10, S11, S12, S13, S14, S15, Q0, Q1, Q2, Q3, Q4, Q5, Q6, Q7, Q8, Q9, Q10, Q11, Q12, Q13, Q14, Q15, Q16, Q17, Q18, Q19, Q20, Q21, Q22, Q23, Q24, Q25, Q26, Q27, Q28, Q29, Q30, Q31, Q32, Q33, Q34, Q35, Q36, Q37, Q38, Q39, Q40, Q41, Q42, Q43, Q44, Q45, Q46, Q47, Q48, Q49, Q50, Q51, Q52, Q53, Q54, Q55, Q56, Q57, Q58, Q59, Q60, Q61, Q62, Q63, Q64, Q65, Q66, Q67, Q68, Q69, Q70, Q71, Q72, Q73, Q74, Q75, Q76, Q77, Q78, Q79, Q80, Q81, Q82, Q83, Q84, Q85, Q86, Q87, Q88, Q89, Q90, Q91, Q92, Q93, Q94, Q95, Q96, Q97, Q98, Q99, Q100, Q101, Q102, Q103, Q104, Q105, Q106, Q107, Q108, Q109, Q110, Q111, Q112, Q113, Q114, Q115, Q116, Q117, Q118, Q119, Q120, Q121, Q122, Q123, Q124, Q125, Q126, Q127, Q128, Q129, Q130, Q131, Q132, Q133, Q134, Q135, Q136, ⟨%W', HW'⟩⟩
  isplitl [F0 F1 F2 F3 F4 F5 F6 F7 O0 O1 O2 O3 O4 S0 S1 S2 S3 S4 S5 S6 S7 S8 S9 S10 S11 S12 S13 S14 S15 Q0 Q1 Q2 Q3 Q4 Q5 Q6 Q7 Q8 Q9 Q10 Q11 Q12 Q13 Q14 Q15 Q16 Q17 Q18 Q19 Q20 Q21 Q22 Q23 Q24 Q25 Q26 Q27 Q28 Q29 Q30 Q31 Q32 Q33 Q34 Q35 Q36 Q37 Q38 Q39 Q40 Q41 Q42 Q43 Q44 Q45 Q46 Q47 Q48 Q49 Q50 Q51 Q52 Q53 Q54 Q55 Q56 Q57 Q58 Q59 Q60 Q61 Q62 Q63 Q64 Q65 Q66 Q67 Q68 Q69 Q70 Q71 Q72 Q73 Q74 Q75 Q76 Q77 Q78 Q79 Q80 Q81 Q82 Q83 Q84 Q85 Q86 Q87 Q88 Q89 Q90 Q91 Q92 Q93 Q94 Q95 Q96 Q97 Q98 Q99 Q100 Q101 Q102 Q103 Q104 Q105 Q106 Q107 Q108 Q109 Q110 Q111 Q112 Q113 Q114 Q115 Q116 Q117 Q118 Q119 Q120 Q121 Q122 Q123 Q124 Q125 Q126 Q127 Q128 Q129 Q130 Q131 Q132 Q133 Q134 Q135 Q136 Hg]
  · isplitl [S0 S1 S2 S3 S4 S5 S6 S7 S8 S9 S10 S11 S12 S13 S14 S15]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S8]; · iexact S8
      isplitl [S9]; · iexact S9
      isplitl [S10]; · iexact S10
      isplitl [S11]; · iexact S11
      isplitl [S12]; · iexact S12
      isplitl [S13]; · iexact S13
      isplitl [S14]; · iexact S14
      isplitl [S15]; · iexact S15
      iexact S7
    isplitl [Hg]; · iexact Hg
    isplitl [Q0 Q1 Q2 Q3 Q4 Q5 Q6 Q7 Q8 Q9 Q10 Q11 Q12 Q13 Q14 Q15 Q16 Q17 Q18 Q19 Q20 Q21 Q22 Q23 Q24 Q25 Q26 Q27 Q28 Q29 Q30 Q31 Q32 Q33 Q34 Q35 Q36 Q37 Q38 Q39 Q40 Q41 Q42 Q43 Q44 Q45 Q46 Q47 Q48 Q49 Q50 Q51 Q52 Q53 Q54 Q55 Q56 Q57 Q58 Q59 Q60 Q61 Q62 Q63 Q64 Q65 Q66 Q67 Q68 Q69 Q70 Q71 Q72 Q73 Q74 Q75 Q76 Q77 Q78 Q79 Q80 Q81 Q82 Q83 Q84 Q85 Q86 Q87 Q88 Q89 Q90 Q91 Q92 Q93 Q94 Q95 Q96 Q97 Q98 Q99 Q100 Q101 Q102 Q103 Q104 Q105 Q106 Q107 Q108 Q109 Q110 Q111 Q112 Q113 Q114 Q115 Q116 Q117 Q118 Q119 Q120 Q121 Q122 Q123 Q124 Q125 Q126 Q127 Q128 Q129 Q130 Q131 Q132 Q133 Q134 Q135 Q136]
    · isplitl [Q0]; · iexact Q0
      isplitl [Q1]; · iexact Q1
      isplitl [Q2]; · iexact Q2
      isplitl [Q3]; · iexact Q3
      isplitl [Q4]; · iexact Q4
      isplitl [Q5]; · iexact Q5
      isplitl [Q6]; · iexact Q6
      isplitl [Q7]; · iexact Q7
      isplitl [Q8]; · iexact Q8
      isplitl [Q9]; · iexact Q9
      isplitl [Q10]; · iexact Q10
      isplitl [Q11]; · iexact Q11
      isplitl [Q12]; · iexact Q12
      isplitl [Q13]; · iexact Q13
      isplitl [Q14]; · iexact Q14
      isplitl [Q15]; · iexact Q15
      isplitl [Q16]; · iexact Q16
      isplitl [Q17]; · iexact Q17
      isplitl [Q18]; · iexact Q18
      isplitl [Q19]; · iexact Q19
      isplitl [Q20]; · iexact Q20
      isplitl [Q21]; · iexact Q21
      isplitl [Q22]; · iexact Q22
      isplitl [Q23]; · iexact Q23
      isplitl [Q24]; · iexact Q24
      isplitl [Q25]; · iexact Q25
      isplitl [Q26]; · iexact Q26
      isplitl [Q27]; · iexact Q27
      isplitl [Q28]; · iexact Q28
      isplitl [Q29]; · iexact Q29
      isplitl [Q30]; · iexact Q30
      isplitl [Q31]; · iexact Q31
      isplitl [Q32]; · iexact Q32
      isplitl [Q33]; · iexact Q33
      isplitl [Q34]; · iexact Q34
      isplitl [Q35]; · iexact Q35
      isplitl [Q36]; · iexact Q36
      isplitl [Q37]; · iexact Q37
      isplitl [Q38]; · iexact Q38
      isplitl [Q39]; · iexact Q39
      isplitl [Q40]; · iexact Q40
      isplitl [Q41]; · iexact Q41
      isplitl [Q42]; · iexact Q42
      isplitl [Q43]; · iexact Q43
      isplitl [Q44]; · iexact Q44
      isplitl [Q45]; · iexact Q45
      isplitl [Q46]; · iexact Q46
      isplitl [Q47]; · iexact Q47
      isplitl [Q48]; · iexact Q48
      isplitl [Q49]; · iexact Q49
      isplitl [Q50]; · iexact Q50
      isplitl [Q51]; · iexact Q51
      isplitl [Q52]; · iexact Q52
      isplitl [Q53]; · iexact Q53
      isplitl [Q54]; · iexact Q54
      isplitl [Q55]; · iexact Q55
      isplitl [Q56]; · iexact Q56
      isplitl [Q57]; · iexact Q57
      isplitl [Q58]; · iexact Q58
      isplitl [Q59]; · iexact Q59
      isplitl [Q60]; · iexact Q60
      isplitl [Q61]; · iexact Q61
      isplitl [Q62]; · iexact Q62
      isplitl [Q63]; · iexact Q63
      isplitl [Q64]; · iexact Q64
      isplitl [Q65]; · iexact Q65
      isplitl [Q66]; · iexact Q66
      isplitl [Q67]; · iexact Q67
      isplitl [Q68]; · iexact Q68
      isplitl [Q69]; · iexact Q69
      isplitl [Q70]; · iexact Q70
      isplitl [Q71]; · iexact Q71
      isplitl [Q72]; · iexact Q72
      isplitl [Q73]; · iexact Q73
      isplitl [Q74]; · iexact Q74
      isplitl [Q75]; · iexact Q75
      isplitl [Q76]; · iexact Q76
      isplitl [Q77]; · iexact Q77
      isplitl [Q78]; · iexact Q78
      isplitl [Q79]; · iexact Q79
      isplitl [Q80]; · iexact Q80
      isplitl [Q81]; · iexact Q81
      isplitl [Q82]; · iexact Q82
      isplitl [Q83]; · iexact Q83
      isplitl [Q84]; · iexact Q84
      isplitl [Q85]; · iexact Q85
      isplitl [Q86]; · iexact Q86
      isplitl [Q87]; · iexact Q87
      isplitl [Q88]; · iexact Q88
      isplitl [Q89]; · iexact Q89
      isplitl [Q90]; · iexact Q90
      isplitl [Q91]; · iexact Q91
      isplitl [Q92]; · iexact Q92
      isplitl [Q93]; · iexact Q93
      isplitl [Q94]; · iexact Q94
      isplitl [Q95]; · iexact Q95
      isplitl [Q96]; · iexact Q96
      isplitl [Q97]; · iexact Q97
      isplitl [Q98]; · iexact Q98
      isplitl [Q99]; · iexact Q99
      isplitl [Q100]; · iexact Q100
      isplitl [Q101]; · iexact Q101
      isplitl [Q102]; · iexact Q102
      isplitl [Q103]; · iexact Q103
      isplitl [Q104]; · iexact Q104
      isplitl [Q105]; · iexact Q105
      isplitl [Q106]; · iexact Q106
      isplitl [Q107]; · iexact Q107
      isplitl [Q108]; · iexact Q108
      isplitl [Q109]; · iexact Q109
      isplitl [Q110]; · iexact Q110
      isplitl [Q111]; · iexact Q111
      isplitl [Q112]; · iexact Q112
      isplitl [Q113]; · iexact Q113
      isplitl [Q114]; · iexact Q114
      isplitl [Q115]; · iexact Q115
      isplitl [Q116]; · iexact Q116
      isplitl [Q117]; · iexact Q117
      isplitl [Q118]; · iexact Q118
      isplitl [Q119]; · iexact Q119
      isplitl [Q120]; · iexact Q120
      isplitl [Q121]; · iexact Q121
      isplitl [Q122]; · iexact Q122
      isplitl [Q123]; · iexact Q123
      isplitl [Q124]; · iexact Q124
      isplitl [Q125]; · iexact Q125
      isplitl [Q126]; · iexact Q126
      isplitl [Q127]; · iexact Q127
      isplitl [Q128]; · iexact Q128
      isplitl [Q129]; · iexact Q129
      isplitl [Q130]; · iexact Q130
      isplitl [Q131]; · iexact Q131
      isplitl [Q132]; · iexact Q132
      isplitl [Q133]; · iexact Q133
      isplitl [Q134]; · iexact Q134
      isplitl [Q135]; · iexact Q135
      iexact Q136
    isplitl [F0 F1 F2 F3 F4 F5 F6 F7]
    · isplitl [F0]; · iexact F0
      isplitl [F1]; · iexact F1
      isplitl [F2]; · iexact F2
      isplitl [F3]; · iexact F3
      isplitl [F4]; · iexact F4
      isplitl [F5]; · iexact F5
      isplitl [F6]; · iexact F6
      iexact F7
    isplitl [O0]; · iexact O0
    isplitl [O1]; · iexact O1
    isplitl [O2]; · iexact O2
    isplitl [O3]; · iexact O3
    iexact O4
  isplitl [HW']
  · iexists W'; isplitr; · ipureintro; exact fun _ _ => Or.inl trivial
    iexact HW'
  iempintro

theorem body_obligationG
    (hX : ∀ (c : Dev nD) (s0 : Bf (F := F) c cc0_scratch0) (s1 : Bf (F := F) c cc0_scratch1) (s2 : Bf (F := F) c cc0_scratch2) (s3 : Bf (F := F) c cc0_scratch3) (s4 : Bf (F := F) c cc0_scratch4) (s5 : Bf (F := F) c cc0_scratch5) (s6 : Bf (F := F) c cc0_scratch6) (s7 : Bf (F := F) c cc0_scratch7) (s8 : Bf (F := F) c cc0_scratch8) (s9 : Bf (F := F) c cc0_scratch9) (s10 : Bf (F := F) c cc0_scratch10) (s11 : Bf (F := F) c cc0_scratch11) (s12 : Bf (F := F) c cc0_scratch12) (s13 : Bf (F := F) c cc0_scratch13) (s14 : Bf (F := F) c cc0_scratch14) (s15 : Bf (F := F) c cc0_scratch15),
      (kernelRun c (V m c main_v0) (V m c main_v1) (V m c main_v2) (V m c main_v4) (V m c main_v6) (V m c main_v7) (V m c main_v8) (V m c main_arg7) (V m c main_v9_0) (V m c main_v9_1) (V m c main_v9_2) (V m c main_v9_3) (V m c main_v9_4) s0 s1 s2 s3 s4 s5 s6 s7 s8 s9 s10 s11 s12 s13 s14 s15).1 = X c) (c : Dev nD) : BodyObligation (datsG m X 0 c) (defs₀ (F := F)) Variants.none () Set.univ := fun t => by
  rw [defs₀_row]
  exact triple_restated (sound_bodyG m X hX c t)
    rfl (by rw [show (Finset.univ : Finset (Fin cfg0.W)) = ∅ from rfl, BI.bigSep_empty]; exact .rfl)
    fun _ => by rw [show (Finset.univ : Finset (Fin cfg0.W)) = ∅ from rfl, BI.bigSep_empty]; exact .rfl

set_option backward.isDefEq.respectTransparency.types false in
theorem run_value
    (hX : ∀ (c : Dev nD) (s0 : Bf (F := F) c cc0_scratch0) (s1 : Bf (F := F) c cc0_scratch1) (s2 : Bf (F := F) c cc0_scratch2) (s3 : Bf (F := F) c cc0_scratch3) (s4 : Bf (F := F) c cc0_scratch4) (s5 : Bf (F := F) c cc0_scratch5) (s6 : Bf (F := F) c cc0_scratch6) (s7 : Bf (F := F) c cc0_scratch7) (s8 : Bf (F := F) c cc0_scratch8) (s9 : Bf (F := F) c cc0_scratch9) (s10 : Bf (F := F) c cc0_scratch10) (s11 : Bf (F := F) c cc0_scratch11) (s12 : Bf (F := F) c cc0_scratch12) (s13 : Bf (F := F) c cc0_scratch13) (s14 : Bf (F := F) c cc0_scratch14) (s15 : Bf (F := F) c cc0_scratch15),
      (kernelRun c (V m c main_v0) (V m c main_v1) (V m c main_v2) (V m c main_v4) (V m c main_v6) (V m c main_v7) (V m c main_v8) (V m c main_arg7) (V m c main_v9_0) (V m c main_v9_1) (V m c main_v9_2) (V m c main_v9_3) (V m c main_v9_4) s0 s1 s2 s3 s4 s5 s6 s7 s8 s9 s10 s11 s12 s13 s14 s15).1 = X c) :
    θ_run defs (onTc (τ := τ) (main (F := F))) (s₀ m ρ) (fun r => Pipeline.FramePostRG cfgs (datsG m X) 0 R0 (V m) (G m X) r ∧ r.2.sem = fun _ => 0) :=
  Pipeline.θ_run_frame_dmaRG (Q' := _) cfgs (datsG m X) (0 : Fin 1) launch0 osem0 defs₀ Variants.none ownSemFacts0 H0 R0 H0_sub R0_sub m ρ main
    (hbody := fun c => (body_obligationG m X hX c).loose) (hshare := fun c => (datsG m X 0 c).share_full fun _ => rfl)
    (howed := fun _ _ => rfl) (V := V m) (hmain := hmain m Variants.none) (hA := A_eqG m X) (G := G m X)
    (hin := fun c => .of_eq (Φ_zero m X c).symm) (hout := fun c => .of_eq (Φ_last m X c))

end Cert.KernelIdeal.Hand

end
-- ==== Proof.KernelIdealLoads.lean ====
/-
  What the kernel loads from its scratch buffers, in terms of the arrays it was given.
-/
module

public import proofs.«01_k».proof.Proof.KernelIdealBody
public import Idealize.ShloMosaic.Lib.WritesUnit
public import Idealize.ShloMosaic.Lib.ValueLayout
public import Idealize.ShloMosaic.Lib.Pointwise
public import Idealize.ShloMosaic.Lib.VecWindow

@[expose] public section

noncomputable section

namespace Cert.KernelIdeal.Hand

open Cert.KernelIdeal Cert.KernelIdeal.Gen
open Idealize.ShloMosaic Idealize.ShloMosaic.TcCoe

variable {F : FTy → Type} [FloatOps F]

section Rows

variable {sp : Space} {e : EltTy} {R C : ℕ}

/-- Row `b` of a buffer of 32 blocks of `R` by `C` lies inside it. -/
theorem row_inb (b : ℕ) (hb : b < 32) (a : Fin 3) :
    (![b, 0, 0] : Fin 3 → ℕ) a + (![1, R, C] : Fin 3 → ℕ) a ≤ (![32, R, C] : Fin 3 → ℕ) a := by
  fin_cases a <;> simp <;> omega

/-- The buffer after block `b` was written by a copy. -/
abbrev writeRow (m : Memref sig .tc sp ⟨3, ![32, R, C]⟩ e) (hq : (⟨3, ![1, R, C]⟩ : Shape).Squeezes ⟨2, ![R, C]⟩)
    (b : ℕ) (hb : b < 32) (f : m.view.ty.Contents (Elt F)) (w : (⟨2, ![R, C]⟩ : Shape).Idx → Elt F e) :
    m.view.ty.Contents (Elt F) :=
  View.write (Elt F) ((m.slice (Rect.unit (s := ⟨3, ![32, R, C]⟩) ![b, 0, 0] ![1, R, C] (row_inb b hb)) (fun _ => rfl)).squeeze
    (⟨2, ![R, C]⟩ : Shape) hq).view f w Finset.univ

/-- One copied block is read back as it was; the other blocks are unchanged. -/
theorem read_writeRow (m : Memref sig .tc sp ⟨3, ![32, R, C]⟩ e) (hq : (⟨3, ![1, R, C]⟩ : Shape).Squeezes ⟨2, ![R, C]⟩)
    (b : ℕ) (hb : b < 32) (f : m.view.ty.Contents (Elt F)) (w : (⟨2, ![R, C]⟩ : Shape).Idx → Elt F e)
    (b' : Fin 32) (r : Fin R) (j : Fin C) :
    m.view.read (Elt F) (writeRow m hq b hb f w) (ix3 b' r j)
      = if b'.val = b then w (ix2 r j) else m.view.read (Elt F) f (ix3 b' r j) := by
  have e : writeRow m hq b hb f w = m.view.writes (Elt F) f
      [⟨Rect.unit (s := ⟨3, ![32, R, C]⟩) ![b, 0, 0] ![1, R, C] (row_inb b hb), fun x => w ((Shape.reshapeEquiv hq.numel_eq).symm x)⟩] :=
    View.write_reshape_univ _ _ _ _
  rw [e]
  split_ifs with h
  · refine (View.read_writes_cons_unit_of_mem m.view f (row_inb b hb) _ [] (ix3 b' r j) (ix3 (0 : Fin 1) r j) rfl ?_).trans ?_
    · intro a
      match a with
      | ⟨0, _⟩ => exact h
      | ⟨1, _⟩ => exact (Nat.zero_add _).symm
      | ⟨2, _⟩ => exact (Nat.zero_add _).symm
    · refine congrArg w ?_
      rw [Equiv.symm_apply_eq]
      exact (ValueIdx.reshapeEquiv_ix2_1ab _ r j).symm
  · exact View.read_writes_cons_unit_of_not_mem m.view f (row_inb b hb) _ [] (ix3 b' r j) rfl (0 : Fin 3) (by
      show (b'.val < b ∨ b + 1 ≤ b'.val); omega)

/-- The buffer after blocks `0 … n - 1` were written, in that order. -/
def writeRows (m : Memref sig .tc sp ⟨3, ![32, R, C]⟩ e) (hq : (⟨3, ![1, R, C]⟩ : Shape).Squeezes ⟨2, ![R, C]⟩)
    (f : m.view.ty.Contents (Elt F)) (w : Fin 32 → (⟨2, ![R, C]⟩ : Shape).Idx → Elt F e) :
    (n : ℕ) → n ≤ 32 → m.view.ty.Contents (Elt F)
  | 0, _ => f
  | n + 1, h => writeRow m hq n h (writeRows m hq f w n (Nat.le_of_succ_le h)) (w ⟨n, h⟩)

/-- Each written block reads as what was copied into it. -/
theorem read_writeRows (m : Memref sig .tc sp ⟨3, ![32, R, C]⟩ e) (hq : (⟨3, ![1, R, C]⟩ : Shape).Squeezes ⟨2, ![R, C]⟩)
    (f : m.view.ty.Contents (Elt F)) (w : Fin 32 → (⟨2, ![R, C]⟩ : Shape).Idx → Elt F e) (n : ℕ) (hn : n ≤ 32)
    (b' : Fin 32) (r : Fin R) (j : Fin C) (hb : b'.val < n) :
    m.view.read (Elt F) (writeRows m hq f w n hn) (ix3 b' r j) = w b' (ix2 r j) := by
  induction n with
  | zero => omega
  | succ n ih =>
    rw [writeRows, read_writeRow]
    split_ifs with h
    · have e : b' = ⟨n, hn⟩ := Fin.ext h
      rw [e]
    · exact ih _ (by omega)

end Rows

section Loads

variable (c : Dev nD)

theorem len_inb (b : Fin 32) : ∀ a, (![b.val] : Fin 1 → ℕ) a + S1.size a ≤ S32.size a := by
  intro a; fin_cases a; have := b.isLt; simp [S1, S32]

theorem s1_pos : 0 < S1.numel := by simp [S1, Shape.numel]

/-- The cache length of row `b`, as the kernel reads it. -/
def lenAt (f7 : Bf (F := F) c main_arg7) (s7 : Bf (F := F) c cc0_scratch7) (b : Fin 32) : Elt F .i32 :=
  View.readAt (Elt F) (Memref.whole cc0_scratch7).view (Rect.unit (s := S32) ![b.val] S1.size (len_inb b)).toLoadRect
    (View.write (Elt F) (Memref.whole cc0_scratch7).view s7 (kernelRun.sl.dma0 c f7) Finset.univ) (Shape.Idx.first (s := S1) s1_pos)

theorem lenAt_eq (f7 : Bf (F := F) c main_arg7) (s7 : Bf (F := F) c cc0_scratch7) (b : Fin 32) :
    lenAt c f7 s7 b = (f7 : S32.Idx → Elt F .i32) (ix1 b) := by
  unfold lenAt
  rw [View.write_whole_univ]
  show (f7 : S32.Idx → Elt F .i32) _ = _
  refine congrArg (f7 : S32.Idx → Elt F .i32) (funext fun a => ?_)
  fin_cases a; exact Fin.ext (by show b.val + 1 * 0 = b.val; omega)

theorem winBlk_inb (b : Fin 32) (w : BitVec 32) : ∀ a, (![b.val, 0, (winBase w).toNat] : Fin 3 → ℕ) a + S1x128x1152.size a ≤ S32x128x16384.size a :=
  (winChk_of b.val w b.isLt).2.1
theorem winScl_inb (b : Fin 32) (w : BitVec 32) : ∀ a, (![b.val, 0, (winBase w).toNat] : Fin 3 → ℕ) a + S1x2x1152.size a ≤ S32x2x16384.size a :=
  (winChk_of b.val w b.isLt).2.2.2

/-- The window of codes of row `b` the kernel copies in, and the window of scales. -/
def winBlk (m : Memref sig .tc .hbm S32x128x16384 .fp8e4m3) (f : m.view.ty.Contents (Elt F)) (w : BitVec 32) (b : Fin 32) :
    S128x1152.Idx → Elt F .fp8e4m3 :=
  ReadAs.same.apply (View.read (Elt F) ((m.slice (Rect.unit (s := S32x128x16384) ![b.val, 0, (winBase w).toNat] S1x128x1152.size (winBlk_inb b w))
    (fun _ => rfl)).squeeze S128x1152 squeezes_S1x128x1152_S128x1152).view f)

def winScl (m : Memref sig .tc .hbm S32x2x16384 .f32) (f : m.view.ty.Contents (Elt F)) (w : BitVec 32) (b : Fin 32) :
    S2x1152.Idx → Elt F .f32 :=
  ReadAs.same.apply (View.read (Elt F) ((m.slice (Rect.unit (s := S32x2x16384) ![b.val, 0, (winBase w).toNat] S1x2x1152.size (winScl_inb b w))
    (fun _ => rfl)).squeeze S2x1152 squeezes_S1x2x1152_S2x1152).view f)

/-- The four window buffers once every row has been copied in. -/
def bufK (f3 : Bf (F := F) c main_v4) (f7 : Bf (F := F) c main_arg7) (s3 : Bf (F := F) c cc0_scratch3) (s7 : Bf (F := F) c cc0_scratch7) :=
  writeRows (Memref.whole cc0_scratch3) squeezes_S1x128x1152_S128x1152 s3
    (fun b => winBlk (Memref.whole main_v4) f3 (lenAt c f7 s7 b) b) 32 le_rfl
def bufV (f4 : Bf (F := F) c main_v6) (f7 : Bf (F := F) c main_arg7) (s4 : Bf (F := F) c cc0_scratch4) (s7 : Bf (F := F) c cc0_scratch7) :=
  writeRows (Memref.whole cc0_scratch4) squeezes_S1x128x1152_S128x1152 s4
    (fun b => winBlk (Memref.whole main_v6) f4 (lenAt c f7 s7 b) b) 32 le_rfl
def bufKS (f5 : Bf (F := F) c main_v7) (f7 : Bf (F := F) c main_arg7) (s5 : Bf (F := F) c cc0_scratch5) (s7 : Bf (F := F) c cc0_scratch7) :=
  writeRows (Memref.whole cc0_scratch5) squeezes_S1x2x1152_S2x1152 s5
    (fun b => winScl (Memref.whole main_v7) f5 (lenAt c f7 s7 b) b) 32 le_rfl
def bufVS (f6 : Bf (F := F) c main_v8) (f7 : Bf (F := F) c main_arg7) (s6 : Bf (F := F) c cc0_scratch6) (s7 : Bf (F := F) c cc0_scratch7) :=
  writeRows (Memref.whole cc0_scratch6) squeezes_S1x2x1152_S2x1152 s6
    (fun b => winScl (Memref.whole main_v8) f6 (lenAt c f7 s7 b) b) 32 le_rfl

/-! The same four buffers as the run of the body names them. -/

def rawK (f3 : Bf (F := F) c main_v4) (f7 : Bf (F := F) c main_arg7) (s3 : Bf (F := F) c cc0_scratch3) (s7 : Bf (F := F) c cc0_scratch7) :
    (Memref.whole cc0_scratch3).view.ty.Contents (Elt F) :=
  (writeRow (Memref.whole cc0_scratch3) squeezes_S1x128x1152_S128x1152 31 (by omega) (writeRow (Memref.whole cc0_scratch3) squeezes_S1x128x1152_S128x1152 30 (by omega) (writeRow (Memref.whole cc0_scratch3) squeezes_S1x128x1152_S128x1152 29 (by omega) (writeRow (Memref.whole cc0_scratch3) squeezes_S1x128x1152_S128x1152 28 (by omega) (writeRow (Memref.whole cc0_scratch3) squeezes_S1x128x1152_S128x1152 27 (by omega) (writeRow (Memref.whole cc0_scratch3) squeezes_S1x128x1152_S128x1152 26 (by omega) (writeRow (Memref.whole cc0_scratch3) squeezes_S1x128x1152_S128x1152 25 (by omega) (writeRow (Memref.whole cc0_scratch3) squeezes_S1x128x1152_S128x1152 24 (by omega) (writeRow (Memref.whole cc0_scratch3) squeezes_S1x128x1152_S128x1152 23 (by omega) (writeRow (Memref.whole cc0_scratch3) squeezes_S1x128x1152_S128x1152 22 (by omega) (writeRow (Memref.whole cc0_scratch3) squeezes_S1x128x1152_S128x1152 21 (by omega) (writeRow (Memref.whole cc0_scratch3) squeezes_S1x128x1152_S128x1152 20 (by omega) (writeRow (Memref.whole cc0_scratch3) squeezes_S1x128x1152_S128x1152 19 (by omega) (writeRow (Memref.whole cc0_scratch3) squeezes_S1x128x1152_S128x1152 18 (by omega) (writeRow (Memref.whole cc0_scratch3) squeezes_S1x128x1152_S128x1152 17 (by omega) (writeRow (Memref.whole cc0_scratch3) squeezes_S1x128x1152_S128x1152 16 (by omega) (writeRow (Memref.whole cc0_scratch3) squeezes_S1x128x1152_S128x1152 15 (by omega) (writeRow (Memref.whole cc0_scratch3) squeezes_S1x128x1152_S128x1152 14 (by omega) (writeRow (Memref.whole cc0_scratch3) squeezes_S1x128x1152_S128x1152 13 (by omega) (writeRow (Memref.whole cc0_scratch3) squeezes_S1x128x1152_S128x1152 12 (by omega) (writeRow (Memref.whole cc0_scratch3) squeezes_S1x128x1152_S128x1152 11 (by omega) (writeRow (Memref.whole cc0_scratch3) squeezes_S1x128x1152_S128x1152 10 (by omega) (writeRow (Memref.whole cc0_scratch3) squeezes_S1x128x1152_S128x1152 9 (by omega) (writeRow (Memref.whole cc0_scratch3) squeezes_S1x128x1152_S128x1152 8 (by omega) (writeRow (Memref.whole cc0_scratch3) squeezes_S1x128x1152_S128x1152 7 (by omega) (writeRow (Memref.whole cc0_scratch3) squeezes_S1x128x1152_S128x1152 6 (by omega) (writeRow (Memref.whole cc0_scratch3) squeezes_S1x128x1152_S128x1152 5 (by omega) (writeRow (Memref.whole cc0_scratch3) squeezes_S1x128x1152_S128x1152 4 (by omega) (writeRow (Memref.whole cc0_scratch3) squeezes_S1x128x1152_S128x1152 3 (by omega) (writeRow (Memref.whole cc0_scratch3) squeezes_S1x128x1152_S128x1152 2 (by omega) (writeRow (Memref.whole cc0_scratch3) squeezes_S1x128x1152_S128x1152 1 (by omega) (writeRow (Memref.whole cc0_scratch3) squeezes_S1x128x1152_S128x1152 0 (by omega) s3
    (kernelRun.sl.dma1 c f3 f7 s7))
    (kernelRun.sl.dma2 c f3 f7 s7))
    (kernelRun.sl.dma3 c f3 f7 s7))
    (kernelRun.sl.dma4 c f3 f7 s7))
    (kernelRun.sl.dma5 c f3 f7 s7))
    (kernelRun.sl.dma6 c f3 f7 s7))
    (kernelRun.sl.dma7 c f3 f7 s7))
    (kernelRun.sl.dma8 c f3 f7 s7))
    (kernelRun.sl.dma9 c f3 f7 s7))
    (kernelRun.sl.dma10 c f3 f7 s7))
    (kernelRun.sl.dma11 c f3 f7 s7))
    (kernelRun.sl.dma12 c f3 f7 s7))
    (kernelRun.sl.dma13 c f3 f7 s7))
    (kernelRun.sl.dma14 c f3 f7 s7))
    (kernelRun.sl.dma15 c f3 f7 s7))
    (kernelRun.sl.dma16 c f3 f7 s7))
    (kernelRun.sl.dma17 c f3 f7 s7))
    (kernelRun.sl.dma18 c f3 f7 s7))
    (kernelRun.sl.dma19 c f3 f7 s7))
    (kernelRun.sl.dma20 c f3 f7 s7))
    (kernelRun.sl.dma21 c f3 f7 s7))
    (kernelRun.sl.dma22 c f3 f7 s7))
    (kernelRun.sl.dma23 c f3 f7 s7))
    (kernelRun.sl.dma24 c f3 f7 s7))
    (kernelRun.sl.dma25 c f3 f7 s7))
    (kernelRun.sl.dma26 c f3 f7 s7))
    (kernelRun.sl.dma27 c f3 f7 s7))
    (kernelRun.sl.dma28 c f3 f7 s7))
    (kernelRun.sl.dma29 c f3 f7 s7))
    (kernelRun.sl.dma30 c f3 f7 s7))
    (kernelRun.sl.dma31 c f3 f7 s7))
    (kernelRun.sl.dma32 c f3 f7 s7))
theorem rawK_eq (f3 : Bf (F := F) c main_v4) (f7 : Bf (F := F) c main_arg7) (s3 : Bf (F := F) c cc0_scratch3) (s7 : Bf (F := F) c cc0_scratch7) :
    rawK c f3 f7 s3 s7 = bufK c f3 f7 s3 s7 := rfl

def rawV (f4 : Bf (F := F) c main_v6) (f7 : Bf (F := F) c main_arg7) (s4 : Bf (F := F) c cc0_scratch4) (s7 : Bf (F := F) c cc0_scratch7) :
    (Memref.whole cc0_scratch4).view.ty.Contents (Elt F) :=
  (writeRow (Memref.whole cc0_scratch4) squeezes_S1x128x1152_S128x1152 31 (by omega) (writeRow (Memref.whole cc0_scratch4) squeezes_S1x128x1152_S128x1152 30 (by omega) (writeRow (Memref.whole cc0_scratch4) squeezes_S1x128x1152_S128x1152 29 (by omega) (writeRow (Memref.whole cc0_scratch4) squeezes_S1x128x1152_S128x1152 28 (by omega) (writeRow (Memref.whole cc0_scratch4) squeezes_S1x128x1152_S128x1152 27 (by omega) (writeRow (Memref.whole cc0_scratch4) squeezes_S1x128x1152_S128x1152 26 (by omega) (writeRow (Memref.whole cc0_scratch4) squeezes_S1x128x1152_S128x1152 25 (by omega) (writeRow (Memref.whole cc0_scratch4) squeezes_S1x128x1152_S128x1152 24 (by omega) (writeRow (Memref.whole cc0_scratch4) squeezes_S1x128x1152_S128x1152 23 (by omega) (writeRow (Memref.whole cc0_scratch4) squeezes_S1x128x1152_S128x1152 22 (by omega) (writeRow (Memref.whole cc0_scratch4) squeezes_S1x128x1152_S128x1152 21 (by omega) (writeRow (Memref.whole cc0_scratch4) squeezes_S1x128x1152_S128x1152 20 (by omega) (writeRow (Memref.whole cc0_scratch4) squeezes_S1x128x1152_S128x1152 19 (by omega) (writeRow (Memref.whole cc0_scratch4) squeezes_S1x128x1152_S128x1152 18 (by omega) (writeRow (Memref.whole cc0_scratch4) squeezes_S1x128x1152_S128x1152 17 (by omega) (writeRow (Memref.whole cc0_scratch4) squeezes_S1x128x1152_S128x1152 16 (by omega) (writeRow (Memref.whole cc0_scratch4) squeezes_S1x128x1152_S128x1152 15 (by omega) (writeRow (Memref.whole cc0_scratch4) squeezes_S1x128x1152_S128x1152 14 (by omega) (writeRow (Memref.whole cc0_scratch4) squeezes_S1x128x1152_S128x1152 13 (by omega) (writeRow (Memref.whole cc0_scratch4) squeezes_S1x128x1152_S128x1152 12 (by omega) (writeRow (Memref.whole cc0_scratch4) squeezes_S1x128x1152_S128x1152 11 (by omega) (writeRow (Memref.whole cc0_scratch4) squeezes_S1x128x1152_S128x1152 10 (by omega) (writeRow (Memref.whole cc0_scratch4) squeezes_S1x128x1152_S128x1152 9 (by omega) (writeRow (Memref.whole cc0_scratch4) squeezes_S1x128x1152_S128x1152 8 (by omega) (writeRow (Memref.whole cc0_scratch4) squeezes_S1x128x1152_S128x1152 7 (by omega) (writeRow (Memref.whole cc0_scratch4) squeezes_S1x128x1152_S128x1152 6 (by omega) (writeRow (Memref.whole cc0_scratch4) squeezes_S1x128x1152_S128x1152 5 (by omega) (writeRow (Memref.whole cc0_scratch4) squeezes_S1x128x1152_S128x1152 4 (by omega) (writeRow (Memref.whole cc0_scratch4) squeezes_S1x128x1152_S128x1152 3 (by omega) (writeRow (Memref.whole cc0_scratch4) squeezes_S1x128x1152_S128x1152 2 (by omega) (writeRow (Memref.whole cc0_scratch4) squeezes_S1x128x1152_S128x1152 1 (by omega) (writeRow (Memref.whole cc0_scratch4) squeezes_S1x128x1152_S128x1152 0 (by omega) s4
    (kernelRun.sl.dma1_2 c f4 f7 s7))
    (kernelRun.sl.dma2_2 c f4 f7 s7))
    (kernelRun.sl.dma3_2 c f4 f7 s7))
    (kernelRun.sl.dma4_2 c f4 f7 s7))
    (kernelRun.sl.dma5_2 c f4 f7 s7))
    (kernelRun.sl.dma6_2 c f4 f7 s7))
    (kernelRun.sl.dma7_2 c f4 f7 s7))
    (kernelRun.sl.dma8_2 c f4 f7 s7))
    (kernelRun.sl.dma9_2 c f4 f7 s7))
    (kernelRun.sl.dma10_2 c f4 f7 s7))
    (kernelRun.sl.dma11_2 c f4 f7 s7))
    (kernelRun.sl.dma12_2 c f4 f7 s7))
    (kernelRun.sl.dma13_2 c f4 f7 s7))
    (kernelRun.sl.dma14_2 c f4 f7 s7))
    (kernelRun.sl.dma15_2 c f4 f7 s7))
    (kernelRun.sl.dma16_2 c f4 f7 s7))
    (kernelRun.sl.dma17_2 c f4 f7 s7))
    (kernelRun.sl.dma18_2 c f4 f7 s7))
    (kernelRun.sl.dma19_2 c f4 f7 s7))
    (kernelRun.sl.dma20_2 c f4 f7 s7))
    (kernelRun.sl.dma21_2 c f4 f7 s7))
    (kernelRun.sl.dma22_2 c f4 f7 s7))
    (kernelRun.sl.dma23_2 c f4 f7 s7))
    (kernelRun.sl.dma24_2 c f4 f7 s7))
    (kernelRun.sl.dma25_2 c f4 f7 s7))
    (kernelRun.sl.dma26_2 c f4 f7 s7))
    (kernelRun.sl.dma27_2 c f4 f7 s7))
    (kernelRun.sl.dma28_2 c f4 f7 s7))
    (kernelRun.sl.dma29_2 c f4 f7 s7))
    (kernelRun.sl.dma30_2 c f4 f7 s7))
    (kernelRun.sl.dma31_2 c f4 f7 s7))
    (kernelRun.sl.dma32_2 c f4 f7 s7))
theorem rawV_eq (f4 : Bf (F := F) c main_v6) (f7 : Bf (F := F) c main_arg7) (s4 : Bf (F := F) c cc0_scratch4) (s7 : Bf (F := F) c cc0_scratch7) :
    rawV c f4 f7 s4 s7 = bufV c f4 f7 s4 s7 := rfl

def rawKS (f5 : Bf (F := F) c main_v7) (f7 : Bf (F := F) c main_arg7) (s5 : Bf (F := F) c cc0_scratch5) (s7 : Bf (F := F) c cc0_scratch7) :
    (Memref.whole cc0_scratch5).view.ty.Contents (Elt F) :=
  (writeRow (Memref.whole cc0_scratch5) squeezes_S1x2x1152_S2x1152 31 (by omega) (writeRow (Memref.whole cc0_scratch5) squeezes_S1x2x1152_S2x1152 30 (by omega) (writeRow (Memref.whole cc0_scratch5) squeezes_S1x2x1152_S2x1152 29 (by omega) (writeRow (Memref.whole cc0_scratch5) squeezes_S1x2x1152_S2x1152 28 (by omega) (writeRow (Memref.whole cc0_scratch5) squeezes_S1x2x1152_S2x1152 27 (by omega) (writeRow (Memref.whole cc0_scratch5) squeezes_S1x2x1152_S2x1152 26 (by omega) (writeRow (Memref.whole cc0_scratch5) squeezes_S1x2x1152_S2x1152 25 (by omega) (writeRow (Memref.whole cc0_scratch5) squeezes_S1x2x1152_S2x1152 24 (by omega) (writeRow (Memref.whole cc0_scratch5) squeezes_S1x2x1152_S2x1152 23 (by omega) (writeRow (Memref.whole cc0_scratch5) squeezes_S1x2x1152_S2x1152 22 (by omega) (writeRow (Memref.whole cc0_scratch5) squeezes_S1x2x1152_S2x1152 21 (by omega) (writeRow (Memref.whole cc0_scratch5) squeezes_S1x2x1152_S2x1152 20 (by omega) (writeRow (Memref.whole cc0_scratch5) squeezes_S1x2x1152_S2x1152 19 (by omega) (writeRow (Memref.whole cc0_scratch5) squeezes_S1x2x1152_S2x1152 18 (by omega) (writeRow (Memref.whole cc0_scratch5) squeezes_S1x2x1152_S2x1152 17 (by omega) (writeRow (Memref.whole cc0_scratch5) squeezes_S1x2x1152_S2x1152 16 (by omega) (writeRow (Memref.whole cc0_scratch5) squeezes_S1x2x1152_S2x1152 15 (by omega) (writeRow (Memref.whole cc0_scratch5) squeezes_S1x2x1152_S2x1152 14 (by omega) (writeRow (Memref.whole cc0_scratch5) squeezes_S1x2x1152_S2x1152 13 (by omega) (writeRow (Memref.whole cc0_scratch5) squeezes_S1x2x1152_S2x1152 12 (by omega) (writeRow (Memref.whole cc0_scratch5) squeezes_S1x2x1152_S2x1152 11 (by omega) (writeRow (Memref.whole cc0_scratch5) squeezes_S1x2x1152_S2x1152 10 (by omega) (writeRow (Memref.whole cc0_scratch5) squeezes_S1x2x1152_S2x1152 9 (by omega) (writeRow (Memref.whole cc0_scratch5) squeezes_S1x2x1152_S2x1152 8 (by omega) (writeRow (Memref.whole cc0_scratch5) squeezes_S1x2x1152_S2x1152 7 (by omega) (writeRow (Memref.whole cc0_scratch5) squeezes_S1x2x1152_S2x1152 6 (by omega) (writeRow (Memref.whole cc0_scratch5) squeezes_S1x2x1152_S2x1152 5 (by omega) (writeRow (Memref.whole cc0_scratch5) squeezes_S1x2x1152_S2x1152 4 (by omega) (writeRow (Memref.whole cc0_scratch5) squeezes_S1x2x1152_S2x1152 3 (by omega) (writeRow (Memref.whole cc0_scratch5) squeezes_S1x2x1152_S2x1152 2 (by omega) (writeRow (Memref.whole cc0_scratch5) squeezes_S1x2x1152_S2x1152 1 (by omega) (writeRow (Memref.whole cc0_scratch5) squeezes_S1x2x1152_S2x1152 0 (by omega) s5
    (kernelRun.sl.dma1_1 c f5 f7 s7))
    (kernelRun.sl.dma2_1 c f5 f7 s7))
    (kernelRun.sl.dma3_1 c f5 f7 s7))
    (kernelRun.sl.dma4_1 c f5 f7 s7))
    (kernelRun.sl.dma5_1 c f5 f7 s7))
    (kernelRun.sl.dma6_1 c f5 f7 s7))
    (kernelRun.sl.dma7_1 c f5 f7 s7))
    (kernelRun.sl.dma8_1 c f5 f7 s7))
    (kernelRun.sl.dma9_1 c f5 f7 s7))
    (kernelRun.sl.dma10_1 c f5 f7 s7))
    (kernelRun.sl.dma11_1 c f5 f7 s7))
    (kernelRun.sl.dma12_1 c f5 f7 s7))
    (kernelRun.sl.dma13_1 c f5 f7 s7))
    (kernelRun.sl.dma14_1 c f5 f7 s7))
    (kernelRun.sl.dma15_1 c f5 f7 s7))
    (kernelRun.sl.dma16_1 c f5 f7 s7))
    (kernelRun.sl.dma17_1 c f5 f7 s7))
    (kernelRun.sl.dma18_1 c f5 f7 s7))
    (kernelRun.sl.dma19_1 c f5 f7 s7))
    (kernelRun.sl.dma20_1 c f5 f7 s7))
    (kernelRun.sl.dma21_1 c f5 f7 s7))
    (kernelRun.sl.dma22_1 c f5 f7 s7))
    (kernelRun.sl.dma23_1 c f5 f7 s7))
    (kernelRun.sl.dma24_1 c f5 f7 s7))
    (kernelRun.sl.dma25_1 c f5 f7 s7))
    (kernelRun.sl.dma26_1 c f5 f7 s7))
    (kernelRun.sl.dma27_1 c f5 f7 s7))
    (kernelRun.sl.dma28_1 c f5 f7 s7))
    (kernelRun.sl.dma29_1 c f5 f7 s7))
    (kernelRun.sl.dma30_1 c f5 f7 s7))
    (kernelRun.sl.dma31_1 c f5 f7 s7))
    (kernelRun.sl.dma32_1 c f5 f7 s7))
theorem rawKS_eq (f5 : Bf (F := F) c main_v7) (f7 : Bf (F := F) c main_arg7) (s5 : Bf (F := F) c cc0_scratch5) (s7 : Bf (F := F) c cc0_scratch7) :
    rawKS c f5 f7 s5 s7 = bufKS c f5 f7 s5 s7 := rfl

def rawVS (f6 : Bf (F := F) c main_v8) (f7 : Bf (F := F) c main_arg7) (s6 : Bf (F := F) c cc0_scratch6) (s7 : Bf (F := F) c cc0_scratch7) :
    (Memref.whole cc0_scratch6).view.ty.Contents (Elt F) :=
  (writeRow (Memref.whole cc0_scratch6) squeezes_S1x2x1152_S2x1152 31 (by omega) (writeRow (Memref.whole cc0_scratch6) squeezes_S1x2x1152_S2x1152 30 (by omega) (writeRow (Memref.whole cc0_scratch6) squeezes_S1x2x1152_S2x1152 29 (by omega) (writeRow (Memref.whole cc0_scratch6) squeezes_S1x2x1152_S2x1152 28 (by omega) (writeRow (Memref.whole cc0_scratch6) squeezes_S1x2x1152_S2x1152 27 (by omega) (writeRow (Memref.whole cc0_scratch6) squeezes_S1x2x1152_S2x1152 26 (by omega) (writeRow (Memref.whole cc0_scratch6) squeezes_S1x2x1152_S2x1152 25 (by omega) (writeRow (Memref.whole cc0_scratch6) squeezes_S1x2x1152_S2x1152 24 (by omega) (writeRow (Memref.whole cc0_scratch6) squeezes_S1x2x1152_S2x1152 23 (by omega) (writeRow (Memref.whole cc0_scratch6) squeezes_S1x2x1152_S2x1152 22 (by omega) (writeRow (Memref.whole cc0_scratch6) squeezes_S1x2x1152_S2x1152 21 (by omega) (writeRow (Memref.whole cc0_scratch6) squeezes_S1x2x1152_S2x1152 20 (by omega) (writeRow (Memref.whole cc0_scratch6) squeezes_S1x2x1152_S2x1152 19 (by omega) (writeRow (Memref.whole cc0_scratch6) squeezes_S1x2x1152_S2x1152 18 (by omega) (writeRow (Memref.whole cc0_scratch6) squeezes_S1x2x1152_S2x1152 17 (by omega) (writeRow (Memref.whole cc0_scratch6) squeezes_S1x2x1152_S2x1152 16 (by omega) (writeRow (Memref.whole cc0_scratch6) squeezes_S1x2x1152_S2x1152 15 (by omega) (writeRow (Memref.whole cc0_scratch6) squeezes_S1x2x1152_S2x1152 14 (by omega) (writeRow (Memref.whole cc0_scratch6) squeezes_S1x2x1152_S2x1152 13 (by omega) (writeRow (Memref.whole cc0_scratch6) squeezes_S1x2x1152_S2x1152 12 (by omega) (writeRow (Memref.whole cc0_scratch6) squeezes_S1x2x1152_S2x1152 11 (by omega) (writeRow (Memref.whole cc0_scratch6) squeezes_S1x2x1152_S2x1152 10 (by omega) (writeRow (Memref.whole cc0_scratch6) squeezes_S1x2x1152_S2x1152 9 (by omega) (writeRow (Memref.whole cc0_scratch6) squeezes_S1x2x1152_S2x1152 8 (by omega) (writeRow (Memref.whole cc0_scratch6) squeezes_S1x2x1152_S2x1152 7 (by omega) (writeRow (Memref.whole cc0_scratch6) squeezes_S1x2x1152_S2x1152 6 (by omega) (writeRow (Memref.whole cc0_scratch6) squeezes_S1x2x1152_S2x1152 5 (by omega) (writeRow (Memref.whole cc0_scratch6) squeezes_S1x2x1152_S2x1152 4 (by omega) (writeRow (Memref.whole cc0_scratch6) squeezes_S1x2x1152_S2x1152 3 (by omega) (writeRow (Memref.whole cc0_scratch6) squeezes_S1x2x1152_S2x1152 2 (by omega) (writeRow (Memref.whole cc0_scratch6) squeezes_S1x2x1152_S2x1152 1 (by omega) (writeRow (Memref.whole cc0_scratch6) squeezes_S1x2x1152_S2x1152 0 (by omega) s6
    (kernelRun.sl.dma1_3 c f6 f7 s7))
    (kernelRun.sl.dma2_3 c f6 f7 s7))
    (kernelRun.sl.dma3_3 c f6 f7 s7))
    (kernelRun.sl.dma4_3 c f6 f7 s7))
    (kernelRun.sl.dma5_3 c f6 f7 s7))
    (kernelRun.sl.dma6_3 c f6 f7 s7))
    (kernelRun.sl.dma7_3 c f6 f7 s7))
    (kernelRun.sl.dma8_3 c f6 f7 s7))
    (kernelRun.sl.dma9_3 c f6 f7 s7))
    (kernelRun.sl.dma10_3 c f6 f7 s7))
    (kernelRun.sl.dma11_3 c f6 f7 s7))
    (kernelRun.sl.dma12_3 c f6 f7 s7))
    (kernelRun.sl.dma13_3 c f6 f7 s7))
    (kernelRun.sl.dma14_3 c f6 f7 s7))
    (kernelRun.sl.dma15_3 c f6 f7 s7))
    (kernelRun.sl.dma16_3 c f6 f7 s7))
    (kernelRun.sl.dma17_3 c f6 f7 s7))
    (kernelRun.sl.dma18_3 c f6 f7 s7))
    (kernelRun.sl.dma19_3 c f6 f7 s7))
    (kernelRun.sl.dma20_3 c f6 f7 s7))
    (kernelRun.sl.dma21_3 c f6 f7 s7))
    (kernelRun.sl.dma22_3 c f6 f7 s7))
    (kernelRun.sl.dma23_3 c f6 f7 s7))
    (kernelRun.sl.dma24_3 c f6 f7 s7))
    (kernelRun.sl.dma25_3 c f6 f7 s7))
    (kernelRun.sl.dma26_3 c f6 f7 s7))
    (kernelRun.sl.dma27_3 c f6 f7 s7))
    (kernelRun.sl.dma28_3 c f6 f7 s7))
    (kernelRun.sl.dma29_3 c f6 f7 s7))
    (kernelRun.sl.dma30_3 c f6 f7 s7))
    (kernelRun.sl.dma31_3 c f6 f7 s7))
    (kernelRun.sl.dma32_3 c f6 f7 s7))
theorem rawVS_eq (f6 : Bf (F := F) c main_v8) (f7 : Bf (F := F) c main_arg7) (s6 : Bf (F := F) c cc0_scratch6) (s7 : Bf (F := F) c cc0_scratch7) :
    rawVS c f6 f7 s6 s7 = bufVS c f6 f7 s6 s7 := rfl

theorem ldBlk_inb (b k : ℕ) (hb : b < 32) (hk : k < 2) : ∀ a, (![b, k * 64, 0] : Fin 3 → ℕ) a + S1x64x1152.size a ≤ S32x128x1152.size a := by
  intro a; fin_cases a <;> simp [S1x64x1152, S32x128x1152] <;> omega
theorem ldScl_inb (b k : ℕ) (hb : b < 32) (hk : k < 2) : ∀ a, (![b, k, 0] : Fin 3 → ℕ) a + S1x1x1152.size a ≤ S32x2x1152.size a := by
  intro a; fin_cases a <;> simp [S1x1x1152, S32x2x1152] <;> omega
theorem ldRow_inb (b k : ℕ) (hb : b < 32) (hk : k < 2) : ∀ a, (![b, k * 64] : Fin 2 → ℕ) a + S1x64.size a ≤ S32x128.size a := by
  intro a; fin_cases a <;> simp [S1x64, S32x128] <;> omega
theorem ldX_inb (b : ℕ) (hb : b < 32) : ∀ a, (![b, 0, 0] : Fin 3 → ℕ) a + S1x16x64.size a ≤ S32x16x64.size a := by
  intro a; fin_cases a <;> simp [S1x16x64, S32x16x64] <;> omega
theorem stO_inb (b h : ℕ) (hb : b < 32) (hh : h < 2) : ∀ a, (![b, h * 8, 0] : Fin 3 → ℕ) a + S1x8x64.size a ≤ S32x16x64.size a := by
  intro a; fin_cases a <;> simp [S1x8x64, S32x16x64] <;> omega

section
variable (f0 : Bf (F := F) c main_v0) (f1 : Bf (F := F) c main_v1) (f2 : Bf (F := F) c main_v2) (f3 : Bf (F := F) c main_v4) (f4 : Bf (F := F) c main_v6)
  (f5 : Bf (F := F) c main_v7) (f6 : Bf (F := F) c main_v8) (f7 : Bf (F := F) c main_arg7)
  (s0 : Bf (F := F) c cc0_scratch0) (s1 : Bf (F := F) c cc0_scratch1) (s2 : Bf (F := F) c cc0_scratch2) (s3 : Bf (F := F) c cc0_scratch3) (s4 : Bf (F := F) c cc0_scratch4)
  (s5 : Bf (F := F) c cc0_scratch5) (s6 : Bf (F := F) c cc0_scratch6) (s7 : Bf (F := F) c cc0_scratch7)

/-- What the kernel loads for row `b` and head `k`: codes and scales of the windows, the new rows, the queries. -/
def ldK (b k : ℕ) (hb : b < 32) (hk : k < 2) : Vec F S1x64x1152 .fp8e4m3 :=
  View.readAt (Elt F) (Memref.whole cc0_scratch3).view (Rect.unit (s := S32x128x1152) ![b, k * 64, 0] S1x64x1152.size (ldBlk_inb b k hb hk)).toLoadRect (rawK c f3 f7 s3 s7)
def ldV (b k : ℕ) (hb : b < 32) (hk : k < 2) : Vec F S1x64x1152 .fp8e4m3 :=
  View.readAt (Elt F) (Memref.whole cc0_scratch4).view (Rect.unit (s := S32x128x1152) ![b, k * 64, 0] S1x64x1152.size (ldBlk_inb b k hb hk)).toLoadRect (rawV c f4 f7 s4 s7)
def ldKS (b k : ℕ) (hb : b < 32) (hk : k < 2) : Vec F S1x1x1152 .f32 :=
  View.readAt (Elt F) (Memref.whole cc0_scratch5).view (Rect.unit (s := S32x2x1152) ![b, k, 0] S1x1x1152.size (ldScl_inb b k hb hk)).toLoadRect (rawKS c f5 f7 s5 s7)
def ldVS (b k : ℕ) (hb : b < 32) (hk : k < 2) : Vec F S1x1x1152 .f32 :=
  View.readAt (Elt F) (Memref.whole cc0_scratch6).view (Rect.unit (s := S32x2x1152) ![b, k, 0] S1x1x1152.size (ldScl_inb b k hb hk)).toLoadRect (rawVS c f6 f7 s6 s7)
def ldKD (b k : ℕ) (hb : b < 32) (hk : k < 2) : Vec F S1x64 .f32 :=
  (Memref.whole cc0_scratch13).view.readCov (kernelRun.sl.S13_1 c f1 s1) (Rect.unit (s := S32x128) ![b, k * 64] S1x64.size (ldRow_inb b k hb hk)).toLoadRect
def ldVD (b k : ℕ) (hb : b < 32) (hk : k < 2) : Vec F S1x64 .f32 :=
  (Memref.whole cc0_scratch14).view.readCov (kernelRun.sl.S14_1 c f2 s2) (Rect.unit (s := S32x128) ![b, k * 64] S1x64.size (ldRow_inb b k hb hk)).toLoadRect
def ldX (b : ℕ) (hb : b < 32) : Vec F S1x16x64 .bf16 :=
  View.readAt (Elt F) (Memref.whole cc0_scratch0).view (Rect.unit (s := S32x16x64) ![b, 0, 0] S1x16x64.size (ldX_inb b hb)).toLoadRect
    (View.write (Elt F) (Memref.whole cc0_scratch0).view s0 (kernelRun.sl.dma0_1 c f0) Finset.univ)

/-- The eight output rows of head 0 and of head 1, from the loads. -/
def gA (mask : IVec S8x1152 1) (x : Vec F S1x16x64 .bf16) (kw : Vec F S1x64x1152 .fp8e4m3) (ks : Vec F S1x1x1152 .f32) (kd : Vec F S1x64 .f32)
    (vs : Vec F S1x1x1152 .f32) (vw : Vec F S1x64x1152 .fp8e4m3) (vd : Vec F S1x64 .f32) : FVec F S1x8x64 .bf16 :=
  k0_pay65 (k0_pay54 mask x kw ks kd) (k0_pay55 mask x kw ks kd) (k0_pay56 mask x kw ks kd) vs vw vd
def gB (mask : IVec S8x1152 1) (x : Vec F S1x16x64 .bf16) (kw : Vec F S1x64x1152 .fp8e4m3) (ks : Vec F S1x1x1152 .f32) (kd : Vec F S1x64 .f32)
    (vs : Vec F S1x1x1152 .f32) (vw : Vec F S1x64x1152 .fp8e4m3) (vd : Vec F S1x64 .f32) : FVec F S1x8x64 .bf16 :=
  k0_pay68 (k0_pay64 mask (k0_pay57 x) (k0_pay58 x kw) ks kd) (k0_pay66 (k0_pay62 mask (k0_pay57 x) (k0_pay58 x kw) ks kd) vs vw)
    (k0_pay67 (k0_pay63 mask (k0_pay57 x) (k0_pay58 x kw) ks kd) vd)

/-- What is stored for row `b`, head 0 and head 1. -/
def outA (b : ℕ) (hb : b < 32) : FVec F S1x8x64 .bf16 :=
  gA (k0_pay48 (F := F) (lenAt c f7 s7 ⟨b, hb⟩)) (ldX c f0 s0 b hb) (ldK c f3 f7 s3 s7 b 0 hb (by omega)) (ldKS c f5 f7 s5 s7 b 0 hb (by omega)) (ldKD c f1 s1 b 0 hb (by omega))
    (ldVS c f6 f7 s6 s7 b 0 hb (by omega)) (ldV c f4 f7 s4 s7 b 0 hb (by omega)) (ldVD c f2 s2 b 0 hb (by omega))
def outB (b : ℕ) (hb : b < 32) : FVec F S1x8x64 .bf16 :=
  gB (k0_pay48 (F := F) (lenAt c f7 s7 ⟨b, hb⟩)) (ldX c f0 s0 b hb) (ldK c f3 f7 s3 s7 b 1 hb (by omega)) (ldKS c f5 f7 s5 s7 b 1 hb (by omega)) (ldKD c f1 s1 b 1 hb (by omega))
    (ldVS c f6 f7 s6 s7 b 1 hb (by omega)) (ldV c f4 f7 s4 s7 b 1 hb (by omega)) (ldVD c f2 s2 b 1 hb (by omega))

/-- The stores of the attention output, newest first, once rows `0 … n - 1` are done. -/
def pieces : (n : ℕ) → n ≤ 32 → List (View.Piece (Elt F) S32x16x64 .bf16)
  | 0, _ => []
  | n + 1, h => ⟨Rect.unit (s := S32x16x64) ![n, 1 * 8, 0] S1x8x64.size (stO_inb n 1 h (by omega)), outB c f0 f1 f2 f3 f4 f5 f6 f7 s0 s1 s2 s3 s4 s5 s6 s7 n h⟩
      :: ⟨Rect.unit (s := S32x16x64) ![n, 0 * 8, 0] S1x8x64.size (stO_inb n 0 h (by omega)), outA c f0 f1 f2 f3 f4 f5 f6 f7 s0 s1 s2 s3 s4 s5 s6 s7 n h⟩
      :: pieces n (Nat.le_of_succ_le h)

end
end Loads

end Cert.KernelIdeal.Hand

end
-- ==== Proof.KernelIdealPieces.lean ====
/-
  The run of the kernel body stores, into each result, the pieces described by the loads.
-/
module
public import proofs.«01_k».proof.Proof.KernelIdealLoads
@[expose] public section
set_option maxRecDepth 100000
noncomputable section
namespace Cert.KernelIdeal.Hand
open Cert.KernelIdeal Cert.KernelIdeal.Gen
open Idealize.ShloMosaic Idealize.ShloMosaic.TcCoe
variable {F : FTy → Type} [FloatOps F] (c : Dev nD)
variable (f0 : Bf (F := F) c main_v0) (f1 : Bf (F := F) c main_v1) (f2 : Bf (F := F) c main_v2) (f3 : Bf (F := F) c main_v4) (f4 : Bf (F := F) c main_v6)
  (f5 : Bf (F := F) c main_v7) (f6 : Bf (F := F) c main_v8) (f7 : Bf (F := F) c main_arg7)
  (s0 : Bf (F := F) c cc0_scratch0) (s1 : Bf (F := F) c cc0_scratch1) (s2 : Bf (F := F) c cc0_scratch2) (s3 : Bf (F := F) c cc0_scratch3) (s4 : Bf (F := F) c cc0_scratch4)
  (s5 : Bf (F := F) c cc0_scratch5) (s6 : Bf (F := F) c cc0_scratch6) (s7 : Bf (F := F) c cc0_scratch7) (s8 : Bf (F := F) c cc0_scratch8) (s9 : Bf (F := F) c cc0_scratch9) (s10 : Bf (F := F) c cc0_scratch10)
  (s11 : Bf (F := F) c cc0_scratch11) (s12 : Bf (F := F) c cc0_scratch12) (s13 : Bf (F := F) c cc0_scratch13) (s14 : Bf (F := F) c cc0_scratch14) (s15 : Bf (F := F) c cc0_scratch15)
  (o0 : Bf (F := F) c main_v9_0) (o1 : Bf (F := F) c main_v9_1) (o2 : Bf (F := F) c main_v9_2) (o3 : Bf (F := F) c main_v9_3) (o4 : Bf (F := F) c main_v9_4)
theorem pieces_1 : kernelRun.sl.S8_2 c f0 f1 f2 f3 f4 f5 f6 f7 s0 s1 s2 s3 s4 s5 s6 s7 = pieces c f0 f1 f2 f3 f4 f5 f6 f7 s0 s1 s2 s3 s4 s5 s6 s7 1 (by omega) :=
  congrArg₂ List.cons rfl (congrArg₂ List.cons rfl (rfl))
theorem pieces_2 : kernelRun.sl.S8_4 c f0 f1 f2 f3 f4 f5 f6 f7 s0 s1 s2 s3 s4 s5 s6 s7 = pieces c f0 f1 f2 f3 f4 f5 f6 f7 s0 s1 s2 s3 s4 s5 s6 s7 2 (by omega) :=
  congrArg₂ List.cons rfl (congrArg₂ List.cons rfl (pieces_1 c f0 f1 f2 f3 f4 f5 f6 f7 s0 s1 s2 s3 s4 s5 s6 s7))
theorem pieces_3 : kernelRun.sl.S8_6 c f0 f1 f2 f3 f4 f5 f6 f7 s0 s1 s2 s3 s4 s5 s6 s7 = pieces c f0 f1 f2 f3 f4 f5 f6 f7 s0 s1 s2 s3 s4 s5 s6 s7 3 (by omega) :=
  congrArg₂ List.cons rfl (congrArg₂ List.cons rfl (pieces_2 c f0 f1 f2 f3 f4 f5 f6 f7 s0 s1 s2 s3 s4 s5 s6 s7))
theorem pieces_4 : kernelRun.sl.S8_8 c f0 f1 f2 f3 f4 f5 f6 f7 s0 s1 s2 s3 s4 s5 s6 s7 = pieces c f0 f1 f2 f3 f4 f5 f6 f7 s0 s1 s2 s3 s4 s5 s6 s7 4 (by omega) :=
  congrArg₂ List.cons rfl (congrArg₂ List.cons rfl (pieces_3 c f0 f1 f2 f3 f4 f5 f6 f7 s0 s1 s2 s3 s4 s5 s6 s7))
theorem pieces_5 : kernelRun.sl.S8_10 c f0 f1 f2 f3 f4 f5 f6 f7 s0 s1 s2 s3 s4 s5 s6 s7 = pieces c f0 f1 f2 f3 f4 f5 f6 f7 s0 s1 s2 s3 s4 s5 s6 s7 5 (by omega) :=
  congrArg₂ List.cons rfl (congrArg₂ List.cons rfl (pieces_4 c f0 f1 f2 f3 f4 f5 f6 f7 s0 s1 s2 s3 s4 s5 s6 s7))
theorem pieces_6 : kernelRun.sl.S8_12 c f0 f1 f2 f3 f4 f5 f6 f7 s0 s1 s2 s3 s4 s5 s6 s7 = pieces c f0 f1 f2 f3 f4 f5 f6 f7 s0 s1 s2 s3 s4 s5 s6 s7 6 (by omega) :=
  congrArg₂ List.cons rfl (congrArg₂ List.cons rfl (pieces_5 c f0 f1 f2 f3 f4 f5 f6 f7 s0 s1 s2 s3 s4 s5 s6 s7))
theorem pieces_7 : kernelRun.sl.S8_14 c f0 f1 f2 f3 f4 f5 f6 f7 s0 s1 s2 s3 s4 s5 s6 s7 = pieces c f0 f1 f2 f3 f4 f5 f6 f7 s0 s1 s2 s3 s4 s5 s6 s7 7 (by omega) :=
  congrArg₂ List.cons rfl (congrArg₂ List.cons rfl (pieces_6 c f0 f1 f2 f3 f4 f5 f6 f7 s0 s1 s2 s3 s4 s5 s6 s7))
theorem pieces_8 : kernelRun.sl.S8_16 c f0 f1 f2 f3 f4 f5 f6 f7 s0 s1 s2 s3 s4 s5 s6 s7 = pieces c f0 f1 f2 f3 f4 f5 f6 f7 s0 s1 s2 s3 s4 s5 s6 s7 8 (by omega) :=
  congrArg₂ List.cons rfl (congrArg₂ List.cons rfl (pieces_7 c f0 f1 f2 f3 f4 f5 f6 f7 s0 s1 s2 s3 s4 s5 s6 s7))
theorem pieces_9 : kernelRun.sl.S8_18 c f0 f1 f2 f3 f4 f5 f6 f7 s0 s1 s2 s3 s4 s5 s6 s7 = pieces c f0 f1 f2 f3 f4 f5 f6 f7 s0 s1 s2 s3 s4 s5 s6 s7 9 (by omega) :=
  congrArg₂ List.cons rfl (congrArg₂ List.cons rfl (pieces_8 c f0 f1 f2 f3 f4 f5 f6 f7 s0 s1 s2 s3 s4 s5 s6 s7))
theorem pieces_10 : kernelRun.sl.S8_20 c f0 f1 f2 f3 f4 f5 f6 f7 s0 s1 s2 s3 s4 s5 s6 s7 = pieces c f0 f1 f2 f3 f4 f5 f6 f7 s0 s1 s2 s3 s4 s5 s6 s7 10 (by omega) :=
  congrArg₂ List.cons rfl (congrArg₂ List.cons rfl (pieces_9 c f0 f1 f2 f3 f4 f5 f6 f7 s0 s1 s2 s3 s4 s5 s6 s7))
theorem pieces_11 : kernelRun.sl.S8_22 c f0 f1 f2 f3 f4 f5 f6 f7 s0 s1 s2 s3 s4 s5 s6 s7 = pieces c f0 f1 f2 f3 f4 f5 f6 f7 s0 s1 s2 s3 s4 s5 s6 s7 11 (by omega) :=
  congrArg₂ List.cons rfl (congrArg₂ List.cons rfl (pieces_10 c f0 f1 f2 f3 f4 f5 f6 f7 s0 s1 s2 s3 s4 s5 s6 s7))
theorem pieces_12 : kernelRun.sl.S8_24 c f0 f1 f2 f3 f4 f5 f6 f7 s0 s1 s2 s3 s4 s5 s6 s7 = pieces c f0 f1 f2 f3 f4 f5 f6 f7 s0 s1 s2 s3 s4 s5 s6 s7 12 (by omega) :=
  congrArg₂ List.cons rfl (congrArg₂ List.cons rfl (pieces_11 c f0 f1 f2 f3 f4 f5 f6 f7 s0 s1 s2 s3 s4 s5 s6 s7))
theorem pieces_13 : kernelRun.sl.S8_26 c f0 f1 f2 f3 f4 f5 f6 f7 s0 s1 s2 s3 s4 s5 s6 s7 = pieces c f0 f1 f2 f3 f4 f5 f6 f7 s0 s1 s2 s3 s4 s5 s6 s7 13 (by omega) :=
  congrArg₂ List.cons rfl (congrArg₂ List.cons rfl (pieces_12 c f0 f1 f2 f3 f4 f5 f6 f7 s0 s1 s2 s3 s4 s5 s6 s7))
theorem pieces_14 : kernelRun.sl.S8_28 c f0 f1 f2 f3 f4 f5 f6 f7 s0 s1 s2 s3 s4 s5 s6 s7 = pieces c f0 f1 f2 f3 f4 f5 f6 f7 s0 s1 s2 s3 s4 s5 s6 s7 14 (by omega) :=
  congrArg₂ List.cons rfl (congrArg₂ List.cons rfl (pieces_13 c f0 f1 f2 f3 f4 f5 f6 f7 s0 s1 s2 s3 s4 s5 s6 s7))
theorem pieces_15 : kernelRun.sl.S8_30 c f0 f1 f2 f3 f4 f5 f6 f7 s0 s1 s2 s3 s4 s5 s6 s7 = pieces c f0 f1 f2 f3 f4 f5 f6 f7 s0 s1 s2 s3 s4 s5 s6 s7 15 (by omega) :=
  congrArg₂ List.cons rfl (congrArg₂ List.cons rfl (pieces_14 c f0 f1 f2 f3 f4 f5 f6 f7 s0 s1 s2 s3 s4 s5 s6 s7))
theorem pieces_16 : kernelRun.sl.S8_32 c f0 f1 f2 f3 f4 f5 f6 f7 s0 s1 s2 s3 s4 s5 s6 s7 = pieces c f0 f1 f2 f3 f4 f5 f6 f7 s0 s1 s2 s3 s4 s5 s6 s7 16 (by omega) :=
  congrArg₂ List.cons rfl (congrArg₂ List.cons rfl (pieces_15 c f0 f1 f2 f3 f4 f5 f6 f7 s0 s1 s2 s3 s4 s5 s6 s7))
theorem pieces_17 : kernelRun.sl.S8_34 c f0 f1 f2 f3 f4 f5 f6 f7 s0 s1 s2 s3 s4 s5 s6 s7 = pieces c f0 f1 f2 f3 f4 f5 f6 f7 s0 s1 s2 s3 s4 s5 s6 s7 17 (by omega) :=
  congrArg₂ List.cons rfl (congrArg₂ List.cons rfl (pieces_16 c f0 f1 f2 f3 f4 f5 f6 f7 s0 s1 s2 s3 s4 s5 s6 s7))
theorem pieces_18 : kernelRun.sl.S8_36 c f0 f1 f2 f3 f4 f5 f6 f7 s0 s1 s2 s3 s4 s5 s6 s7 = pieces c f0 f1 f2 f3 f4 f5 f6 f7 s0 s1 s2 s3 s4 s5 s6 s7 18 (by omega) :=
  congrArg₂ List.cons rfl (congrArg₂ List.cons rfl (pieces_17 c f0 f1 f2 f3 f4 f5 f6 f7 s0 s1 s2 s3 s4 s5 s6 s7))
theorem pieces_19 : kernelRun.sl.S8_38 c f0 f1 f2 f3 f4 f5 f6 f7 s0 s1 s2 s3 s4 s5 s6 s7 = pieces c f0 f1 f2 f3 f4 f5 f6 f7 s0 s1 s2 s3 s4 s5 s6 s7 19 (by omega) :=
  congrArg₂ List.cons rfl (congrArg₂ List.cons rfl (pieces_18 c f0 f1 f2 f3 f4 f5 f6 f7 s0 s1 s2 s3 s4 s5 s6 s7))
theorem pieces_20 : kernelRun.sl.S8_40 c f0 f1 f2 f3 f4 f5 f6 f7 s0 s1 s2 s3 s4 s5 s6 s7 = pieces c f0 f1 f2 f3 f4 f5 f6 f7 s0 s1 s2 s3 s4 s5 s6 s7 20 (by omega) :=
  congrArg₂ List.cons rfl (congrArg₂ List.cons rfl (pieces_19 c f0 f1 f2 f3 f4 f5 f6 f7 s0 s1 s2 s3 s4 s5 s6 s7))
theorem pieces_21 : kernelRun.sl.S8_42 c f0 f1 f2 f3 f4 f5 f6 f7 s0 s1 s2 s3 s4 s5 s6 s7 = pieces c f0 f1 f2 f3 f4 f5 f6 f7 s0 s1 s2 s3 s4 s5 s6 s7 21 (by omega) :=
  congrArg₂ List.cons rfl (congrArg₂ List.cons rfl (pieces_20 c f0 f1 f2 f3 f4 f5 f6 f7 s0 s1 s2 s3 s4 s5 s6 s7))
theorem pieces_22 : kernelRun.sl.S8_44 c f0 f1 f2 f3 f4 f5 f6 f7 s0 s1 s2 s3 s4 s5 s6 s7 = pieces c f0 f1 f2 f3 f4 f5 f6 f7 s0 s1 s2 s3 s4 s5 s6 s7 22 (by omega) :=
  congrArg₂ List.cons rfl (congrArg₂ List.cons rfl (pieces_21 c f0 f1 f2 f3 f4 f5 f6 f7 s0 s1 s2 s3 s4 s5 s6 s7))
theorem pieces_23 : kernelRun.sl.S8_46 c f0 f1 f2 f3 f4 f5 f6 f7 s0 s1 s2 s3 s4 s5 s6 s7 = pieces c f0 f1 f2 f3 f4 f5 f6 f7 s0 s1 s2 s3 s4 s5 s6 s7 23 (by omega) :=
  congrArg₂ List.cons rfl (congrArg₂ List.cons rfl (pieces_22 c f0 f1 f2 f3 f4 f5 f6 f7 s0 s1 s2 s3 s4 s5 s6 s7))
theorem pieces_24 : kernelRun.sl.S8_48 c f0 f1 f2 f3 f4 f5 f6 f7 s0 s1 s2 s3 s4 s5 s6 s7 = pieces c f0 f1 f2 f3 f4 f5 f6 f7 s0 s1 s2 s3 s4 s5 s6 s7 24 (by omega) :=
  congrArg₂ List.cons rfl (congrArg₂ List.cons rfl (pieces_23 c f0 f1 f2 f3 f4 f5 f6 f7 s0 s1 s2 s3 s4 s5 s6 s7))
theorem pieces_25 : kernelRun.sl.S8_50 c f0 f1 f2 f3 f4 f5 f6 f7 s0 s1 s2 s3 s4 s5 s6 s7 = pieces c f0 f1 f2 f3 f4 f5 f6 f7 s0 s1 s2 s3 s4 s5 s6 s7 25 (by omega) :=
  congrArg₂ List.cons rfl (congrArg₂ List.cons rfl (pieces_24 c f0 f1 f2 f3 f4 f5 f6 f7 s0 s1 s2 s3 s4 s5 s6 s7))
theorem pieces_26 : kernelRun.sl.S8_52 c f0 f1 f2 f3 f4 f5 f6 f7 s0 s1 s2 s3 s4 s5 s6 s7 = pieces c f0 f1 f2 f3 f4 f5 f6 f7 s0 s1 s2 s3 s4 s5 s6 s7 26 (by omega) :=
  congrArg₂ List.cons rfl (congrArg₂ List.cons rfl (pieces_25 c f0 f1 f2 f3 f4 f5 f6 f7 s0 s1 s2 s3 s4 s5 s6 s7))
theorem pieces_27 : kernelRun.sl.S8_54 c f0 f1 f2 f3 f4 f5 f6 f7 s0 s1 s2 s3 s4 s5 s6 s7 = pieces c f0 f1 f2 f3 f4 f5 f6 f7 s0 s1 s2 s3 s4 s5 s6 s7 27 (by omega) :=
  congrArg₂ List.cons rfl (congrArg₂ List.cons rfl (pieces_26 c f0 f1 f2 f3 f4 f5 f6 f7 s0 s1 s2 s3 s4 s5 s6 s7))
theorem pieces_28 : kernelRun.sl.S8_56 c f0 f1 f2 f3 f4 f5 f6 f7 s0 s1 s2 s3 s4 s5 s6 s7 = pieces c f0 f1 f2 f3 f4 f5 f6 f7 s0 s1 s2 s3 s4 s5 s6 s7 28 (by omega) :=
  congrArg₂ List.cons rfl (congrArg₂ List.cons rfl (pieces_27 c f0 f1 f2 f3 f4 f5 f6 f7 s0 s1 s2 s3 s4 s5 s6 s7))
theorem pieces_29 : kernelRun.sl.S8_58 c f0 f1 f2 f3 f4 f5 f6 f7 s0 s1 s2 s3 s4 s5 s6 s7 = pieces c f0 f1 f2 f3 f4 f5 f6 f7 s0 s1 s2 s3 s4 s5 s6 s7 29 (by omega) :=
  congrArg₂ List.cons rfl (congrArg₂ List.cons rfl (pieces_28 c f0 f1 f2 f3 f4 f5 f6 f7 s0 s1 s2 s3 s4 s5 s6 s7))
theorem pieces_30 : kernelRun.sl.S8_60 c f0 f1 f2 f3 f4 f5 f6 f7 s0 s1 s2 s3 s4 s5 s6 s7 = pieces c f0 f1 f2 f3 f4 f5 f6 f7 s0 s1 s2 s3 s4 s5 s6 s7 30 (by omega) :=
  congrArg₂ List.cons rfl (congrArg₂ List.cons rfl (pieces_29 c f0 f1 f2 f3 f4 f5 f6 f7 s0 s1 s2 s3 s4 s5 s6 s7))
theorem pieces_31 : kernelRun.sl.S8_62 c f0 f1 f2 f3 f4 f5 f6 f7 s0 s1 s2 s3 s4 s5 s6 s7 = pieces c f0 f1 f2 f3 f4 f5 f6 f7 s0 s1 s2 s3 s4 s5 s6 s7 31 (by omega) :=
  congrArg₂ List.cons rfl (congrArg₂ List.cons rfl (pieces_30 c f0 f1 f2 f3 f4 f5 f6 f7 s0 s1 s2 s3 s4 s5 s6 s7))

/-- The last two stores and the copy to the result. -/
theorem run_out : (kernelRun c f0 f1 f2 f3 f4 f5 f6 f7 o0 o1 o2 o3 o4 s0 s1 s2 s3 s4 s5 s6 s7 s8 s9 s10 s11 s12 s13 s14 s15).1.1 = View.write (Elt F) (Memref.whole main_v9_0).view o0
    (ReadAs.same.apply (View.read (Elt F) (Memref.whole cc0_scratch8).view ((Memref.whole cc0_scratch8).view.writes (Elt F) s8
      (pieces c f0 f1 f2 f3 f4 f5 f6 f7 s0 s1 s2 s3 s4 s5 s6 s7 32 le_rfl)))) Finset.univ := by
  rw [pieces, ← pieces_31]
  rfl

theorem run_q1 : (kernelRun c f0 f1 f2 f3 f4 f5 f6 f7 o0 o1 o2 o3 o4 s0 s1 s2 s3 s4 s5 s6 s7 s8 s9 s10 s11 s12 s13 s14 s15).1.2.1 = View.write (Elt F) (Memref.whole main_v9_1).view o1
    (ReadAs.same.apply (View.read (Elt F) (Memref.whole cc0_scratch9).view ((Memref.whole cc0_scratch9).view.writes (Elt F) s9
      (kernelRun.sl.S9_2 c f1 s1)))) Finset.univ := rfl

theorem run_q2 : (kernelRun c f0 f1 f2 f3 f4 f5 f6 f7 o0 o1 o2 o3 o4 s0 s1 s2 s3 s4 s5 s6 s7 s8 s9 s10 s11 s12 s13 s14 s15).1.2.2.1 = View.write (Elt F) (Memref.whole main_v9_2).view o2
    (ReadAs.same.apply (View.read (Elt F) (Memref.whole cc0_scratch10).view ((Memref.whole cc0_scratch10).view.writes (Elt F) s10
      (kernelRun.sl.S10_2 c f1 s1)))) Finset.univ := rfl

theorem run_q3 : (kernelRun c f0 f1 f2 f3 f4 f5 f6 f7 o0 o1 o2 o3 o4 s0 s1 s2 s3 s4 s5 s6 s7 s8 s9 s10 s11 s12 s13 s14 s15).1.2.2.2.1 = View.write (Elt F) (Memref.whole main_v9_3).view o3
    (ReadAs.same.apply (View.read (Elt F) (Memref.whole cc0_scratch11).view ((Memref.whole cc0_scratch11).view.writes (Elt F) s11
      (kernelRun.sl.S11_2 c f2 s2)))) Finset.univ := rfl

theorem run_q4 : (kernelRun c f0 f1 f2 f3 f4 f5 f6 f7 o0 o1 o2 o3 o4 s0 s1 s2 s3 s4 s5 s6 s7 s8 s9 s10 s11 s12 s13 s14 s15).1.2.2.2.2 = View.write (Elt F) (Memref.whole main_v9_4).view o4
    (ReadAs.same.apply (View.read (Elt F) (Memref.whole cc0_scratch12).view ((Memref.whole cc0_scratch12).view.writes (Elt F) s12
      (kernelRun.sl.S12_2 c f2 s2)))) Finset.univ := rfl

end Cert.KernelIdeal.Hand

end
-- ==== Proof.KernelIdealLoadsAt.lean ====
/-
  The loads of the kernel read at an index, and the attention output read row by row.
-/
module

public import proofs.«01_k».proof.Proof.KernelIdealLoads

@[expose] public section

noncomputable section

namespace Cert.KernelIdeal.Hand

open Cert.KernelIdeal Cert.KernelIdeal.Gen
open Idealize.ShloMosaic Idealize.ShloMosaic.TcCoe

variable {F : FTy → Type} [FloatOps F]

/-- A load at a unit-stride rectangle reads the view at the offset index. -/
theorem readAt_unit_apply {sp : Space} {s : Shape} {e : EltTy} (v : View sig .tc sp s e) {off size : Fin s.rank → ℕ}
    (inb : ∀ a, off a + size a ≤ s.size a) (g : v.ty.Contents (Elt F)) (x : (Rect.unit off size inb).shape.Idx) (y : s.Idx)
    (h : ∀ a, (y a).val = off a + (x a).val) :
    v.readAt (Elt F) (Rect.unit off size inb).toLoadRect g x = v.read (Elt F) g y := by
  show v.read (Elt F) g ((Rect.unit off size inb).emb x) = _
  refine congrArg (v.read (Elt F) g) (funext fun a => Fin.ext ?_)
  show off a + 1 * (x a).val = (y a).val
  rw [h a, Nat.one_mul]

/-- A block of a memref read through a squeeze is the memref at the offset index. -/
theorem read_squeeze_apply {sp : Space} {s : Shape} {e : EltTy} {R C : ℕ} (m : Memref sig .tc sp s e) {off : Fin s.rank → ℕ} {size : Fin s.rank → ℕ}
    (inb : ∀ a, off a + size a ≤ s.size a) (hq : (Rect.unit off size inb).shape.Squeezes ⟨2, ![R, C]⟩)
    (f : m.view.ty.Contents (Elt F)) (r : Fin R) (j : Fin C) (y : s.Idx)
    (h : ∀ a, (y a).val = off a + (Shape.reshapeEquiv hq.numel_eq (ix2 r j) a).val) :
    View.read (Elt F) ((m.slice (Rect.unit off size inb) (fun _ => rfl)).squeeze (⟨2, ![R, C]⟩ : Shape) hq).view f (ix2 r j)
      = m.view.read (Elt F) f y := by
  show m.view.read (Elt F) f ((Rect.unit off size inb).emb (Shape.reshapeEquiv hq.numel_eq (ix2 r j))) = _
  refine congrArg (m.view.read (Elt F) f) (funext fun a => Fin.ext ?_)
  show off a + 1 * _ = _
  rw [h a, Nat.one_mul]

/-- The newest store, read inside it and outside it, for arrays of three axes and of two. -/
theorem read_hd3 {sp : Space} {e : EltTy} {N R C : ℕ} (v : View sig .tc sp ⟨3, ![N, R, C]⟩ e) (f : v.ty.Contents (Elt F)) (o0 o1 o2 S0 S1 S2 : ℕ)
    (inb : ∀ a, (![o0, o1, o2] : Fin 3 → ℕ) a + (![S0, S1, S2] : Fin 3 → ℕ) a ≤ (![N, R, C] : Fin 3 → ℕ) a)
    (w : (⟨3, ![S0, S1, S2]⟩ : Shape).Idx → Elt F e) (L : List (View.Piece (Elt F) ⟨3, ![N, R, C]⟩ e))
    (a : Fin N) (b : Fin R) (c : Fin C) (x : Fin S0) (y : Fin S1) (z : Fin S2)
    (h0 : a.val = o0 + x.val) (h1 : b.val = o1 + y.val) (h2 : c.val = o2 + z.val) :
    v.read (Elt F) (v.writes (Elt F) f (⟨Rect.unit (s := ⟨3, ![N, R, C]⟩) ![o0, o1, o2] ![S0, S1, S2] inb, w⟩ :: L)) (ix3 a b c) = w (ix3 x y z) := by
  refine View.read_writes_cons_unit_of_mem v f inb w L (ix3 a b c) (ix3 x y z) rfl ?_
  intro i
  match i with
  | ⟨0, _⟩ => exact h0
  | ⟨1, _⟩ => exact h1
  | ⟨2, _⟩ => exact h2

theorem read_tl3 {sp : Space} {e : EltTy} {N R C : ℕ} (v : View sig .tc sp ⟨3, ![N, R, C]⟩ e) (f : v.ty.Contents (Elt F)) (o0 o1 o2 S0 S1 S2 : ℕ)
    (inb : ∀ a, (![o0, o1, o2] : Fin 3 → ℕ) a + (![S0, S1, S2] : Fin 3 → ℕ) a ≤ (![N, R, C] : Fin 3 → ℕ) a)
    (w : (⟨3, ![S0, S1, S2]⟩ : Shape).Idx → Elt F e) (L : List (View.Piece (Elt F) ⟨3, ![N, R, C]⟩ e))
    (a : Fin N) (b : Fin R) (c : Fin C) (h : a.val < o0 ∨ b.val < o1) :
    v.read (Elt F) (v.writes (Elt F) f (⟨Rect.unit (s := ⟨3, ![N, R, C]⟩) ![o0, o1, o2] ![S0, S1, S2] inb, w⟩ :: L)) (ix3 a b c)
      = v.read (Elt F) (v.writes (Elt F) f L) (ix3 a b c) := by
  rcases h with h | h
  · exact View.read_writes_cons_unit_of_not_mem v f inb w L (ix3 a b c) rfl (0 : Fin 3) (Or.inl h)
  · exact View.read_writes_cons_unit_of_not_mem v f inb w L (ix3 a b c) rfl (1 : Fin 3) (Or.inl h)

theorem read_hd2 {sp : Space} {e : EltTy} {N R : ℕ} (v : View sig .tc sp ⟨2, ![N, R]⟩ e) (f : v.ty.Contents (Elt F)) (o0 o1 S0 S1 : ℕ)
    (inb : ∀ a, (![o0, o1] : Fin 2 → ℕ) a + (![S0, S1] : Fin 2 → ℕ) a ≤ (![N, R] : Fin 2 → ℕ) a)
    (w : (⟨2, ![S0, S1]⟩ : Shape).Idx → Elt F e) (L : List (View.Piece (Elt F) ⟨2, ![N, R]⟩ e))
    (a : Fin N) (b : Fin R) (x : Fin S0) (y : Fin S1) (h0 : a.val = o0 + x.val) (h1 : b.val = o1 + y.val) :
    v.read (Elt F) (v.writes (Elt F) f (⟨Rect.unit (s := ⟨2, ![N, R]⟩) ![o0, o1] ![S0, S1] inb, w⟩ :: L)) (ix2 a b) = w (ix2 x y) := by
  refine View.read_writes_cons_unit_of_mem v f inb w L (ix2 a b) (ix2 x y) rfl ?_
  intro i
  match i with
  | ⟨0, _⟩ => exact h0
  | ⟨1, _⟩ => exact h1

theorem read_tl2 {sp : Space} {e : EltTy} {N R : ℕ} (v : View sig .tc sp ⟨2, ![N, R]⟩ e) (f : v.ty.Contents (Elt F)) (o0 o1 S0 S1 : ℕ)
    (inb : ∀ a, (![o0, o1] : Fin 2 → ℕ) a + (![S0, S1] : Fin 2 → ℕ) a ≤ (![N, R] : Fin 2 → ℕ) a)
    (w : (⟨2, ![S0, S1]⟩ : Shape).Idx → Elt F e) (L : List (View.Piece (Elt F) ⟨2, ![N, R]⟩ e))
    (a : Fin N) (b : Fin R) (h : a.val < o0) :
    v.read (Elt F) (v.writes (Elt F) f (⟨Rect.unit (s := ⟨2, ![N, R]⟩) ![o0, o1] ![S0, S1] inb, w⟩ :: L)) (ix2 a b)
      = v.read (Elt F) (v.writes (Elt F) f L) (ix2 a b) :=
  View.read_writes_cons_unit_of_not_mem v f inb w L (ix2 a b) rfl (0 : Fin 2) (Or.inl h)

section
variable (c : Dev nD)
variable (f0 : Bf (F := F) c main_v0) (f1 : Bf (F := F) c main_v1) (f2 : Bf (F := F) c main_v2) (f3 : Bf (F := F) c main_v4) (f4 : Bf (F := F) c main_v6)
  (f5 : Bf (F := F) c main_v7) (f6 : Bf (F := F) c main_v8) (f7 : Bf (F := F) c main_arg7)
  (s0 : Bf (F := F) c cc0_scratch0) (s1 : Bf (F := F) c cc0_scratch1) (s2 : Bf (F := F) c cc0_scratch2) (s3 : Bf (F := F) c cc0_scratch3) (s4 : Bf (F := F) c cc0_scratch4)
  (s5 : Bf (F := F) c cc0_scratch5) (s6 : Bf (F := F) c cc0_scratch6) (s7 : Bf (F := F) c cc0_scratch7)

/-- The position in the cache of position `j` of the window. -/
def winPos (w : BitVec 32) (j : Fin 1152) : Fin 16384 := ⟨(winBase w).toNat + j.val, by have := winBase_le w; omega⟩

theorem winBlk_apply (m : Memref sig .tc .hbm S32x128x16384 .fp8e4m3) (f : m.view.ty.Contents (Elt F)) (w : BitVec 32) (b : Fin 32)
    (r : Fin 128) (j : Fin 1152) :
    winBlk m f w b (ix2 r j) = m.view.read (Elt F) f (ix3 b r (winPos w j)) := by
  refine read_squeeze_apply m (winBlk_inb b w) squeezes_S1x128x1152_S128x1152 f r j _ ?_
  have e : Shape.reshapeEquiv squeezes_S1x128x1152_S128x1152.numel_eq (ix2 r j) = ix3 (0 : Fin 1) r j := ValueIdx.reshapeEquiv_ix2_1ab _ r j
  rw [e]
  intro a
  match a with
  | ⟨0, _⟩ => rfl
  | ⟨1, _⟩ => exact (Nat.zero_add _).symm
  | ⟨2, _⟩ => rfl

theorem winScl_apply (m : Memref sig .tc .hbm S32x2x16384 .f32) (f : m.view.ty.Contents (Elt F)) (w : BitVec 32) (b : Fin 32)
    (r : Fin 2) (j : Fin 1152) :
    winScl m f w b (ix2 r j) = m.view.read (Elt F) f (ix3 b r (winPos w j)) := by
  refine read_squeeze_apply m (winScl_inb b w) squeezes_S1x2x1152_S2x1152 f r j _ ?_
  have e : Shape.reshapeEquiv squeezes_S1x2x1152_S2x1152.numel_eq (ix2 r j) = ix3 (0 : Fin 1) r j := ValueIdx.reshapeEquiv_ix2_1ab _ r j
  rw [e]
  intro a
  match a with
  | ⟨0, _⟩ => rfl
  | ⟨1, _⟩ => exact (Nat.zero_add _).symm
  | ⟨2, _⟩ => rfl

theorem ldK_apply (b : Fin 32) (k : Fin 2) (i : Fin 64) (j : Fin 1152) :
    ldK c f3 f7 s3 s7 b.val k.val b.isLt k.isLt (ix3 0 i j)
      = (f3 : S32x128x16384.Idx → Elt F .fp8e4m3) (ix3 b ⟨k.val * 64 + i.val, by omega⟩ (winPos ((f7 : S32.Idx → Elt F .i32) (ix1 b)) j)) := by
  unfold ldK
  refine (readAt_unit_apply _ _ _ _ (ix3 b (⟨k.val * 64 + i.val, by omega⟩ : Fin 128) j) ?_).trans ?_
  · intro a
    match a with
    | ⟨0, _⟩ => rfl
    | ⟨1, _⟩ => rfl
    | ⟨2, _⟩ => exact (Nat.zero_add _).symm
  · rw [rawK_eq]
    refine (read_writeRows _ _ _ _ 32 le_rfl b _ j b.isLt).trans ?_
    rw [winBlk_apply, lenAt_eq]; rfl

theorem ldV_apply (b : Fin 32) (k : Fin 2) (i : Fin 64) (j : Fin 1152) :
    ldV c f4 f7 s4 s7 b.val k.val b.isLt k.isLt (ix3 0 i j)
      = (f4 : S32x128x16384.Idx → Elt F .fp8e4m3) (ix3 b ⟨k.val * 64 + i.val, by omega⟩ (winPos ((f7 : S32.Idx → Elt F .i32) (ix1 b)) j)) := by
  unfold ldV
  refine (readAt_unit_apply _ _ _ _ (ix3 b (⟨k.val * 64 + i.val, by omega⟩ : Fin 128) j) ?_).trans ?_
  · intro a
    match a with
    | ⟨0, _⟩ => rfl
    | ⟨1, _⟩ => rfl
    | ⟨2, _⟩ => exact (Nat.zero_add _).symm
  · rw [rawV_eq]
    refine (read_writeRows _ _ _ _ 32 le_rfl b _ j b.isLt).trans ?_
    rw [winBlk_apply, lenAt_eq]; rfl

theorem ldKS_apply (b : Fin 32) (k : Fin 2) (j : Fin 1152) :
    ldKS c f5 f7 s5 s7 b.val k.val b.isLt k.isLt (ix3 0 0 j)
      = (f5 : S32x2x16384.Idx → Elt F .f32) (ix3 b k (winPos ((f7 : S32.Idx → Elt F .i32) (ix1 b)) j)) := by
  unfold ldKS
  refine (readAt_unit_apply _ _ _ _ (ix3 b k j) ?_).trans ?_
  · intro a
    match a with
    | ⟨0, _⟩ => rfl
    | ⟨1, _⟩ => rfl
    | ⟨2, _⟩ => exact (Nat.zero_add _).symm
  · rw [rawKS_eq]
    refine (read_writeRows _ _ _ _ 32 le_rfl b _ j b.isLt).trans ?_
    rw [winScl_apply, lenAt_eq]; rfl

theorem ldVS_apply (b : Fin 32) (k : Fin 2) (j : Fin 1152) :
    ldVS c f6 f7 s6 s7 b.val k.val b.isLt k.isLt (ix3 0 0 j)
      = (f6 : S32x2x16384.Idx → Elt F .f32) (ix3 b k (winPos ((f7 : S32.Idx → Elt F .i32) (ix1 b)) j)) := by
  unfold ldVS
  refine (readAt_unit_apply _ _ _ _ (ix3 b k j) ?_).trans ?_
  · intro a
    match a with
    | ⟨0, _⟩ => rfl
    | ⟨1, _⟩ => rfl
    | ⟨2, _⟩ => exact (Nat.zero_add _).symm
  · rw [rawVS_eq]
    refine (read_writeRows _ _ _ _ 32 le_rfl b _ j b.isLt).trans ?_
    rw [winScl_apply, lenAt_eq]; rfl

theorem ldX_apply (b : Fin 32) (h : Fin 16) (i : Fin 64) :
    ldX c f0 s0 b.val b.isLt (ix3 0 h i) = (f0 : S32x16x64.Idx → Elt F .bf16) (ix3 b h i) := by
  unfold ldX
  refine (readAt_unit_apply _ _ _ _ (ix3 b h i) ?_).trans ?_
  · intro a
    match a with
    | ⟨0, _⟩ => rfl
    | ⟨1, _⟩ => exact (Nat.zero_add _).symm
    | ⟨2, _⟩ => exact (Nat.zero_add _).symm
  · rw [View.write_whole_univ]; rfl

/-- The new rows read back from the two buffers that hold them dequantised. -/
theorem ldKD_apply (b : Fin 32) (k : Fin 2) (i : Fin 64) :
    ldKD c f1 s1 b.val k.val b.isLt k.isLt (ix2 0 i)
      = k0_pay24 (kernelRun.sl.r_38 c f1 s1) (kernelRun.sl.r_39 c f1 s1) (kernelRun.sl.r_44 c f1 s1) (kernelRun.sl.r_45 c f1 s1) 127#32
          (ix2 b ⟨k.val * 64 + i.val, by omega⟩) := by
  unfold ldKD View.readCov
  refine (readAt_unit_apply _ _ _ _ (ix2 b (⟨k.val * 64 + i.val, by omega⟩ : Fin 128)) ?_).trans ?_
  · intro a
    match a with
    | ⟨0, _⟩ => rfl
    | ⟨1, _⟩ => rfl
  · exact read_hd2 (Memref.whole cc0_scratch13).view _ 0 0 32 128 _ _ [] b (⟨k.val * 64 + i.val, by omega⟩ : Fin 128) b _
      (Nat.zero_add _).symm (Nat.zero_add _).symm

theorem ldVD_apply (b : Fin 32) (k : Fin 2) (i : Fin 64) :
    ldVD c f2 s2 b.val k.val b.isLt k.isLt (ix2 0 i)
      = k0_pay47 (kernelRun.sl.r_53 c f2 s2) (kernelRun.sl.r_54 c f2 s2) (kernelRun.sl.r_59 c f2 s2) 127#32
          (ix2 b ⟨k.val * 64 + i.val, by omega⟩) := by
  unfold ldVD View.readCov
  refine (readAt_unit_apply _ _ _ _ (ix2 b (⟨k.val * 64 + i.val, by omega⟩ : Fin 128)) ?_).trans ?_
  · intro a
    match a with
    | ⟨0, _⟩ => rfl
    | ⟨1, _⟩ => rfl
  · exact read_hd2 (Memref.whole cc0_scratch14).view _ 0 0 32 128 _ _ [] b (⟨k.val * 64 + i.val, by omega⟩ : Fin 128) b _
      (Nat.zero_add _).symm (Nat.zero_add _).symm

/-- Row `b` of the attention output is what was stored for it. -/
theorem read_pieces (s8 : Bf (F := F) c cc0_scratch8) (n : ℕ) (hn : n ≤ 32) (b : Fin 32) (hb : b.val < n) (g : Fin 8) (d : Fin 64) :
    View.read (Elt F) (Memref.whole cc0_scratch8).view ((Memref.whole cc0_scratch8).view.writes (Elt F) s8
      (pieces c f0 f1 f2 f3 f4 f5 f6 f7 s0 s1 s2 s3 s4 s5 s6 s7 n hn)) (ix3 b (⟨g.val, by omega⟩ : Fin 16) d)
        = outA c f0 f1 f2 f3 f4 f5 f6 f7 s0 s1 s2 s3 s4 s5 s6 s7 b.val b.isLt (ix3 0 g d)
    ∧ View.read (Elt F) (Memref.whole cc0_scratch8).view ((Memref.whole cc0_scratch8).view.writes (Elt F) s8
      (pieces c f0 f1 f2 f3 f4 f5 f6 f7 s0 s1 s2 s3 s4 s5 s6 s7 n hn)) (ix3 b (⟨8 + g.val, by omega⟩ : Fin 16) d)
        = outB c f0 f1 f2 f3 f4 f5 f6 f7 s0 s1 s2 s3 s4 s5 s6 s7 b.val b.isLt (ix3 0 g d) := by
  induction n with
  | zero => omega
  | succ n ih =>
    rw [pieces]
    by_cases h : b.val = n
    · constructor
      · refine (read_tl3 (Memref.whole cc0_scratch8).view s8 n (1 * 8) 0 1 8 64 _ _ _ b (⟨g.val, by omega⟩ : Fin 16) d (Or.inr (by show g.val < 1 * 8; omega))).trans ?_
        refine (read_hd3 (Memref.whole cc0_scratch8).view s8 n (0 * 8) 0 1 8 64 _ _ _ b (⟨g.val, by omega⟩ : Fin 16) d 0 g d (by simpa using h) (by simp) (Nat.zero_add _).symm).trans ?_
        subst h; rfl
      · refine (read_hd3 (Memref.whole cc0_scratch8).view s8 n (1 * 8) 0 1 8 64 _ _ _ b (⟨8 + g.val, by omega⟩ : Fin 16) d 0 g d (by simpa using h) (by simp) (Nat.zero_add _).symm).trans ?_
        subst h; rfl
    · have ih' := ih (Nat.le_of_succ_le hn) (by omega)
      have hlt : b.val < n := by omega
      constructor
      · exact (read_tl3 (Memref.whole cc0_scratch8).view s8 n (1 * 8) 0 1 8 64 _ _ _ b (⟨g.val, by omega⟩ : Fin 16) d (Or.inl hlt)).trans
          ((read_tl3 (Memref.whole cc0_scratch8).view s8 n (0 * 8) 0 1 8 64 _ _ _ b (⟨g.val, by omega⟩ : Fin 16) d (Or.inl hlt)).trans ih'.1)
      · exact (read_tl3 (Memref.whole cc0_scratch8).view s8 n (1 * 8) 0 1 8 64 _ _ _ b (⟨8 + g.val, by omega⟩ : Fin 16) d (Or.inl hlt)).trans
          ((read_tl3 (Memref.whole cc0_scratch8).view s8 n (0 * 8) 0 1 8 64 _ _ _ b (⟨8 + g.val, by omega⟩ : Fin 16) d (Or.inl hlt)).trans ih'.2)

theorem read_S9 (s9 : Bf (F := F) c cc0_scratch9) (b : Fin 32) (d : Fin 64) :
    View.read (Elt F) (Memref.whole cc0_scratch9).view ((Memref.whole cc0_scratch9).view.writes (Elt F) s9 (kernelRun.sl.S9_2 c f1 s1)) (ix3 (0 : Fin 2) b d)
        = k0_pay10 (kernelRun.sl.r_32 c f1 s1) (kernelRun.sl.r_33 c f1 s1) (kernelRun.sl.r_34 c f1 s1) (ix3 (0 : Fin 1) b d)
    ∧ View.read (Elt F) (Memref.whole cc0_scratch9).view ((Memref.whole cc0_scratch9).view.writes (Elt F) s9 (kernelRun.sl.S9_2 c f1 s1)) (ix3 (1 : Fin 2) b d)
        = k0_pay22 (kernelRun.sl.r_39 c f1 s1) (kernelRun.sl.r_44 c f1 s1) 127#32 (ix3 (0 : Fin 1) b d) := by
  constructor
  · exact (read_tl3 (Memref.whole cc0_scratch9).view s9 1 0 0 1 32 64 _ _ _ (0 : Fin 2) b d (Or.inl Nat.zero_lt_one)).trans
      (read_hd3 (Memref.whole cc0_scratch9).view s9 0 0 0 1 32 64 _ _ [] (0 : Fin 2) b d 0 b d rfl (Nat.zero_add _).symm (Nat.zero_add _).symm)
  · exact read_hd3 (Memref.whole cc0_scratch9).view s9 1 0 0 1 32 64 _ _ _ (1 : Fin 2) b d 0 b d rfl (Nat.zero_add _).symm (Nat.zero_add _).symm

theorem read_S10 (s10 : Bf (F := F) c cc0_scratch10) (b : Fin 32) :
    View.read (Elt F) (Memref.whole cc0_scratch10).view ((Memref.whole cc0_scratch10).view.writes (Elt F) s10 (kernelRun.sl.S10_2 c f1 s1)) (ix2 (0 : Fin 2) b)
        = k0_pay12 (kernelRun.sl.r_37 c f1 s1) (ix2 (0 : Fin 1) b)
    ∧ View.read (Elt F) (Memref.whole cc0_scratch10).view ((Memref.whole cc0_scratch10).view.writes (Elt F) s10 (kernelRun.sl.S10_2 c f1 s1)) (ix2 (1 : Fin 2) b)
        = k0_pay23 kernelRun.sl.v1004 kernelRun.sl.v1005 (kernelRun.sl.r_45 c f1 s1) (ix2 (0 : Fin 1) b) := by
  constructor
  · exact (read_tl2 (Memref.whole cc0_scratch10).view s10 1 0 1 32 _ _ _ (0 : Fin 2) b Nat.zero_lt_one).trans
      (read_hd2 (Memref.whole cc0_scratch10).view s10 0 0 1 32 _ _ [] (0 : Fin 2) b 0 b rfl (Nat.zero_add _).symm)
  · exact read_hd2 (Memref.whole cc0_scratch10).view s10 1 0 1 32 _ _ _ (1 : Fin 2) b 0 b rfl (Nat.zero_add _).symm

theorem read_S11 (s11 : Bf (F := F) c cc0_scratch11) (b : Fin 32) (d : Fin 64) :
    View.read (Elt F) (Memref.whole cc0_scratch11).view ((Memref.whole cc0_scratch11).view.writes (Elt F) s11 (kernelRun.sl.S11_2 c f2 s2)) (ix3 (0 : Fin 2) b d)
        = k0_pay33 (kernelRun.sl.r_46 c f2 s2) (kernelRun.sl.r_48 c f2 s2) (kernelRun.sl.r_49 c f2 s2) k0_pay29 (ix3 (0 : Fin 1) b d)
    ∧ View.read (Elt F) (Memref.whole cc0_scratch11).view ((Memref.whole cc0_scratch11).view.writes (Elt F) s11 (kernelRun.sl.S11_2 c f2 s2)) (ix3 (1 : Fin 2) b d)
        = k0_pay45 (kernelRun.sl.r_54 c f2 s2) (kernelRun.sl.r_59 c f2 s2) (ix3 (0 : Fin 1) b d) := by
  constructor
  · exact (read_tl3 (Memref.whole cc0_scratch11).view s11 1 0 0 1 32 64 _ _ _ (0 : Fin 2) b d (Or.inl Nat.zero_lt_one)).trans
      (read_hd3 (Memref.whole cc0_scratch11).view s11 0 0 0 1 32 64 _ _ [] (0 : Fin 2) b d 0 b d rfl (Nat.zero_add _).symm (Nat.zero_add _).symm)
  · exact read_hd3 (Memref.whole cc0_scratch11).view s11 1 0 0 1 32 64 _ _ _ (1 : Fin 2) b d 0 b d rfl (Nat.zero_add _).symm (Nat.zero_add _).symm

theorem read_S12 (s12 : Bf (F := F) c cc0_scratch12) (b : Fin 32) :
    View.read (Elt F) (Memref.whole cc0_scratch12).view ((Memref.whole cc0_scratch12).view.writes (Elt F) s12 (kernelRun.sl.S12_2 c f2 s2)) (ix2 (0 : Fin 2) b)
        = k0_pay35 kernelRun.sl.v1004 kernelRun.sl.v1005 (kernelRun.sl.r_52 c f2 s2) (ix2 (0 : Fin 1) b)
    ∧ View.read (Elt F) (Memref.whole cc0_scratch12).view ((Memref.whole cc0_scratch12).view.writes (Elt F) s12 (kernelRun.sl.S12_2 c f2 s2)) (ix2 (1 : Fin 2) b)
        = k0_pay46 kernelRun.sl.v1004 kernelRun.sl.v1005 (kernelRun.sl.r_59 c f2 s2) 127#32 (ix2 (0 : Fin 1) b) := by
  constructor
  · exact (read_tl2 (Memref.whole cc0_scratch12).view s12 1 0 1 32 _ _ _ (0 : Fin 2) b Nat.zero_lt_one).trans
      (read_hd2 (Memref.whole cc0_scratch12).view s12 0 0 1 32 _ _ [] (0 : Fin 2) b 0 b rfl (Nat.zero_add _).symm)
  · exact read_hd2 (Memref.whole cc0_scratch12).view s12 1 0 1 32 _ _ _ (1 : Fin 2) b 0 b rfl (Nat.zero_add _).symm

end

end Cert.KernelIdeal.Hand

end
-- ==== Proof.Quant.lean ====
/-
  The quantiser on one row, on extended reals: the bisection that finds the exponent field of a row's largest
  magnitude, and the same exponent found by counting powers of two.
-/
module

public import Idealize.ShloMosaic.Lib.Pointwise

@[expose] public section

noncomputable section

namespace Cert.Quant

open Idealize.ShloMosaic

/-! ## Powers of two -/

/-- The number whose bits are the exponent field `k` and nothing else. -/
def pw (k : ℕ) : EReal := Ideal.ofBits .f32 (BitVec.ofNat 32 k <<< 23)

theorem pw_ofNat (k : ℕ) (h1 : 1 ≤ k) (h2 : k ≤ 254) : pw k = (((2 : ℝ) ^ ((k : ℤ) - 127) : ℝ) : EReal) := by
  have hneg : ((BitVec.ofNat 32 k <<< 23).extractLsb' (8 + 23) 1 == 1#1) = false := by
    have : (BitVec.ofNat 32 k <<< 23).extractLsb' (8 + 23) 1 = 0#1 := by
      interval_cases k <;> decide
    rw [this]; decide
  have hex : ((BitVec.ofNat 32 k <<< 23).extractLsb' 23 8).toNat = k := by
    interval_cases k <;> decide
  have hfr : ((BitVec.ofNat 32 k <<< 23).extractLsb' 0 23).toNat = 0 := by
    interval_cases k <;> decide
  unfold pw Ideal.ofBits Ideal.ieee
  simp only [hneg, hex, hfr]
  rw [if_neg (by omega), if_neg (by omega), EReal.coe_eq_coe_iff]
  simp only [Bool.false_eq_true, if_false, one_mul, add_zero]
  have h23 : ((2 ^ 23 : ℕ) : ℝ) = (2 : ℝ) ^ (23 : ℤ) := by norm_num
  have hz : (k : ℤ) - (2 ^ (8 - 1) - 1) - (23 : ℕ) = (k : ℤ) - 150 := by norm_num; ring
  rw [h23, hz, ← zpow_add₀ (by norm_num : (2 : ℝ) ≠ 0), show (23 : ℤ) + ((k : ℤ) - 150) = (k : ℤ) - 127 by ring]

theorem pw_top : pw 255 = ⊤ := by simp [pw, Ideal.ofBits, Ideal.ieee]

theorem pw_mono {j k : ℕ} (h1 : 1 ≤ j) (h2 : j ≤ k) (h3 : k ≤ 255) : pw j ≤ pw k := by
  by_cases hk : k = 255
  · subst hk; rw [pw_top]; exact le_top
  · rw [pw_ofNat j h1 (by omega), pw_ofNat k (by omega) (by omega), EReal.coe_le_coe_iff]
    exact zpow_le_zpow_right₀ (by norm_num) (by omega)

/-! ## The bisection -/

/-- One step: add `s` to the field if the power of two there is at most `r`. -/
def step (r : EReal) (f s : BitVec 32) : BitVec 32 :=
  if Ideal.ofBits .f32 (IntOp.shli .vector (IntOp.addi f s) 23#32) ≤ r then IntOp.addi f s else f

/-- The bisection. -/
def field (r : EReal) : BitVec 32 :=
  step r (step r (step r (step r (step r (step r (step r (step r 0#32 128#32) 64#32) 32#32) 16#32) 8#32) 4#32) 2#32) 1#32

/-- What the bisection keeps: the field is `f`, with `r` at least its power of two and below every one from `f + w`. -/
def Inv (r : EReal) (b : BitVec 32) (w : ℕ) : Prop :=
  ∃ f : ℕ, b = BitVec.ofNat 32 f ∧ f + w ≤ 256 ∧ (f = 0 ∨ pw f ≤ r) ∧ ∀ k, f + w ≤ k → k ≤ 255 → ¬ pw k ≤ r

theorem step_inv {r : EReal} {b : BitVec 32} (s : ℕ) (hs : 1 ≤ s) (h : Inv r b (2 * s)) :
    Inv r (step r b (BitVec.ofNat 32 s)) s := by
  obtain ⟨f, rfl, hle, hlo, hhi⟩ := h
  have hadd : IntOp.addi (BitVec.ofNat 32 f) (BitVec.ofNat 32 s) = BitVec.ofNat 32 (f + s) := by
    simp [IntOp.addi, BitVec.ofNat_add]
  have hsh : Ideal.ofBits .f32 (IntOp.shli .vector (BitVec.ofNat 32 (f + s)) 23#32) = pw (f + s) := rfl
  unfold step
  rw [hadd, hsh]
  by_cases hc : pw (f + s) ≤ r
  · rw [if_pos hc]
    exact ⟨f + s, rfl, by omega, Or.inr hc, fun k h1 h2 => hhi k (by omega) h2⟩
  · rw [if_neg hc]
    refine ⟨f, rfl, by omega, hlo, fun k h1 h2 hk => hc (le_trans (pw_mono (by omega) h1 h2) hk)⟩

/-- The bisection finds the largest exponent field whose power of two is at most `r`. -/
theorem field_spec (r : EReal) :
    ∃ f : ℕ, field r = BitVec.ofNat 32 f ∧ f ≤ 255 ∧ ∀ k, 1 ≤ k → k ≤ 255 → (pw k ≤ r ↔ k ≤ f) := by
  have h0 : Inv r 0#32 (2 * 128) := ⟨0, rfl, by omega, Or.inl rfl, fun k h1 h2 => by omega⟩
  have h := step_inv 1 (by omega) (step_inv 2 (by omega) (step_inv 4 (by omega) (step_inv 8 (by omega)
    (step_inv 16 (by omega) (step_inv 32 (by omega) (step_inv 64 (by omega) (step_inv 128 (by omega) h0)))))))
  obtain ⟨f, hf, hle, hlo, hhi⟩ := h
  refine ⟨f, hf, by omega, fun k h1 h2 => ⟨fun hk => ?_, fun hk => ?_⟩⟩
  · by_contra hc; exact hhi k (by omega) h2 hk
  · rcases hlo with h | h
    · omega
    · exact le_trans (pw_mono h1 hk (by omega)) h

/-- The exponent of the scale: nothing for the fields of zero and infinity. -/
def expo (f : BitVec 32) : BitVec 32 :=
  Scalar.select (IntOp.ori (IntOp.cmpi .eq f 0#32) (IntOp.cmpi .eq f 255#32)) 0#32 (IntOp.subi f 126#32)

/-- The scale. -/
def scale (r : EReal) : EReal := Ideal.ofBits .f32 (IntOp.shli .vector (IntOp.addi (expo (field r)) 127#32) 23#32)

/-- The scale's inverse. -/
def inv (r : EReal) : EReal := Ideal.ofBits .f32 (IntOp.shli .vector (IntOp.subi 127#32 (expo (field r))) 23#32)

/-- The exponent as a whole number, of the field. -/
def expZ (f : ℕ) : ℤ := if f = 0 ∨ f = 255 then 0 else (f : ℤ) - 126

theorem scale_of {r : EReal} {f : ℕ} (hf : field r = BitVec.ofNat 32 f) (h : f ≤ 252 ∨ f = 255) :
    scale r = (((2 : ℝ) ^ expZ f : ℝ) : EReal) := by
  have e : IntOp.addi (expo (BitVec.ofNat 32 f)) 127#32 = BitVec.ofNat 32 (expZ f + 127).toNat := by
    rcases h with h | h
    · interval_cases f <;> decide
    · subst h; decide
  have hb : 1 ≤ (expZ f + 127).toNat ∧ (expZ f + 127).toNat ≤ 254 ∧ ((expZ f + 127).toNat : ℤ) = expZ f + 127 := by
    unfold expZ; split <;> omega
  have hp := pw_ofNat _ hb.1 hb.2.1
  rw [hb.2.2] at hp
  unfold scale
  rw [hf, e]
  refine Eq.trans (show _ = pw (expZ f + 127).toNat from rfl) ?_
  rw [hp, show expZ f + 127 - 127 = expZ f by ring]

theorem inv_of {r : EReal} {f : ℕ} (hf : field r = BitVec.ofNat 32 f) (h : f ≤ 252 ∨ f = 255) :
    inv r = (((2 : ℝ) ^ (-expZ f) : ℝ) : EReal) := by
  have e : IntOp.subi 127#32 (expo (BitVec.ofNat 32 f)) = BitVec.ofNat 32 (127 - expZ f).toNat := by
    rcases h with h | h
    · interval_cases f <;> decide
    · subst h; decide
  have hb : 1 ≤ (127 - expZ f).toNat ∧ (127 - expZ f).toNat ≤ 254 ∧ ((127 - expZ f).toNat : ℤ) = 127 - expZ f := by
    unfold expZ; split <;> omega
  have hp := pw_ofNat _ hb.1 hb.2.1
  rw [hb.2.2] at hp
  unfold inv
  rw [hf, e]
  refine Eq.trans (show _ = pw (127 - expZ f).toNat from rfl) ?_
  rw [hp, show 127 - expZ f - 127 = -expZ f by ring]

/-! ## Counting powers of two -/

theorem ofBits_one : Ideal.ofBits .f32 0x3F800000#32 = ((1 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_zero : Ideal.ofBits .f32 0x00000000#32 = ((0 : ℝ) : EReal) := by
  simp [Ideal.ofBits, Ideal.ieee]
theorem ofBits_126 : Ideal.ofBits .f32 0x42FC0000#32 = ((126 : ℝ) : EReal) := by
  simp [Ideal.ofBits, Ideal.ieee, -EReal.coe_mul]; norm_num
theorem ofBits_inf : Ideal.ofBits .f32 0x7F800000#32 = ⊤ := by simp [Ideal.ofBits, Ideal.ieee]
theorem ofBits_ninf : Ideal.ofBits .f32 0xFF800000#32 = ⊥ := by simp [Ideal.ofBits, Ideal.ieee]

theorem pow_two (z : ℤ) : Ideal.pow ((2 : ℝ) : EReal) (((z : ℝ)) : EReal) = (((2 : ℝ) ^ z : ℝ) : EReal) := by
  show ((Real.rpow 2 (z : ℝ) : ℝ) : EReal) = _
  congr 1
  exact Real.rpow_intCast 2 z

theorem sum_coe {n : ℕ} (g : Fin n → ℝ) : (∑ i, ((g i : ℝ) : EReal)) = ((∑ i, g i : ℝ) : EReal) := by
  induction n with
  | zero => simp
  | succ n ih => rw [Fin.sum_univ_castSucc, Fin.sum_univ_castSucc, ih, EReal.coe_add]

/-- How many of the powers of two from 2^-126 to 2^127 are at most `r`. -/
theorem count_eq {r : EReal} {f : ℕ} (hf : f ≤ 254) (h : ∀ k, 1 ≤ k → k ≤ 255 → (pw k ≤ r ↔ k ≤ f)) :
    (∑ i : Fin 254, if pw (i.val + 1) ≤ r then ((1 : ℝ) : EReal) else ((0 : ℝ) : EReal)) = ((f : ℝ) : EReal) := by
  have h1 : ∀ i : Fin 254, (if pw (i.val + 1) ≤ r then ((1 : ℝ) : EReal) else ((0 : ℝ) : EReal))
      = (((if i.val < f then 1 else 0 : ℝ)) : EReal) := by
    intro i
    have := h (i.val + 1) (by omega) (by omega)
    by_cases hc : i.val < f
    · rw [if_pos hc, if_pos (this.2 (by omega))]
    · rw [if_neg hc, if_neg (fun hh => hc (by have := this.1 hh; omega))]
  rw [Finset.sum_congr rfl fun i _ => h1 i, sum_coe]
  congr 1
  rw [Finset.sum_boole]
  congr 1
  have : (Finset.univ.filter fun i : Fin 254 => i.val < f).card = f := by
    rw [Fin.card_filter_val_lt]; omega
  exact this

/-- The power of two at position `i` of the list of them. -/
theorem power_at (i : Fin 254) :
    Ideal.pow (Ideal.ofBits .f32 0x40000000#32) (((((IntOp.addi 4294967170#32 (BitVec.ofNat 32 i.val)).toInt : ℝ))) : EReal) = pw (i.val + 1) := by
  have e : (IntOp.addi 4294967170#32 (BitVec.ofNat 32 i.val)).toInt = ((i.val + 1 : ℕ) : ℤ) - 127 := by
    revert i; decide
  rw [e, ofBits_two, pow_two, pw_ofNat _ (by omega) (by omega)]

/-- The reference's exponent, from the count `n`. -/
def refExp (n r : EReal) : EReal :=
  Scalar.select (IntOp.ori (BitVec.ofBool (decide (n = ((0 : ℝ) : EReal)))) (BitVec.ofBool (decide (r = ⊤)))) ((0 : ℝ) : EReal) (n - ((126 : ℝ) : EReal))

/-- How many of the powers are at most `r`. -/
def count (r : EReal) : EReal :=
  ∑ i : Fin 254, if pw (i.val + 1) ≤ r then ((1 : ℝ) : EReal) else ((0 : ℝ) : EReal)

/-- Largest magnitudes over 448 that a row of bf16 numbers can have. -/
def Tame (r : EReal) : Prop := r < pw 253 ∨ r = ⊤

theorem field_tame {r : EReal} (hr : Tame r) :
    ∃ f : ℕ, field r = BitVec.ofNat 32 f ∧ (f ≤ 252 ∨ f = 255) ∧ refExp (count r) r = ((expZ f : ℝ) : EReal) := by
  obtain ⟨f, hf, hle, hk⟩ := field_spec r
  rcases hr with hr | hr
  · have h252 : f ≤ 252 := by
      by_contra hc
      exact absurd ((hk 253 (by omega) (by omega)).2 (by omega)) (not_le.2 hr)
    have hne : r ≠ ⊤ := fun h => by rw [h] at hr; exact absurd hr not_top_lt
    refine ⟨f, hf, Or.inl h252, ?_⟩
    rw [refExp, count, count_eq (by omega) hk]
    by_cases h0 : f = 0
    · subst h0; simp [hne, Scalar.select, expZ, IntOp.ori]
    · have h0' : ¬ ((f : ℝ) : EReal) = ((0 : ℝ) : EReal) := by
        intro h; rw [EReal.coe_eq_coe_iff] at h; exact h0 (by exact_mod_cast h)
      simp only [h0', hne, decide_false, Scalar.select, IntOp.ori]
      rw [if_neg (by decide), expZ, if_neg (by omega), ← EReal.coe_sub]
      push_cast; rfl
  · subst hr
    have h255 : f = 255 := by
      have := (hk 255 (by omega) le_rfl).1 le_top; omega
    subst h255
    refine ⟨255, hf, Or.inr rfl, ?_⟩
    have hor : ∀ b : BitVec 1, b ||| 1#1 = 1#1 := by decide
    simp [refExp, Scalar.select, expZ, IntOp.ori, hor]

/-- The two scales agree. -/
theorem scale_eq {r : EReal} (hr : Tame r) :
    scale r = Ideal.pow (Ideal.ofBits .f32 0x40000000#32) (refExp (count r) r) := by
  obtain ⟨f, hf, h, he⟩ := field_tame hr
  rw [scale_of hf h, he, ofBits_two, pow_two]

/-- Their inverses agree. -/
theorem inv_eq {r : EReal} (hr : Tame r) :
    inv r = Ideal.pow (Ideal.ofBits .f32 0x40000000#32) (-refExp (count r) r) := by
  obtain ⟨f, hf, h, he⟩ := field_tame hr
  rw [inv_of hf h, he, ofBits_two, ← EReal.coe_neg, ← Int.cast_neg, pow_two]

/-- The scale is a positive number. -/
theorem scale_pos {r : EReal} (hr : Tame r) : 0 ≤ scale r ∧ scale r ≠ ⊤ := by
  obtain ⟨f, hf, h, _⟩ := field_tame hr
  rw [scale_of hf h]
  exact ⟨by rw [← EReal.coe_zero, EReal.coe_le_coe_iff]; positivity, EReal.coe_ne_top _⟩

end Cert.Quant
-- ==== Proof.KernelIdealQuant.lean ====
/-
  The kernel's quantiser on extended reals: the codes, the scales and the dequantised rows it computes, read row by
  row.
-/
module

public import proofs.«01_k».proof.Proof.KernelIdealLoadsAt
public import proofs.«01_k».proof.Proof.Quant
import Idealize.ShloMosaic.Lib.Pointwise

@[expose] public section

noncomputable section

namespace Cert.Quant

open Idealize.ShloMosaic

/-- A row's largest magnitude over the largest number a code holds. -/
def rowR (x : Fin 64 → EReal) : EReal :=
  Finset.fold max (Ideal.ofBits .f32 0xFF800000#32) (fun i => max (x i) (-(x i))) Finset.univ *
    Ideal.ofBits .f32 0x3B124925#32

/-- A row's code at one place. -/
def code (x : Fin 64 → EReal) (d : Fin 64) : EReal :=
  min (Ideal.ofBits .f32 0x43E00000#32) (max (Ideal.ofBits .f32 0xC3E00000#32) (x d * inv (rowR x)))

end Cert.Quant

namespace Cert.KernelIdeal.Hand

open Cert.KernelIdeal Cert.KernelIdeal.Gen
open Idealize.ShloMosaic Idealize.ShloMosaic.TcCoe

/-! ## The bisection, on a whole block -/

/-- One step of the bisection. -/
def stepV (r : FVec Ideal S32x64 .f32) (w : IVec S32x64 32) (n : BitVec 32) : IVec S32x64 32 :=
  select (cmpf .oge r (bitcastToFloat .f32 (shli (addi w (broadcast S32x64 n)) (broadcast S32x64 23#32))))
    (addi w (broadcast S32x64 n)) w

/-- The bisection. -/
def fieldV (r : FVec Ideal S32x64 .f32) : IVec S32x64 32 :=
  stepV r (stepV r (stepV r (stepV r (stepV r (stepV r (stepV r (stepV r (broadcast S32x64 0#32) 128#32) 64#32) 32#32)
    16#32) 8#32) 4#32) 2#32) 1#32

/-- The exponent read off a field. -/
def expoV (w : IVec S32x64 32) : IVec S32x64 32 :=
  select (ori (cmpi .eq w (broadcast S32x64 0#32)) (cmpi .eq w (broadcast S32x64 255#32))) (broadcast S32x64 0#32)
    (subi w (broadcast S32x64 126#32))

theorem stepV_apply (r : FVec Ideal S32x64 .f32) (w : IVec S32x64 32) (n : BitVec 32) (b : Fin 32) (d : Fin 64) :
    stepV r w n (ix2 b d) = Cert.Quant.step (r (ix2 b d)) (w (ix2 b d)) n := by
  pointwise [stepV]
  rfl

theorem fieldV_apply (r : FVec Ideal S32x64 .f32) (b : Fin 32) (d : Fin 64) :
    fieldV r (ix2 b d) = Cert.Quant.field (r (ix2 b d)) := by
  unfold fieldV Cert.Quant.field
  simp only [stepV_apply]
  rfl

theorem expoV_apply (w : IVec S32x64 32) (b : Fin 32) (d : Fin 64) :
    expoV w (ix2 b d) = Cert.Quant.expo (w (ix2 b d)) := by
  pointwise [expoV]
  rfl

/-- The rows' largest magnitudes, spread over their rows. -/
def rV (v : Vec Ideal S32x1x64 .bf16) : FVec Ideal S32x64 .f32 := k0_pay3 v

theorem rV_apply (v : Vec Ideal S32x1x64 .bf16) (b : Fin 32) (d : Fin 64) :
    rV v (ix2 b d) = Cert.Quant.rowR (fun i => v (ix3 b 0 i)) := by
  pointwise [rV, k0_pay3, k0_pay2]
  rfl

/-! ## The scales, the codes and the dequantised rows, on a whole block -/

/-- The scales, spread over their rows. -/
def scaleV (r : FVec Ideal S32x64 .f32) : FVec Ideal S32x64 .f32 :=
  bitcastToFloat .f32 (shli (addi (expoV (fieldV r)) (broadcast S32x64 127#32)) (broadcast S32x64 23#32))

/-- The codes. -/
def codeV (x r : FVec Ideal S32x64 .f32) : FVec Ideal S32x64 .fp8e4m3 :=
  truncf .fp8e4m3 (minimumf (broadcast S32x64 (Scalar.ofBits .f32 0x43E00000#32)) (maximumf
    (broadcast S32x64 (Scalar.ofBits .f32 0xC3E00000#32)) (mulf x (bitcastToFloat .f32 (shli (subi
      (broadcast S32x64 127#32) (expoV (fieldV r))) (broadcast S32x64 23#32)))))) bitsLt_fp8e4m3_f32

theorem scaleV_apply (v : Vec Ideal S32x1x64 .bf16) (b : Fin 32) (d : Fin 64) :
    scaleV (rV v) (ix2 b d) = Cert.Quant.scale (Cert.Quant.rowR (fun i => v (ix3 b 0 i))) := by
  rw [← rV_apply v b d]
  unfold Cert.Quant.scale
  rw [← fieldV_apply, ← expoV_apply]
  generalize hr : expoV (fieldV (rV v)) = e
  unfold scaleV
  rw [hr]
  rfl

theorem codeV_apply (v : Vec Ideal S32x1x64 .bf16) (b : Fin 32) (d : Fin 64) :
    codeV (k0_pay2 v) (rV v) (ix2 b d) = Cert.Quant.code (fun i => v (ix3 b 0 i)) d := by
  unfold Cert.Quant.code
  rw [← rV_apply v b d]
  unfold Cert.Quant.inv
  rw [← fieldV_apply, ← expoV_apply]
  generalize hr : expoV (fieldV (rV v)) = e
  unfold codeV
  rw [hr]
  pointwise [k0_pay2]

/-- The diagonal of a matrix whose rows are constant, as a sum over its columns. -/
theorem sum_diag (f : Fin 32 → EReal) (b : Fin 32) :
    (∑ x : Fin 32, Scalar.select (IntOp.cmpi .eq (BitVec.ofNat 32 x.val) (BitVec.ofNat 32 b.val)) (f x) 0) = f b := by
  rw [Finset.sum_eq_single b]
  · simp [Scalar.select, IntOp.cmpi]
  · intro x _ hx
    have : BitVec.ofNat 32 x.val ≠ BitVec.ofNat 32 b.val := by
      intro h
      have := congrArg BitVec.toNat h
      simp only [BitVec.toNat_ofNat] at this
      exact hx (Fin.ext (by omega))
    have hb : (BitVec.ofNat 32 x.val == BitVec.ofNat 32 b.val) = false := by simpa using this
    simp [Scalar.select, IntOp.cmpi, hb]
  · simp

/-- The scales, laid along a row. -/
def diagV (s : FVec Ideal S32x64 .f32) : FVec Ideal S1x32 .f32 :=
  k0_pay23 kernelRun.sl.v1004 kernelRun.sl.v1005 s

theorem diagV_apply (s : FVec Ideal S32x64 .f32) (b : Fin 32) : diagV s (ix2 0 b) = s (ix2 b 0) := by
  refine Eq.trans ?_ (sum_diag (fun x => s (ix2 x 0)) b)
  pointwise [diagV, k0_pay23, kernelRun.sl.v1004, kernelRun.sl.v1005]

theorem k0_exp (v : Vec Ideal S32x1x64 .bf16) :
    k0_pay7 (k0_pay3 v) (k0_pay6 (k0_pay3 v) k0_pay4 k0_pay5) = expoV (fieldV (rV v)) := rfl
theorem k1_exp (v : Vec Ideal S32x1x64 .bf16) :
    k0_pay19 (k0_pay15 v) (k0_pay16 v) (k0_pay17 v) (k0_pay18 v) = expoV (fieldV (rV v)) := rfl
theorem v0_exp (v : Vec Ideal S32x1x64 .bf16) :
    k0_pay30 (k0_pay27 (k0_pay26 v)) (k0_pay28 (k0_pay26 v)) k0_pay29 = expoV (fieldV (rV v)) := rfl
theorem v1_exp (v : Vec Ideal S32x1x64 .bf16) :
    k0_pay42 (k0_pay38 v) (k0_pay39 v) (k0_pay40 v) (k0_pay41 v) = expoV (fieldV (rV v)) := rfl

/-- A block of rows as a block with a leading axis of one. -/
theorem lead_apply (w : FVec Ideal S32x64 .fp8e4m3) (b : Fin 32) (d : Fin 64) :
    shapeCast S1x32x64 w shapeCasts_S32x64_S1x32x64 (ix3 0 b d) = w (ix2 b d) := by
  pointwise []

/-! ## What the kernel computes -/

section
variable (c : Dev nD) (f1 : Bf (F := Ideal) c main_v1) (s1 : Bf (F := Ideal) c cc0_scratch1)
  (f2 : Bf (F := Ideal) c main_v2) (s2 : Bf (F := Ideal) c cc0_scratch2)

/-- The new key rows of one head. -/
def rowK (b : Fin 32) (k : Fin 2) : Fin 64 → EReal := fun i => (f1 : S32x2x64.Idx → EReal) (ix3 b k i)

theorem v1006_apply (b : Fin 32) : (fun i => kernelRun.sl.v1006 c f1 s1 (ix3 b 0 i)) = rowK c f1 b 0 := by
  funext i
  unfold kernelRun.sl.v1006
  refine (readAt_unit_apply _ _ _ _ (ix3 b (0 : Fin 2) i) ?_).trans ?_
  · intro a
    match a with
    | ⟨0, _⟩ => exact (Nat.zero_add _).symm
    | ⟨1, _⟩ => rfl
    | ⟨2, _⟩ => exact (Nat.zero_add _).symm
  · rw [View.write_whole_univ]; rfl

theorem v1115_apply (b : Fin 32) : (fun i => kernelRun.sl.v1115 c f1 s1 (ix3 b 0 i)) = rowK c f1 b 1 := by
  funext i
  unfold kernelRun.sl.v1115
  refine (readAt_unit_apply _ _ _ _ (ix3 b (1 : Fin 2) i) ?_).trans ?_
  · intro a
    match a with
    | ⟨0, _⟩ => exact (Nat.zero_add _).symm
    | ⟨1, _⟩ => rfl
    | ⟨2, _⟩ => exact (Nat.zero_add _).symm
  · rw [View.write_whole_univ]; rfl

/-- The new value rows of one head. -/
def rowV (b : Fin 32) (k : Fin 2) : Fin 64 → EReal := fun i => (f2 : S32x2x64.Idx → EReal) (ix3 b k i)

theorem v1228_apply (b : Fin 32) : (fun i => kernelRun.sl.v1228 c f2 s2 (ix3 b 0 i)) = rowV c f2 b 0 := by
  funext i
  unfold kernelRun.sl.v1228
  refine (readAt_unit_apply _ _ _ _ (ix3 b (0 : Fin 2) i) ?_).trans ?_
  · intro a
    match a with
    | ⟨0, _⟩ => exact (Nat.zero_add _).symm
    | ⟨1, _⟩ => rfl
    | ⟨2, _⟩ => exact (Nat.zero_add _).symm
  · rw [View.write_whole_univ]; rfl

theorem v1337_apply (b : Fin 32) : (fun i => kernelRun.sl.v1337 c f2 s2 (ix3 b 0 i)) = rowV c f2 b 1 := by
  funext i
  unfold kernelRun.sl.v1337
  refine (readAt_unit_apply _ _ _ _ (ix3 b (1 : Fin 2) i) ?_).trans ?_
  · intro a
    match a with
    | ⟨0, _⟩ => exact (Nat.zero_add _).symm
    | ⟨1, _⟩ => rfl
    | ⟨2, _⟩ => exact (Nat.zero_add _).symm
  · rw [View.write_whole_univ]; rfl

/-! Scales, spread over their rows. -/

theorem scaleK0 : kernelRun.sl.r_35 c f1 s1 = scaleV (rV (kernelRun.sl.v1006 c f1 s1)) := by
  show k0_pay8 (k0_pay3 _) (k0_pay6 (k0_pay3 _) k0_pay4 k0_pay5) = _
  unfold k0_pay8; rw [k0_exp]; rfl
theorem scaleK1 : kernelRun.sl.r_45 c f1 s1 = scaleV (rV (kernelRun.sl.v1115 c f1 s1)) := by
  show k0_pay20 (k0_pay15 _) (k0_pay16 _) (k0_pay17 _) (k0_pay18 _) = _
  unfold k0_pay20; rw [k1_exp]; rfl
theorem scaleV0 : kernelRun.sl.r_50 c f2 s2 = scaleV (rV (kernelRun.sl.v1228 c f2 s2)) := by
  show k0_pay31 (k0_pay27 (k0_pay26 _)) (k0_pay28 (k0_pay26 _)) k0_pay29 = _
  unfold k0_pay31; rw [v0_exp]; rfl
theorem scaleV1 : k0_pay43 (F := Ideal) (kernelRun.sl.r_59 c f2 s2) 127#32 = scaleV (rV (kernelRun.sl.v1337 c f2 s2)) := by
  show k0_pay43 (k0_pay42 (k0_pay38 _) (k0_pay39 _) (k0_pay40 _) (k0_pay41 _)) 127#32 = _
  unfold k0_pay43; rw [v1_exp]; rfl

/-! Codes. -/

theorem codeK0 : kernelRun.sl.r_36 c f1 s1 = codeV (k0_pay2 (kernelRun.sl.v1006 c f1 s1)) (rV (kernelRun.sl.v1006 c f1 s1)) := by
  show k0_pay9 (k0_pay2 _) (k0_pay3 _) (k0_pay6 (k0_pay3 _) k0_pay4 k0_pay5) = _
  unfold k0_pay9; rw [k0_exp]; rfl
theorem codeK1 : k0_pay21 (kernelRun.sl.r_39 c f1 s1) (kernelRun.sl.r_44 c f1 s1) 127#32
    = codeV (k0_pay2 (kernelRun.sl.v1115 c f1 s1)) (rV (kernelRun.sl.v1115 c f1 s1)) := by
  show k0_pay21 (k0_pay14 _) (k0_pay19 (k0_pay15 _) (k0_pay16 _) (k0_pay17 _) (k0_pay18 _)) 127#32 = _
  unfold k0_pay21; rw [k1_exp]; rfl
theorem codeV0 : kernelRun.sl.r_51 c f2 s2 = codeV (k0_pay2 (kernelRun.sl.v1228 c f2 s2)) (rV (kernelRun.sl.v1228 c f2 s2)) := by
  show k0_pay32 (k0_pay25 _) (k0_pay27 (k0_pay26 _)) (k0_pay28 (k0_pay26 _)) k0_pay29 = _
  unfold k0_pay32; rw [v0_exp]; rfl
theorem codeV1 : k0_pay44 (kernelRun.sl.r_54 c f2 s2) (kernelRun.sl.r_59 c f2 s2)
    = codeV (k0_pay2 (kernelRun.sl.v1337 c f2 s2)) (rV (kernelRun.sl.v1337 c f2 s2)) := by
  show k0_pay44 (k0_pay37 _) (k0_pay42 (k0_pay38 _) (k0_pay39 _) (k0_pay40 _) (k0_pay41 _)) = _
  unfold k0_pay44; rw [v1_exp]; rfl

/-! ## Codes, scales and dequantised rows at an index -/

theorem codesK_apply (b : Fin 32) (d : Fin 64) :
    k0_pay10 (kernelRun.sl.r_32 c f1 s1) (kernelRun.sl.r_33 c f1 s1) (kernelRun.sl.r_34 c f1 s1) (ix3 (0 : Fin 1) b d)
        = Cert.Quant.code (rowK c f1 b 0) d
    ∧ k0_pay22 (kernelRun.sl.r_39 c f1 s1) (kernelRun.sl.r_44 c f1 s1) 127#32 (ix3 (0 : Fin 1) b d)
        = Cert.Quant.code (rowK c f1 b 1) d := by
  constructor
  · rw [← v1006_apply c f1 s1 b, ← codeV_apply, ← codeK0]
    exact lead_apply (kernelRun.sl.r_36 c f1 s1) b d
  · rw [← v1115_apply c f1 s1 b, ← codeV_apply, ← codeK1]
    exact lead_apply (k0_pay21 (kernelRun.sl.r_39 c f1 s1) (kernelRun.sl.r_44 c f1 s1) 127#32) b d

theorem codesV_apply (b : Fin 32) (d : Fin 64) :
    k0_pay33 (kernelRun.sl.r_46 c f2 s2) (kernelRun.sl.r_48 c f2 s2) (kernelRun.sl.r_49 c f2 s2) k0_pay29 (ix3 (0 : Fin 1) b d)
        = Cert.Quant.code (rowV c f2 b 0) d
    ∧ k0_pay45 (kernelRun.sl.r_54 c f2 s2) (kernelRun.sl.r_59 c f2 s2) (ix3 (0 : Fin 1) b d)
        = Cert.Quant.code (rowV c f2 b 1) d := by
  constructor
  · rw [← v1228_apply c f2 s2 b, ← codeV_apply, ← codeV0]
    exact lead_apply (kernelRun.sl.r_51 c f2 s2) b d
  · rw [← v1337_apply c f2 s2 b, ← codeV_apply, ← codeV1]
    exact lead_apply (k0_pay44 (kernelRun.sl.r_54 c f2 s2) (kernelRun.sl.r_59 c f2 s2)) b d

theorem scalesK_apply (b : Fin 32) :
    k0_pay12 (kernelRun.sl.r_37 c f1 s1) (ix2 (0 : Fin 1) b) = Cert.Quant.scale (Cert.Quant.rowR (rowK c f1 b 0))
    ∧ k0_pay23 kernelRun.sl.v1004 kernelRun.sl.v1005 (kernelRun.sl.r_45 c f1 s1) (ix2 (0 : Fin 1) b)
        = Cert.Quant.scale (Cert.Quant.rowR (rowK c f1 b 1)) := by
  constructor
  · rw [← v1006_apply c f1 s1 b, ← scaleV_apply _ b 0, ← scaleK0]; exact diagV_apply _ b
  · rw [← v1115_apply c f1 s1 b, ← scaleV_apply _ b 0, ← scaleK1]; exact diagV_apply _ b

theorem scalesV_apply (b : Fin 32) :
    k0_pay35 kernelRun.sl.v1004 kernelRun.sl.v1005 (kernelRun.sl.r_52 c f2 s2) (ix2 (0 : Fin 1) b)
        = Cert.Quant.scale (Cert.Quant.rowR (rowV c f2 b 0))
    ∧ k0_pay46 (F := Ideal) kernelRun.sl.v1004 kernelRun.sl.v1005 (kernelRun.sl.r_59 c f2 s2) 127#32 (ix2 (0 : Fin 1) b)
        = Cert.Quant.scale (Cert.Quant.rowR (rowV c f2 b 1)) := by
  constructor
  · rw [← v1228_apply c f2 s2 b, ← scaleV_apply _ b 0, ← scaleV0]
    exact diagV_apply (kernelRun.sl.r_50 c f2 s2) b
  · rw [← v1337_apply c f2 s2 b, ← scaleV_apply _ b 0, ← scaleV1]; exact diagV_apply _ b

/-- Two blocks side by side. -/
def pairV (a b : FVec Ideal S32x64 .f32) : FVec Ideal S32x128 .f32 :=
  shapeCast S32x128 (concatenate S32x128 1 [⟨S32x64, a⟩, ⟨S32x64, b⟩] concatenates_S32x64_S32x64_S32x128_d1)
    shapeCasts_S32x128_S32x128

theorem pairV_apply (u w : FVec Ideal S32x64 .f32) (b : Fin 32) (k : Fin 2) (i : Fin 64) :
    pairV u w (ix2 b ⟨k.val * 64 + i.val, by omega⟩) = if k = 0 then u (ix2 b i) else w (ix2 b i) := by
  pointwise [pairV]
  obtain rfl | rfl : k = 0 ∨ k = 1 := by omega
  · refine Eq.trans ?_ (if_pos rfl).symm
    exact (dif_pos (show (0 : Fin 2).val * 64 + i.val < 64 by simp)).trans
      (congrArg (fun z => u (ix2 b z)) (Fin.ext (by simp)))
  · refine Eq.trans ?_ (if_neg (by decide)).symm
    exact (dif_neg (show ¬(1 : Fin 2).val * 64 + i.val < 64 by simp)).trans
      (congrArg (fun z => w (ix2 b z)) (Fin.ext (by simp)))

theorem deqK_apply (b : Fin 32) (k : Fin 2) (i : Fin 64) :
    ldKD c f1 s1 b.val k.val b.isLt k.isLt (ix2 0 i)
      = Cert.Quant.code (rowK c f1 b k) i * Cert.Quant.scale (Cert.Quant.rowR (rowK c f1 b k)) := by
  rw [ldKD_apply]
  refine (pairV_apply (mulf (extf .f32 (kernelRun.sl.r_36 c f1 s1) bitsLt_fp8e4m3_f32) (kernelRun.sl.r_35 c f1 s1))
    (mulf (extf .f32 (k0_pay21 (kernelRun.sl.r_39 c f1 s1) (kernelRun.sl.r_44 c f1 s1) 127#32) bitsLt_fp8e4m3_f32)
      (kernelRun.sl.r_45 c f1 s1)) b k i).trans ?_
  obtain rfl | rfl : k = 0 ∨ k = 1 := by omega
  · rw [if_pos rfl, codeK0, scaleK0]
    refine Eq.trans (show _ = codeV (k0_pay2 (kernelRun.sl.v1006 c f1 s1)) (rV (kernelRun.sl.v1006 c f1 s1)) (ix2 b i) * scaleV (rV (kernelRun.sl.v1006 c f1 s1)) (ix2 b i) from rfl) ?_
    rw [codeV_apply, scaleV_apply, v1006_apply]
  · rw [if_neg (by decide), codeK1, scaleK1]
    refine Eq.trans (show _ = codeV (k0_pay2 (kernelRun.sl.v1115 c f1 s1)) (rV (kernelRun.sl.v1115 c f1 s1)) (ix2 b i) * scaleV (rV (kernelRun.sl.v1115 c f1 s1)) (ix2 b i) from rfl) ?_
    rw [codeV_apply, scaleV_apply, v1115_apply]

theorem deqV_apply (b : Fin 32) (k : Fin 2) (i : Fin 64) :
    ldVD c f2 s2 b.val k.val b.isLt k.isLt (ix2 0 i)
      = Cert.Quant.code (rowV c f2 b k) i * Cert.Quant.scale (Cert.Quant.rowR (rowV c f2 b k)) := by
  rw [ldVD_apply]
  refine (pairV_apply (mulf (extf .f32 (kernelRun.sl.r_51 c f2 s2) bitsLt_fp8e4m3_f32) (kernelRun.sl.r_50 c f2 s2))
    (mulf (extf .f32 (k0_pay44 (kernelRun.sl.r_54 c f2 s2) (kernelRun.sl.r_59 c f2 s2)) bitsLt_fp8e4m3_f32)
      (k0_pay43 (F := Ideal) (kernelRun.sl.r_59 c f2 s2) 127#32)) b k i).trans ?_
  obtain rfl | rfl : k = 0 ∨ k = 1 := by omega
  · rw [if_pos rfl, codeV0, scaleV0]
    refine Eq.trans (show _ = codeV (k0_pay2 (kernelRun.sl.v1228 c f2 s2)) (rV (kernelRun.sl.v1228 c f2 s2)) (ix2 b i) * scaleV (rV (kernelRun.sl.v1228 c f2 s2)) (ix2 b i) from rfl) ?_
    rw [codeV_apply, scaleV_apply, v1228_apply]
  · rw [if_neg (by decide), codeV1, scaleV1]
    refine Eq.trans (show _ = codeV (k0_pay2 (kernelRun.sl.v1337 c f2 s2)) (rV (kernelRun.sl.v1337 c f2 s2)) (ix2 b i) * scaleV (rV (kernelRun.sl.v1337 c f2 s2)) (ix2 b i) from rfl) ?_
    rw [codeV_apply, scaleV_apply, v1337_apply]

end

end Cert.KernelIdeal.Hand

end
-- ==== Proof.Attn.lean ====
/-
  One row of attention on extended reals: over the window the kernel copies in, and over the whole cache with every
  position outside the window masked away.
-/
module

public import proofs.«01_k».proof.Proof.Quant

@[expose] public section

noncomputable section

namespace Cert.Attn

open Idealize.ShloMosaic

/-! ## Sums on extended reals -/

/-- A factor that is neither negative nor infinite distributes over a sum. -/
theorem sum_mul {ι : Type} (s : Finset ι) (f : ι → EReal) (c : EReal) (h0 : 0 ≤ c) (h1 : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 h1, ih]

theorem inv_ne_top (x : EReal) : x⁻¹ ≠ ⊤ := by
  induction x with
  | bot => simp
  | top => simp
  | coe r => rw [← EReal.coe_inv]; exact EReal.coe_ne_top _

theorem exp_nonneg (x : EReal) : 0 ≤ Ideal.exp x := by
  induction x with
  | bot => exact le_refl (0 : EReal)
  | top => exact le_top
  | coe r => exact EReal.coe_nonneg.mpr (Real.exp_pos r).le

theorem exp_bot : Ideal.exp ⊥ = 0 := rfl

theorem exp_zero : Ideal.exp 0 = 1 := by
  show ((Real.exp 0 : ℝ) : EReal) = 1
  rw [Real.exp_zero]; rfl

theorem fold_max {n : ℕ} (f : Fin n → EReal) : Finset.fold max ⊥ f Finset.univ = Finset.univ.sup f := rfl

/-! ## One row -/

/-- What is divided, and what it is divided by, for scores `a` with values `v`, and the new position's score and value. -/
def out {n : ℕ} (a v : Fin n → EReal) (s w : EReal) : EReal :=
  Ideal.div (∑ j, Ideal.exp (a j - max (Finset.univ.sup a) s) * v j + Ideal.exp (s - max (Finset.univ.sup a) s) * w)
    (∑ j, Ideal.exp (a j - max (Finset.univ.sup a) s) + Ideal.exp (s - max (Finset.univ.sup a) s))

/-- The same row over a longer range `A`, `V` that contains the window along `f` and is `⊥` elsewhere, with each
    exponential divided before it is multiplied; `⊥` where the largest score is infinite. -/
theorem out_eq {n N : ℕ} (a v : Fin n → EReal) (s w : EReal) (A V : Fin N → EReal) (f : Fin n → Fin N)
    (hf : Function.Injective f) (ha : ∀ j, A (f j) = a j) (hv : ∀ j, V (f j) = v j) (hA : ∀ t, (∀ j, f j ≠ t) → A t = ⊥)
    (T D : EReal) (hT : T = max (Finset.univ.sup A) s)
    (hD : D = ∑ t, Ideal.exp (A t - T) + Ideal.exp (s - T)) :
    out a v s w = if max T (-T) < ⊤ then
      (∑ t, Ideal.div (Ideal.exp (A t - T)) D * V t) + Ideal.div (Ideal.exp (s - T)) D * w else ⊥ := by
  have hsup : Finset.univ.sup a = Finset.univ.sup A := by
    apply le_antisymm
    · exact Finset.sup_le fun j _ => (ha j) ▸ Finset.le_sup (f := A) (Finset.mem_univ (f j))
    · refine Finset.sup_le fun t _ => ?_
      by_cases h : ∃ j, f j = t
      · obtain ⟨j, rfl⟩ := h
        rw [ha]; exact Finset.le_sup (f := a) (Finset.mem_univ j)
      · rw [hA t (fun j hj => h ⟨j, hj⟩)]; exact bot_le
  have hM : max (Finset.univ.sup a) s = T := by rw [hsup, hT]
  have hz : ∀ t, (∀ j, f j ≠ t) → Ideal.exp (A t - T) = 0 := by
    intro t ht; rw [hA t ht, EReal.bot_sub, exp_bot]
  have hsum : ∀ g : Fin N → EReal, (∀ t, (∀ j, f j ≠ t) → g t = 0) → ∑ t, g t = ∑ j, g (f j) := by
    intro g hg
    refine Eq.trans ?_ (Finset.sum_map Finset.univ ⟨f, hf⟩ g)
    symm
    apply Finset.sum_subset (Finset.subset_univ _)
    intro t _ ht
    apply hg
    intro j hj
    exact ht (Finset.mem_map.mpr ⟨j, Finset.mem_univ _, hj⟩)
  have hD' : D = ∑ j, Ideal.exp (a j - T) + Ideal.exp (s - T) := by
    rw [hD, hsum _ hz]; simp only [ha]
  have hle : ∀ t, A t ≤ T := fun t => by
    rw [hT]; exact le_max_of_le_left (Finset.le_sup (f := A) (Finset.mem_univ t))
  have hls : s ≤ T := by rw [hT]; exact le_max_right _ _
  unfold out
  rw [hM, ← hD']
  by_cases hfin : T = ⊤ ∨ T = ⊥
  · have hsub : ∀ x, x ≤ T → Ideal.exp (x - T) = 0 := by
      intro x hx
      rcases hfin with h | h
      · rw [h, EReal.sub_top, exp_bot]
      · have : x = ⊥ := by rw [h] at hx; exact le_bot_iff.mp hx
        rw [this, EReal.bot_sub, exp_bot]
    have h1 : ∀ j, Ideal.exp (a j - T) = 0 := fun j => hsub _ (ha j ▸ hle _)
    rw [if_neg (by rcases hfin with h | h <;> simp [h]), hD']
    simp only [h1, hsub s hls, zero_mul, Finset.sum_const_zero, add_zero]
    simp [Ideal.div]
  · rw [not_or] at hfin
    have hpos : D ≠ 0 := by
      have hself : Ideal.exp (T - T) = 1 := by
        rw [EReal.sub_self hfin.1 hfin.2, exp_zero]
      have h1 : 1 ≤ D := by
        rcases le_total (Finset.univ.sup A) s with h | h
        · have e : T = s := by rw [hT]; exact max_eq_right h
          have e1 : Ideal.exp (s - T) = 1 := by rw [← e, hself]
          rw [hD, e1]
          exact le_add_of_nonneg_left (Finset.sum_nonneg fun t _ => exp_nonneg _)
        · have e : T = Finset.univ.sup A := by rw [hT]; exact max_eq_left h
          have hne : (Finset.univ : Finset (Fin N)).Nonempty := by
            rw [Finset.nonempty_iff_ne_empty]; intro h0
            rw [h0] at e; exact hfin.2 (by rw [e]; rfl)
          obtain ⟨t, -, ht⟩ := Finset.exists_mem_eq_sup _ hne A
          have : Ideal.exp (A t - T) = 1 := by rw [← ht, ← e, hself]
          rw [hD, ← this]
          refine le_trans (Finset.single_le_sum (f := fun t => Ideal.exp (A t - T)) (fun t _ => exp_nonneg _) (Finset.mem_univ t)) ?_
          exact le_add_of_nonneg_right (exp_nonneg _)
      intro h0; rw [h0] at h1; exact absurd h1 (by norm_num)
    have hDn : 0 ≤ D := by
      rw [hD]; exact add_nonneg (Finset.sum_nonneg fun t _ => exp_nonneg _) (exp_nonneg _)
    have hI : 0 ≤ D⁻¹ := EReal.inv_nonneg_of_nonneg hDn
    have hlt : max T (-T) < ⊤ := by
      rw [max_lt_iff]
      refine ⟨lt_top_iff_ne_top.mpr hfin.1, lt_top_iff_ne_top.mpr ?_⟩
      intro h; exact hfin.2 (by rwa [EReal.neg_eq_top_iff] at h)
    have hdiv : ∀ x, Ideal.div x D = x * D⁻¹ := fun x => if_neg hpos
    rw [if_pos hlt, hdiv, EReal.right_distrib_of_nonneg_of_ne_top hI (inv_ne_top D), sum_mul _ _ _ hI (inv_ne_top D)]
    rw [hsum _ (fun t ht => by rw [hdiv, hz t ht, zero_mul, zero_mul])]
    simp only [hdiv, ha, hv]
    congr 1
    · exact Finset.sum_congr rfl fun j _ => by rw [mul_assoc, mul_assoc, mul_comm (v j)]
    · rw [mul_assoc, mul_assoc, mul_comm w]

end Cert.Attn

end
-- ==== Proof.KernelIdealAttn.lean ====
/-
  The kernel's attention on extended reals: one row of one block of eight query rows, as the attention row it is.
-/
module

public import proofs.«01_k».proof.Proof.KernelIdealLoads
public import proofs.«01_k».proof.Proof.Attn
import Idealize.ShloMosaic.Lib.Pointwise

@[expose] public section

noncomputable section

namespace Cert.KernelIdeal.Hand

open Cert.KernelIdeal Cert.KernelIdeal.Gen
open Idealize.ShloMosaic Idealize.ShloMosaic.TcCoe

/-- A query row's scores over the window. -/
def winScore (m : Fin 1152 → BitVec 1) (q : Fin 64 → EReal) (kw : Fin 64 → Fin 1152 → EReal) (ks : Fin 1152 → EReal)
    (j : Fin 1152) : EReal :=
  Scalar.select (m j) ((∑ i, q i * kw i j) * (ks j * Ideal.ofBits .f32 0x3E000000#32)) ⊥

/-- A query row's score at the new row. -/
def newScore (q kd : Fin 64 → EReal) : EReal := (∑ i, q i * kd i) * Ideal.ofBits .f32 0x3E000000#32

section
variable (mask : IVec S8x1152 1) (x : Vec Ideal S1x16x64 .bf16) (kw : Vec Ideal S1x64x1152 .fp8e4m3)
  (ks : Vec Ideal S1x1x1152 .f32) (kd : Vec Ideal S1x64 .f32) (vs : Vec Ideal S1x1x1152 .f32)
  (vw : Vec Ideal S1x64x1152 .fp8e4m3) (vd : Vec Ideal S1x64 .f32)

theorem fold_ninf {n : ℕ} (f : Fin n → EReal) :
    Finset.fold max (Ideal.ofBits .f32 0xFF800000#32) f Finset.univ = Finset.univ.sup f := by
  rw [Cert.Quant.ofBits_ninf]; rfl

/-! The first eight query rows. -/

theorem pay51_apply (g : Fin 8) (j : Fin 1152) : k0_pay51 mask x kw ks (ix2 g j)
    = winScore (fun j => mask (ix2 g j)) (fun i => x (ix3 0 (⟨g.val, by omega⟩ : Fin 16) i)) (fun i j => kw (ix3 0 i j)) (fun j => ks (ix3 0 0 j)) j := by
  unfold winScore
  rw [← Cert.Quant.ofBits_ninf]
  pointwise [k0_pay51, k0_pay50, k0_pay49]

theorem pay52_apply (g : Fin 8) : k0_pay52 x kd (ix2 g 0)
    = newScore (fun i => x (ix3 0 (⟨g.val, by omega⟩ : Fin 16) i)) (fun i => kd (ix2 0 i)) := by
  unfold newScore
  pointwise [k0_pay52, k0_pay50, k0_pay49]

theorem pay53_apply (g : Fin 8) : k0_pay53 mask x kw ks kd (ix2 g 0)
    = max (Finset.univ.sup fun j => k0_pay51 mask x kw ks (ix2 g j)) (k0_pay52 x kd (ix2 g 0)) := by
  rw [← fold_ninf]
  pointwise [k0_pay53]

theorem pay54_apply (g : Fin 8) (j : Fin 1152) : k0_pay54 mask x kw ks kd (ix2 g j)
    = Ideal.exp (k0_pay51 mask x kw ks (ix2 g j) - k0_pay53 mask x kw ks kd (ix2 g 0)) := by
  pointwise [k0_pay54]

theorem pay55_apply (g : Fin 8) : k0_pay55 mask x kw ks kd (ix2 g 0)
    = Ideal.exp (k0_pay52 x kd (ix2 g 0) - k0_pay53 mask x kw ks kd (ix2 g 0)) := by
  pointwise [k0_pay55]

theorem pay56_apply (g : Fin 8) : k0_pay56 mask x kw ks kd (ix2 g 0)
    = (∑ j, k0_pay54 mask x kw ks kd (ix2 g j)) + k0_pay55 mask x kw ks kd (ix2 g 0) := by
  pointwise [k0_pay56]

theorem gA_apply (g : Fin 8) (d : Fin 64) : gA mask x kw ks kd vs vw vd (ix3 0 g d)
    = Cert.Attn.out
        (winScore (fun j => mask (ix2 g j)) (fun i => x (ix3 0 (⟨g.val, by omega⟩ : Fin 16) i)) (fun i j => kw (ix3 0 i j)) (fun j => ks (ix3 0 0 j)))
        (fun j => vs (ix3 0 0 j) * vw (ix3 0 d j))
        (newScore (fun i => x (ix3 0 (⟨g.val, by omega⟩ : Fin 16) i)) (fun i => kd (ix2 0 i))) (vd (ix2 0 d)) := by
  unfold gA Cert.Attn.out
  refine Eq.trans (b := Ideal.div ((∑ j, k0_pay54 mask x kw ks kd (ix2 g j) * vs (ix3 0 0 j) * vw (ix3 0 d j))
    + k0_pay55 mask x kw ks kd (ix2 g 0) * vd (ix2 0 d)) (k0_pay56 mask x kw ks kd (ix2 g 0))) ?_ ?_
  · generalize k0_pay54 mask x kw ks kd = p
    generalize k0_pay55 mask x kw ks kd = pn
    generalize k0_pay56 mask x kw ks kd = sm
    pointwise [k0_pay65]
  · rw [pay56_apply]
    simp only [pay54_apply, pay55_apply, pay53_apply, pay52_apply, pay51_apply, mul_assoc]

/-! The last eight query rows. -/

theorem pay59_apply (g : Fin 8) (j : Fin 1152) : k0_pay59 mask (k0_pay58 x kw) ks (ix2 g j)
    = winScore (fun j => mask (ix2 g j)) (fun i => x (ix3 0 (⟨8 + g.val, by omega⟩ : Fin 16) i)) (fun i j => kw (ix3 0 i j)) (fun j => ks (ix3 0 0 j)) j := by
  unfold winScore
  rw [← Cert.Quant.ofBits_ninf]
  pointwise [k0_pay59, k0_pay58, k0_pay57, k0_pay49]

theorem pay60_apply (g : Fin 8) : k0_pay60 (k0_pay57 x) kd (ix2 g 0)
    = newScore (fun i => x (ix3 0 (⟨8 + g.val, by omega⟩ : Fin 16) i)) (fun i => kd (ix2 0 i)) := by
  unfold newScore
  pointwise [k0_pay60, k0_pay57, k0_pay49]

section
variable (xb : FVec Ideal S8x64 .bf16) (sc : FVec Ideal S8x1152 .f32)

theorem pay61_apply (g : Fin 8) : k0_pay61 mask xb sc ks kd (ix2 g 0)
    = max (Finset.univ.sup fun j => k0_pay59 mask sc ks (ix2 g j)) (k0_pay60 xb kd (ix2 g 0)) := by
  rw [← fold_ninf]
  pointwise [k0_pay61]

theorem pay62_apply (g : Fin 8) (j : Fin 1152) : k0_pay62 mask xb sc ks kd (ix2 g j)
    = Ideal.exp (k0_pay59 mask sc ks (ix2 g j) - k0_pay61 mask xb sc ks kd (ix2 g 0)) := by
  pointwise [k0_pay62]

theorem pay63_apply (g : Fin 8) : k0_pay63 mask xb sc ks kd (ix2 g 0)
    = Ideal.exp (k0_pay60 xb kd (ix2 g 0) - k0_pay61 mask xb sc ks kd (ix2 g 0)) := by
  pointwise [k0_pay63]

theorem pay64_apply (g : Fin 8) : k0_pay64 mask xb sc ks kd (ix2 g 0)
    = (∑ j, k0_pay62 mask xb sc ks kd (ix2 g j)) + k0_pay63 mask xb sc ks kd (ix2 g 0) := by
  pointwise [k0_pay64]
end

theorem gB_apply (g : Fin 8) (d : Fin 64) : gB mask x kw ks kd vs vw vd (ix3 0 g d)
    = Cert.Attn.out
        (winScore (fun j => mask (ix2 g j)) (fun i => x (ix3 0 (⟨8 + g.val, by omega⟩ : Fin 16) i)) (fun i j => kw (ix3 0 i j)) (fun j => ks (ix3 0 0 j)))
        (fun j => vs (ix3 0 0 j) * vw (ix3 0 d j))
        (newScore (fun i => x (ix3 0 (⟨8 + g.val, by omega⟩ : Fin 16) i)) (fun i => kd (ix2 0 i))) (vd (ix2 0 d)) := by
  unfold gB Cert.Attn.out
  refine Eq.trans (b := Ideal.div ((∑ j, k0_pay62 mask (k0_pay57 x) (k0_pay58 x kw) ks kd (ix2 g j) * vs (ix3 0 0 j) * vw (ix3 0 d j))
    + k0_pay63 mask (k0_pay57 x) (k0_pay58 x kw) ks kd (ix2 g 0) * vd (ix2 0 d)) (k0_pay64 mask (k0_pay57 x) (k0_pay58 x kw) ks kd (ix2 g 0))) ?_ ?_
  · generalize k0_pay62 mask (k0_pay57 x) (k0_pay58 x kw) ks kd = p
    generalize k0_pay63 mask (k0_pay57 x) (k0_pay58 x kw) ks kd = pn
    generalize k0_pay64 mask (k0_pay57 x) (k0_pay58 x kw) ks kd = sm
    pointwise [k0_pay68, k0_pay66, k0_pay67]
  · rw [pay64_apply]
    simp only [pay62_apply, pay63_apply, pay61_apply, pay60_apply, pay59_apply, mul_assoc]

end

end Cert.KernelIdeal.Hand

end
-- ==== Proof.Mask.lean ====
/-
  Which positions of the cache a query sees, and where the window the kernel copies in lies among them.
-/
module

public import proofs.«01_k».proof.Proof.KernelIdealLoadsAt
import Idealize.ShloMosaic.Lib.Pointwise

@[expose] public section

noncomputable section

namespace Cert.KernelIdeal.Hand

open Cert.KernelIdeal Cert.KernelIdeal.Gen
open Idealize.ShloMosaic Idealize.ShloMosaic.TcCoe

/-- Whether a query with `w` positions behind it sees position `t`. -/
def cacheMask (w : BitVec 32) (t : Fin 16384) : BitVec 1 :=
  IntOp.andi (IntOp.cmpi .slt (BitVec.ofNat 32 t.val) w) (IntOp.cmpi .sgt (BitVec.ofNat 32 t.val) (IntOp.subi w 1024#32))

theorem cacheMask_eq (w : BitVec 32) (t : Fin 16384) :
    cacheMask w t = if (t.val : ℤ) < w.toInt ∧ w.toInt - 1024 < t.val then 1#1 else 0#1 := by
  have ht : (BitVec.ofNat 32 t.val).toInt = t.val := by
    rw [BitVec.toInt_eq_toNat_cond, BitVec.toNat_ofNat]; split_ifs <;> omega
  have h2 : w.toInt < 2147483648 := by have := BitVec.toInt_lt (x := w); simpa using this
  have e1 : (BitVec.ofNat 32 t.val).slt w = decide ((t.val : ℤ) < w.toInt) := by
    rw [BitVec.slt_eq_decide, ht]
  unfold cacheMask
  simp only [IntOp.cmpi, IntOp.andi, IntOp.subi, e1]
  by_cases h : (t.val : ℤ) < w.toInt
  · have hs : (w - 1024#32).toInt = w.toInt - 1024 := by
      rw [BitVec.toInt_sub]
      exact Int.bmod_eq_of_le (by simp; omega) (by simp; omega)
    rw [BitVec.slt_eq_decide, hs, ht]
    by_cases h' : w.toInt - 1024 < t.val <;> simp [h, h']
  · simp [h]

theorem winMask_eq (w t : BitVec 32) (n : ℕ) (hn : n < 16384) (ht : t = BitVec.ofNat 32 n) :
    IntOp.andi (IntOp.cmpi .sge t (IntOp.subi w 1023#32)) (IntOp.cmpi .slt t (IntOp.addi (IntOp.subi w 1023#32) 1023#32))
      = if (n : ℤ) < w.toInt ∧ w.toInt - 1024 < n then 1#1 else 0#1 := by
  have hi : t.toInt = n := by
    rw [ht, BitVec.toInt_eq_toNat_cond, BitVec.toNat_ofNat]; split_ifs <;> omega
  have h2 : w.toInt < 2147483648 := by have := BitVec.toInt_lt (x := w); simpa using this
  have e0 : IntOp.addi (IntOp.subi w 1023#32) 1023#32 = w := BitVec.sub_add_cancel w 1023#32
  have e1 : t.slt w = decide ((n : ℤ) < w.toInt) := by
    rw [BitVec.slt_eq_decide, hi]
  rw [e0]
  simp only [IntOp.cmpi, IntOp.andi, IntOp.subi, e1]
  by_cases h : (n : ℤ) < w.toInt
  · have hs : (w - 1023#32).toInt = w.toInt - 1023 := by
      rw [BitVec.toInt_sub]
      exact Int.bmod_eq_of_le (by simp; omega) (by simp; omega)
    rw [BitVec.sle_eq_decide, hs, hi]
    by_cases h' : w.toInt - 1024 < n
    · have : w.toInt - 1023 ≤ n := by omega
      simp [h, h', this]
    · have : ¬ w.toInt - 1023 ≤ n := by omega
      simp [h, h', this]
  · simp [h]

/-- In the window the kernel's mask is the cache's. -/
theorem mask_win (w : BitVec 32) (g : Fin 8) (j : Fin 1152) :
    k0_pay48 (F := Ideal) w (ix2 g j) = cacheMask w (winPos w j) := by
  rw [cacheMask_eq]
  refine Eq.trans ?_ (winMask_eq w (IntOp.addi (BitVec.ofNat 32 j.val) (winBase w)) _ (winPos w j).isLt ?_)
  · pointwise [k0_pay48]
    rfl
  · apply BitVec.eq_of_toNat_eq
    have := winBase_le w
    show (BitVec.ofNat 32 j.val + winBase w).toNat = (BitVec.ofNat 32 ((winBase w).toNat + j.val)).toNat
    rw [BitVec.toNat_add, BitVec.toNat_ofNat, BitVec.toNat_ofNat]
    omega

/-- Outside the window no position is seen. -/
theorem mask_off (w : BitVec 32) (t : Fin 16384) (h : ∀ j, winPos w j ≠ t) : cacheMask w t = 0#1 := by
  rw [cacheMask_eq]
  apply if_neg
  rintro ⟨h1, h2⟩
  have hb := winBase_toInt w
  have hle := winBase_le w
  have hc : (winBase w).toInt = (winBase w).toNat := by
    rw [BitVec.toInt_eq_toNat_cond]; split_ifs <;> omega
  have hw : w.toInt < 2147483648 := by have := BitVec.toInt_lt (x := w); simpa using this
  have hs : (w - 1023#32).toInt = w.toInt - 1023 := by
    rw [BitVec.toInt_sub]
    exact Int.bmod_eq_of_le (by simp; omega) (by simp; omega)
  rw [hs, hc] at hb
  have ht := t.isLt
  have hlo : (winBase w).toNat ≤ t.val := by omega
  have hhi : t.val < (winBase w).toNat + 1152 := by omega
  exact h ⟨t.val - (winBase w).toNat, by omega⟩ (Fin.ext (by show (winBase w).toNat + (t.val - (winBase w).toNat) = t.val; omega))

theorem winPos_inj (w : BitVec 32) : Function.Injective (winPos w) := by
  intro i j h
  have := congrArg Fin.val h
  simp only [winPos] at this
  exact Fin.ext (by omega)

end Cert.KernelIdeal.Hand

end
-- ==== Proof.Spec.lean ====
/-
  The results as functions of the arguments: the attention row over the window, and the same row over the whole cache.
-/
module

public import proofs.«01_k».proof.Proof.KernelIdealQuant
public import proofs.«01_k».proof.Proof.KernelIdealAttn
public import proofs.«01_k».proof.Proof.Mask

@[expose] public section

noncomputable section

namespace Cert.Spec

open Idealize.ShloMosaic
open Cert.KernelIdeal.Hand (winScore newScore cacheMask winPos mask_off winPos_inj)
open Cert.Quant (code scale rowR Tame)

/-- One entry of the attention, from the window of the cache that holds every position seen. -/
def winOut (q : Fin 64 → EReal) (w : BitVec 32) (K : Fin 64 → Fin 16384 → EReal) (KS VW VS : Fin 16384 → EReal)
    (kn vn : Fin 64 → EReal) (d : Fin 64) : EReal :=
  Cert.Attn.out (winScore (fun j => cacheMask w (winPos w j)) q (fun i j => K i (winPos w j)) (fun j => KS (winPos w j)))
    (fun j => VS (winPos w j) * VW (winPos w j))
    (newScore q (fun i => code kn i * scale (rowR kn))) (code vn d * scale (rowR vn))

theorem out_congr {m m' : Fin 1152 → BitVec 1} {q q' kd kd' : Fin 64 → EReal} {kw kw' : Fin 64 → Fin 1152 → EReal}
    {ks ks' v v' : Fin 1152 → EReal} {w w' : EReal} (hm : ∀ j, m j = m' j) (hq : ∀ i, q i = q' i)
    (hkw : ∀ i j, kw i j = kw' i j) (hks : ∀ j, ks j = ks' j) (hv : ∀ j, v j = v' j) (hkd : ∀ i, kd i = kd' i) (hw : w = w') :
    Cert.Attn.out (winScore m q kw ks) v (newScore q kd) w = Cert.Attn.out (winScore m' q' kw' ks') v' (newScore q' kd') w' := by
  obtain rfl : m = m' := funext hm
  obtain rfl : q = q' := funext hq
  obtain rfl : kw = kw' := funext fun i => funext (hkw i)
  obtain rfl : ks = ks' := funext hks
  obtain rfl : v = v' := funext hv
  obtain rfl : kd = kd' := funext hkd
  rw [hw]

/-- The score of a cache position. -/
def cacheScore (q : Fin 64 → EReal) (w : BitVec 32) (K : Fin 64 → Fin 16384 → EReal) (KS : Fin 16384 → EReal) (t : Fin 16384) : EReal :=
  Scalar.select (cacheMask w t) ((∑ i, K i t * q i) * KS t * Ideal.ofBits .f32 0x3E000000#32) ⊥

/-- The score of the new position. -/
def rowScore (q kn : Fin 64 → EReal) : EReal :=
  (∑ i, code kn i * q i) * scale (rowR kn) * Ideal.ofBits .f32 0x3E000000#32

theorem rowScore_eq (q kn : Fin 64 → EReal) (h : Tame (rowR kn)) :
    newScore q (fun i => code kn i * scale (rowR kn)) = rowScore q kn := by
  unfold newScore rowScore
  rw [Cert.Attn.sum_mul _ _ _ (Cert.Quant.scale_pos h).1 (Cert.Quant.scale_pos h).2]
  congr 1
  refine Finset.sum_congr rfl fun i _ => ?_
  rw [← mul_assoc, mul_comm (q i)]

/-- One entry of the attention, from the whole cache, with the positions not seen at minus infinity. -/
theorem winOut_eq (q : Fin 64 → EReal) (w : BitVec 32) (K : Fin 64 → Fin 16384 → EReal) (KS VW VS : Fin 16384 → EReal)
    (kn vn : Fin 64 → EReal) (d : Fin 64) (h : Tame (rowR kn)) (T D : EReal)
    (hT : T = max (Finset.univ.sup (cacheScore q w K KS)) (rowScore q kn))
    (hD : D = ∑ t, Ideal.exp (cacheScore q w K KS t - T) + Ideal.exp (rowScore q kn - T)) :
    winOut q w K KS VW VS kn vn d = if max T (-T) < ⊤ then
      (∑ t, VW t * (Ideal.div (Ideal.exp (cacheScore q w K KS t - T)) D * VS t))
        + code vn d * (Ideal.div (Ideal.exp (rowScore q kn - T)) D * scale (rowR vn)) else ⊥ := by
  unfold winOut
  rw [rowScore_eq q kn h, Cert.Attn.out_eq _ _ _ _ (cacheScore q w K KS) (fun t => VS t * VW t) (winPos w) (winPos_inj w)
    (fun j => ?score) (fun _ => rfl) (fun t ht => ?_) T D hT hD]
  · have e1 : (∑ t, Ideal.div (Ideal.exp (cacheScore q w K KS t - T)) D * (VS t * VW t))
        = ∑ t, VW t * (Ideal.div (Ideal.exp (cacheScore q w K KS t - T)) D * VS t) :=
      Finset.sum_congr rfl fun t _ => by rw [← mul_assoc, mul_comm (VW t)]
    rw [e1, mul_left_comm]
  case score =>
    have e : (∑ i, K i (winPos w j) * q i) = ∑ i, q i * K i (winPos w j) := Finset.sum_congr rfl fun i _ => mul_comm _ _
    unfold cacheScore winScore
    rw [e, mul_assoc]
  · unfold cacheScore
    rw [mask_off w t ht]
    rfl

section
variable (a0 : Vec Ideal ⟨4, ![32, 1, 16, 64]⟩ .bf16) (a1 a2 : Vec Ideal ⟨4, ![32, 1, 2, 64]⟩ .bf16)
  (a3 a4 : Vec Ideal ⟨4, ![32, 16384, 2, 64]⟩ .fp8e4m3) (a5 a6 : Vec Ideal ⟨3, ![32, 16384, 2]⟩ .f32) (a7 : Vec Ideal ⟨1, ![32]⟩ .i32)

/-- A new row of one head. -/
def row (x : Vec Ideal ⟨4, ![32, 1, 2, 64]⟩ .bf16) (b : Fin 32) (k : Fin 2) : Fin 64 → EReal := fun i => x (ix4 b 0 k i)

/-- One entry of the attention, of head `g` of the queries that read key head `k`. -/
def entry (b : Fin 32) (k : Fin 2) (g : Fin 8) (d : Fin 64) : EReal :=
  winOut (fun i => a0 (ix4 b 0 (⟨k.val * 8 + g.val, by omega⟩ : Fin 16) i)) (a7 (ix1 b)) (fun i t => a3 (ix4 b t k i)) (fun t => a5 (ix3 b t k))
    (fun t => a4 (ix4 b t k d)) (fun t => a6 (ix3 b t k)) (row a1 b k) (row a2 b k) d

/-- The attention. -/
def attn : Vec Ideal ⟨3, ![32, 16, 64]⟩ .bf16 := fun i =>
  entry a0 a1 a2 a3 a4 a5 a6 a7 (i 0) (⟨(i 1).val / 8, by have : (i 1).val < 16 := (i 1).isLt; omega⟩ : Fin 2)
    (⟨(i 1).val % 8, by omega⟩ : Fin 8) (i 2)

/-- The codes of the new rows. -/
def codes (x : Vec Ideal ⟨4, ![32, 1, 2, 64]⟩ .bf16) : Vec Ideal ⟨3, ![2, 32, 64]⟩ .fp8e4m3 := fun i => code (row x (i 1) (i 0)) (i 2)

/-- The scales of the new rows. -/
def scales (x : Vec Ideal ⟨4, ![32, 1, 2, 64]⟩ .bf16) : Vec Ideal ⟨2, ![2, 32]⟩ .f32 := fun i => scale (rowR (row x (i 1) (i 0)))

theorem attn_apply (b : Fin 32) (k : Fin 2) (g : Fin 8) (d : Fin 64) :
    attn a0 a1 a2 a3 a4 a5 a6 a7 (ix3 b (⟨k.val * 8 + g.val, by omega⟩ : Fin 16) d) = entry a0 a1 a2 a3 a4 a5 a6 a7 b k g d := by
  have hk : (⟨(k.val * 8 + g.val) / 8, by omega⟩ : Fin 2) = k := Fin.ext (by show (k.val * 8 + g.val) / 8 = k.val; omega)
  have hg : (⟨(k.val * 8 + g.val) % 8, by omega⟩ : Fin 8) = g := Fin.ext (by show (k.val * 8 + g.val) % 8 = g.val; omega)
  show entry a0 a1 a2 a3 a4 a5 a6 a7 b (⟨(k.val * 8 + g.val) / 8, _⟩ : Fin 2) (⟨(k.val * 8 + g.val) % 8, _⟩ : Fin 8) d = _
  rw [hk, hg]

/-- Two attention arrays are equal when every entry is. -/
theorem attn_ext {x y : Vec Ideal ⟨3, ![32, 16, 64]⟩ .bf16}
    (h : ∀ (b : Fin 32) (k : Fin 2) (g : Fin 8) (d : Fin 64), x (ix3 b (⟨k.val * 8 + g.val, by omega⟩ : Fin 16) d) = y (ix3 b (⟨k.val * 8 + g.val, by omega⟩ : Fin 16) d)) :
    x = y := by
  funext i
  obtain ⟨b, n, d, rfl⟩ : ∃ (b : Fin 32) (n : Fin 16) (d : Fin 64), i = ix3 b n d := ⟨i 0, i 1, i 2, ValueIdx.eq_ix3 i⟩
  have := h b (⟨n.val / 8, by omega⟩ : Fin 2) (⟨n.val % 8, by omega⟩ : Fin 8) d
  have hn : (⟨(⟨n.val / 8, by omega⟩ : Fin 2).val * 8 + (⟨n.val % 8, by omega⟩ : Fin 8).val, by show n.val / 8 * 8 + n.val % 8 < 16; omega⟩ : Fin 16) = n :=
    Fin.ext (by show n.val / 8 * 8 + n.val % 8 = n.val; omega)
  rw [hn] at this
  exact this

theorem codes_ext {x y : Vec Ideal ⟨3, ![2, 32, 64]⟩ .fp8e4m3} (h : ∀ (k : Fin 2) (b : Fin 32) (d : Fin 64), x (ix3 k b d) = y (ix3 k b d)) : x = y := by
  funext i
  rw [ValueIdx.eq_ix3 i]
  exact h _ _ _

theorem scales_ext {x y : Vec Ideal ⟨2, ![2, 32]⟩ .f32} (h : ∀ (k : Fin 2) (b : Fin 32), x (ix2 k b) = y (ix2 k b)) : x = y := by
  funext i
  rw [ValueIdx.eq_ix2 i]
  exact h _ _

end

end Cert.Spec

end
-- ==== Proof.KernelIdealValue.lean ====
/-
  The results of the kernel on extended reals, as functions of the arguments.
-/
module

public import proofs.«01_k».proof.Proof.KernelIdealRun
public import proofs.«01_k».proof.Proof.KernelIdealPieces
public import proofs.«01_k».proof.Proof.Spec
import Idealize.ShloMosaic.Lib.Pointwise
import Idealize.ShloMosaic.Lib.StableHlo.RunRead

@[expose] public section

set_option maxRecDepth 16384

noncomputable section

namespace Cert.KernelIdeal.Hand

open Cert.KernelIdeal Cert.KernelIdeal.Gen
open Idealize.ShloMosaic Idealize.ShloMosaic.TcCoe
open Cert.Quant (code scale rowR)

/-! ## The region's operands, read at an index -/

section
variable (m : (ℓ : Loc nD τ sig) → Buf (Elt Ideal) ℓ) (c : Dev nD)

/-- Argument 0. -/
def A0 : Vec Ideal S32x1x16x64 .bf16 := m ((c.tc : Thread nD τ).loc main_arg0)
/-- Argument 1. -/
def A1 : Vec Ideal S32x1x2x64 .bf16 := m ((c.tc : Thread nD τ).loc main_arg1)
/-- Argument 2. -/
def A2 : Vec Ideal S32x1x2x64 .bf16 := m ((c.tc : Thread nD τ).loc main_arg2)
/-- Argument 3. -/
def A3 : Vec Ideal S32x16384x2x64 .fp8e4m3 := m ((c.tc : Thread nD τ).loc main_arg3)
/-- Argument 4. -/
def A4 : Vec Ideal S32x16384x2x64 .fp8e4m3 := m ((c.tc : Thread nD τ).loc main_arg4)
/-- Argument 5. -/
def A5 : Vec Ideal S32x16384x2 .f32 := m ((c.tc : Thread nD τ).loc main_arg5)
/-- Argument 6. -/
def A6 : Vec Ideal S32x16384x2 .f32 := m ((c.tc : Thread nD τ).loc main_arg6)
/-- Argument 7. -/
def A7 : Vec Ideal S32 .i32 := m ((c.tc : Thread nD τ).loc main_arg7)

theorem V_v0 : (V m c main_v0 : Vec Ideal S32x16x64 .bf16) = shapeCast S32x16x64 (A0 m c) shapeCasts_S32x1x16x64_S32x16x64 := by
  after_reads_simp; rfl
theorem V_v1 : (V m c main_v1 : Vec Ideal S32x2x64 .bf16) = shapeCast S32x2x64 (A1 m c) shapeCasts_S32x1x2x64_S32x2x64 := by
  after_reads_simp; rfl
theorem V_v2 : (V m c main_v2 : Vec Ideal S32x2x64 .bf16) = shapeCast S32x2x64 (A2 m c) shapeCasts_S32x1x2x64_S32x2x64 := by
  after_reads_simp; rfl
theorem V_v4 : (V m c main_v4 : Vec Ideal S32x128x16384 .fp8e4m3) = shapeCast S32x128x16384 (transpose S32x2x64x16384 [0, 2, 3, 1] (A3 m c) transposes_S32x16384x2x64_S32x2x64x16384_0_2_3_1) shapeCasts_S32x2x64x16384_S32x128x16384 := by
  after_reads_simp; rfl
theorem V_v6 : (V m c main_v6 : Vec Ideal S32x128x16384 .fp8e4m3) = shapeCast S32x128x16384 (transpose S32x2x64x16384 [0, 2, 3, 1] (A4 m c) transposes_S32x16384x2x64_S32x2x64x16384_0_2_3_1) shapeCasts_S32x2x64x16384_S32x128x16384 := by
  after_reads_simp; rfl
theorem V_v7 : (V m c main_v7 : Vec Ideal S32x2x16384 .f32) = transpose S32x2x16384 [0, 2, 1] (A5 m c) transposes_S32x16384x2_S32x2x16384_0_2_1 := by
  after_reads_simp; rfl
theorem V_v8 : (V m c main_v8 : Vec Ideal S32x2x16384 .f32) = transpose S32x2x16384 [0, 2, 1] (A6 m c) transposes_S32x16384x2_S32x2x16384_0_2_1 := by
  after_reads_simp; rfl

theorem V_v0_apply (b : Fin 32) (h : Fin 16) (i : Fin 64) : (V m c main_v0 : Vec Ideal S32x16x64 .bf16) (ix3 b h i) = A0 m c (ix4 b 0 h i) := by
  rw [V_v0]; pointwise []
theorem V_v1_apply (b : Fin 32) (k : Fin 2) (i : Fin 64) : (V m c main_v1 : Vec Ideal S32x2x64 .bf16) (ix3 b k i) = A1 m c (ix4 b 0 k i) := by
  rw [V_v1]; pointwise []
theorem V_v2_apply (b : Fin 32) (k : Fin 2) (i : Fin 64) : (V m c main_v2 : Vec Ideal S32x2x64 .bf16) (ix3 b k i) = A2 m c (ix4 b 0 k i) := by
  rw [V_v2]; pointwise []

/-- A cache laid out by head and lane, read at head `k` and lane `i`. -/
theorem lanes_apply (x : Vec Ideal S32x16384x2x64 .fp8e4m3) (b : Fin 32) (k : Fin 2) (i : Fin 64) (t : Fin 16384) :
    shapeCast S32x128x16384 (transpose S32x2x64x16384 [0, 2, 3, 1] x transposes_S32x16384x2x64_S32x2x64x16384_0_2_3_1) shapeCasts_S32x2x64x16384_S32x128x16384
      (ix3 b (⟨k.val * 64 + i.val, by omega⟩ : Fin 128) t) = x (ix4 b t k i) := by
  pointwise []

theorem V_v4_apply (b : Fin 32) (k : Fin 2) (i : Fin 64) (t : Fin 16384) :
    (V m c main_v4 : Vec Ideal S32x128x16384 .fp8e4m3) (ix3 b (⟨k.val * 64 + i.val, by omega⟩ : Fin 128) t) = A3 m c (ix4 b t k i) := by
  rw [V_v4]; exact lanes_apply _ b k i t
theorem V_v6_apply (b : Fin 32) (k : Fin 2) (i : Fin 64) (t : Fin 16384) :
    (V m c main_v6 : Vec Ideal S32x128x16384 .fp8e4m3) (ix3 b (⟨k.val * 64 + i.val, by omega⟩ : Fin 128) t) = A4 m c (ix4 b t k i) := by
  rw [V_v6]; exact lanes_apply _ b k i t
theorem V_v7_apply (b : Fin 32) (k : Fin 2) (t : Fin 16384) : (V m c main_v7 : Vec Ideal S32x2x16384 .f32) (ix3 b k t) = A5 m c (ix3 b t k) := by
  rw [V_v7]; pointwise []
theorem V_v8_apply (b : Fin 32) (k : Fin 2) (t : Fin 16384) : (V m c main_v8 : Vec Ideal S32x2x16384 .f32) (ix3 b k t) = A6 m c (ix3 b t k) := by
  rw [V_v8]; pointwise []
theorem V_arg7_apply (b : Fin 32) : (V m c main_arg7 : Vec Ideal S32 .i32) (ix1 b) = A7 m c (ix1 b) := congrFun (V_main_arg7 m c) (ix1 b)

end

/-! ## The attention output -/

section
variable (m : (ℓ : Loc nD τ sig) → Buf (Elt Ideal) ℓ) (c : Dev nD)
variable (s0 : Bf (F := Ideal) c cc0_scratch0)
variable (s1 : Bf (F := Ideal) c cc0_scratch1)
variable (s2 : Bf (F := Ideal) c cc0_scratch2)
variable (s3 : Bf (F := Ideal) c cc0_scratch3)
variable (s4 : Bf (F := Ideal) c cc0_scratch4)
variable (s5 : Bf (F := Ideal) c cc0_scratch5)
variable (s6 : Bf (F := Ideal) c cc0_scratch6)
variable (s7 : Bf (F := Ideal) c cc0_scratch7)

theorem outA_apply (b : Fin 32) (g : Fin 8) (d : Fin 64) :
    outA c (V m c main_v0) (V m c main_v1) (V m c main_v2) (V m c main_v4) (V m c main_v6) (V m c main_v7) (V m c main_v8) (V m c main_arg7) s0 s1 s2 s3 s4 s5 s6 s7 b.val b.isLt (ix3 0 g d)
      = Cert.Spec.entry (A0 m c) (A1 m c) (A2 m c) (A3 m c) (A4 m c) (A5 m c) (A6 m c) (A7 m c) b 0 g d := by
  have hh : (⟨g.val, by omega⟩ : Fin 16) = (⟨(0 : Fin 2).val * 8 + g.val, by show 0 * 8 + g.val < 16; omega⟩ : Fin 16) := Fin.ext (by show _ = 0 * 8 + g.val; simp)
  have hw : lenAt c (V m c main_arg7) s7 b = A7 m c (ix1 b) := (lenAt_eq c _ s7 b).trans (V_arg7_apply m c b)
  have hK : rowK c (V m c main_v1) b 0 = Cert.Spec.row (A1 m c) b 0 := funext fun i => V_v1_apply m c b 0 i
  have hV : rowV c (V m c main_v2) b 0 = Cert.Spec.row (A2 m c) b 0 := funext fun i => V_v2_apply m c b 0 i
  refine (gA_apply _ _ _ _ _ _ _ _ g d).trans ?_
  unfold Cert.Spec.entry Cert.Spec.winOut
  refine Cert.Spec.out_congr (fun j => ?_) (fun i => ?_) (fun i j => ?_) (fun j => ?_) (fun j => ?_) (fun i => ?_) ?_
  · exact (congrArg (fun w => k0_pay48 (F := Ideal) w (ix2 g j)) hw).trans (mask_win _ g j)
  · rw [hh]; exact (ldX_apply c _ s0 b _ i).trans (V_v0_apply m c b _ i)
  · refine (ldK_apply c (V m c main_v4) (V m c main_arg7) s3 s7 b 0 i j).trans ((V_v4_apply m c b 0 i _).trans ?_)
    rw [V_arg7_apply]
  · refine (ldKS_apply c (V m c main_v7) (V m c main_arg7) s5 s7 b 0 j).trans ((V_v7_apply m c b 0 _).trans ?_)
    rw [V_arg7_apply]
  · refine congrArg₂ (· * ·) ?_ ?_
    · refine (ldVS_apply c (V m c main_v8) (V m c main_arg7) s6 s7 b 0 j).trans ((V_v8_apply m c b 0 _).trans ?_)
      rw [V_arg7_apply]
    · refine (ldV_apply c (V m c main_v6) (V m c main_arg7) s4 s7 b 0 d j).trans ((V_v6_apply m c b 0 d _).trans ?_)
      rw [V_arg7_apply]
  · refine (deqK_apply c (V m c main_v1) s1 b 0 i).trans ?_
    rw [hK]
  · refine (deqV_apply c (V m c main_v2) s2 b 0 d).trans ?_
    rw [hV]

theorem outB_apply (b : Fin 32) (g : Fin 8) (d : Fin 64) :
    outB c (V m c main_v0) (V m c main_v1) (V m c main_v2) (V m c main_v4) (V m c main_v6) (V m c main_v7) (V m c main_v8) (V m c main_arg7) s0 s1 s2 s3 s4 s5 s6 s7 b.val b.isLt (ix3 0 g d)
      = Cert.Spec.entry (A0 m c) (A1 m c) (A2 m c) (A3 m c) (A4 m c) (A5 m c) (A6 m c) (A7 m c) b 1 g d := by
  have hh : (⟨8 + g.val, by omega⟩ : Fin 16) = (⟨(1 : Fin 2).val * 8 + g.val, by show 1 * 8 + g.val < 16; omega⟩ : Fin 16) := Fin.ext (by show _ = 1 * 8 + g.val; simp)
  have hw : lenAt c (V m c main_arg7) s7 b = A7 m c (ix1 b) := (lenAt_eq c _ s7 b).trans (V_arg7_apply m c b)
  have hK : rowK c (V m c main_v1) b 1 = Cert.Spec.row (A1 m c) b 1 := funext fun i => V_v1_apply m c b 1 i
  have hV : rowV c (V m c main_v2) b 1 = Cert.Spec.row (A2 m c) b 1 := funext fun i => V_v2_apply m c b 1 i
  refine (gB_apply _ _ _ _ _ _ _ _ g d).trans ?_
  unfold Cert.Spec.entry Cert.Spec.winOut
  refine Cert.Spec.out_congr (fun j => ?_) (fun i => ?_) (fun i j => ?_) (fun j => ?_) (fun j => ?_) (fun i => ?_) ?_
  · exact (congrArg (fun w => k0_pay48 (F := Ideal) w (ix2 g j)) hw).trans (mask_win _ g j)
  · rw [hh]; exact (ldX_apply c _ s0 b _ i).trans (V_v0_apply m c b _ i)
  · refine (ldK_apply c (V m c main_v4) (V m c main_arg7) s3 s7 b 1 i j).trans ((V_v4_apply m c b 1 i _).trans ?_)
    rw [V_arg7_apply]
  · refine (ldKS_apply c (V m c main_v7) (V m c main_arg7) s5 s7 b 1 j).trans ((V_v7_apply m c b 1 _).trans ?_)
    rw [V_arg7_apply]
  · refine congrArg₂ (· * ·) ?_ ?_
    · refine (ldVS_apply c (V m c main_v8) (V m c main_arg7) s6 s7 b 1 j).trans ((V_v8_apply m c b 1 _).trans ?_)
      rw [V_arg7_apply]
    · refine (ldV_apply c (V m c main_v6) (V m c main_arg7) s4 s7 b 1 d j).trans ((V_v6_apply m c b 1 d _).trans ?_)
      rw [V_arg7_apply]
  · refine (deqK_apply c (V m c main_v1) s1 b 1 i).trans ?_
    rw [hK]
  · refine (deqV_apply c (V m c main_v2) s2 b 1 d).trans ?_
    rw [hV]

end

/-! ## The results -/

section
variable (m : (ℓ : Loc nD τ sig) → Buf (Elt Ideal) ℓ)

/-- The results. -/
def X (c : Dev nD) : Bf (F := Ideal) c main_v9_0 × Bf (F := Ideal) c main_v9_1 × Bf (F := Ideal) c main_v9_2 × Bf (F := Ideal) c main_v9_3 × Bf (F := Ideal) c main_v9_4 :=
  (Cert.Spec.attn (A0 m c) (A1 m c) (A2 m c) (A3 m c) (A4 m c) (A5 m c) (A6 m c) (A7 m c), Cert.Spec.codes (A1 m c), Cert.Spec.scales (A1 m c), Cert.Spec.codes (A2 m c), Cert.Spec.scales (A2 m c))

theorem rowK_eq (c : Dev nD) (b : Fin 32) (k : Fin 2) : rowK c (V m c main_v1) b k = Cert.Spec.row (A1 m c) b k :=
  funext fun i => V_v1_apply m c b k i
theorem rowV_eq (c : Dev nD) (b : Fin 32) (k : Fin 2) : rowV c (V m c main_v2) b k = Cert.Spec.row (A2 m c) b k :=
  funext fun i => V_v2_apply m c b k i

set_option maxHeartbeats 0 in
theorem run_X0 (c : Dev nD) (o0 : Bf (F := Ideal) c main_v9_0) (o1 : Bf (F := Ideal) c main_v9_1) (o2 : Bf (F := Ideal) c main_v9_2) (o3 : Bf (F := Ideal) c main_v9_3) (o4 : Bf (F := Ideal) c main_v9_4) (s0 : Bf (F := Ideal) c cc0_scratch0) (s1 : Bf (F := Ideal) c cc0_scratch1) (s2 : Bf (F := Ideal) c cc0_scratch2) (s3 : Bf (F := Ideal) c cc0_scratch3) (s4 : Bf (F := Ideal) c cc0_scratch4) (s5 : Bf (F := Ideal) c cc0_scratch5) (s6 : Bf (F := Ideal) c cc0_scratch6) (s7 : Bf (F := Ideal) c cc0_scratch7) (s8 : Bf (F := Ideal) c cc0_scratch8) (s9 : Bf (F := Ideal) c cc0_scratch9) (s10 : Bf (F := Ideal) c cc0_scratch10) (s11 : Bf (F := Ideal) c cc0_scratch11) (s12 : Bf (F := Ideal) c cc0_scratch12) (s13 : Bf (F := Ideal) c cc0_scratch13) (s14 : Bf (F := Ideal) c cc0_scratch14) (s15 : Bf (F := Ideal) c cc0_scratch15) :
    (kernelRun c (V m c main_v0) (V m c main_v1) (V m c main_v2) (V m c main_v4) (V m c main_v6) (V m c main_v7) (V m c main_v8) (V m c main_arg7) o0 o1 o2 o3 o4 s0 s1 s2 s3 s4 s5 s6 s7 s8 s9 s10 s11 s12 s13 s14 s15).1.1 = (X m c).1 := by
  refine (run_out ..).trans ?_
  rw [View.write_whole_univ]
  refine Cert.Spec.attn_ext fun b k g d => ?_
  have h := read_pieces c (V m c main_v0) (V m c main_v1) (V m c main_v2) (V m c main_v4) (V m c main_v6) (V m c main_v7) (V m c main_v8) (V m c main_arg7) s0 s1 s2 s3 s4 s5 s6 s7 s8 32 le_rfl b b.isLt g d
  refine Eq.trans ?_ (Cert.Spec.attn_apply (A0 m c) (A1 m c) (A2 m c) (A3 m c) (A4 m c) (A5 m c) (A6 m c) (A7 m c) b k g d).symm
  obtain rfl | rfl : k = 0 ∨ k = 1 := by omega
  · have hh : (⟨g.val, by omega⟩ : Fin 16) = (⟨(0 : Fin 2).val * 8 + g.val, by show 0 * 8 + g.val < 16; omega⟩ : Fin 16) := Fin.ext (by show _ = 0 * 8 + g.val; simp)
    rw [← hh]
    exact h.1.trans (outA_apply m c s0 s1 s2 s3 s4 s5 s6 s7 b g d)
  · have hh : (⟨8 + g.val, by omega⟩ : Fin 16) = (⟨(1 : Fin 2).val * 8 + g.val, by show 1 * 8 + g.val < 16; omega⟩ : Fin 16) := Fin.ext (by show _ = 1 * 8 + g.val; simp)
    rw [← hh]
    exact h.2.trans (outB_apply m c s0 s1 s2 s3 s4 s5 s6 s7 b g d)

set_option maxHeartbeats 0 in
theorem run_X1 (c : Dev nD) (o0 : Bf (F := Ideal) c main_v9_0) (o1 : Bf (F := Ideal) c main_v9_1) (o2 : Bf (F := Ideal) c main_v9_2) (o3 : Bf (F := Ideal) c main_v9_3) (o4 : Bf (F := Ideal) c main_v9_4) (s0 : Bf (F := Ideal) c cc0_scratch0) (s1 : Bf (F := Ideal) c cc0_scratch1) (s2 : Bf (F := Ideal) c cc0_scratch2) (s3 : Bf (F := Ideal) c cc0_scratch3) (s4 : Bf (F := Ideal) c cc0_scratch4) (s5 : Bf (F := Ideal) c cc0_scratch5) (s6 : Bf (F := Ideal) c cc0_scratch6) (s7 : Bf (F := Ideal) c cc0_scratch7) (s8 : Bf (F := Ideal) c cc0_scratch8) (s9 : Bf (F := Ideal) c cc0_scratch9) (s10 : Bf (F := Ideal) c cc0_scratch10) (s11 : Bf (F := Ideal) c cc0_scratch11) (s12 : Bf (F := Ideal) c cc0_scratch12) (s13 : Bf (F := Ideal) c cc0_scratch13) (s14 : Bf (F := Ideal) c cc0_scratch14) (s15 : Bf (F := Ideal) c cc0_scratch15) :
    (kernelRun c (V m c main_v0) (V m c main_v1) (V m c main_v2) (V m c main_v4) (V m c main_v6) (V m c main_v7) (V m c main_v8) (V m c main_arg7) o0 o1 o2 o3 o4 s0 s1 s2 s3 s4 s5 s6 s7 s8 s9 s10 s11 s12 s13 s14 s15).1.2.1 = (X m c).2.1 := by
  refine (run_q1 ..).trans ?_
  rw [View.write_whole_univ]
  refine Cert.Spec.codes_ext fun k b d => ?_
  have h := read_S9 c (V m c main_v1) s1 s9 b d
  have h' := codesK_apply c (V m c main_v1) s1 b d
  obtain rfl | rfl : k = 0 ∨ k = 1 := by omega
  · show _ = code (Cert.Spec.row (A1 m c) b 0) d
    rw [← rowK_eq]; exact h.1.trans h'.1
  · show _ = code (Cert.Spec.row (A1 m c) b 1) d
    rw [← rowK_eq]; exact h.2.trans h'.2

set_option maxHeartbeats 0 in
theorem run_X2 (c : Dev nD) (o0 : Bf (F := Ideal) c main_v9_0) (o1 : Bf (F := Ideal) c main_v9_1) (o2 : Bf (F := Ideal) c main_v9_2) (o3 : Bf (F := Ideal) c main_v9_3) (o4 : Bf (F := Ideal) c main_v9_4) (s0 : Bf (F := Ideal) c cc0_scratch0) (s1 : Bf (F := Ideal) c cc0_scratch1) (s2 : Bf (F := Ideal) c cc0_scratch2) (s3 : Bf (F := Ideal) c cc0_scratch3) (s4 : Bf (F := Ideal) c cc0_scratch4) (s5 : Bf (F := Ideal) c cc0_scratch5) (s6 : Bf (F := Ideal) c cc0_scratch6) (s7 : Bf (F := Ideal) c cc0_scratch7) (s8 : Bf (F := Ideal) c cc0_scratch8) (s9 : Bf (F := Ideal) c cc0_scratch9) (s10 : Bf (F := Ideal) c cc0_scratch10) (s11 : Bf (F := Ideal) c cc0_scratch11) (s12 : Bf (F := Ideal) c cc0_scratch12) (s13 : Bf (F := Ideal) c cc0_scratch13) (s14 : Bf (F := Ideal) c cc0_scratch14) (s15 : Bf (F := Ideal) c cc0_scratch15) :
    (kernelRun c (V m c main_v0) (V m c main_v1) (V m c main_v2) (V m c main_v4) (V m c main_v6) (V m c main_v7) (V m c main_v8) (V m c main_arg7) o0 o1 o2 o3 o4 s0 s1 s2 s3 s4 s5 s6 s7 s8 s9 s10 s11 s12 s13 s14 s15).1.2.2.1 = (X m c).2.2.1 := by
  refine (run_q2 ..).trans ?_
  rw [View.write_whole_univ]
  refine Cert.Spec.scales_ext fun k b => ?_
  have h := read_S10 c (V m c main_v1) s1 s10 b
  have h' := scalesK_apply c (V m c main_v1) s1 b
  obtain rfl | rfl : k = 0 ∨ k = 1 := by omega
  · show _ = scale (rowR (Cert.Spec.row (A1 m c) b 0))
    rw [← rowK_eq]; exact h.1.trans h'.1
  · show _ = scale (rowR (Cert.Spec.row (A1 m c) b 1))
    rw [← rowK_eq]; exact h.2.trans h'.2

set_option maxHeartbeats 0 in
theorem run_X3 (c : Dev nD) (o0 : Bf (F := Ideal) c main_v9_0) (o1 : Bf (F := Ideal) c main_v9_1) (o2 : Bf (F := Ideal) c main_v9_2) (o3 : Bf (F := Ideal) c main_v9_3) (o4 : Bf (F := Ideal) c main_v9_4) (s0 : Bf (F := Ideal) c cc0_scratch0) (s1 : Bf (F := Ideal) c cc0_scratch1) (s2 : Bf (F := Ideal) c cc0_scratch2) (s3 : Bf (F := Ideal) c cc0_scratch3) (s4 : Bf (F := Ideal) c cc0_scratch4) (s5 : Bf (F := Ideal) c cc0_scratch5) (s6 : Bf (F := Ideal) c cc0_scratch6) (s7 : Bf (F := Ideal) c cc0_scratch7) (s8 : Bf (F := Ideal) c cc0_scratch8) (s9 : Bf (F := Ideal) c cc0_scratch9) (s10 : Bf (F := Ideal) c cc0_scratch10) (s11 : Bf (F := Ideal) c cc0_scratch11) (s12 : Bf (F := Ideal) c cc0_scratch12) (s13 : Bf (F := Ideal) c cc0_scratch13) (s14 : Bf (F := Ideal) c cc0_scratch14) (s15 : Bf (F := Ideal) c cc0_scratch15) :
    (kernelRun c (V m c main_v0) (V m c main_v1) (V m c main_v2) (V m c main_v4) (V m c main_v6) (V m c main_v7) (V m c main_v8) (V m c main_arg7) o0 o1 o2 o3 o4 s0 s1 s2 s3 s4 s5 s6 s7 s8 s9 s10 s11 s12 s13 s14 s15).1.2.2.2.1 = (X m c).2.2.2.1 := by
  refine (run_q3 ..).trans ?_
  rw [View.write_whole_univ]
  refine Cert.Spec.codes_ext fun k b d => ?_
  have h := read_S11 c (V m c main_v2) s2 s11 b d
  have h' := codesV_apply c (V m c main_v2) s2 b d
  obtain rfl | rfl : k = 0 ∨ k = 1 := by omega
  · show _ = code (Cert.Spec.row (A2 m c) b 0) d
    rw [← rowV_eq]; exact h.1.trans h'.1
  · show _ = code (Cert.Spec.row (A2 m c) b 1) d
    rw [← rowV_eq]; exact h.2.trans h'.2

set_option maxHeartbeats 0 in
theorem run_X4 (c : Dev nD) (o0 : Bf (F := Ideal) c main_v9_0) (o1 : Bf (F := Ideal) c main_v9_1) (o2 : Bf (F := Ideal) c main_v9_2) (o3 : Bf (F := Ideal) c main_v9_3) (o4 : Bf (F := Ideal) c main_v9_4) (s0 : Bf (F := Ideal) c cc0_scratch0) (s1 : Bf (F := Ideal) c cc0_scratch1) (s2 : Bf (F := Ideal) c cc0_scratch2) (s3 : Bf (F := Ideal) c cc0_scratch3) (s4 : Bf (F := Ideal) c cc0_scratch4) (s5 : Bf (F := Ideal) c cc0_scratch5) (s6 : Bf (F := Ideal) c cc0_scratch6) (s7 : Bf (F := Ideal) c cc0_scratch7) (s8 : Bf (F := Ideal) c cc0_scratch8) (s9 : Bf (F := Ideal) c cc0_scratch9) (s10 : Bf (F := Ideal) c cc0_scratch10) (s11 : Bf (F := Ideal) c cc0_scratch11) (s12 : Bf (F := Ideal) c cc0_scratch12) (s13 : Bf (F := Ideal) c cc0_scratch13) (s14 : Bf (F := Ideal) c cc0_scratch14) (s15 : Bf (F := Ideal) c cc0_scratch15) :
    (kernelRun c (V m c main_v0) (V m c main_v1) (V m c main_v2) (V m c main_v4) (V m c main_v6) (V m c main_v7) (V m c main_v8) (V m c main_arg7) o0 o1 o2 o3 o4 s0 s1 s2 s3 s4 s5 s6 s7 s8 s9 s10 s11 s12 s13 s14 s15).1.2.2.2.2 = (X m c).2.2.2.2 := by
  refine (run_q4 ..).trans ?_
  rw [View.write_whole_univ]
  refine Cert.Spec.scales_ext fun k b => ?_
  have h := read_S12 c (V m c main_v2) s2 s12 b
  have h' := scalesV_apply c (V m c main_v2) s2 b
  obtain rfl | rfl : k = 0 ∨ k = 1 := by omega
  · show _ = scale (rowR (Cert.Spec.row (A2 m c) b 0))
    rw [← rowV_eq]; exact h.1.trans h'.1
  · show _ = scale (rowR (Cert.Spec.row (A2 m c) b 1))
    rw [← rowV_eq]; exact h.2.trans h'.2

theorem run_X (c : Dev nD) (o0 : Bf (F := Ideal) c main_v9_0) (o1 : Bf (F := Ideal) c main_v9_1) (o2 : Bf (F := Ideal) c main_v9_2) (o3 : Bf (F := Ideal) c main_v9_3) (o4 : Bf (F := Ideal) c main_v9_4) (s0 : Bf (F := Ideal) c cc0_scratch0) (s1 : Bf (F := Ideal) c cc0_scratch1) (s2 : Bf (F := Ideal) c cc0_scratch2) (s3 : Bf (F := Ideal) c cc0_scratch3) (s4 : Bf (F := Ideal) c cc0_scratch4) (s5 : Bf (F := Ideal) c cc0_scratch5) (s6 : Bf (F := Ideal) c cc0_scratch6) (s7 : Bf (F := Ideal) c cc0_scratch7) (s8 : Bf (F := Ideal) c cc0_scratch8) (s9 : Bf (F := Ideal) c cc0_scratch9) (s10 : Bf (F := Ideal) c cc0_scratch10) (s11 : Bf (F := Ideal) c cc0_scratch11) (s12 : Bf (F := Ideal) c cc0_scratch12) (s13 : Bf (F := Ideal) c cc0_scratch13) (s14 : Bf (F := Ideal) c cc0_scratch14) (s15 : Bf (F := Ideal) c cc0_scratch15) :
    (kernelRun c (V m c main_v0) (V m c main_v1) (V m c main_v2) (V m c main_v4) (V m c main_v6) (V m c main_v7) (V m c main_v8) (V m c main_arg7) o0 o1 o2 o3 o4 s0 s1 s2 s3 s4 s5 s6 s7 s8 s9 s10 s11 s12 s13 s14 s15).1 = X m c :=
  Prod.ext (run_X0 m c o0 o1 o2 o3 o4 s0 s1 s2 s3 s4 s5 s6 s7 s8 s9 s10 s11 s12 s13 s14 s15) (Prod.ext (run_X1 m c o0 o1 o2 o3 o4 s0 s1 s2 s3 s4 s5 s6 s7 s8 s9 s10 s11 s12 s13 s14 s15) (Prod.ext (run_X2 m c o0 o1 o2 o3 o4 s0 s1 s2 s3 s4 s5 s6 s7 s8 s9 s10 s11 s12 s13 s14 s15)
    (Prod.ext (run_X3 m c o0 o1 o2 o3 o4 s0 s1 s2 s3 s4 s5 s6 s7 s8 s9 s10 s11 s12 s13 s14 s15) (run_X4 m c o0 o1 o2 o3 o4 s0 s1 s2 s3 s4 s5 s6 s7 s8 s9 s10 s11 s12 s13 s14 s15))))

variable (ρ : Dev nD → PrngReg)

/-- Every run ends with the five results at these values and the arguments unchanged. -/
theorem kernel_value : θ_run defs (onTc (τ := τ) (main (F := Ideal))) ⟨m, fun _ => 0, ρ⟩ (fun r => ∀ c : Dev nD,
      r.2.mem ((c.tc : Thread nD τ).loc main_v9_0) = Cert.Spec.attn (A0 m c) (A1 m c) (A2 m c) (A3 m c) (A4 m c) (A5 m c) (A6 m c) (A7 m c)
      ∧ r.2.mem ((c.tc : Thread nD τ).loc main_v9_1) = Cert.Spec.codes (A1 m c)
      ∧ r.2.mem ((c.tc : Thread nD τ).loc main_v9_2) = Cert.Spec.scales (A1 m c)
      ∧ r.2.mem ((c.tc : Thread nD τ).loc main_v9_3) = Cert.Spec.codes (A2 m c)
      ∧ r.2.mem ((c.tc : Thread nD τ).loc main_v9_4) = Cert.Spec.scales (A2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h.1.written c (b := main_v9_0) (by decide)).trans (G_v9_0 m (X m) c), (h.1.written c (b := main_v9_1) (by decide)).trans (G_v9_1 m (X m) c), (h.1.written c (b := main_v9_2) (by decide)).trans (G_v9_2 m (X m) c), (h.1.written c (b := main_v9_3) (by decide)).trans (G_v9_3 m (X m) c), (h.1.written c (b := main_v9_4) (by decide)).trans (G_v9_4 m (X m) c), ((h.1.toR c).2 main_arg0 (Finset.mem_sdiff.mpr ⟨Pipeline.mem_restRefs_of main_arg0 (by decide) (by decide), by decide⟩)).trans (V_main_arg0 m c), ((h.1.toR c).2 main_arg1 (Finset.mem_sdiff.mpr ⟨Pipeline.mem_restRefs_of main_arg1 (by decide) (by decide), by decide⟩)).trans (V_main_arg1 m c), ((h.1.toR c).2 main_arg2 (Finset.mem_sdiff.mpr ⟨Pipeline.mem_restRefs_of main_arg2 (by decide) (by decide), by decide⟩)).trans (V_main_arg2 m c), ((h.1.toR c).2 main_arg3 (Finset.mem_sdiff.mpr ⟨Pipeline.mem_restRefs_of main_arg3 (by decide) (by decide), by decide⟩)).trans (V_main_arg3 m c), ((h.1.toR c).2 main_arg4 (Finset.mem_sdiff.mpr ⟨Pipeline.mem_restRefs_of main_arg4 (by decide) (by decide), by decide⟩)).trans (V_main_arg4 m c), ((h.1.toR c).2 main_arg5 (Finset.mem_sdiff.mpr ⟨Pipeline.mem_restRefs_of main_arg5 (by decide) (by decide), by decide⟩)).trans (V_main_arg5 m c), ((h.1.toR c).2 main_arg6 (Finset.mem_sdiff.mpr ⟨Pipeline.mem_restRefs_of main_arg6 (by decide) (by decide), by decide⟩)).trans (V_main_arg6 m c), ((h.1.toR c).2 main_arg7 (Finset.mem_sdiff.mpr ⟨Pipeline.mem_restRefs_of main_arg7 (by decide) (by decide), by decide⟩)).trans (V_main_arg7 m c)⟩)
    (run_value m ρ (X m) (fun c s0 s1 s2 s3 s4 s5 s6 s7 s8 s9 s10 s11 s12 s13 s14 s15 => run_X m c _ _ _ _ _ s0 s1 s2 s3 s4 s5 s6 s7 s8 s9 s10 s11 s12 s13 s14 s15))

end

end Cert.KernelIdeal.Hand

end
-- ==== Proof.RefHost.lean ====
/-
  What the reference's host lines leave in its buffers, read line by line: the quantiser of the new keys and values
  (scale and clipped codes), and the attention after the casting region.
-/
module

public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Lib.StableHlo.RunRead

@[expose] public section

set_option maxRecDepth 16384

noncomputable section

namespace Cert.ReferenceIdeal.Hand

open Cert.ReferenceIdeal Cert.ReferenceIdeal.Gen
open Idealize.ShloMosaic Idealize.ShloMosaic.TcCoe

variable {F : FTy → Type} [FloatOps F]

/-! ## The quantiser -/

/-- A row's largest magnitude over 448. -/
def qR (x : Vec F S32x1x2x64 .bf16) : Vec F S32x1x2 .f32 :=
  mulf (Host.reduce FloatOps.maximumf (Host.absf (extf .f32 x bitsLt_bf16_f32)) (constant S_ .f32 0xFF800000#32) reducesTo_S32x1x2x64_S32x1x2_d3 h_S_)
    (broadcastInDim S32x1x2 ![] bcast_S_S32x1x2 (constant S_ .f32 0x3B124925#32))

/-- The powers of two from 2^-126 to 2^127. -/
def qPowers : Vec F S254 .f32 :=
  Host.powf (broadcastInDim S254 ![] bcast_S_S254 (constant S_ .f32 0x40000000#32))
    (sitofp .f32 (addi (broadcastInDim S254 ![] bcast_S_S254 (constantI S_ 32 4294967170#32)) (iotaInDim S254 32 0)))

/-- How many of these powers of two are at most `r`, given the zeros and ones of the comparisons. -/
def qCount (r : Vec F S32x1x2 .f32) : Vec F S32x1x2 .f32 :=
  Host.reduceAdd (id (select
      (cmpf .oge
        (broadcastInDim S32x1x2x254 ![0, 1, 2, 3] bcast_S32x1x2x1_S32x1x2x254_0_1_2_3 (broadcastInDim S32x1x2x1 ![0, 1, 2] bcast_S32x1x2_S32x1x2x1_0_1_2 r))
        (broadcastInDim S32x1x2x254 ![0, 1, 2, 3] bcast_S1x1x1x254_S32x1x2x254_0_1_2_3 (broadcastInDim S1x1x1x254 ![3] bcast_S254_S1x1x1x254_3 qPowers)))
      (broadcastInDim S32x1x2x254 ![] bcast_S_S32x1x2x254 (constant S_ .f32 0x3F800000#32))
      (broadcastInDim S32x1x2x254 ![] bcast_S_S32x1x2x254 (constant S_ .f32 0x00000000#32))))
    (constant S_ .f32 0x00000000#32) reducesTo_S32x1x2x254_S32x1x2_d3 h_S_

/-- The exponent of the scale. -/
def qExp (r : Vec F S32x1x2 .f32) : Vec F S32x1x2 .f32 :=
  select
    (ori (cmpf .oeq (qCount r) (broadcastInDim S32x1x2 ![] bcast_S_S32x1x2 (constant S_ .f32 0x00000000#32)))
      (cmpf .oeq r (broadcastInDim S32x1x2 ![] bcast_S_S32x1x2 (constant S_ .f32 0x7F800000#32))))
    (broadcastInDim S32x1x2 ![] bcast_S_S32x1x2 (id (constant S_ .f32 0x00000000#32)))
    (subf (qCount r) (broadcastInDim S32x1x2 ![] bcast_S_S32x1x2 (constant S_ .f32 0x42FC0000#32)))

/-- The scale of each row. -/
def qScale (x : Vec F S32x1x2x64 .bf16) : Vec F S32x1x2 .f32 :=
  Host.powf (broadcastInDim S32x1x2 ![] bcast_S_S32x1x2 (constant S_ .f32 0x40000000#32)) (qExp (qR x))

/-- The clipped codes of each row, before they are cast. -/
def qCodes (x : Vec F S32x1x2x64 .bf16) : Vec F S32x1x2x64 .f32 :=
  minimumf (broadcastInDim S32x1x2x64 ![] bcast_S_S32x1x2x64 (id (constant S_ .f32 0x43E00000#32)))
    (maximumf (broadcastInDim S32x1x2x64 ![] bcast_S_S32x1x2x64 (id (constant S_ .f32 0xC3E00000#32)))
      (mulf (extf .f32 x bitsLt_bf16_f32)
        (broadcastInDim S32x1x2x64 ![0, 1, 2, 3] bcast_S32x1x2x1_S32x1x2x64_0_1_2_3
          (broadcastInDim S32x1x2x1 ![0, 1, 2] bcast_S32x1x2_S32x1x2x1_0_1_2
            (Host.powf (broadcastInDim S32x1x2 ![] bcast_S_S32x1x2 (constant S_ .f32 0x40000000#32)) (Host.negf (qExp (qR x))))))))

variable (V : Valuation τ sig (Elt F))

/-- The host lines before the region, in one list. -/
abbrev pre : List (HloOp τ sig (Elt F)) := List.flatten [hostOps0, hostOps0_1, hostOps0_2, hostOps0_3, hostOps0_4, hostOps0_5, hostOps0_6, hostOps0_7, hostOps0_8, hostOps0_9, hostOps0_10, hostOps0_11]

theorem pre_v28 : StableHlo.after pre V (Proc.devRef .tc main_v28) = qScale (V (Proc.devRef .tc main_arg1)) := by
  after_reads_simp; rfl
theorem pre_v64 : StableHlo.after pre V (Proc.devRef .tc main_v64) = qScale (V (Proc.devRef .tc main_arg2)) := by
  after_reads_simp; rfl
theorem pre_v35 : StableHlo.after pre V (Proc.devRef .tc main_v35) = qCodes (V (Proc.devRef .tc main_arg1)) := by
  after_reads_simp; rfl
theorem pre_v71 : StableHlo.after pre V (Proc.devRef .tc main_v71) = qCodes (V (Proc.devRef .tc main_arg2)) := by
  after_reads_simp; rfl

/-! ## The attention -/

/-- The queries grouped by the key head they attend to. -/
def aQ (x : Vec F S32x1x16x64 .bf16) : Vec F S32x1x2x8x64 .bf16 := shapeCast S32x1x2x8x64 x shapeCasts_S32x1x16x64_S32x1x2x8x64

/-- Which cache positions a row attends to. -/
def aMask (len : Vec F S32 .i32) : Vec F S32x1x1x1x16384 .i1 :=
  broadcastInDim S32x1x1x1x16384 ![0, 4] bcast_S32x16384_S32x1x1x1x16384_0_4
    (andi
      (cmpi .slt (broadcastInDim S32x16384 ![0, 1] bcast_S1x16384_S32x16384_0_1 (broadcastInDim S1x16384 ![1] bcast_S16384_S1x16384_1 (iotaInDim S16384 32 0)))
        (broadcastInDim S32x16384 ![0, 1] bcast_S32x1_S32x16384_0_1 (broadcastInDim S32x1 ![0] bcast_S32_S32x1_0 len)))
      (cmpi .sgt (broadcastInDim S32x16384 ![0, 1] bcast_S1x16384_S32x16384_0_1 (broadcastInDim S1x16384 ![1] bcast_S16384_S1x16384_1 (iotaInDim S16384 32 0)))
        (broadcastInDim S32x16384 ![0, 1] bcast_S32x1_S32x16384_0_1
          (subi (broadcastInDim S32x1 ![0] bcast_S32_S32x1_0 len) (broadcastInDim S32x1 ![] bcast_S_S32x1 (constantI S_ 32 1024#32))))))

/-- A cache scale along the cache positions, for every query. -/
def aScaleC (s : Vec F S32x16384x2 .f32) : Vec F S32x1x2x8x16384 .f32 :=
  broadcastInDim S32x1x2x8x16384 ![0, 1, 2, 3, 4] bcast_S32x1x2x1x16384_S32x1x2x8x16384_0_1_2_3_4
    (broadcastInDim S32x1x2x1x16384 ![0, 2, 4] bcast_S32x2x16384_S32x1x2x1x16384_0_2_4
      (transpose S32x2x16384 [0, 2, 1] s transposes_S32x16384x2_S32x2x16384_0_2_1))

/-- The scale of the new position, for every query. -/
def aScaleN (s : Vec F S32x1x2 .f32) : Vec F S32x1x2x8x1 .f32 :=
  broadcastInDim S32x1x2x8x1 ![0, 1, 2, 3, 4] bcast_S32x1x2x1x1_S32x1x2x8x1_0_1_2_3_4
    (broadcastInDim S32x1x2x1x1 ![0, 2, 4] bcast_S32x2x1_S32x1x2x1x1_0_2_4
      (transpose S32x2x1 [0, 2, 1] s transposes_S32x1x2_S32x2x1_0_2_1))

/-- The scores of the cache positions, those outside the mask at minus infinity. -/
def aScoresC (x : Vec F S32x1x16x64 .bf16) (len : Vec F S32 .i32) (cks : Vec F S32x16384x2 .f32) (kw : Vec F S32x16384x2x64 .bf16) : Vec F S32x1x2x8x16384 .f32 :=
  select (broadcastInDim S32x1x2x8x16384 ![0, 1, 2, 3, 4] bcast_S32x1x1x1x16384_S32x1x2x8x16384_0_1_2_3_4 (aMask (F := F) len))
    (mulf
      (mulf (transpose S32x1x2x8x16384 [0, 3, 1, 4, 2] (Host.dotGeneral dot_S32x16384x2x64_S32x1x2x8x64_S32x2x16384x1x8_3_4_1_13_02_02 none kw (aQ x)) transposes_S32x2x16384x1x8_S32x1x2x8x16384_0_3_1_4_2)
        (aScaleC cks))
      (broadcastInDim S32x1x2x8x16384 ![] bcast_S_S32x1x2x8x16384 (constant S_ .f32 0x3E000000#32)))
    (broadcastInDim S32x1x2x8x16384 ![] bcast_S_S32x1x2x8x16384 (id (constant S_ .f32 0xFF800000#32)))

/-- The score of the new position. -/
def aScoresN (x : Vec F S32x1x16x64 .bf16) (ks : Vec F S32x1x2 .f32) (kc : Vec F S32x1x2x64 .bf16) : Vec F S32x1x2x8x1 .f32 :=
  mulf
    (mulf (transpose S32x1x2x8x1 [0, 3, 1, 4, 2] (Host.dotGeneral dot_S32x1x2x64_S32x1x2x8x64_S32x2x1x1x8_3_4_1_13_02_02 none kc (aQ x)) transposes_S32x2x1x1x8_S32x1x2x8x1_0_3_1_4_2)
      (aScaleN ks))
    (broadcastInDim S32x1x2x8x1 ![] bcast_S_S32x1x2x8x1 (constant S_ .f32 0x3E000000#32))

/-- All scores of a query: the cache positions, then the new position. -/
def aScores (sc : Vec F S32x1x2x8x16384 .f32) (sn : Vec F S32x1x2x8x1 .f32) : Vec F S32x1x2x8x16385 .f32 :=
  concatenate S32x1x2x8x16385 4 [⟨S32x1x2x8x16384, sc⟩, ⟨S32x1x2x8x1, sn⟩] concatenates_S32x1x2x8x16384_S32x1x2x8x1_S32x1x2x8x16385_d4

/-- The largest score of a query. -/
def aTop (s : Vec F S32x1x2x8x16385 .f32) : Vec F S32x1x2x8 .f32 :=
  Host.reduce FloatOps.maximumf s (constant S_ .f32 0xFF800000#32) reducesTo_S32x1x2x8x16385_S32x1x2x8_d4 h_S_

/-- The exponentials of the scores, less the largest. -/
def aExp (s : Vec F S32x1x2x8x16385 .f32) : Vec F S32x1x2x8x16385 .f32 :=
  Host.exp (subf s (broadcastInDim S32x1x2x8x16385 ![0, 1, 2, 3, 4] bcast_S32x1x2x8x1_S32x1x2x8x16385_0_1_2_3_4
    (broadcastInDim S32x1x2x8x1 ![0, 1, 2, 3] bcast_S32x1x2x8_S32x1x2x8x1_0_1_2_3
      (maximumf (broadcastInDim S32x1x2x8 ![] bcast_S_S32x1x2x8 (constant S_ .f32 0xFF800000#32)) (aTop s)))))

/-- The softmax of the scores. -/
def aProbs (s : Vec F S32x1x2x8x16385 .f32) : Vec F S32x1x2x8x16385 .f32 :=
  Host.divf (aExp s) (broadcastInDim S32x1x2x8x16385 ![0, 1, 2, 3, 4] bcast_S32x1x2x8x1_S32x1x2x8x16385_0_1_2_3_4
    (broadcastInDim S32x1x2x8x1 ![0, 1, 2, 3] bcast_S32x1x2x8_S32x1x2x8x1_0_1_2_3
      (Host.reduceAdd (aExp s) (constant S_ .f32 0x00000000#32) reducesTo_S32x1x2x8x16385_S32x1x2x8_d4 h_S_)))

/-- The part of the result from the cache positions. -/
def aOutC (s : Vec F S32x1x2x8x16385 .f32) (cvs : Vec F S32x16384x2 .f32) (vw : Vec F S32x16384x2x64 .bf16) : Vec F S32x1x2x8x64 .f32 :=
  transpose S32x1x2x8x64 [0, 3, 1, 4, 2]
    (Host.dotGeneral dot_S32x16384x2x64_S32x1x2x8x16384_S32x2x64x1x8_1_4_3_13_02_02 none vw
      (truncf .bf16 (mulf (extractStridedSlice S32x1x2x8x16384 ![0, 0, 0, 0, 0] (aProbs s) slices_S32x1x2x8x16385_S32x1x2x8x16384_0_0_0_0_0) (aScaleC cvs)) bitsLt_bf16_f32))
    transposes_S32x2x64x1x8_S32x1x2x8x64_0_3_1_4_2

/-- The part of the result from the new position. -/
def aOutN (s : Vec F S32x1x2x8x16385 .f32) (vs : Vec F S32x1x2 .f32) (vc : Vec F S32x1x2x64 .bf16) : Vec F S32x1x2x8x64 .f32 :=
  transpose S32x1x2x8x64 [0, 3, 1, 4, 2]
    (Host.dotGeneral dot_S32x1x2x64_S32x1x2x8x1_S32x2x64x1x8_1_4_3_13_02_02 none vc
      (truncf .bf16 (mulf (extractStridedSlice S32x1x2x8x1 ![0, 0, 0, 0, 16384] (aProbs s) slices_S32x1x2x8x16385_S32x1x2x8x1_0_0_0_0_16384) (aScaleN vs)) bitsLt_bf16_f32))
    transposes_S32x2x64x1x8_S32x1x2x8x64_0_3_1_4_2

/-- Which queries have a finite largest score. -/
def aFinite (s : Vec F S32x1x2x8x16385 .f32) : Vec F S32x1x2x8x64 .i1 :=
  broadcastInDim S32x1x2x8x64 ![0, 1, 2, 3, 4] bcast_S32x1x2x8x1_S32x1x2x8x64_0_1_2_3_4
    (cmpf .olt (Host.absf (broadcastInDim S32x1x2x8x1 ![0, 1, 2, 3] bcast_S32x1x2x8_S32x1x2x8x1_0_1_2_3 (aTop s)))
      (broadcastInDim S32x1x2x8x1 ![] bcast_S_S32x1x2x8x1 (constant S_ .f32 0x7F800000#32)))

/-- The result of the attention from its scores. -/
def aOut (s : Vec F S32x1x2x8x16385 .f32) (cvs : Vec F S32x16384x2 .f32) (vw : Vec F S32x16384x2x64 .bf16) (vs : Vec F S32x1x2 .f32) (vc : Vec F S32x1x2x64 .bf16) : Vec F S32x16x64 .bf16 :=
  truncf .bf16 (shapeCast S32x16x64
    (select (aFinite s) (addf (aOutC s cvs vw) (aOutN s vs vc)) (broadcastInDim S32x1x2x8x64 ![] bcast_S_S32x1x2x8x64 (id (constant S_ .f32 0xFF800000#32))))
    shapeCasts_S32x1x2x8x64_S32x16x64) bitsLt_bf16_f32

/-- The host lines after the region, in one list. -/
abbrev suf : List (HloOp τ sig (Elt F)) := List.flatten [hostOps1, hostOps1_1, hostOps1_2, hostOps1_3, hostOps1_4]

theorem suf_v105 : StableHlo.after suf V (no_index (Proc.devRef .tc main_v105))
    = aScores (aScoresC (V (Proc.devRef .tc main_arg0)) (V (Proc.devRef .tc main_arg7)) (V (Proc.devRef .tc main_arg5)) (V (Proc.devRef .tc main_v72_4)))
        (aScoresN (V (Proc.devRef .tc main_arg0)) (V (Proc.devRef .tc main_v28)) (V (Proc.devRef .tc main_v72_2))) := by
  after_reads_simp; rfl
theorem suf_v141 : StableHlo.after suf V (Proc.devRef .tc main_v141)
    = aOut (aScores (aScoresC (V (Proc.devRef .tc main_arg0)) (V (Proc.devRef .tc main_arg7)) (V (Proc.devRef .tc main_arg5)) (V (Proc.devRef .tc main_v72_4)))
        (aScoresN (V (Proc.devRef .tc main_arg0)) (V (Proc.devRef .tc main_v28)) (V (Proc.devRef .tc main_v72_2))))
      (V (Proc.devRef .tc main_arg6)) (V (Proc.devRef .tc main_v72_5)) (V (Proc.devRef .tc main_v64)) (V (Proc.devRef .tc main_v72_3)) := by
  after_reads_simp; rfl
theorem suf_v143 : StableHlo.after suf V (Proc.devRef .tc main_v143)
    = transpose S2x32x64 [1, 0, 2] (shapeCast S32x2x64 (V (Proc.devRef .tc main_v72_0) : Vec F S32x1x2x64 .fp8e4m3) shapeCasts_S32x1x2x64_S32x2x64) transposes_S32x2x64_S2x32x64_1_0_2 := by
  after_reads_simp; rfl
theorem suf_v147 : StableHlo.after suf V (Proc.devRef .tc main_v147)
    = transpose S2x32x64 [1, 0, 2] (shapeCast S32x2x64 (V (Proc.devRef .tc main_v72_1) : Vec F S32x1x2x64 .fp8e4m3) shapeCasts_S32x1x2x64_S32x2x64) transposes_S32x2x64_S2x32x64_1_0_2 := by
  after_reads_simp; rfl
theorem suf_v145 : StableHlo.after suf V (Proc.devRef .tc main_v145)
    = transpose S2x32 [1, 0] (shapeCast S32x2 (V (Proc.devRef .tc main_v28) : Vec F S32x1x2 .f32) shapeCasts_S32x1x2_S32x2) transposes_S32x2_S2x32_1_0 := by
  after_reads_simp; rfl
theorem suf_v149 : StableHlo.after suf V (Proc.devRef .tc main_v149)
    = transpose S2x32 [1, 0] (shapeCast S32x2 (V (Proc.devRef .tc main_v64) : Vec F S32x1x2 .f32) shapeCasts_S32x1x2_S32x2) transposes_S32x2_S2x32_1_0 := by
  after_reads_simp; rfl

end Cert.ReferenceIdeal.Hand

end
-- ==== Proof.RefRegion.lean ====
/-
  What the reference's casting region leaves in its six arrays: each is the cast of the array it was given, whole.
-/
module

public import proofs.«01_k».proof.Proof.RefHost
public import Idealize.ShloMosaic.Lib.Pipeline.Value

@[expose] public section

set_option maxRecDepth 16384

noncomputable section

namespace Cert.ReferenceIdeal.Hand

open Cert.ReferenceIdeal Cert.ReferenceIdeal.Gen
open Idealize.ShloMosaic Idealize.ShloMosaic.TcCoe

variable {F : FTy → Type} [FloatOps F]
variable (m : (ℓ : Loc nD τ sig) → Buf (Elt F) ℓ) (c : Dev nD)

/-! The region has one point, and the block of each window there is its whole array. -/

theorem read_w0 (f : Buf (Elt F) ((c : Thread nD τ).loc main_v35)) : (win0_0.blk t0_0).view.read (Elt F) f = f :=
  Memref.read_access_unit_zero (Elt F) main_v35
    (show (fun a => (win0_0.index t0_0) a * main_v35.ty.shape.size a) = fun _ => 0 from funext fun a => by fin_cases a <;> decide) (fun a => by fin_cases a <;> decide) f
theorem read_w1 (f : Buf (Elt F) ((c : Thread nD τ).loc main_v71)) : (win0_1.blk t0_0).view.read (Elt F) f = f :=
  Memref.read_access_unit_zero (Elt F) main_v71
    (show (fun a => (win0_1.index t0_0) a * main_v71.ty.shape.size a) = fun _ => 0 from funext fun a => by fin_cases a <;> decide) (fun a => by fin_cases a <;> decide) f
theorem read_w2 (f : Buf (Elt F) ((c : Thread nD τ).loc main_arg3)) : (win0_2.blk t0_0).view.read (Elt F) f = f :=
  Memref.read_access_unit_zero (Elt F) main_arg3
    (show (fun a => (win0_2.index t0_0) a * main_arg3.ty.shape.size a) = fun _ => 0 from funext fun a => by fin_cases a <;> decide) (fun a => by fin_cases a <;> decide) f
theorem read_w3 (f : Buf (Elt F) ((c : Thread nD τ).loc main_arg4)) : (win0_3.blk t0_0).view.read (Elt F) f = f :=
  Memref.read_access_unit_zero (Elt F) main_arg4
    (show (fun a => (win0_3.index t0_0) a * main_arg4.ty.shape.size a) = fun _ => 0 from funext fun a => by fin_cases a <;> decide) (fun a => by fin_cases a <;> decide) f
theorem read_w4 (f : Buf (Elt F) ((c : Thread nD τ).loc main_v72_0)) : (win0_4.blk t0_0).view.read (Elt F) f = f :=
  Memref.read_access_unit_zero (Elt F) main_v72_0
    (show (fun a => (win0_4.index t0_0) a * main_v72_0.ty.shape.size a) = fun _ => 0 from funext fun a => by fin_cases a <;> decide) (fun a => by fin_cases a <;> decide) f
theorem read_w5 (f : Buf (Elt F) ((c : Thread nD τ).loc main_v72_1)) : (win0_5.blk t0_0).view.read (Elt F) f = f :=
  Memref.read_access_unit_zero (Elt F) main_v72_1
    (show (fun a => (win0_5.index t0_0) a * main_v72_1.ty.shape.size a) = fun _ => 0 from funext fun a => by fin_cases a <;> decide) (fun a => by fin_cases a <;> decide) f
theorem read_w6 (f : Buf (Elt F) ((c : Thread nD τ).loc main_v72_2)) : (win0_6.blk t0_0).view.read (Elt F) f = f :=
  Memref.read_access_unit_zero (Elt F) main_v72_2
    (show (fun a => (win0_6.index t0_0) a * main_v72_2.ty.shape.size a) = fun _ => 0 from funext fun a => by fin_cases a <;> decide) (fun a => by fin_cases a <;> decide) f
theorem read_w7 (f : Buf (Elt F) ((c : Thread nD τ).loc main_v72_3)) : (win0_7.blk t0_0).view.read (Elt F) f = f :=
  Memref.read_access_unit_zero (Elt F) main_v72_3
    (show (fun a => (win0_7.index t0_0) a * main_v72_3.ty.shape.size a) = fun _ => 0 from funext fun a => by fin_cases a <;> decide) (fun a => by fin_cases a <;> decide) f
theorem read_w8 (f : Buf (Elt F) ((c : Thread nD τ).loc main_v72_4)) : (win0_8.blk t0_0).view.read (Elt F) f = f :=
  Memref.read_access_unit_zero (Elt F) main_v72_4
    (show (fun a => (win0_8.index t0_0) a * main_v72_4.ty.shape.size a) = fun _ => 0 from funext fun a => by fin_cases a <;> decide) (fun a => by fin_cases a <;> decide) f
theorem read_w9 (f : Buf (Elt F) ((c : Thread nD τ).loc main_v72_5)) : (win0_9.blk t0_0).view.read (Elt F) f = f :=
  Memref.read_access_unit_zero (Elt F) main_v72_5
    (show (fun a => (win0_9.index t0_0) a * main_v72_5.ty.shape.size a) = fun _ => 0 from funext fun a => by fin_cases a <;> decide) (fun a => by fin_cases a <;> decide) f

/-! So the block of each input window is the array the region was given. -/

theorem iblk_w0 : iblk m c 0 t0_0 = V m c main_v35 := read_w0 c _
theorem iblk_w1 : iblk m c 1 t0_0 = V m c main_v71 := read_w1 c _
theorem iblk_w2 : iblk m c 2 t0_0 = V m c main_arg3 := read_w2 c _
theorem iblk_w3 : iblk m c 3 t0_0 = V m c main_arg4 := read_w3 c _

/-! A load of a whole block is the block, and a store of a whole block leaves what was stored. -/

theorem ld_r0 {e : EltTy} (x : Vec F S32x1x2x64 e) : View.ld x r0_0 = x :=
  View.ld_unit_zero (funext fun a => by fin_cases a <;> rfl) _ x
theorem ld_r1 {e : EltTy} (x : Vec F S32x16384x2x64 e) : View.ld x r0_1 = x :=
  View.ld_unit_zero (funext fun a => by fin_cases a <;> rfl) _ x

/-! And each result array ends holding what the body stored. -/

theorem arrAt_w4 : (dats m 0 c).arrAt 4 cfg0.N = k0_pay1 (V m c main_v35) := by
  have hw : ((cfg0.win 4).blk t0_0).view.read (Elt F) ((dats m 0 c).arrAt 4 cfg0.N) = (dats m 0 c).flushed 4 t0_0 := by
    rw [show cfg0.N = t0_0.val + 1 from rfl, (dats m 0 c).arrAt_succ (4 : Fin 10) t0_0, flush0_4, if_pos rfl]
    exact View.read_write_univ _ _
  have hf : (dats m 0 c).flushed 4 t0_0 = k0_pay1 (V m c main_v35) := by
    show (cfg0.win 4).cut _ ((dats m 0 c).after 4 t0_0) = _
    rw [after0_4, iblk_w0, iblk_w1, iblk_w2, iblk_w3]
    exact (funext fun _ => rfl : _ = out0_4 _ _ _ _).trans (by
      unfold out0_4
      rw [ld_r0]
      exact View.canon_unit_zero (funext fun a => by fin_cases a <;> rfl) _ _)
  rw [hf] at hw
  exact (read_w4 c _).symm.trans hw
theorem arrAt_w5 : (dats m 0 c).arrAt 5 cfg0.N = k0_pay2 (V m c main_v71) := by
  have hw : ((cfg0.win 5).blk t0_0).view.read (Elt F) ((dats m 0 c).arrAt 5 cfg0.N) = (dats m 0 c).flushed 5 t0_0 := by
    rw [show cfg0.N = t0_0.val + 1 from rfl, (dats m 0 c).arrAt_succ (5 : Fin 10) t0_0, flush0_5, if_pos rfl]
    exact View.read_write_univ _ _
  have hf : (dats m 0 c).flushed 5 t0_0 = k0_pay2 (V m c main_v71) := by
    show (cfg0.win 5).cut _ ((dats m 0 c).after 5 t0_0) = _
    rw [after0_5, iblk_w0, iblk_w1, iblk_w2, iblk_w3]
    exact (funext fun _ => rfl : _ = out0_5 _ _ _ _).trans (by
      unfold out0_5
      rw [ld_r0]
      exact View.canon_unit_zero (funext fun a => by fin_cases a <;> rfl) _ _)
  rw [hf] at hw
  exact (read_w5 c _).symm.trans hw
theorem arrAt_w6 : (dats m 0 c).arrAt 6 cfg0.N = k0_pay3 (V m c main_v35) := by
  have hw : ((cfg0.win 6).blk t0_0).view.read (Elt F) ((dats m 0 c).arrAt 6 cfg0.N) = (dats m 0 c).flushed 6 t0_0 := by
    rw [show cfg0.N = t0_0.val + 1 from rfl, (dats m 0 c).arrAt_succ (6 : Fin 10) t0_0, flush0_6, if_pos rfl]
    exact View.read_write_univ _ _
  have hf : (dats m 0 c).flushed 6 t0_0 = k0_pay3 (V m c main_v35) := by
    show (cfg0.win 6).cut _ ((dats m 0 c).after 6 t0_0) = _
    rw [after0_6, iblk_w0, iblk_w1, iblk_w2, iblk_w3]
    exact (funext fun _ => rfl : _ = out0_6 _ _ _ _).trans (by
      unfold out0_6
      rw [ld_r0]
      exact View.canon_unit_zero (funext fun a => by fin_cases a <;> rfl) _ _)
  rw [hf] at hw
  exact (read_w6 c _).symm.trans hw
theorem arrAt_w7 : (dats m 0 c).arrAt 7 cfg0.N = k0_pay4 (V m c main_v71) := by
  have hw : ((cfg0.win 7).blk t0_0).view.read (Elt F) ((dats m 0 c).arrAt 7 cfg0.N) = (dats m 0 c).flushed 7 t0_0 := by
    rw [show cfg0.N = t0_0.val + 1 from rfl, (dats m 0 c).arrAt_succ (7 : Fin 10) t0_0, flush0_7, if_pos rfl]
    exact View.read_write_univ _ _
  have hf : (dats m 0 c).flushed 7 t0_0 = k0_pay4 (V m c main_v71) := by
    show (cfg0.win 7).cut _ ((dats m 0 c).after 7 t0_0) = _
    rw [after0_7, iblk_w0, iblk_w1, iblk_w2, iblk_w3]
    exact (funext fun _ => rfl : _ = out0_7 _ _ _ _).trans (by
      unfold out0_7
      rw [ld_r0]
      exact View.canon_unit_zero (funext fun a => by fin_cases a <;> rfl) _ _)
  rw [hf] at hw
  exact (read_w7 c _).symm.trans hw
theorem arrAt_w8 : (dats m 0 c).arrAt 8 cfg0.N = k0_pay5 (V m c main_arg3) := by
  have hw : ((cfg0.win 8).blk t0_0).view.read (Elt F) ((dats m 0 c).arrAt 8 cfg0.N) = (dats m 0 c).flushed 8 t0_0 := by
    rw [show cfg0.N = t0_0.val + 1 from rfl, (dats m 0 c).arrAt_succ (8 : Fin 10) t0_0, flush0_8, if_pos rfl]
    exact View.read_write_univ _ _
  have hf : (dats m 0 c).flushed 8 t0_0 = k0_pay5 (V m c main_arg3) := by
    show (cfg0.win 8).cut _ ((dats m 0 c).after 8 t0_0) = _
    rw [after0_8, iblk_w0, iblk_w1, iblk_w2, iblk_w3]
    exact (funext fun _ => rfl : _ = out0_8 _ _ _ _).trans (by
      unfold out0_8
      rw [ld_r1]
      exact View.canon_unit_zero (funext fun a => by fin_cases a <;> rfl) _ _)
  rw [hf] at hw
  exact (read_w8 c _).symm.trans hw
theorem arrAt_w9 : (dats m 0 c).arrAt 9 cfg0.N = k0_pay6 (V m c main_arg4) := by
  have hw : ((cfg0.win 9).blk t0_0).view.read (Elt F) ((dats m 0 c).arrAt 9 cfg0.N) = (dats m 0 c).flushed 9 t0_0 := by
    rw [show cfg0.N = t0_0.val + 1 from rfl, (dats m 0 c).arrAt_succ (9 : Fin 10) t0_0, flush0_9, if_pos rfl]
    exact View.read_write_univ _ _
  have hf : (dats m 0 c).flushed 9 t0_0 = k0_pay6 (V m c main_arg4) := by
    show (cfg0.win 9).cut _ ((dats m 0 c).after 9 t0_0) = _
    rw [after0_9, iblk_w0, iblk_w1, iblk_w2, iblk_w3]
    exact (funext fun _ => rfl : _ = out0_9 _ _ _ _).trans (by
      unfold out0_9
      rw [ld_r1]
      exact View.canon_unit_zero (funext fun a => by fin_cases a <;> rfl) _ _)
  rw [hf] at hw
  exact (read_w9 c _).symm.trans hw

end Cert.ReferenceIdeal.Hand

end
-- ==== Proof.RefQuant.lean ====
/-
  The reference's quantiser on extended reals: its scales and codes are the ones of the specification, for rows whose
  largest magnitude is that of a row of bf16 numbers.
-/
module

public import proofs.«01_k».proof.Proof.RefHost
public import proofs.«01_k».proof.Proof.Spec
import Idealize.ShloMosaic.Lib.Pointwise

@[expose] public section

set_option maxRecDepth 16384

noncomputable section

namespace Cert.ReferenceIdeal.Hand

open Cert.ReferenceIdeal Cert.ReferenceIdeal.Gen
open Idealize.ShloMosaic Idealize.ShloMosaic.TcCoe
open Cert.Quant (code scale rowR Tame refExp count)
open Cert.Spec (row)

variable (x : Vec Ideal S32x1x2x64 .bf16)

theorem qR_apply (b : Fin 32) (k : Fin 2) : qR x (ix3 b 0 k) = rowR (row x b k) := by
  pointwise [qR]
  rfl

theorem qPowers_apply (i : Fin 254) : (qPowers (F := Ideal)) (ix1 i) = Cert.Quant.pw (i.val + 1) := by
  refine Eq.trans ?_ (Cert.Quant.power_at i)
  pointwise [qPowers]
  rfl

theorem qCount_apply (r : Vec Ideal S32x1x2 .f32) (b : Fin 32) (k : Fin 2) : qCount r (ix3 b 0 k) = count (r (ix3 b 0 k)) := by
  pointwise [qCount, id_eq]
  unfold Cert.Quant.count
  refine Finset.sum_congr rfl fun i _ => ?_
  rw [qPowers_apply, EReal.coe_one, EReal.coe_zero]

theorem qExp_apply (r : Vec Ideal S32x1x2 .f32) (b : Fin 32) (k : Fin 2) :
    qExp r (ix3 b 0 k) = refExp (count (r (ix3 b 0 k))) (r (ix3 b 0 k)) := by
  rw [← qCount_apply]
  pointwise [qExp, id_eq]
  rw [refExp, ← Cert.Quant.ofBits_inf, ← Cert.Quant.ofBits_126, EReal.coe_zero]
  try rfl

theorem qScale_apply (b : Fin 32) (k : Fin 2) (h : Tame (rowR (row x b k))) : qScale x (ix3 b 0 k) = scale (rowR (row x b k)) := by
  rw [Cert.Quant.scale_eq h, ← qR_apply, ← qExp_apply]
  pointwise [qScale]

theorem qCodes_apply (b : Fin 32) (k : Fin 2) (d : Fin 64) (h : Tame (rowR (row x b k))) : qCodes x (ix4 b 0 k d) = code (row x b k) d := by
  rw [code, Cert.Quant.inv_eq h, ← qR_apply, ← qExp_apply]
  pointwise [qCodes]
  rfl

end Cert.ReferenceIdeal.Hand

end
-- ==== Proof.RefAttn.lean ====
/-
  The reference's attention on extended reals, read at an index.
-/
module

public import proofs.«01_k».proof.Proof.RefHost
public import proofs.«01_k».proof.Proof.Spec
import Idealize.ShloMosaic.Lib.Pointwise

@[expose] public section

set_option maxRecDepth 16384

noncomputable section

namespace Cert.ReferenceIdeal.Hand

open Cert.ReferenceIdeal Cert.ReferenceIdeal.Gen
open Idealize.ShloMosaic Idealize.ShloMosaic.TcCoe
open Cert.KernelIdeal.Hand (cacheMask fold_ninf)

/-- A maximum over the cache positions and the new position. -/
theorem sup_last {n : ℕ} (f : Fin (n + 1) → EReal) :
    Finset.univ.sup f = max (Finset.univ.sup fun t : Fin n => f t.castSucc) (f (Fin.last n)) := by
  apply le_antisymm
  · refine Finset.sup_le fun i _ => ?_
    induction i using Fin.lastCases with
    | last => exact le_max_right _ _
    | cast t => exact le_trans (Finset.le_sup (f := fun t : Fin n => f t.castSucc) (Finset.mem_univ t)) (le_max_left _ _)
  · exact max_le (Finset.sup_le fun t _ => Finset.le_sup (f := f) (Finset.mem_univ _)) (Finset.le_sup (f := f) (Finset.mem_univ _))

section
variable (a0 : Vec Ideal S32x1x16x64 .bf16) (len : Vec Ideal S32 .i32) (cks : Vec Ideal S32x16384x2 .f32) (kw : Vec Ideal S32x16384x2x64 .bf16)
  (ks : Vec Ideal S32x1x2 .f32) (kc : Vec Ideal S32x1x2x64 .bf16)

theorem aScoresC_apply (b : Fin 32) (k : Fin 2) (g : Fin 8) (t : Fin 16384) :
    aScoresC a0 len cks kw (ix5 b 0 k g t) = Cert.Spec.cacheScore (fun i => a0 (ix4 b 0 (⟨k.val * 8 + g.val, by omega⟩ : Fin 16) i)) (len (ix1 b))
      (fun i t => kw (ix4 b t k i)) (fun t => cks (ix3 b t k)) t := by
  rw [Cert.Spec.cacheScore, ← Cert.Quant.ofBits_ninf]
  pointwise [aScoresC, aMask, aScaleC, aQ]
  rfl

theorem aScoresN_apply (b : Fin 32) (k : Fin 2) (g : Fin 8) :
    aScoresN a0 ks kc (ix5 b 0 k g 0) = (∑ i : Fin 64, kc (ix4 b 0 k i) * a0 (ix4 b 0 (⟨k.val * 8 + g.val, by omega⟩ : Fin 16) i)) * ks (ix3 b 0 k) * Ideal.ofBits .f32 0x3E000000#32 := by
  pointwise [aScoresN, aScaleN, aQ]
end

section
variable (sc : Vec Ideal S32x1x2x8x16384 .f32) (sn : Vec Ideal S32x1x2x8x1 .f32)

theorem aScores_apply (b : Fin 32) (k : Fin 2) (g : Fin 8) (t : Fin 16385) :
    aScores sc sn (ix5 b 0 k g t) = if h : t.val < 16384 then sc (ix5 b 0 k g (⟨t.val, h⟩ : Fin 16384)) else sn (ix5 b 0 k g (⟨t.val - 16384, by omega⟩ : Fin 1)) := by
  pointwise [aScores]

theorem aScores_cast (b : Fin 32) (k : Fin 2) (g : Fin 8) (t : Fin 16384) :
    aScores sc sn (ix5 b 0 k g (t.castSucc : Fin 16385)) = sc (ix5 b 0 k g t) :=
  (aScores_apply sc sn b k g t.castSucc).trans (dif_pos t.isLt)

theorem aScores_last (b : Fin 32) (k : Fin 2) (g : Fin 8) :
    aScores sc sn (ix5 b 0 k g (Fin.last 16384 : Fin 16385)) = sn (ix5 b 0 k g 0) :=
  (aScores_apply sc sn b k g (Fin.last 16384)).trans (dif_neg (lt_irrefl 16384))
end

/-- The shifted exponentials of the scores `s` of queries whose largest scores are `T`. -/
def expOf (s : Vec Ideal S32x1x2x8x16385 .f32) (T : Vec Ideal S32x1x2x8 .f32) : Vec Ideal S32x1x2x8x16385 .f32 :=
  Host.exp (F := Ideal) (subf s (broadcastInDim S32x1x2x8x16385 ![0, 1, 2, 3, 4] bcast_S32x1x2x8x1_S32x1x2x8x16385_0_1_2_3_4
    (broadcastInDim S32x1x2x8x1 ![0, 1, 2, 3] bcast_S32x1x2x8_S32x1x2x8x1_0_1_2_3
      (maximumf (broadcastInDim S32x1x2x8 ![] bcast_S_S32x1x2x8 (constant (F := Ideal) S_ .f32 0xFF800000#32)) T))))

theorem expOf_apply (s : Vec Ideal S32x1x2x8x16385 .f32) (T : Vec Ideal S32x1x2x8 .f32) (b : Fin 32) (k : Fin 2) (g : Fin 8) (t : Fin 16385) :
    expOf s T (ix5 b 0 k g t) = Ideal.exp (s (ix5 b 0 k g t) - T (ix4 b 0 k g)) := by
  pointwise [expOf]
  rw [Cert.Quant.ofBits_ninf, max_eq_right bot_le]

/-- Which queries have a finite largest score, from the largest scores `T`. -/
def finiteOf (T : Vec Ideal S32x1x2x8 .f32) : Vec Ideal S32x1x2x8x64 .i1 :=
  broadcastInDim S32x1x2x8x64 ![0, 1, 2, 3, 4] bcast_S32x1x2x8x1_S32x1x2x8x64_0_1_2_3_4
    (cmpf .olt (Host.absf (broadcastInDim S32x1x2x8x1 ![0, 1, 2, 3] bcast_S32x1x2x8_S32x1x2x8x1_0_1_2_3 T))
      (broadcastInDim S32x1x2x8x1 ![] bcast_S_S32x1x2x8x1 (constant (F := Ideal) S_ .f32 0x7F800000#32)))

theorem finiteOf_apply (T : Vec Ideal S32x1x2x8 .f32) (b : Fin 32) (k : Fin 2) (g : Fin 8) (d : Fin 64) :
    finiteOf T (ix5 b 0 k g d) = BitVec.ofBool (decide (max (T (ix4 b 0 k g)) (-(T (ix4 b 0 k g))) < ⊤)) := by
  rw [← Cert.Quant.ofBits_inf]
  pointwise [finiteOf]
  rfl

section
variable (s : Vec Ideal S32x1x2x8x16385 .f32)

theorem aTop_apply (b : Fin 32) (k : Fin 2) (g : Fin 8) :
    aTop s (ix4 b 0 k g) = Finset.univ.sup fun t : Fin 16385 => s (ix5 b 0 k g t) := by
  rw [← fold_ninf]
  pointwise [aTop]

theorem aExp_apply (b : Fin 32) (k : Fin 2) (g : Fin 8) (t : Fin 16385) :
    aExp s (ix5 b 0 k g t) = Ideal.exp (s (ix5 b 0 k g t) - aTop s (ix4 b 0 k g)) := by
  exact expOf_apply s (aTop s) b k g t

theorem aProbs_apply (b : Fin 32) (k : Fin 2) (g : Fin 8) (t : Fin 16385) :
    aProbs s (ix5 b 0 k g t) = Ideal.div (aExp s (ix5 b 0 k g t)) (∑ t : Fin 16385, aExp s (ix5 b 0 k g t)) := by
  pointwise [aProbs]

theorem aOutC_apply (cvs : Vec Ideal S32x16384x2 .f32) (vw : Vec Ideal S32x16384x2x64 .bf16) (b : Fin 32) (k : Fin 2) (g : Fin 8) (d : Fin 64) :
    aOutC s cvs vw (ix5 b 0 k g d) = ∑ t : Fin 16384, vw (ix4 b t k d) * (aProbs s (ix5 b 0 k g (t.castSucc : Fin 16385)) * cvs (ix3 b t k)) := by
  pointwise [aOutC, aScaleC]
  rfl

theorem aOutN_apply (vs : Vec Ideal S32x1x2 .f32) (vc : Vec Ideal S32x1x2x64 .bf16) (b : Fin 32) (k : Fin 2) (g : Fin 8) (d : Fin 64) :
    aOutN s vs vc (ix5 b 0 k g d) = vc (ix4 b 0 k d) * (aProbs s (ix5 b 0 k g (Fin.last 16384 : Fin 16385)) * vs (ix3 b 0 k)) := by
  pointwise [aOutN, aScaleN]
  rw [Fin.sum_univ_one, show (16384 : Fin 16385) = Fin.last 16384 from rfl]

theorem aFinite_apply (b : Fin 32) (k : Fin 2) (g : Fin 8) (d : Fin 64) :
    aFinite s (ix5 b 0 k g d) = BitVec.ofBool (decide (max (aTop s (ix4 b 0 k g)) (-(aTop s (ix4 b 0 k g))) < ⊤)) := by
  exact finiteOf_apply (aTop s) b k g d

theorem aOut_apply (cvs : Vec Ideal S32x16384x2 .f32) (vw : Vec Ideal S32x16384x2x64 .bf16) (vs : Vec Ideal S32x1x2 .f32) (vc : Vec Ideal S32x1x2x64 .bf16)
    (b : Fin 32) (k : Fin 2) (g : Fin 8) (d : Fin 64) :
    aOut s cvs vw vs vc (ix3 b (⟨k.val * 8 + g.val, by omega⟩ : Fin 16) d)
      = Scalar.select (aFinite s (ix5 b 0 k g d)) (aOutC s cvs vw (ix5 b 0 k g d) + aOutN s vs vc (ix5 b 0 k g d)) ⊥ := by
  rw [← Cert.Quant.ofBits_ninf]
  pointwise [aOut]
  rfl
end

end Cert.ReferenceIdeal.Hand

end
-- ==== Proof.RefValue.lean ====
/-
  The results of the reference on extended reals, as functions of the arguments.
-/
module

public import proofs.«01_k».proof.Proof.RefRegion
public import proofs.«01_k».proof.Proof.RefQuant
public import proofs.«01_k».proof.Proof.RefAttn
import Idealize.ShloMosaic.Lib.Pointwise

@[expose] public section

set_option maxRecDepth 16384

noncomputable section

namespace Cert.ReferenceIdeal.Hand

open Cert.ReferenceIdeal Cert.ReferenceIdeal.Gen
open Idealize.ShloMosaic Idealize.ShloMosaic.TcCoe
open Cert.Quant (code scale rowR Tame)
open Cert.Spec (row)

/-! ## The results from the arguments -/

section
variable (a0 : Vec Ideal S32x1x16x64 .bf16) (a1 a2 : Vec Ideal S32x1x2x64 .bf16) (a3 a4 : Vec Ideal S32x16384x2x64 .fp8e4m3)
  (a5 a6 : Vec Ideal S32x16384x2 .f32) (a7 : Vec Ideal S32 .i32)

theorem attn_eq (h1 : ∀ b k, Tame (rowR (row a1 b k))) (h2 : ∀ b k, Tame (rowR (row a2 b k)))
    (kw vw : Vec Ideal S32x16384x2x64 .bf16) (kc vc : Vec Ideal S32x1x2x64 .bf16) (hkw : ∀ i, kw i = a3 i) (hvw : ∀ i, vw i = a4 i)
    (hkc : ∀ b k d, kc (ix4 b 0 k d) = code (row a1 b k) d) (hvc : ∀ b k d, vc (ix4 b 0 k d) = code (row a2 b k) d) :
    aOut (aScores (aScoresC a0 a7 a5 kw) (aScoresN a0 (qScale a1) kc)) a6 vw (qScale a2) vc = Cert.Spec.attn a0 a1 a2 a3 a4 a5 a6 a7 := by
  refine Cert.Spec.attn_ext fun b k g d => ?_
  have hs : ∃ s, s = aScores (aScoresC a0 a7 a5 kw) (aScoresN a0 (qScale a1) kc) := ⟨_, rfl⟩
  obtain ⟨s, hs⟩ := hs
  rw [← hs]
  have hcast : ∀ t : Fin 16384, s (ix5 b 0 k g (t.castSucc : Fin 16385)) = Cert.Spec.cacheScore (fun i => a0 (ix4 b 0 (⟨k.val * 8 + g.val, by omega⟩ : Fin 16) i)) (a7 (ix1 b))
      (fun i t => a3 (ix4 b t k i)) (fun t => a5 (ix3 b t k)) t := by
    intro t
    rw [hs, aScores_cast, aScoresC_apply]
    simp only [hkw]
  have hlast : s (ix5 b 0 k g (Fin.last 16384 : Fin 16385)) = Cert.Spec.rowScore (fun i => a0 (ix4 b 0 (⟨k.val * 8 + g.val, by omega⟩ : Fin 16) i)) (row a1 b k) := by
    rw [hs, aScores_last, aScoresN_apply, qScale_apply a1 b k (h1 b k)]
    simp only [hkc]
    rfl
  clear hs
  have hT : aTop s (ix4 b 0 k g) = max (Finset.univ.sup (Cert.Spec.cacheScore (fun i => a0 (ix4 b 0 (⟨k.val * 8 + g.val, by omega⟩ : Fin 16) i)) (a7 (ix1 b))
      (fun i t => a3 (ix4 b t k i)) (fun t => a5 (ix3 b t k)))) (Cert.Spec.rowScore (fun i => a0 (ix4 b 0 (⟨k.val * 8 + g.val, by omega⟩ : Fin 16) i)) (row a1 b k)) := by
    rw [aTop_apply, sup_last, hlast]
    simp only [hcast]
  have hD : (∑ t : Fin 16385, aExp s (ix5 b 0 k g t)) = ∑ t : Fin 16384, Ideal.exp (Cert.Spec.cacheScore (fun i => a0 (ix4 b 0 (⟨k.val * 8 + g.val, by omega⟩ : Fin 16) i)) (a7 (ix1 b))
      (fun i t => a3 (ix4 b t k i)) (fun t => a5 (ix3 b t k)) t - aTop s (ix4 b 0 k g))
        + Ideal.exp (Cert.Spec.rowScore (fun i => a0 (ix4 b 0 (⟨k.val * 8 + g.val, by omega⟩ : Fin 16) i)) (row a1 b k) - aTop s (ix4 b 0 k g)) := by
    rw [Fin.sum_univ_castSucc, aExp_apply, hlast]
    simp only [aExp_apply, hcast]
  rw [Cert.Spec.attn_apply, Cert.Spec.entry, Cert.Spec.winOut_eq _ _ _ _ _ _ _ _ _ (h1 b k) _ _ hT hD, aOut_apply, aFinite_apply, aOutC_apply, aOutN_apply,
    hvc, qScale_apply a2 b k (h2 b k), aProbs_apply, aExp_apply s b k g (Fin.last 16384), hlast]
  simp only [aProbs_apply, hvw]
  simp only [aExp_apply s b k g (Fin.castSucc _), hcast]
  by_cases hc : max (aTop s (ix4 b 0 k g)) (-(aTop s (ix4 b 0 k g))) < ⊤
  · simp only [hc, decide_true, Scalar.select, if_true]
    rfl
  · simp only [hc, decide_false, Scalar.select, if_false]
    rfl

theorem codes_eq (h1 : ∀ b k, Tame (rowR (row a1 b k))) (kc : Vec Ideal S32x1x2x64 .fp8e4m3) (hkc : ∀ b k d, kc (ix4 b 0 k d) = qCodes a1 (ix4 b 0 k d)) :
    transpose S2x32x64 [1, 0, 2] (shapeCast S32x2x64 kc shapeCasts_S32x1x2x64_S32x2x64) transposes_S32x2x64_S2x32x64_1_0_2 = Cert.Spec.codes a1 := by
  refine Cert.Spec.codes_ext fun k b d => ?_
  refine Eq.trans ?_ ((hkc b k d).trans (qCodes_apply a1 b k d (h1 b k)))
  pointwise []

theorem scales_eq (h1 : ∀ b k, Tame (rowR (row a1 b k))) :
    transpose S2x32 [1, 0] (shapeCast S32x2 (qScale a1) shapeCasts_S32x1x2_S32x2) transposes_S32x2_S2x32_1_0 = Cert.Spec.scales a1 := by
  refine Cert.Spec.scales_ext fun k b => ?_
  refine Eq.trans ?_ (qScale_apply a1 b k (h1 b k))
  pointwise []

end

/-! ## What the region and the lines around it leave -/

theorem pay1_apply (x : Vec Ideal S32x1x2x64 .f32) (b : Fin 32) (k : Fin 2) (d : Fin 64) : k0_pay1 x (ix4 b 0 k d) = x (ix4 b 0 k d) := by
  pointwise [k0_pay1]
theorem pay2_apply (x : Vec Ideal S32x1x2x64 .f32) (b : Fin 32) (k : Fin 2) (d : Fin 64) : k0_pay2 x (ix4 b 0 k d) = x (ix4 b 0 k d) := by
  pointwise [k0_pay2]
theorem pay3_apply (x : Vec Ideal S32x1x2x64 .f32) (b : Fin 32) (k : Fin 2) (d : Fin 64) : k0_pay3 x (ix4 b 0 k d) = x (ix4 b 0 k d) :=
  pay1_apply x b k d
theorem pay4_apply (x : Vec Ideal S32x1x2x64 .f32) (b : Fin 32) (k : Fin 2) (d : Fin 64) : k0_pay4 x (ix4 b 0 k d) = x (ix4 b 0 k d) :=
  pay2_apply x b k d

section
variable (m : (ℓ : Loc nD τ sig) → Buf (Elt Ideal) ℓ) (c : Dev nD)

/-- Argument 0. -/
def R0 : Vec Ideal S32x1x16x64 .bf16 := m ((c.tc : Thread nD τ).loc main_arg0)
/-- Argument 1. -/
def R1 : Vec Ideal S32x1x2x64 .bf16 := m ((c.tc : Thread nD τ).loc main_arg1)
/-- Argument 2. -/
def R2 : Vec Ideal S32x1x2x64 .bf16 := m ((c.tc : Thread nD τ).loc main_arg2)
/-- Argument 3. -/
def R3 : Vec Ideal S32x16384x2x64 .fp8e4m3 := m ((c.tc : Thread nD τ).loc main_arg3)
/-- Argument 4. -/
def R4 : Vec Ideal S32x16384x2x64 .fp8e4m3 := m ((c.tc : Thread nD τ).loc main_arg4)
/-- Argument 5. -/
def R5 : Vec Ideal S32x16384x2 .f32 := m ((c.tc : Thread nD τ).loc main_arg5)
/-- Argument 6. -/
def R6 : Vec Ideal S32x16384x2 .f32 := m ((c.tc : Thread nD τ).loc main_arg6)
/-- Argument 7. -/
def R7 : Vec Ideal S32 .i32 := m ((c.tc : Thread nD τ).loc main_arg7)

/-- The buffers after the region. -/
abbrev mid : Valuation τ sig (Elt Ideal) := Pipeline.withArrays spec0 c (V0 m c) fun w => (dats m 0 c).arrAt w cfg0.N

theorem arrs_inj : Function.Injective (Pipeline.arrRef spec0) := by decide

theorem mid_arg0 : (mid m c (Proc.devRef .tc main_arg0) : Vec Ideal S32x1x16x64 .bf16) = R0 m c :=
  (Pipeline.withArrays_of_ne _ c (V0 m c) _ main_arg0 (by exact (by decide : ∀ w, Pipeline.arrRef spec0 w ≠ main_arg0))).trans (V_main_arg0 m c)
theorem mid_arg1 : (mid m c (Proc.devRef .tc main_arg1) : Vec Ideal S32x1x2x64 .bf16) = R1 m c :=
  (Pipeline.withArrays_of_ne _ c (V0 m c) _ main_arg1 (by exact (by decide : ∀ w, Pipeline.arrRef spec0 w ≠ main_arg1))).trans (V_main_arg1 m c)
theorem mid_arg2 : (mid m c (Proc.devRef .tc main_arg2) : Vec Ideal S32x1x2x64 .bf16) = R2 m c :=
  (Pipeline.withArrays_of_ne _ c (V0 m c) _ main_arg2 (by exact (by decide : ∀ w, Pipeline.arrRef spec0 w ≠ main_arg2))).trans (V_main_arg2 m c)
theorem mid_arg5 : (mid m c (Proc.devRef .tc main_arg5) : Vec Ideal S32x16384x2 .f32) = R5 m c :=
  (Pipeline.withArrays_of_ne _ c (V0 m c) _ main_arg5 (by exact (by decide : ∀ w, Pipeline.arrRef spec0 w ≠ main_arg5))).trans (V_main_arg5 m c)
theorem mid_arg6 : (mid m c (Proc.devRef .tc main_arg6) : Vec Ideal S32x16384x2 .f32) = R6 m c :=
  (Pipeline.withArrays_of_ne _ c (V0 m c) _ main_arg6 (by exact (by decide : ∀ w, Pipeline.arrRef spec0 w ≠ main_arg6))).trans (V_main_arg6 m c)
theorem mid_arg7 : (mid m c (Proc.devRef .tc main_arg7) : Vec Ideal S32 .i32) = R7 m c :=
  (Pipeline.withArrays_of_ne _ c (V0 m c) _ main_arg7 (by exact (by decide : ∀ w, Pipeline.arrRef spec0 w ≠ main_arg7))).trans (V_main_arg7 m c)
theorem mid_v28 : (mid m c (Proc.devRef .tc main_v28) : Vec Ideal S32x1x2 .f32) = qScale (R1 m c) :=
  (Pipeline.withArrays_of_ne _ c (V0 m c) _ main_v28 (by exact (by decide : ∀ w, Pipeline.arrRef spec0 w ≠ main_v28))).trans (pre_v28 _)
theorem mid_v64 : (mid m c (Proc.devRef .tc main_v64) : Vec Ideal S32x1x2 .f32) = qScale (R2 m c) :=
  (Pipeline.withArrays_of_ne _ c (V0 m c) _ main_v64 (by exact (by decide : ∀ w, Pipeline.arrRef spec0 w ≠ main_v64))).trans (pre_v64 _)
theorem mid_v72_0 : (mid m c (Proc.devRef .tc main_v72_0) : Vec Ideal S32x1x2x64 .fp8e4m3) = k0_pay1 (qCodes (R1 m c)) :=
  ((Pipeline.withArrays_arr spec0 arrs_inj c (V0 m c) _ 4).trans (arrAt_w4 m c)).trans (congrArg (k0_pay1 (F := Ideal)) (pre_v35 _))
theorem mid_v72_1 : (mid m c (Proc.devRef .tc main_v72_1) : Vec Ideal S32x1x2x64 .fp8e4m3) = k0_pay2 (qCodes (R2 m c)) :=
  ((Pipeline.withArrays_arr spec0 arrs_inj c (V0 m c) _ 5).trans (arrAt_w5 m c)).trans (congrArg (k0_pay2 (F := Ideal)) (pre_v71 _))
theorem mid_v72_2 : (mid m c (Proc.devRef .tc main_v72_2) : Vec Ideal S32x1x2x64 .bf16) = k0_pay3 (qCodes (R1 m c)) :=
  ((Pipeline.withArrays_arr spec0 arrs_inj c (V0 m c) _ 6).trans (arrAt_w6 m c)).trans (congrArg (k0_pay3 (F := Ideal)) (pre_v35 _))
theorem mid_v72_3 : (mid m c (Proc.devRef .tc main_v72_3) : Vec Ideal S32x1x2x64 .bf16) = k0_pay4 (qCodes (R2 m c)) :=
  ((Pipeline.withArrays_arr spec0 arrs_inj c (V0 m c) _ 7).trans (arrAt_w7 m c)).trans (congrArg (k0_pay4 (F := Ideal)) (pre_v71 _))
theorem mid_v72_4 : (mid m c (Proc.devRef .tc main_v72_4) : Vec Ideal S32x16384x2x64 .bf16) = k0_pay5 (R3 m c) :=
  ((Pipeline.withArrays_arr spec0 arrs_inj c (V0 m c) _ 8).trans (arrAt_w8 m c)).trans (congrArg (k0_pay5 (F := Ideal)) (V_main_arg3 m c))
theorem mid_v72_5 : (mid m c (Proc.devRef .tc main_v72_5) : Vec Ideal S32x16384x2x64 .bf16) = k0_pay6 (R4 m c) :=
  ((Pipeline.withArrays_arr spec0 arrs_inj c (V0 m c) _ 9).trans (arrAt_w9 m c)).trans (congrArg (k0_pay6 (F := Ideal)) (V_main_arg4 m c))

/-! ## The results at the end -/

variable (h1 : ∀ b k, Tame (rowR (row (R1 m c) b k))) (h2 : ∀ b k, Tame (rowR (row (R2 m c) b k)))
include h1 h2

theorem end_v141 : (Pipeline.afterTail₀ cfgs (dats m) 0 (V0 m) [hostOps1, hostOps1_1, hostOps1_2, hostOps1_3, hostOps1_4] c main_v141 : Vec Ideal S32x16x64 .bf16) = Cert.Spec.attn (R0 m c) (R1 m c) (R2 m c) (R3 m c) (R4 m c) (R5 m c) (R6 m c) (R7 m c) := by
  refine (suf_v141 (mid m c)).trans ?_
  rw [mid_arg0, mid_arg7, mid_arg5, mid_v72_4, mid_v28, mid_v72_2, mid_arg6, mid_v72_5, mid_v64, mid_v72_3]
  exact attn_eq _ _ _ _ _ _ _ _ h1 h2 _ _ _ _ (fun _ => rfl) (fun _ => rfl)
    (fun b k d => (pay3_apply _ b k d).trans (qCodes_apply _ b k d (h1 b k))) (fun b k d => (pay4_apply _ b k d).trans (qCodes_apply _ b k d (h2 b k)))
omit h2 in
theorem end_v143 : (Pipeline.afterTail₀ cfgs (dats m) 0 (V0 m) [hostOps1, hostOps1_1, hostOps1_2, hostOps1_3, hostOps1_4] c main_v143 : Vec Ideal S2x32x64 .fp8e4m3) = Cert.Spec.codes (R1 m c) := by
  refine (suf_v143 (mid m c)).trans ?_
  rw [mid_v72_0]
  exact codes_eq _ h1 _ (pay1_apply _)
omit h1 in
theorem end_v147 : (Pipeline.afterTail₀ cfgs (dats m) 0 (V0 m) [hostOps1, hostOps1_1, hostOps1_2, hostOps1_3, hostOps1_4] c main_v147 : Vec Ideal S2x32x64 .fp8e4m3) = Cert.Spec.codes (R2 m c) := by
  refine (suf_v147 (mid m c)).trans ?_
  rw [mid_v72_1]
  exact codes_eq _ h2 _ (pay2_apply _)
omit h2 in
theorem end_v145 : (Pipeline.afterTail₀ cfgs (dats m) 0 (V0 m) [hostOps1, hostOps1_1, hostOps1_2, hostOps1_3, hostOps1_4] c main_v145 : Vec Ideal S2x32 .f32) = Cert.Spec.scales (R1 m c) := by
  refine (suf_v145 (mid m c)).trans ?_
  rw [mid_v28]
  exact scales_eq _ h1
omit h1 in
theorem end_v149 : (Pipeline.afterTail₀ cfgs (dats m) 0 (V0 m) [hostOps1, hostOps1_1, hostOps1_2, hostOps1_3, hostOps1_4] c main_v149 : Vec Ideal S2x32 .f32) = Cert.Spec.scales (R2 m c) := by
  refine (suf_v149 (mid m c)).trans ?_
  rw [mid_v64]
  exact scales_eq _ h2

end

/-- The run of the reference: its five results, and the arguments as launched. -/
theorem ref_value (m : (ℓ : Loc nD τ sig) → Buf (Elt Ideal) ℓ) (ρ : Dev nD → PrngReg)
    (h1 : ∀ c b k, Tame (rowR (row (R1 m c) b k))) (h2 : ∀ c b k, Tame (rowR (row (R2 m c) b k))) :
    θ_run defs (onTc (τ := τ) (main (F := Ideal))) ⟨m, fun _ => 0, ρ⟩ (fun r => ∀ c : Dev nD,
      r.2.mem ((c.tc : Thread nD τ).loc main_v141) = Cert.Spec.attn (R0 m c) (R1 m c) (R2 m c) (R3 m c) (R4 m c) (R5 m c) (R6 m c) (R7 m c)
      ∧ r.2.mem ((c.tc : Thread nD τ).loc main_v143) = Cert.Spec.codes (R1 m c)
      ∧ r.2.mem ((c.tc : Thread nD τ).loc main_v145) = Cert.Spec.scales (R1 m c)
      ∧ r.2.mem ((c.tc : Thread nD τ).loc main_v147) = Cert.Spec.codes (R2 m c)
      ∧ r.2.mem ((c.tc : Thread nD τ).loc main_v149) = Cert.Spec.scales (R2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨((h.1.1 c).2 main_v141 (Pipeline.mem_restRefs_of main_v141 (by decide) (by decide))).trans (end_v141 m c (h1 c) (h2 c)),
      ((h.1.1 c).2 main_v143 (Pipeline.mem_restRefs_of main_v143 (by decide) (by decide))).trans (end_v143 m c (h1 c)),
      ((h.1.1 c).2 main_v145 (Pipeline.mem_restRefs_of main_v145 (by decide) (by decide))).trans (end_v145 m c (h1 c)),
      ((h.1.1 c).2 main_v147 (Pipeline.mem_restRefs_of main_v147 (by decide) (by decide))).trans (end_v147 m c (h2 c)),
      ((h.1.1 c).2 main_v149 (Pipeline.mem_restRefs_of main_v149 (by decide) (by decide))).trans (end_v149 m c (h2 c)),
      h.2 c⟩)
    (θ_run_and (run_main_quiescent m ρ) (unchanged m ρ))

end Cert.ReferenceIdeal.Hand

end
-- ==== Proof.Tame.lean ====
/-
  The precondition on the new rows, and what it says of a row's largest magnitude.
-/
module

public import proofs.«01_k».proof.Proof.Spec
public import proofs.«01_k».proof.Pre_rows_bf16
import Idealize.ShloMosaic.Lib.Pointwise

@[expose] public section

noncomputable section

namespace Cert.Pre_rows_bf16.Hand

open Cert.Pre_rows_bf16
open Idealize.ShloMosaic
open Cert.Quant (rowR Tame pw pw_ofNat)

theorem facts : Facts := ⟨by decide⟩

/-- The largest finite number of the format. -/
theorem ofBits_max : Ideal.ofBits .bf16 0x7F7F#16 = ((255 * (2 : ℝ) ^ (120 : ℤ) : ℝ) : EReal) := by
  have hneg : ((0x7F7F#16).extractLsb' (8 + 7) 1 == 1#1) = false := by decide
  have hex : ((0x7F7F#16).extractLsb' 7 8).toNat = 254 := by decide
  have hfr : ((0x7F7F#16).extractLsb' 0 7).toNat = 127 := by decide
  unfold Ideal.ofBits Ideal.ieee
  simp only [hneg, hex, hfr]
  rw [if_neg (by omega), if_neg (by omega), EReal.coe_eq_coe_iff]
  norm_num

theorem ofBits_inf : Ideal.ofBits .bf16 0x7F80#16 = ⊤ := by simp [Ideal.ofBits, Ideal.ieee]

theorem ofBits_inv448 : Ideal.ofBits .f32 0x3B124925#32 = ((9586981 * (2 : ℝ) ^ (-32 : ℤ) : ℝ) : EReal) := by
  have hneg : ((0x3B124925#32).extractLsb' (8 + 23) 1 == 1#1) = false := by decide
  have hex : ((0x3B124925#32).extractLsb' 23 8).toNat = 118 := by decide
  have hfr : ((0x3B124925#32).extractLsb' 0 23).toNat = 1198373 := by decide
  unfold Ideal.ofBits Ideal.ieee
  simp only [hneg, hex, hfr]
  rw [if_neg (by omega), if_neg (by omega), EReal.coe_eq_coe_iff]
  norm_num

theorem ofBits_448 : 0 ≤ Ideal.ofBits .f32 0x3B124925#32 ∧ Ideal.ofBits .f32 0x3B124925#32 ≠ ⊤ ∧
    Ideal.ofBits .f32 0x3B124925#32 ≠ 0 ∧
    Ideal.ofBits .bf16 0x7F7F#16 * Ideal.ofBits .f32 0x3B124925#32 < pw 253 := by
  rw [ofBits_max, ofBits_inv448, pw_ofNat 253 (by omega) (by omega)]
  refine ⟨?_, EReal.coe_ne_top _, ?_, ?_⟩
  · rw [← EReal.coe_zero, EReal.coe_le_coe_iff]; positivity
  · rw [← EReal.coe_zero, Ne, EReal.coe_eq_coe_iff]; positivity
  · rw [← EReal.coe_mul, EReal.coe_lt_coe_iff]; norm_num

/-- A row whose entries are finite or infinite, and no larger than the format's largest when finite. -/
theorem tame_of (x : Fin 64 → EReal) (h : ∀ i, max (x i) (-(x i)) ≤ Ideal.ofBits .bf16 0x7F7F#16 ∨ max (x i) (-(x i)) = ⊤) :
    Tame (rowR x) := by
  have ⟨h0, h1, h2, h3⟩ := ofBits_448
  unfold rowR
  rw [Cert.KernelIdeal.Hand.fold_ninf]
  by_cases ht : ∃ i, max (x i) (-(x i)) = ⊤
  · obtain ⟨i, hi⟩ := ht
    right
    have : (Finset.univ.sup fun i => max (x i) (-(x i))) = ⊤ :=
      top_le_iff.mp (hi ▸ Finset.le_sup (f := fun i => max (x i) (-(x i))) (Finset.mem_univ i))
    rw [this]
    exact EReal.top_mul_of_pos (lt_of_le_of_ne h0 (Ne.symm h2))
  · left
    have : (Finset.univ.sup fun i => max (x i) (-(x i))) ≤ Ideal.ofBits .bf16 0x7F7F#16 :=
      Finset.sup_le fun i _ => (h i).resolve_right fun e => ht ⟨i, e⟩
    exact lt_of_le_of_lt (mul_le_mul_of_nonneg_right this h0) h3

/-- What a conjunction of two disjunctions of comparisons says. -/
theorem both {p q r s : Prop} [Decidable p] [Decidable q] [Decidable r] [Decidable s]
    (h : IntOp.andi (IntOp.ori (BitVec.ofBool (decide p)) (BitVec.ofBool (decide q)))
      (IntOp.ori (BitVec.ofBool (decide r)) (BitVec.ofBool (decide s))) = 1#1) : (p ∨ q) ∧ (r ∨ s) := by
  revert h
  by_cases hp : p <;> by_cases hq : q <;> by_cases hr : r <;> by_cases hs : s <;> simp [hp, hq, hr, hs, IntOp.andi, IntOp.ori]

section
variable [Facts]
variable (a0 : FVec Ideal S32x1x16x64 .bf16) (a1 a2 : FVec Ideal S32x1x2x64 .bf16) (a3 a4 : FVec Ideal S32x16384x2x64 .fp8e4m3)
  (a5 a6 : FVec Ideal S32x16384x2 .f32) (a7 : IVec S32 32)

theorem rows_of (h : fn a0 a1 a2 a3 a4 a5 a6 a7 = fun _ => 1#1) (b : Fin 32) (k : Fin 2) :
    Tame (rowR (Cert.Spec.row a1 b k)) ∧ Tame (rowR (Cert.Spec.row a2 b k)) := by
  have h' : ∀ i : Fin 64, fn a0 a1 a2 a3 a4 a5 a6 a7 (ix4 b 0 k i) = 1#1 := fun i => congrFun h _
  have key : ∀ i : Fin 64, (max (a1 (ix4 b 0 k i)) (-(a1 (ix4 b 0 k i))) ≤ Ideal.ofBits .bf16 0x7F7F#16 ∨ max (a1 (ix4 b 0 k i)) (-(a1 (ix4 b 0 k i))) = ⊤)
      ∧ (max (a2 (ix4 b 0 k i)) (-(a2 (ix4 b 0 k i))) ≤ Ideal.ofBits .bf16 0x7F7F#16 ∨ max (a2 (ix4 b 0 k i)) (-(a2 (ix4 b 0 k i))) = ⊤) := by
    intro i
    have := h' i
    rw [← ofBits_inf]
    revert this
    pointwise [fn]
    exact fun h => both h
  exact ⟨tame_of _ fun i => (key i).1, tame_of _ fun i => (key i).2⟩
end

end Cert.Pre_rows_bf16.Hand

end
-- ==== Proof.Algebraic.lean ====
/-
  On extended reals the kernel and the reference end with the same five results, for new rows of bf16 numbers.
-/
module

public import proofs.«01_k».proof.Defs
public import proofs.«01_k».proof.Proof.KernelIdealValue
public import proofs.«01_k».proof.Proof.RefValue
public import proofs.«01_k».proof.Proof.Tame

@[expose] public section

noncomputable section

namespace Cert.Proof

open Idealize.ShloMosaic Idealize.SL.Sem
open Cert.KernelIdeal.Hand (A0 A1 A2 A3 A4 A5 A6 A7 kernel_value)
open Cert.ReferenceIdeal.Hand (R0 R1 R2 R3 R4 R5 R6 R7 ref_value)

theorem algebraic : @Cert.algebraic_KernelIdeal_ReferenceIdeal_pre_rows_bf16 Cert.KernelIdeal.Gen.facts Cert.ReferenceIdeal.Gen.facts Cert.Pre_rows_bf16.Hand.facts := by
  intro m g m' g' hpre h
  have e0 : ∀ c, R0 m' c = A0 m c := fun c => (h c).1
  have e1 : ∀ c, R1 m' c = A1 m c := fun c => (h c).2.1
  have e2 : ∀ c, R2 m' c = A2 m c := fun c => (h c).2.2.1
  have e3 : ∀ c, R3 m' c = A3 m c := fun c => (h c).2.2.2.1
  have e4 : ∀ c, R4 m' c = A4 m c := fun c => (h c).2.2.2.2.1
  have e5 : ∀ c, R5 m' c = A5 m c := fun c => (h c).2.2.2.2.2.1
  have e6 : ∀ c, R6 m' c = A6 m c := fun c => (h c).2.2.2.2.2.2.1
  have e7 : ∀ c, R7 m' c = A7 m c := fun c => (h c).2.2.2.2.2.2.2
  have rows : ∀ c b k, Cert.Quant.Tame (Cert.Quant.rowR (Cert.Spec.row (A1 m c) b k)) ∧ Cert.Quant.Tame (Cert.Quant.rowR (Cert.Spec.row (A2 m c) b k)) :=
    fun c b k => @Cert.Pre_rows_bf16.Hand.rows_of Cert.Pre_rows_bf16.Hand.facts (A0 m c) (A1 m c) (A2 m c) (A3 m c) (A4 m c) (A5 m c) (A6 m c) (A7 m c) (hpre c) b k
  refine ⟨fun c => Cert.Spec.attn (A0 m c) (A1 m c) (A2 m c) (A3 m c) (A4 m c) (A5 m c) (A6 m c) (A7 m c), fun c => Cert.Spec.codes (A1 m c), fun c => Cert.Spec.scales (A1 m c),
    fun c => Cert.Spec.codes (A2 m c), fun c => Cert.Spec.scales (A2 m c), kernel_value m g, ?_⟩
  have key := ref_value m' g' (fun c b k => by rw [e1 c]; exact (rows c b k).1) (fun c b k => by rw [e2 c]; exact (rows c b k).2)
  simp only [e0, e1, e2, e3, e4, e5, e6, e7] at key
  exact key

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelFrame
public import proofs.«01_k».proof.Proof.KernelIdealFrame
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_rows_bf16.Hand.facts,
  fun m g _ => Cert.Kernel.Hand.args_kept m g,
  fun m g _ => Cert.KernelIdeal.Hand.args_kept m g,
  fun m g _ => Cert.KernelIdeal.Hand.args_kept m g,
  fun m g _ => Cert.ReferenceIdeal.Gen.frame m g,
  fun m g _ => Cert.ReferenceIdeal.Gen.frame m g,
  trivial,
  algebraic⟩

end Cert.Proof

end
